-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelProjW (m : (ℓ : Loc Cert.KernelProjW.nD Cert.KernelProjW.τ Cert.KernelProjW.sig) → Buf (Elt Bits) ℓ) : Prop :=
  True

def Pre_KernelProjWIdeal (m : (ℓ : Loc Cert.KernelProjWIdeal.nD Cert.KernelProjWIdeal.τ Cert.KernelProjWIdeal.sig) → Buf (Elt Ideal) ℓ) : Prop :=
  True

def Pre_ReferenceProjWIdeal (m : (ℓ : Loc Cert.ReferenceProjWIdeal.nD Cert.ReferenceProjWIdeal.τ Cert.ReferenceProjWIdeal.sig) → Buf (Elt Ideal) ℓ) : Prop :=
  True

def Pre_KernelProjX (m : (ℓ : Loc Cert.KernelProjX.nD Cert.KernelProjX.τ Cert.KernelProjX.sig) → Buf (Elt Bits) ℓ) : Prop :=
  True

def Pre_KernelProjXIdeal (m : (ℓ : Loc Cert.KernelProjXIdeal.nD Cert.KernelProjXIdeal.τ Cert.KernelProjXIdeal.sig) → Buf (Elt Ideal) ℓ) : Prop :=
  True

def Pre_ReferenceProjXIdeal (m : (ℓ : Loc Cert.ReferenceProjXIdeal.nD Cert.ReferenceProjXIdeal.τ Cert.ReferenceProjXIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelOutW (m : (ℓ : Loc Cert.KernelOutW.nD Cert.KernelOutW.τ Cert.KernelOutW.sig) → Buf (Elt Bits) ℓ) : Prop :=
  True

def Pre_KernelOutWIdeal (m : (ℓ : Loc Cert.KernelOutWIdeal.nD Cert.KernelOutWIdeal.τ Cert.KernelOutWIdeal.sig) → Buf (Elt Ideal) ℓ) : Prop :=
  True

def Pre_ReferenceOutWIdeal (m : (ℓ : Loc Cert.ReferenceOutWIdeal.nD Cert.ReferenceOutWIdeal.τ Cert.ReferenceOutWIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelNormB (m : (ℓ : Loc Cert.KernelNormB.nD Cert.KernelNormB.τ Cert.KernelNormB.sig) → Buf (Elt Bits) ℓ) : Prop :=
  True

def Pre_KernelNormBIdeal (m : (ℓ : Loc Cert.KernelNormBIdeal.nD Cert.KernelNormBIdeal.τ Cert.KernelNormBIdeal.sig) → Buf (Elt Ideal) ℓ) : Prop :=
  True

def Pre_ReferenceNormBIdeal (m : (ℓ : Loc Cert.ReferenceNormBIdeal.nD Cert.ReferenceNormBIdeal.τ Cert.ReferenceNormBIdeal.sig) → Buf (Elt Ideal) ℓ) : Prop :=
  True

def Pre_KernelResid (m : (ℓ : Loc Cert.KernelResid.nD Cert.KernelResid.τ Cert.KernelResid.sig) → Buf (Elt Bits) ℓ) : Prop :=
  True

def Pre_KernelResidIdeal (m : (ℓ : Loc Cert.KernelResidIdeal.nD Cert.KernelResidIdeal.τ Cert.KernelResidIdeal.sig) → Buf (Elt Ideal) ℓ) : Prop :=
  True

def Pre_ReferenceResidIdeal (m : (ℓ : Loc Cert.ReferenceResidIdeal.nD Cert.ReferenceResidIdeal.τ Cert.ReferenceResidIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1))
      ∧ r.2.sem = fun _ => 0)

def quiescent_KernelProjW [hKernelProjW : Cert.KernelProjW.Facts] : Prop :=
  ∀ (m : (ℓ : Loc Cert.KernelProjW.nD Cert.KernelProjW.τ Cert.KernelProjW.sig) → Buf (Elt Bits) ℓ) (g : Dev Cert.KernelProjW.nD → PrngReg), Pre_KernelProjW m →
    θ_run (Cert.KernelProjW.defs (F := Bits)) (onTc (τ := Cert.KernelProjW.τ) (Cert.KernelProjW.main (F := Bits))) ⟨m, fun _ => 0, g⟩ (fun r => (∀ c : Dev Cert.KernelProjW.nD,
      r.2.mem ((c.tc : Thread Cert.KernelProjW.nD Cert.KernelProjW.τ).loc Cert.KernelProjW.main_arg0) = m ((c.tc : Thread Cert.KernelProjW.nD Cert.KernelProjW.τ).loc Cert.KernelProjW.main_arg0)
      ∧ r.2.mem ((c.tc : Thread Cert.KernelProjW.nD Cert.KernelProjW.τ).loc Cert.KernelProjW.main_arg1) = m ((c.tc : Thread Cert.KernelProjW.nD Cert.KernelProjW.τ).loc Cert.KernelProjW.main_arg1))
      ∧ r.2.sem = fun _ => 0)

def quiescent_KernelProjWIdeal [hKernelProjWIdeal : Cert.KernelProjWIdeal.Facts] : Prop :=
  ∀ (m : (ℓ : Loc Cert.KernelProjWIdeal.nD Cert.KernelProjWIdeal.τ Cert.KernelProjWIdeal.sig) → Buf (Elt Ideal) ℓ) (g : Dev Cert.KernelProjWIdeal.nD → PrngReg), Pre_KernelProjWIdeal m →
    θ_run (Cert.KernelProjWIdeal.defs (F := Ideal)) (onTc (τ := Cert.KernelProjWIdeal.τ) (Cert.KernelProjWIdeal.main (F := Ideal))) ⟨m, fun _ => 0, g⟩ (fun r => (∀ c : Dev Cert.KernelProjWIdeal.nD,
      r.2.mem ((c.tc : Thread Cert.KernelProjWIdeal.nD Cert.KernelProjWIdeal.τ).loc Cert.KernelProjWIdeal.main_arg0) = m ((c.tc : Thread Cert.KernelProjWIdeal.nD Cert.KernelProjWIdeal.τ).loc Cert.KernelProjWIdeal.main_arg0)
      ∧ r.2.mem ((c.tc : Thread Cert.KernelProjWIdeal.nD Cert.KernelProjWIdeal.τ).loc Cert.KernelProjWIdeal.main_arg1) = m ((c.tc : Thread Cert.KernelProjWIdeal.nD Cert.KernelProjWIdeal.τ).loc Cert.KernelProjWIdeal.main_arg1))
      ∧ r.2.sem = fun _ => 0)

def quiescent_ReferenceProjWIdeal [hReferenceProjWIdeal : Cert.ReferenceProjWIdeal.Facts] : Prop :=
  ∀ (m : (ℓ : Loc Cert.ReferenceProjWIdeal.nD Cert.ReferenceProjWIdeal.τ Cert.ReferenceProjWIdeal.sig) → Buf (Elt Ideal) ℓ) (g : Dev Cert.ReferenceProjWIdeal.nD → PrngReg), Pre_ReferenceProjWIdeal m →
    θ_run (Cert.ReferenceProjWIdeal.defs (F := Ideal)) (onTc (τ := Cert.ReferenceProjWIdeal.τ) (Cert.ReferenceProjWIdeal.main (F := Ideal))) ⟨m, fun _ => 0, g⟩ (fun r => (∀ c : Dev Cert.ReferenceProjWIdeal.nD,
      r.2.mem ((c.tc : Thread Cert.ReferenceProjWIdeal.nD Cert.ReferenceProjWIdeal.τ).loc Cert.ReferenceProjWIdeal.main_arg0) = m ((c.tc : Thread Cert.ReferenceProjWIdeal.nD Cert.ReferenceProjWIdeal.τ).loc Cert.ReferenceProjWIdeal.main_arg0)
      ∧ r.2.mem ((c.tc : Thread Cert.ReferenceProjWIdeal.nD Cert.ReferenceProjWIdeal.τ).loc Cert.ReferenceProjWIdeal.main_arg1) = m ((c.tc : Thread Cert.ReferenceProjWIdeal.nD Cert.ReferenceProjWIdeal.τ).loc Cert.ReferenceProjWIdeal.main_arg1))
      ∧ r.2.sem = fun _ => 0)

def quiescent_KernelProjX [hKernelProjX : Cert.KernelProjX.Facts] : Prop :=
  ∀ (m : (ℓ : Loc Cert.KernelProjX.nD Cert.KernelProjX.τ Cert.KernelProjX.sig) → Buf (Elt Bits) ℓ) (g : Dev Cert.KernelProjX.nD → PrngReg), Pre_KernelProjX m →
    θ_run (Cert.KernelProjX.defs (F := Bits)) (onTc (τ := Cert.KernelProjX.τ) (Cert.KernelProjX.main (F := Bits))) ⟨m, fun _ => 0, g⟩ (fun r => (∀ c : Dev Cert.KernelProjX.nD,
      r.2.mem ((c.tc : Thread Cert.KernelProjX.nD Cert.KernelProjX.τ).loc Cert.KernelProjX.main_arg0) = m ((c.tc : Thread Cert.KernelProjX.nD Cert.KernelProjX.τ).loc Cert.KernelProjX.main_arg0)
      ∧ r.2.mem ((c.tc : Thread Cert.KernelProjX.nD Cert.KernelProjX.τ).loc Cert.KernelProjX.main_arg1) = m ((c.tc : Thread Cert.KernelProjX.nD Cert.KernelProjX.τ).loc Cert.KernelProjX.main_arg1))
      ∧ r.2.sem = fun _ => 0)

def quiescent_KernelProjXIdeal [hKernelProjXIdeal : Cert.KernelProjXIdeal.Facts] : Prop :=
  ∀ (m : (ℓ : Loc Cert.KernelProjXIdeal.nD Cert.KernelProjXIdeal.τ Cert.KernelProjXIdeal.sig) → Buf (Elt Ideal) ℓ) (g : Dev Cert.KernelProjXIdeal.nD → PrngReg), Pre_KernelProjXIdeal m →
    θ_run (Cert.KernelProjXIdeal.defs (F := Ideal)) (onTc (τ := Cert.KernelProjXIdeal.τ) (Cert.KernelProjXIdeal.main (F := Ideal))) ⟨m, fun _ => 0, g⟩ (fun r => (∀ c : Dev Cert.KernelProjXIdeal.nD,
      r.2.mem ((c.tc : Thread Cert.KernelProjXIdeal.nD Cert.KernelProjXIdeal.τ).loc Cert.KernelProjXIdeal.main_arg0) = m ((c.tc : Thread Cert.KernelProjXIdeal.nD Cert.KernelProjXIdeal.τ).loc Cert.KernelProjXIdeal.main_arg0)
      ∧ r.2.mem ((c.tc : Thread Cert.KernelProjXIdeal.nD Cert.KernelProjXIdeal.τ).loc Cert.KernelProjXIdeal.main_arg1) = m ((c.tc : Thread Cert.KernelProjXIdeal.nD Cert.KernelProjXIdeal.τ).loc Cert.KernelProjXIdeal.main_arg1))
      ∧ r.2.sem = fun _ => 0)

def quiescent_ReferenceProjXIdeal [hReferenceProjXIdeal : Cert.ReferenceProjXIdeal.Facts] : Prop :=
  ∀ (m : (ℓ : Loc Cert.ReferenceProjXIdeal.nD Cert.ReferenceProjXIdeal.τ Cert.ReferenceProjXIdeal.sig) → Buf (Elt Ideal) ℓ) (g : Dev Cert.ReferenceProjXIdeal.nD → PrngReg), Pre_ReferenceProjXIdeal m →
    θ_run (Cert.ReferenceProjXIdeal.defs (F := Ideal)) (onTc (τ := Cert.ReferenceProjXIdeal.τ) (Cert.ReferenceProjXIdeal.main (F := Ideal))) ⟨m, fun _ => 0, g⟩ (fun r => (∀ c : Dev Cert.ReferenceProjXIdeal.nD,
      r.2.mem ((c.tc : Thread Cert.ReferenceProjXIdeal.nD Cert.ReferenceProjXIdeal.τ).loc Cert.ReferenceProjXIdeal.main_arg0) = m ((c.tc : Thread Cert.ReferenceProjXIdeal.nD Cert.ReferenceProjXIdeal.τ).loc Cert.ReferenceProjXIdeal.main_arg0)
      ∧ r.2.mem ((c.tc : Thread Cert.ReferenceProjXIdeal.nD Cert.ReferenceProjXIdeal.τ).loc Cert.ReferenceProjXIdeal.main_arg1) = m ((c.tc : Thread Cert.ReferenceProjXIdeal.nD Cert.ReferenceProjXIdeal.τ).loc Cert.ReferenceProjXIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelOutW [hKernelOutW : Cert.KernelOutW.Facts] : Prop :=
  ∀ (m : (ℓ : Loc Cert.KernelOutW.nD Cert.KernelOutW.τ Cert.KernelOutW.sig) → Buf (Elt Bits) ℓ) (g : Dev Cert.KernelOutW.nD → PrngReg), Pre_KernelOutW m →
    θ_run (Cert.KernelOutW.defs (F := Bits)) (onTc (τ := Cert.KernelOutW.τ) (Cert.KernelOutW.main (F := Bits))) ⟨m, fun _ => 0, g⟩ (fun r => (∀ c : Dev Cert.KernelOutW.nD,
      r.2.mem ((c.tc : Thread Cert.KernelOutW.nD Cert.KernelOutW.τ).loc Cert.KernelOutW.main_arg0) = m ((c.tc : Thread Cert.KernelOutW.nD Cert.KernelOutW.τ).loc Cert.KernelOutW.main_arg0)
      ∧ r.2.mem ((c.tc : Thread Cert.KernelOutW.nD Cert.KernelOutW.τ).loc Cert.KernelOutW.main_arg1) = m ((c.tc : Thread Cert.KernelOutW.nD Cert.KernelOutW.τ).loc Cert.KernelOutW.main_arg1))
      ∧ r.2.sem = fun _ => 0)

def quiescent_KernelOutWIdeal [hKernelOutWIdeal : Cert.KernelOutWIdeal.Facts] : Prop :=
  ∀ (m : (ℓ : Loc Cert.KernelOutWIdeal.nD Cert.KernelOutWIdeal.τ Cert.KernelOutWIdeal.sig) → Buf (Elt Ideal) ℓ) (g : Dev Cert.KernelOutWIdeal.nD → PrngReg), Pre_KernelOutWIdeal m →
    θ_run (Cert.KernelOutWIdeal.defs (F := Ideal)) (onTc (τ := Cert.KernelOutWIdeal.τ) (Cert.KernelOutWIdeal.main (F := Ideal))) ⟨m, fun _ => 0, g⟩ (fun r => (∀ c : Dev Cert.KernelOutWIdeal.nD,
      r.2.mem ((c.tc : Thread Cert.KernelOutWIdeal.nD Cert.KernelOutWIdeal.τ).loc Cert.KernelOutWIdeal.main_arg0) = m ((c.tc : Thread Cert.KernelOutWIdeal.nD Cert.KernelOutWIdeal.τ).loc Cert.KernelOutWIdeal.main_arg0)
      ∧ r.2.mem ((c.tc : Thread Cert.KernelOutWIdeal.nD Cert.KernelOutWIdeal.τ).loc Cert.KernelOutWIdeal.main_arg1) = m ((c.tc : Thread Cert.KernelOutWIdeal.nD Cert.KernelOutWIdeal.τ).loc Cert.KernelOutWIdeal.main_arg1))
      ∧ r.2.sem = fun _ => 0)

def quiescent_ReferenceOutWIdeal [hReferenceOutWIdeal : Cert.ReferenceOutWIdeal.Facts] : Prop :=
  ∀ (m : (ℓ : Loc Cert.ReferenceOutWIdeal.nD Cert.ReferenceOutWIdeal.τ Cert.ReferenceOutWIdeal.sig) → Buf (Elt Ideal) ℓ) (g : Dev Cert.ReferenceOutWIdeal.nD → PrngReg), Pre_ReferenceOutWIdeal m →
    θ_run (Cert.ReferenceOutWIdeal.defs (F := Ideal)) (onTc (τ := Cert.ReferenceOutWIdeal.τ) (Cert.ReferenceOutWIdeal.main (F := Ideal))) ⟨m, fun _ => 0, g⟩ (fun r => (∀ c : Dev Cert.ReferenceOutWIdeal.nD,
      r.2.mem ((c.tc : Thread Cert.ReferenceOutWIdeal.nD Cert.ReferenceOutWIdeal.τ).loc Cert.ReferenceOutWIdeal.main_arg0) = m ((c.tc : Thread Cert.ReferenceOutWIdeal.nD Cert.ReferenceOutWIdeal.τ).loc Cert.ReferenceOutWIdeal.main_arg0)
      ∧ r.2.mem ((c.tc : Thread Cert.ReferenceOutWIdeal.nD Cert.ReferenceOutWIdeal.τ).loc Cert.ReferenceOutWIdeal.main_arg1) = m ((c.tc : Thread Cert.ReferenceOutWIdeal.nD Cert.ReferenceOutWIdeal.τ).loc Cert.ReferenceOutWIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2))
      ∧ r.2.sem = fun _ => 0)

def quiescent_KernelNormB [hKernelNormB : Cert.KernelNormB.Facts] : Prop :=
  ∀ (m : (ℓ : Loc Cert.KernelNormB.nD Cert.KernelNormB.τ Cert.KernelNormB.sig) → Buf (Elt Bits) ℓ) (g : Dev Cert.KernelNormB.nD → PrngReg), Pre_KernelNormB m →
    θ_run (Cert.KernelNormB.defs (F := Bits)) (onTc (τ := Cert.KernelNormB.τ) (Cert.KernelNormB.main (F := Bits))) ⟨m, fun _ => 0, g⟩ (fun r => (∀ c : Dev Cert.KernelNormB.nD,
      r.2.mem ((c.tc : Thread Cert.KernelNormB.nD Cert.KernelNormB.τ).loc Cert.KernelNormB.main_arg0) = m ((c.tc : Thread Cert.KernelNormB.nD Cert.KernelNormB.τ).loc Cert.KernelNormB.main_arg0)
      ∧ r.2.mem ((c.tc : Thread Cert.KernelNormB.nD Cert.KernelNormB.τ).loc Cert.KernelNormB.main_arg1) = m ((c.tc : Thread Cert.KernelNormB.nD Cert.KernelNormB.τ).loc Cert.KernelNormB.main_arg1)
      ∧ r.2.mem ((c.tc : Thread Cert.KernelNormB.nD Cert.KernelNormB.τ).loc Cert.KernelNormB.main_arg2) = m ((c.tc : Thread Cert.KernelNormB.nD Cert.KernelNormB.τ).loc Cert.KernelNormB.main_arg2)
      ∧ r.2.mem ((c.tc : Thread Cert.KernelNormB.nD Cert.KernelNormB.τ).loc Cert.KernelNormB.main_arg3) = m ((c.tc : Thread Cert.KernelNormB.nD Cert.KernelNormB.τ).loc Cert.KernelNormB.main_arg3)
      ∧ r.2.mem ((c.tc : Thread Cert.KernelNormB.nD Cert.KernelNormB.τ).loc Cert.KernelNormB.main_arg4) = m ((c.tc : Thread Cert.KernelNormB.nD Cert.KernelNormB.τ).loc Cert.KernelNormB.main_arg4))
      ∧ r.2.sem = fun _ => 0)

def quiescent_KernelNormBIdeal [hKernelNormBIdeal : Cert.KernelNormBIdeal.Facts] : Prop :=
  ∀ (m : (ℓ : Loc Cert.KernelNormBIdeal.nD Cert.KernelNormBIdeal.τ Cert.KernelNormBIdeal.sig) → Buf (Elt Ideal) ℓ) (g : Dev Cert.KernelNormBIdeal.nD → PrngReg), Pre_KernelNormBIdeal m →
    θ_run (Cert.KernelNormBIdeal.defs (F := Ideal)) (onTc (τ := Cert.KernelNormBIdeal.τ) (Cert.KernelNormBIdeal.main (F := Ideal))) ⟨m, fun _ => 0, g⟩ (fun r => (∀ c : Dev Cert.KernelNormBIdeal.nD,
      r.2.mem ((c.tc : Thread Cert.KernelNormBIdeal.nD Cert.KernelNormBIdeal.τ).loc Cert.KernelNormBIdeal.main_arg0) = m ((c.tc : Thread Cert.KernelNormBIdeal.nD Cert.KernelNormBIdeal.τ).loc Cert.KernelNormBIdeal.main_arg0)
      ∧ r.2.mem ((c.tc : Thread Cert.KernelNormBIdeal.nD Cert.KernelNormBIdeal.τ).loc Cert.KernelNormBIdeal.main_arg1) = m ((c.tc : Thread Cert.KernelNormBIdeal.nD Cert.KernelNormBIdeal.τ).loc Cert.KernelNormBIdeal.main_arg1)
      ∧ r.2.mem ((c.tc : Thread Cert.KernelNormBIdeal.nD Cert.KernelNormBIdeal.τ).loc Cert.KernelNormBIdeal.main_arg2) = m ((c.tc : Thread Cert.KernelNormBIdeal.nD Cert.KernelNormBIdeal.τ).loc Cert.KernelNormBIdeal.main_arg2)
      ∧ r.2.mem ((c.tc : Thread Cert.KernelNormBIdeal.nD Cert.KernelNormBIdeal.τ).loc Cert.KernelNormBIdeal.main_arg3) = m ((c.tc : Thread Cert.KernelNormBIdeal.nD Cert.KernelNormBIdeal.τ).loc Cert.KernelNormBIdeal.main_arg3)
      ∧ r.2.mem ((c.tc : Thread Cert.KernelNormBIdeal.nD Cert.KernelNormBIdeal.τ).loc Cert.KernelNormBIdeal.main_arg4) = m ((c.tc : Thread Cert.KernelNormBIdeal.nD Cert.KernelNormBIdeal.τ).loc Cert.KernelNormBIdeal.main_arg4))
      ∧ r.2.sem = fun _ => 0)

def quiescent_ReferenceNormBIdeal [hReferenceNormBIdeal : Cert.ReferenceNormBIdeal.Facts] : Prop :=
  ∀ (m : (ℓ : Loc Cert.ReferenceNormBIdeal.nD Cert.ReferenceNormBIdeal.τ Cert.ReferenceNormBIdeal.sig) → Buf (Elt Ideal) ℓ) (g : Dev Cert.ReferenceNormBIdeal.nD → PrngReg), Pre_ReferenceNormBIdeal m →
    θ_run (Cert.ReferenceNormBIdeal.defs (F := Ideal)) (onTc (τ := Cert.ReferenceNormBIdeal.τ) (Cert.ReferenceNormBIdeal.main (F := Ideal))) ⟨m, fun _ => 0, g⟩ (fun r => (∀ c : Dev Cert.ReferenceNormBIdeal.nD,
      r.2.mem ((c.tc : Thread Cert.ReferenceNormBIdeal.nD Cert.ReferenceNormBIdeal.τ).loc Cert.ReferenceNormBIdeal.main_arg0) = m ((c.tc : Thread Cert.ReferenceNormBIdeal.nD Cert.ReferenceNormBIdeal.τ).loc Cert.ReferenceNormBIdeal.main_arg0)
      ∧ r.2.mem ((c.tc : Thread Cert.ReferenceNormBIdeal.nD Cert.ReferenceNormBIdeal.τ).loc Cert.ReferenceNormBIdeal.main_arg1) = m ((c.tc : Thread Cert.ReferenceNormBIdeal.nD Cert.ReferenceNormBIdeal.τ).loc Cert.ReferenceNormBIdeal.main_arg1)
      ∧ r.2.mem ((c.tc : Thread Cert.ReferenceNormBIdeal.nD Cert.ReferenceNormBIdeal.τ).loc Cert.ReferenceNormBIdeal.main_arg2) = m ((c.tc : Thread Cert.ReferenceNormBIdeal.nD Cert.ReferenceNormBIdeal.τ).loc Cert.ReferenceNormBIdeal.main_arg2)
      ∧ r.2.mem ((c.tc : Thread Cert.ReferenceNormBIdeal.nD Cert.ReferenceNormBIdeal.τ).loc Cert.ReferenceNormBIdeal.main_arg3) = m ((c.tc : Thread Cert.ReferenceNormBIdeal.nD Cert.ReferenceNormBIdeal.τ).loc Cert.ReferenceNormBIdeal.main_arg3)
      ∧ r.2.mem ((c.tc : Thread Cert.ReferenceNormBIdeal.nD Cert.ReferenceNormBIdeal.τ).loc Cert.ReferenceNormBIdeal.main_arg4) = m ((c.tc : Thread Cert.ReferenceNormBIdeal.nD Cert.ReferenceNormBIdeal.τ).loc Cert.ReferenceNormBIdeal.main_arg4))
      ∧ r.2.sem = fun _ => 0)

def quiescent_KernelResid [hKernelResid : Cert.KernelResid.Facts] : Prop :=
  ∀ (m : (ℓ : Loc Cert.KernelResid.nD Cert.KernelResid.τ Cert.KernelResid.sig) → Buf (Elt Bits) ℓ) (g : Dev Cert.KernelResid.nD → PrngReg), Pre_KernelResid m →
    θ_run (Cert.KernelResid.defs (F := Bits)) (onTc (τ := Cert.KernelResid.τ) (Cert.KernelResid.main (F := Bits))) ⟨m, fun _ => 0, g⟩ (fun r => (∀ c : Dev Cert.KernelResid.nD,
      r.2.mem ((c.tc : Thread Cert.KernelResid.nD Cert.KernelResid.τ).loc Cert.KernelResid.main_arg0) = m ((c.tc : Thread Cert.KernelResid.nD Cert.KernelResid.τ).loc Cert.KernelResid.main_arg0)
      ∧ r.2.mem ((c.tc : Thread Cert.KernelResid.nD Cert.KernelResid.τ).loc Cert.KernelResid.main_arg1) = m ((c.tc : Thread Cert.KernelResid.nD Cert.KernelResid.τ).loc Cert.KernelResid.main_arg1)
      ∧ r.2.mem ((c.tc : Thread Cert.KernelResid.nD Cert.KernelResid.τ).loc Cert.KernelResid.main_arg2) = m ((c.tc : Thread Cert.KernelResid.nD Cert.KernelResid.τ).loc Cert.KernelResid.main_arg2)
      ∧ r.2.mem ((c.tc : Thread Cert.KernelResid.nD Cert.KernelResid.τ).loc Cert.KernelResid.main_arg3) = m ((c.tc : Thread Cert.KernelResid.nD Cert.KernelResid.τ).loc Cert.KernelResid.main_arg3))
      ∧ r.2.sem = fun _ => 0)

def quiescent_KernelResidIdeal [hKernelResidIdeal : Cert.KernelResidIdeal.Facts] : Prop :=
  ∀ (m : (ℓ : Loc Cert.KernelResidIdeal.nD Cert.KernelResidIdeal.τ Cert.KernelResidIdeal.sig) → Buf (Elt Ideal) ℓ) (g : Dev Cert.KernelResidIdeal.nD → PrngReg), Pre_KernelResidIdeal m →
    θ_run (Cert.KernelResidIdeal.defs (F := Ideal)) (onTc (τ := Cert.KernelResidIdeal.τ) (Cert.KernelResidIdeal.main (F := Ideal))) ⟨m, fun _ => 0, g⟩ (fun r => (∀ c : Dev Cert.KernelResidIdeal.nD,
      r.2.mem ((c.tc : Thread Cert.KernelResidIdeal.nD Cert.KernelResidIdeal.τ).loc Cert.KernelResidIdeal.main_arg0) = m ((c.tc : Thread Cert.KernelResidIdeal.nD Cert.KernelResidIdeal.τ).loc Cert.KernelResidIdeal.main_arg0)
      ∧ r.2.mem ((c.tc : Thread Cert.KernelResidIdeal.nD Cert.KernelResidIdeal.τ).loc Cert.KernelResidIdeal.main_arg1) = m ((c.tc : Thread Cert.KernelResidIdeal.nD Cert.KernelResidIdeal.τ).loc Cert.KernelResidIdeal.main_arg1)
      ∧ r.2.mem ((c.tc : Thread Cert.KernelResidIdeal.nD Cert.KernelResidIdeal.τ).loc Cert.KernelResidIdeal.main_arg2) = m ((c.tc : Thread Cert.KernelResidIdeal.nD Cert.KernelResidIdeal.τ).loc Cert.KernelResidIdeal.main_arg2)
      ∧ r.2.mem ((c.tc : Thread Cert.KernelResidIdeal.nD Cert.KernelResidIdeal.τ).loc Cert.KernelResidIdeal.main_arg3) = m ((c.tc : Thread Cert.KernelResidIdeal.nD Cert.KernelResidIdeal.τ).loc Cert.KernelResidIdeal.main_arg3))
      ∧ r.2.sem = fun _ => 0)

def quiescent_ReferenceResidIdeal [hReferenceResidIdeal : Cert.ReferenceResidIdeal.Facts] : Prop :=
  ∀ (m : (ℓ : Loc Cert.ReferenceResidIdeal.nD Cert.ReferenceResidIdeal.τ Cert.ReferenceResidIdeal.sig) → Buf (Elt Ideal) ℓ) (g : Dev Cert.ReferenceResidIdeal.nD → PrngReg), Pre_ReferenceResidIdeal m →
    θ_run (Cert.ReferenceResidIdeal.defs (F := Ideal)) (onTc (τ := Cert.ReferenceResidIdeal.τ) (Cert.ReferenceResidIdeal.main (F := Ideal))) ⟨m, fun _ => 0, g⟩ (fun r => (∀ c : Dev Cert.ReferenceResidIdeal.nD,
      r.2.mem ((c.tc : Thread Cert.ReferenceResidIdeal.nD Cert.ReferenceResidIdeal.τ).loc Cert.ReferenceResidIdeal.main_arg0) = m ((c.tc : Thread Cert.ReferenceResidIdeal.nD Cert.ReferenceResidIdeal.τ).loc Cert.ReferenceResidIdeal.main_arg0)
      ∧ r.2.mem ((c.tc : Thread Cert.ReferenceResidIdeal.nD Cert.ReferenceResidIdeal.τ).loc Cert.ReferenceResidIdeal.main_arg1) = m ((c.tc : Thread Cert.ReferenceResidIdeal.nD Cert.ReferenceResidIdeal.τ).loc Cert.ReferenceResidIdeal.main_arg1)
      ∧ r.2.mem ((c.tc : Thread Cert.ReferenceResidIdeal.nD Cert.ReferenceResidIdeal.τ).loc Cert.ReferenceResidIdeal.main_arg2) = m ((c.tc : Thread Cert.ReferenceResidIdeal.nD Cert.ReferenceResidIdeal.τ).loc Cert.ReferenceResidIdeal.main_arg2)
      ∧ r.2.mem ((c.tc : Thread Cert.ReferenceResidIdeal.nD Cert.ReferenceResidIdeal.τ).loc Cert.ReferenceResidIdeal.main_arg3) = m ((c.tc : Thread Cert.ReferenceResidIdeal.nD Cert.ReferenceResidIdeal.τ).loc Cert.ReferenceResidIdeal.main_arg3))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2)
      ∧ r.2.mem ((c.tc : Thread Cert.KernelAda.nD Cert.KernelAda.τ).loc Cert.KernelAda.main_arg3) = m ((c.tc : Thread Cert.KernelAda.nD Cert.KernelAda.τ).loc Cert.KernelAda.main_arg3)
      ∧ r.2.mem ((c.tc : Thread Cert.KernelAda.nD Cert.KernelAda.τ).loc Cert.KernelAda.main_arg4) = m ((c.tc : Thread Cert.KernelAda.nD Cert.KernelAda.τ).loc Cert.KernelAda.main_arg4))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
      ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3)
      ∧ r.2.mem ((c.tc : Thread Cert.KernelAdaIdeal.nD Cert.KernelAdaIdeal.τ).loc Cert.KernelAdaIdeal.main_arg4) = m ((c.tc : Thread Cert.KernelAdaIdeal.nD Cert.KernelAdaIdeal.τ).loc Cert.KernelAdaIdeal.main_arg4))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2)
      ∧ r.2.mem ((c.tc : Thread Cert.ReferenceAdaIdeal.nD Cert.ReferenceAdaIdeal.τ).loc Cert.ReferenceAdaIdeal.main_arg3) = m ((c.tc : Thread Cert.ReferenceAdaIdeal.nD Cert.ReferenceAdaIdeal.τ).loc Cert.ReferenceAdaIdeal.main_arg3)
      ∧ r.2.mem ((c.tc : Thread Cert.ReferenceAdaIdeal.nD Cert.ReferenceAdaIdeal.τ).loc Cert.ReferenceAdaIdeal.main_arg4) = m ((c.tc : Thread Cert.ReferenceAdaIdeal.nD Cert.ReferenceAdaIdeal.τ).loc Cert.ReferenceAdaIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_v79) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)) →
    ∃ (v0 : (c : Dev Cert.KernelFwdIdeal.nD) → Buf (Elt Ideal) ((c.tc : Thread Cert.KernelFwdIdeal.nD Cert.KernelFwdIdeal.τ).loc Cert.KernelFwdIdeal.main_v5_0)) (v1 : (c : Dev Cert.KernelFwdIdeal.nD) → Buf (Elt Ideal) ((c.tc : Thread Cert.KernelFwdIdeal.nD Cert.KernelFwdIdeal.τ).loc Cert.KernelFwdIdeal.main_v5_1)) (v2 : (c : Dev Cert.KernelFwdIdeal.nD) → Buf (Elt Ideal) ((c.tc : Thread Cert.KernelFwdIdeal.nD Cert.KernelFwdIdeal.τ).loc Cert.KernelFwdIdeal.main_v5_2)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v5_0) = v0 c
          ∧ r.2.mem ((c.tc : Thread Cert.KernelFwdIdeal.nD Cert.KernelFwdIdeal.τ).loc Cert.KernelFwdIdeal.main_v5_1) = v1 c
          ∧ r.2.mem ((c.tc : Thread Cert.KernelFwdIdeal.nD Cert.KernelFwdIdeal.τ).loc Cert.KernelFwdIdeal.main_v5_2) = v2 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v2) = v0 c
          ∧ r.2.mem ((c.tc : Thread Cert.ReferenceFwdIdeal.nD Cert.ReferenceFwdIdeal.τ).loc Cert.ReferenceFwdIdeal.main_v4) = v1 c
          ∧ r.2.mem ((c.tc : Thread Cert.ReferenceFwdIdeal.nD Cert.ReferenceFwdIdeal.τ).loc Cert.ReferenceFwdIdeal.main_v32) = v2 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)) →
    ∃ (v0 : (c : Dev Cert.KernelProjIdeal.nD) → Buf (Elt Ideal) ((c.tc : Thread Cert.KernelProjIdeal.nD Cert.KernelProjIdeal.τ).loc Cert.KernelProjIdeal.main_v0)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v0) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v2) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1))

def preserves_KernelProjW_KernelProjWIdeal : Prop :=
  True

def algebraic_KernelProjWIdeal_ReferenceProjWIdeal [hKernelProjWIdeal : Cert.KernelProjWIdeal.Facts] [hReferenceProjWIdeal : Cert.ReferenceProjWIdeal.Facts] : Prop :=
  ∀ (m : (ℓ : Loc Cert.KernelProjWIdeal.nD Cert.KernelProjWIdeal.τ Cert.KernelProjWIdeal.sig) → Buf (Elt Ideal) ℓ) (g : Dev Cert.KernelProjWIdeal.nD → PrngReg)
    (m' : (ℓ : Loc Cert.ReferenceProjWIdeal.nD Cert.ReferenceProjWIdeal.τ Cert.ReferenceProjWIdeal.sig) → Buf (Elt Ideal) ℓ) (g' : Dev Cert.ReferenceProjWIdeal.nD → PrngReg), Pre_KernelProjWIdeal m →
    (∀ c : Dev Cert.KernelProjWIdeal.nD,
      m' ((c.tc : Thread Cert.ReferenceProjWIdeal.nD Cert.ReferenceProjWIdeal.τ).loc Cert.ReferenceProjWIdeal.main_arg0) = m ((c.tc : Thread Cert.KernelProjWIdeal.nD Cert.KernelProjWIdeal.τ).loc Cert.KernelProjWIdeal.main_arg0)
      ∧ m' ((c.tc : Thread Cert.ReferenceProjWIdeal.nD Cert.ReferenceProjWIdeal.τ).loc Cert.ReferenceProjWIdeal.main_arg1) = m ((c.tc : Thread Cert.KernelProjWIdeal.nD Cert.KernelProjWIdeal.τ).loc Cert.KernelProjWIdeal.main_arg1)) →
    ∃ (v0 : (c : Dev Cert.KernelProjWIdeal.nD) → Buf (Elt Ideal) ((c.tc : Thread Cert.KernelProjWIdeal.nD Cert.KernelProjWIdeal.τ).loc Cert.KernelProjWIdeal.main_v0)),
      θ_run (Cert.KernelProjWIdeal.defs (F := Ideal)) (onTc (τ := Cert.KernelProjWIdeal.τ) (Cert.KernelProjWIdeal.main (F := Ideal))) ⟨m, fun _ => 0, g⟩ (fun r => ∀ c : Dev Cert.KernelProjWIdeal.nD,
          r.2.mem ((c.tc : Thread Cert.KernelProjWIdeal.nD Cert.KernelProjWIdeal.τ).loc Cert.KernelProjWIdeal.main_v0) = v0 c
          ∧ r.2.mem ((c.tc : Thread Cert.KernelProjWIdeal.nD Cert.KernelProjWIdeal.τ).loc Cert.KernelProjWIdeal.main_arg0) = m ((c.tc : Thread Cert.KernelProjWIdeal.nD Cert.KernelProjWIdeal.τ).loc Cert.KernelProjWIdeal.main_arg0)
          ∧ r.2.mem ((c.tc : Thread Cert.KernelProjWIdeal.nD Cert.KernelProjWIdeal.τ).loc Cert.KernelProjWIdeal.main_arg1) = m ((c.tc : Thread Cert.KernelProjWIdeal.nD Cert.KernelProjWIdeal.τ).loc Cert.KernelProjWIdeal.main_arg1))
      ∧ θ_run (Cert.ReferenceProjWIdeal.defs (F := Ideal)) (onTc (τ := Cert.ReferenceProjWIdeal.τ) (Cert.ReferenceProjWIdeal.main (F := Ideal))) ⟨m', fun _ => 0, g'⟩ (fun r => ∀ c : Dev Cert.ReferenceProjWIdeal.nD,
          r.2.mem ((c.tc : Thread Cert.ReferenceProjWIdeal.nD Cert.ReferenceProjWIdeal.τ).loc Cert.ReferenceProjWIdeal.main_v6) = v0 c
          ∧ r.2.mem ((c.tc : Thread Cert.ReferenceProjWIdeal.nD Cert.ReferenceProjWIdeal.τ).loc Cert.ReferenceProjWIdeal.main_arg0) = m' ((c.tc : Thread Cert.ReferenceProjWIdeal.nD Cert.ReferenceProjWIdeal.τ).loc Cert.ReferenceProjWIdeal.main_arg0)
          ∧ r.2.mem ((c.tc : Thread Cert.ReferenceProjWIdeal.nD Cert.ReferenceProjWIdeal.τ).loc Cert.ReferenceProjWIdeal.main_arg1) = m' ((c.tc : Thread Cert.ReferenceProjWIdeal.nD Cert.ReferenceProjWIdeal.τ).loc Cert.ReferenceProjWIdeal.main_arg1))

def preserves_KernelProjX_KernelProjXIdeal : Prop :=
  True

def algebraic_KernelProjXIdeal_ReferenceProjXIdeal [hKernelProjXIdeal : Cert.KernelProjXIdeal.Facts] [hReferenceProjXIdeal : Cert.ReferenceProjXIdeal.Facts] : Prop :=
  ∀ (m : (ℓ : Loc Cert.KernelProjXIdeal.nD Cert.KernelProjXIdeal.τ Cert.KernelProjXIdeal.sig) → Buf (Elt Ideal) ℓ) (g : Dev Cert.KernelProjXIdeal.nD → PrngReg)
    (m' : (ℓ : Loc Cert.ReferenceProjXIdeal.nD Cert.ReferenceProjXIdeal.τ Cert.ReferenceProjXIdeal.sig) → Buf (Elt Ideal) ℓ) (g' : Dev Cert.ReferenceProjXIdeal.nD → PrngReg), Pre_KernelProjXIdeal m →
    (∀ c : Dev Cert.KernelProjXIdeal.nD,
      m' ((c.tc : Thread Cert.ReferenceProjXIdeal.nD Cert.ReferenceProjXIdeal.τ).loc Cert.ReferenceProjXIdeal.main_arg0) = m ((c.tc : Thread Cert.KernelProjXIdeal.nD Cert.KernelProjXIdeal.τ).loc Cert.KernelProjXIdeal.main_arg0)
      ∧ m' ((c.tc : Thread Cert.ReferenceProjXIdeal.nD Cert.ReferenceProjXIdeal.τ).loc Cert.ReferenceProjXIdeal.main_arg1) = m ((c.tc : Thread Cert.KernelProjXIdeal.nD Cert.KernelProjXIdeal.τ).loc Cert.KernelProjXIdeal.main_arg1)) →
    ∃ (v0 : (c : Dev Cert.KernelProjXIdeal.nD) → Buf (Elt Ideal) ((c.tc : Thread Cert.KernelProjXIdeal.nD Cert.KernelProjXIdeal.τ).loc Cert.KernelProjXIdeal.main_v0)),
      θ_run (Cert.KernelProjXIdeal.defs (F := Ideal)) (onTc (τ := Cert.KernelProjXIdeal.τ) (Cert.KernelProjXIdeal.main (F := Ideal))) ⟨m, fun _ => 0, g⟩ (fun r => ∀ c : Dev Cert.KernelProjXIdeal.nD,
          r.2.mem ((c.tc : Thread Cert.KernelProjXIdeal.nD Cert.KernelProjXIdeal.τ).loc Cert.KernelProjXIdeal.main_v0) = v0 c
          ∧ r.2.mem ((c.tc : Thread Cert.KernelProjXIdeal.nD Cert.KernelProjXIdeal.τ).loc Cert.KernelProjXIdeal.main_arg0) = m ((c.tc : Thread Cert.KernelProjXIdeal.nD Cert.KernelProjXIdeal.τ).loc Cert.KernelProjXIdeal.main_arg0)
          ∧ r.2.mem ((c.tc : Thread Cert.KernelProjXIdeal.nD Cert.KernelProjXIdeal.τ).loc Cert.KernelProjXIdeal.main_arg1) = m ((c.tc : Thread Cert.KernelProjXIdeal.nD Cert.KernelProjXIdeal.τ).loc Cert.KernelProjXIdeal.main_arg1))
      ∧ θ_run (Cert.ReferenceProjXIdeal.defs (F := Ideal)) (onTc (τ := Cert.ReferenceProjXIdeal.τ) (Cert.ReferenceProjXIdeal.main (F := Ideal))) ⟨m', fun _ => 0, g'⟩ (fun r => ∀ c : Dev Cert.ReferenceProjXIdeal.nD,
          r.2.mem ((c.tc : Thread Cert.ReferenceProjXIdeal.nD Cert.ReferenceProjXIdeal.τ).loc Cert.ReferenceProjXIdeal.main_v4) = v0 c
          ∧ r.2.mem ((c.tc : Thread Cert.ReferenceProjXIdeal.nD Cert.ReferenceProjXIdeal.τ).loc Cert.ReferenceProjXIdeal.main_arg0) = m' ((c.tc : Thread Cert.ReferenceProjXIdeal.nD Cert.ReferenceProjXIdeal.τ).loc Cert.ReferenceProjXIdeal.main_arg0)
          ∧ r.2.mem ((c.tc : Thread Cert.ReferenceProjXIdeal.nD Cert.ReferenceProjXIdeal.τ).loc Cert.ReferenceProjXIdeal.main_arg1) = m' ((c.tc : Thread Cert.ReferenceProjXIdeal.nD Cert.ReferenceProjXIdeal.τ).loc Cert.ReferenceProjXIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelOutW_KernelOutWIdeal : Prop :=
  True

def algebraic_KernelOutWIdeal_ReferenceOutWIdeal [hKernelOutWIdeal : Cert.KernelOutWIdeal.Facts] [hReferenceOutWIdeal : Cert.ReferenceOutWIdeal.Facts] : Prop :=
  ∀ (m : (ℓ : Loc Cert.KernelOutWIdeal.nD Cert.KernelOutWIdeal.τ Cert.KernelOutWIdeal.sig) → Buf (Elt Ideal) ℓ) (g : Dev Cert.KernelOutWIdeal.nD → PrngReg)
    (m' : (ℓ : Loc Cert.ReferenceOutWIdeal.nD Cert.ReferenceOutWIdeal.τ Cert.ReferenceOutWIdeal.sig) → Buf (Elt Ideal) ℓ) (g' : Dev Cert.ReferenceOutWIdeal.nD → PrngReg), Pre_KernelOutWIdeal m →
    (∀ c : Dev Cert.KernelOutWIdeal.nD,
      m' ((c.tc : Thread Cert.ReferenceOutWIdeal.nD Cert.ReferenceOutWIdeal.τ).loc Cert.ReferenceOutWIdeal.main_arg0) = m ((c.tc : Thread Cert.KernelOutWIdeal.nD Cert.KernelOutWIdeal.τ).loc Cert.KernelOutWIdeal.main_arg0)
      ∧ m' ((c.tc : Thread Cert.ReferenceOutWIdeal.nD Cert.ReferenceOutWIdeal.τ).loc Cert.ReferenceOutWIdeal.main_arg1) = m ((c.tc : Thread Cert.KernelOutWIdeal.nD Cert.KernelOutWIdeal.τ).loc Cert.KernelOutWIdeal.main_arg1)) →
    ∃ (v0 : (c : Dev Cert.KernelOutWIdeal.nD) → Buf (Elt Ideal) ((c.tc : Thread Cert.KernelOutWIdeal.nD Cert.KernelOutWIdeal.τ).loc Cert.KernelOutWIdeal.main_v0)),
      θ_run (Cert.KernelOutWIdeal.defs (F := Ideal)) (onTc (τ := Cert.KernelOutWIdeal.τ) (Cert.KernelOutWIdeal.main (F := Ideal))) ⟨m, fun _ => 0, g⟩ (fun r => ∀ c : Dev Cert.KernelOutWIdeal.nD,
          r.2.mem ((c.tc : Thread Cert.KernelOutWIdeal.nD Cert.KernelOutWIdeal.τ).loc Cert.KernelOutWIdeal.main_v0) = v0 c
          ∧ r.2.mem ((c.tc : Thread Cert.KernelOutWIdeal.nD Cert.KernelOutWIdeal.τ).loc Cert.KernelOutWIdeal.main_arg0) = m ((c.tc : Thread Cert.KernelOutWIdeal.nD Cert.KernelOutWIdeal.τ).loc Cert.KernelOutWIdeal.main_arg0)
          ∧ r.2.mem ((c.tc : Thread Cert.KernelOutWIdeal.nD Cert.KernelOutWIdeal.τ).loc Cert.KernelOutWIdeal.main_arg1) = m ((c.tc : Thread Cert.KernelOutWIdeal.nD Cert.KernelOutWIdeal.τ).loc Cert.KernelOutWIdeal.main_arg1))
      ∧ θ_run (Cert.ReferenceOutWIdeal.defs (F := Ideal)) (onTc (τ := Cert.ReferenceOutWIdeal.τ) (Cert.ReferenceOutWIdeal.main (F := Ideal))) ⟨m', fun _ => 0, g'⟩ (fun r => ∀ c : Dev Cert.ReferenceOutWIdeal.nD,
          r.2.mem ((c.tc : Thread Cert.ReferenceOutWIdeal.nD Cert.ReferenceOutWIdeal.τ).loc Cert.ReferenceOutWIdeal.main_v6) = v0 c
          ∧ r.2.mem ((c.tc : Thread Cert.ReferenceOutWIdeal.nD Cert.ReferenceOutWIdeal.τ).loc Cert.ReferenceOutWIdeal.main_arg0) = m' ((c.tc : Thread Cert.ReferenceOutWIdeal.nD Cert.ReferenceOutWIdeal.τ).loc Cert.ReferenceOutWIdeal.main_arg0)
          ∧ r.2.mem ((c.tc : Thread Cert.ReferenceOutWIdeal.nD Cert.ReferenceOutWIdeal.τ).loc Cert.ReferenceOutWIdeal.main_arg1) = m' ((c.tc : Thread Cert.ReferenceOutWIdeal.nD Cert.ReferenceOutWIdeal.τ).loc Cert.ReferenceOutWIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)) →
    ∃ (v0 : (c : Dev Cert.KernelNormIdeal.nD) → Buf (Elt Ideal) ((c.tc : Thread Cert.KernelNormIdeal.nD Cert.KernelNormIdeal.τ).loc Cert.KernelNormIdeal.main_v2)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v2) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v26) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2))

def preserves_KernelNormB_KernelNormBIdeal : Prop :=
  True

def algebraic_KernelNormBIdeal_ReferenceNormBIdeal [hKernelNormBIdeal : Cert.KernelNormBIdeal.Facts] [hReferenceNormBIdeal : Cert.ReferenceNormBIdeal.Facts] : Prop :=
  ∀ (m : (ℓ : Loc Cert.KernelNormBIdeal.nD Cert.KernelNormBIdeal.τ Cert.KernelNormBIdeal.sig) → Buf (Elt Ideal) ℓ) (g : Dev Cert.KernelNormBIdeal.nD → PrngReg)
    (m' : (ℓ : Loc Cert.ReferenceNormBIdeal.nD Cert.ReferenceNormBIdeal.τ Cert.ReferenceNormBIdeal.sig) → Buf (Elt Ideal) ℓ) (g' : Dev Cert.ReferenceNormBIdeal.nD → PrngReg), Pre_KernelNormBIdeal m →
    (∀ c : Dev Cert.KernelNormBIdeal.nD,
      m' ((c.tc : Thread Cert.ReferenceNormBIdeal.nD Cert.ReferenceNormBIdeal.τ).loc Cert.ReferenceNormBIdeal.main_arg0) = m ((c.tc : Thread Cert.KernelNormBIdeal.nD Cert.KernelNormBIdeal.τ).loc Cert.KernelNormBIdeal.main_arg0)
      ∧ m' ((c.tc : Thread Cert.ReferenceNormBIdeal.nD Cert.ReferenceNormBIdeal.τ).loc Cert.ReferenceNormBIdeal.main_arg1) = m ((c.tc : Thread Cert.KernelNormBIdeal.nD Cert.KernelNormBIdeal.τ).loc Cert.KernelNormBIdeal.main_arg1)
      ∧ m' ((c.tc : Thread Cert.ReferenceNormBIdeal.nD Cert.ReferenceNormBIdeal.τ).loc Cert.ReferenceNormBIdeal.main_arg2) = m ((c.tc : Thread Cert.KernelNormBIdeal.nD Cert.KernelNormBIdeal.τ).loc Cert.KernelNormBIdeal.main_arg2)
      ∧ m' ((c.tc : Thread Cert.ReferenceNormBIdeal.nD Cert.ReferenceNormBIdeal.τ).loc Cert.ReferenceNormBIdeal.main_arg3) = m ((c.tc : Thread Cert.KernelNormBIdeal.nD Cert.KernelNormBIdeal.τ).loc Cert.KernelNormBIdeal.main_arg3)
      ∧ m' ((c.tc : Thread Cert.ReferenceNormBIdeal.nD Cert.ReferenceNormBIdeal.τ).loc Cert.ReferenceNormBIdeal.main_arg4) = m ((c.tc : Thread Cert.KernelNormBIdeal.nD Cert.KernelNormBIdeal.τ).loc Cert.KernelNormBIdeal.main_arg4)) →
    ∃ (v0 : (c : Dev Cert.KernelNormBIdeal.nD) → Buf (Elt Ideal) ((c.tc : Thread Cert.KernelNormBIdeal.nD Cert.KernelNormBIdeal.τ).loc Cert.KernelNormBIdeal.main_v2_0)) (v1 : (c : Dev Cert.KernelNormBIdeal.nD) → Buf (Elt Ideal) ((c.tc : Thread Cert.KernelNormBIdeal.nD Cert.KernelNormBIdeal.τ).loc Cert.KernelNormBIdeal.main_v2_1)),
      θ_run (Cert.KernelNormBIdeal.defs (F := Ideal)) (onTc (τ := Cert.KernelNormBIdeal.τ) (Cert.KernelNormBIdeal.main (F := Ideal))) ⟨m, fun _ => 0, g⟩ (fun r => ∀ c : Dev Cert.KernelNormBIdeal.nD,
          r.2.mem ((c.tc : Thread Cert.KernelNormBIdeal.nD Cert.KernelNormBIdeal.τ).loc Cert.KernelNormBIdeal.main_v2_0) = v0 c
          ∧ r.2.mem ((c.tc : Thread Cert.KernelNormBIdeal.nD Cert.KernelNormBIdeal.τ).loc Cert.KernelNormBIdeal.main_v2_1) = v1 c
          ∧ r.2.mem ((c.tc : Thread Cert.KernelNormBIdeal.nD Cert.KernelNormBIdeal.τ).loc Cert.KernelNormBIdeal.main_arg0) = m ((c.tc : Thread Cert.KernelNormBIdeal.nD Cert.KernelNormBIdeal.τ).loc Cert.KernelNormBIdeal.main_arg0)
          ∧ r.2.mem ((c.tc : Thread Cert.KernelNormBIdeal.nD Cert.KernelNormBIdeal.τ).loc Cert.KernelNormBIdeal.main_arg1) = m ((c.tc : Thread Cert.KernelNormBIdeal.nD Cert.KernelNormBIdeal.τ).loc Cert.KernelNormBIdeal.main_arg1)
          ∧ r.2.mem ((c.tc : Thread Cert.KernelNormBIdeal.nD Cert.KernelNormBIdeal.τ).loc Cert.KernelNormBIdeal.main_arg2) = m ((c.tc : Thread Cert.KernelNormBIdeal.nD Cert.KernelNormBIdeal.τ).loc Cert.KernelNormBIdeal.main_arg2)
          ∧ r.2.mem ((c.tc : Thread Cert.KernelNormBIdeal.nD Cert.KernelNormBIdeal.τ).loc Cert.KernelNormBIdeal.main_arg3) = m ((c.tc : Thread Cert.KernelNormBIdeal.nD Cert.KernelNormBIdeal.τ).loc Cert.KernelNormBIdeal.main_arg3)
          ∧ r.2.mem ((c.tc : Thread Cert.KernelNormBIdeal.nD Cert.KernelNormBIdeal.τ).loc Cert.KernelNormBIdeal.main_arg4) = m ((c.tc : Thread Cert.KernelNormBIdeal.nD Cert.KernelNormBIdeal.τ).loc Cert.KernelNormBIdeal.main_arg4))
      ∧ θ_run (Cert.ReferenceNormBIdeal.defs (F := Ideal)) (onTc (τ := Cert.ReferenceNormBIdeal.τ) (Cert.ReferenceNormBIdeal.main (F := Ideal))) ⟨m', fun _ => 0, g'⟩ (fun r => ∀ c : Dev Cert.ReferenceNormBIdeal.nD,
          r.2.mem ((c.tc : Thread Cert.ReferenceNormBIdeal.nD Cert.ReferenceNormBIdeal.τ).loc Cert.ReferenceNormBIdeal.main_v59) = v0 c
          ∧ r.2.mem ((c.tc : Thread Cert.ReferenceNormBIdeal.nD Cert.ReferenceNormBIdeal.τ).loc Cert.ReferenceNormBIdeal.main_v64) = v1 c
          ∧ r.2.mem ((c.tc : Thread Cert.ReferenceNormBIdeal.nD Cert.ReferenceNormBIdeal.τ).loc Cert.ReferenceNormBIdeal.main_arg0) = m' ((c.tc : Thread Cert.ReferenceNormBIdeal.nD Cert.ReferenceNormBIdeal.τ).loc Cert.ReferenceNormBIdeal.main_arg0)
          ∧ r.2.mem ((c.tc : Thread Cert.ReferenceNormBIdeal.nD Cert.ReferenceNormBIdeal.τ).loc Cert.ReferenceNormBIdeal.main_arg1) = m' ((c.tc : Thread Cert.ReferenceNormBIdeal.nD Cert.ReferenceNormBIdeal.τ).loc Cert.ReferenceNormBIdeal.main_arg1)
          ∧ r.2.mem ((c.tc : Thread Cert.ReferenceNormBIdeal.nD Cert.ReferenceNormBIdeal.τ).loc Cert.ReferenceNormBIdeal.main_arg2) = m' ((c.tc : Thread Cert.ReferenceNormBIdeal.nD Cert.ReferenceNormBIdeal.τ).loc Cert.ReferenceNormBIdeal.main_arg2)
          ∧ r.2.mem ((c.tc : Thread Cert.ReferenceNormBIdeal.nD Cert.ReferenceNormBIdeal.τ).loc Cert.ReferenceNormBIdeal.main_arg3) = m' ((c.tc : Thread Cert.ReferenceNormBIdeal.nD Cert.ReferenceNormBIdeal.τ).loc Cert.ReferenceNormBIdeal.main_arg3)
          ∧ r.2.mem ((c.tc : Thread Cert.ReferenceNormBIdeal.nD Cert.ReferenceNormBIdeal.τ).loc Cert.ReferenceNormBIdeal.main_arg4) = m' ((c.tc : Thread Cert.ReferenceNormBIdeal.nD Cert.ReferenceNormBIdeal.τ).loc Cert.ReferenceNormBIdeal.main_arg4))

def preserves_KernelResid_KernelResidIdeal : Prop :=
  True

def algebraic_KernelResidIdeal_ReferenceResidIdeal [hKernelResidIdeal : Cert.KernelResidIdeal.Facts] [hReferenceResidIdeal : Cert.ReferenceResidIdeal.Facts] : Prop :=
  ∀ (m : (ℓ : Loc Cert.KernelResidIdeal.nD Cert.KernelResidIdeal.τ Cert.KernelResidIdeal.sig) → Buf (Elt Ideal) ℓ) (g : Dev Cert.KernelResidIdeal.nD → PrngReg)
    (m' : (ℓ : Loc Cert.ReferenceResidIdeal.nD Cert.ReferenceResidIdeal.τ Cert.ReferenceResidIdeal.sig) → Buf (Elt Ideal) ℓ) (g' : Dev Cert.ReferenceResidIdeal.nD → PrngReg), Pre_KernelResidIdeal m →
    (∀ c : Dev Cert.KernelResidIdeal.nD,
      m' ((c.tc : Thread Cert.ReferenceResidIdeal.nD Cert.ReferenceResidIdeal.τ).loc Cert.ReferenceResidIdeal.main_arg0) = m ((c.tc : Thread Cert.KernelResidIdeal.nD Cert.KernelResidIdeal.τ).loc Cert.KernelResidIdeal.main_arg0)
      ∧ m' ((c.tc : Thread Cert.ReferenceResidIdeal.nD Cert.ReferenceResidIdeal.τ).loc Cert.ReferenceResidIdeal.main_arg1) = m ((c.tc : Thread Cert.KernelResidIdeal.nD Cert.KernelResidIdeal.τ).loc Cert.KernelResidIdeal.main_arg1)
      ∧ m' ((c.tc : Thread Cert.ReferenceResidIdeal.nD Cert.ReferenceResidIdeal.τ).loc Cert.ReferenceResidIdeal.main_arg2) = m ((c.tc : Thread Cert.KernelResidIdeal.nD Cert.KernelResidIdeal.τ).loc Cert.KernelResidIdeal.main_arg2)
      ∧ m' ((c.tc : Thread Cert.ReferenceResidIdeal.nD Cert.ReferenceResidIdeal.τ).loc Cert.ReferenceResidIdeal.main_arg3) = m ((c.tc : Thread Cert.KernelResidIdeal.nD Cert.KernelResidIdeal.τ).loc Cert.KernelResidIdeal.main_arg3)) →
    ∃ (v0 : (c : Dev Cert.KernelResidIdeal.nD) → Buf (Elt Ideal) ((c.tc : Thread Cert.KernelResidIdeal.nD Cert.KernelResidIdeal.τ).loc Cert.KernelResidIdeal.main_v2_0)) (v1 : (c : Dev Cert.KernelResidIdeal.nD) → Buf (Elt Ideal) ((c.tc : Thread Cert.KernelResidIdeal.nD Cert.KernelResidIdeal.τ).loc Cert.KernelResidIdeal.main_v2_1)),
      θ_run (Cert.KernelResidIdeal.defs (F := Ideal)) (onTc (τ := Cert.KernelResidIdeal.τ) (Cert.KernelResidIdeal.main (F := Ideal))) ⟨m, fun _ => 0, g⟩ (fun r => ∀ c : Dev Cert.KernelResidIdeal.nD,
          r.2.mem ((c.tc : Thread Cert.KernelResidIdeal.nD Cert.KernelResidIdeal.τ).loc Cert.KernelResidIdeal.main_v2_0) = v0 c
          ∧ r.2.mem ((c.tc : Thread Cert.KernelResidIdeal.nD Cert.KernelResidIdeal.τ).loc Cert.KernelResidIdeal.main_v2_1) = v1 c
          ∧ r.2.mem ((c.tc : Thread Cert.KernelResidIdeal.nD Cert.KernelResidIdeal.τ).loc Cert.KernelResidIdeal.main_arg0) = m ((c.tc : Thread Cert.KernelResidIdeal.nD Cert.KernelResidIdeal.τ).loc Cert.KernelResidIdeal.main_arg0)
          ∧ r.2.mem ((c.tc : Thread Cert.KernelResidIdeal.nD Cert.KernelResidIdeal.τ).loc Cert.KernelResidIdeal.main_arg1) = m ((c.tc : Thread Cert.KernelResidIdeal.nD Cert.KernelResidIdeal.τ).loc Cert.KernelResidIdeal.main_arg1)
          ∧ r.2.mem ((c.tc : Thread Cert.KernelResidIdeal.nD Cert.KernelResidIdeal.τ).loc Cert.KernelResidIdeal.main_arg2) = m ((c.tc : Thread Cert.KernelResidIdeal.nD Cert.KernelResidIdeal.τ).loc Cert.KernelResidIdeal.main_arg2)
          ∧ r.2.mem ((c.tc : Thread Cert.KernelResidIdeal.nD Cert.KernelResidIdeal.τ).loc Cert.KernelResidIdeal.main_arg3) = m ((c.tc : Thread Cert.KernelResidIdeal.nD Cert.KernelResidIdeal.τ).loc Cert.KernelResidIdeal.main_arg3))
      ∧ θ_run (Cert.ReferenceResidIdeal.defs (F := Ideal)) (onTc (τ := Cert.ReferenceResidIdeal.τ) (Cert.ReferenceResidIdeal.main (F := Ideal))) ⟨m', fun _ => 0, g'⟩ (fun r => ∀ c : Dev Cert.ReferenceResidIdeal.nD,
          r.2.mem ((c.tc : Thread Cert.ReferenceResidIdeal.nD Cert.ReferenceResidIdeal.τ).loc Cert.ReferenceResidIdeal.main_v5) = v0 c
          ∧ r.2.mem ((c.tc : Thread Cert.ReferenceResidIdeal.nD Cert.ReferenceResidIdeal.τ).loc Cert.ReferenceResidIdeal.main_v32) = v1 c
          ∧ r.2.mem ((c.tc : Thread Cert.ReferenceResidIdeal.nD Cert.ReferenceResidIdeal.τ).loc Cert.ReferenceResidIdeal.main_arg0) = m' ((c.tc : Thread Cert.ReferenceResidIdeal.nD Cert.ReferenceResidIdeal.τ).loc Cert.ReferenceResidIdeal.main_arg0)
          ∧ r.2.mem ((c.tc : Thread Cert.ReferenceResidIdeal.nD Cert.ReferenceResidIdeal.τ).loc Cert.ReferenceResidIdeal.main_arg1) = m' ((c.tc : Thread Cert.ReferenceResidIdeal.nD Cert.ReferenceResidIdeal.τ).loc Cert.ReferenceResidIdeal.main_arg1)
          ∧ r.2.mem ((c.tc : Thread Cert.ReferenceResidIdeal.nD Cert.ReferenceResidIdeal.τ).loc Cert.ReferenceResidIdeal.main_arg2) = m' ((c.tc : Thread Cert.ReferenceResidIdeal.nD Cert.ReferenceResidIdeal.τ).loc Cert.ReferenceResidIdeal.main_arg2)
          ∧ r.2.mem ((c.tc : Thread Cert.ReferenceResidIdeal.nD Cert.ReferenceResidIdeal.τ).loc Cert.ReferenceResidIdeal.main_arg3) = m' ((c.tc : Thread Cert.ReferenceResidIdeal.nD Cert.ReferenceResidIdeal.τ).loc Cert.ReferenceResidIdeal.main_arg3))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v0_0)) (v1 : (c : Dev Cert.KernelDownIdeal.nD) → Buf (Elt Ideal) ((c.tc : Thread Cert.KernelDownIdeal.nD Cert.KernelDownIdeal.τ).loc Cert.KernelDownIdeal.main_v0_1)) (v2 : (c : Dev Cert.KernelDownIdeal.nD) → Buf (Elt Ideal) ((c.tc : Thread Cert.KernelDownIdeal.nD Cert.KernelDownIdeal.τ).loc Cert.KernelDownIdeal.main_v0_2)) (v3 : (c : Dev Cert.KernelDownIdeal.nD) → Buf (Elt Ideal) ((c.tc : Thread Cert.KernelDownIdeal.nD Cert.KernelDownIdeal.τ).loc Cert.KernelDownIdeal.main_v0_3)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0_0) = v0 c
          ∧ r.2.mem ((c.tc : Thread Cert.KernelDownIdeal.nD Cert.KernelDownIdeal.τ).loc Cert.KernelDownIdeal.main_v0_1) = v1 c
          ∧ r.2.mem ((c.tc : Thread Cert.KernelDownIdeal.nD Cert.KernelDownIdeal.τ).loc Cert.KernelDownIdeal.main_v0_2) = v2 c
          ∧ r.2.mem ((c.tc : Thread Cert.KernelDownIdeal.nD Cert.KernelDownIdeal.τ).loc Cert.KernelDownIdeal.main_v0_3) = v3 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v1) = v0 c
          ∧ r.2.mem ((c.tc : Thread Cert.ReferenceDownIdeal.nD Cert.ReferenceDownIdeal.τ).loc Cert.ReferenceDownIdeal.main_v25) = v1 c
          ∧ r.2.mem ((c.tc : Thread Cert.ReferenceDownIdeal.nD Cert.ReferenceDownIdeal.τ).loc Cert.ReferenceDownIdeal.main_v6) = v2 c
          ∧ r.2.mem ((c.tc : Thread Cert.ReferenceDownIdeal.nD Cert.ReferenceDownIdeal.τ).loc Cert.ReferenceDownIdeal.main_v12) = v3 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)) →
    ∃ (v0 : (c : Dev Cert.KernelUpIdeal.nD) → Buf (Elt Ideal) ((c.tc : Thread Cert.KernelUpIdeal.nD Cert.KernelUpIdeal.τ).loc Cert.KernelUpIdeal.main_v3_0)) (v1 : (c : Dev Cert.KernelUpIdeal.nD) → Buf (Elt Ideal) ((c.tc : Thread Cert.KernelUpIdeal.nD Cert.KernelUpIdeal.τ).loc Cert.KernelUpIdeal.main_v3_1)) (v2 : (c : Dev Cert.KernelUpIdeal.nD) → Buf (Elt Ideal) ((c.tc : Thread Cert.KernelUpIdeal.nD Cert.KernelUpIdeal.τ).loc Cert.KernelUpIdeal.main_v3_2)) (v3 : (c : Dev Cert.KernelUpIdeal.nD) → Buf (Elt Ideal) ((c.tc : Thread Cert.KernelUpIdeal.nD Cert.KernelUpIdeal.τ).loc Cert.KernelUpIdeal.main_v3_3)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v3_0) = v0 c
          ∧ r.2.mem ((c.tc : Thread Cert.KernelUpIdeal.nD Cert.KernelUpIdeal.τ).loc Cert.KernelUpIdeal.main_v3_1) = v1 c
          ∧ r.2.mem ((c.tc : Thread Cert.KernelUpIdeal.nD Cert.KernelUpIdeal.τ).loc Cert.KernelUpIdeal.main_v3_2) = v2 c
          ∧ r.2.mem ((c.tc : Thread Cert.KernelUpIdeal.nD Cert.KernelUpIdeal.τ).loc Cert.KernelUpIdeal.main_v3_3) = v3 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v27) = v0 c
          ∧ r.2.mem ((c.tc : Thread Cert.ReferenceUpIdeal.nD Cert.ReferenceUpIdeal.τ).loc Cert.ReferenceUpIdeal.main_v28) = v1 c
          ∧ r.2.mem ((c.tc : Thread Cert.ReferenceUpIdeal.nD Cert.ReferenceUpIdeal.τ).loc Cert.ReferenceUpIdeal.main_v29) = v2 c
          ∧ r.2.mem ((c.tc : Thread Cert.ReferenceUpIdeal.nD Cert.ReferenceUpIdeal.τ).loc Cert.ReferenceUpIdeal.main_v30) = v3 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v3_0)) (v1 : (c : Dev Cert.KernelInIdeal.nD) → Buf (Elt Ideal) ((c.tc : Thread Cert.KernelInIdeal.nD Cert.KernelInIdeal.τ).loc Cert.KernelInIdeal.main_v3_1)) (v2 : (c : Dev Cert.KernelInIdeal.nD) → Buf (Elt Ideal) ((c.tc : Thread Cert.KernelInIdeal.nD Cert.KernelInIdeal.τ).loc Cert.KernelInIdeal.main_v3_2)) (v3 : (c : Dev Cert.KernelInIdeal.nD) → Buf (Elt Ideal) ((c.tc : Thread Cert.KernelInIdeal.nD Cert.KernelInIdeal.τ).loc Cert.KernelInIdeal.main_v3_3)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v3_0) = v0 c
          ∧ r.2.mem ((c.tc : Thread Cert.KernelInIdeal.nD Cert.KernelInIdeal.τ).loc Cert.KernelInIdeal.main_v3_1) = v1 c
          ∧ r.2.mem ((c.tc : Thread Cert.KernelInIdeal.nD Cert.KernelInIdeal.τ).loc Cert.KernelInIdeal.main_v3_2) = v2 c
          ∧ r.2.mem ((c.tc : Thread Cert.KernelInIdeal.nD Cert.KernelInIdeal.τ).loc Cert.KernelInIdeal.main_v3_3) = v3 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v27) = v0 c
          ∧ r.2.mem ((c.tc : Thread Cert.ReferenceInIdeal.nD Cert.ReferenceInIdeal.τ).loc Cert.ReferenceInIdeal.main_v28) = v1 c
          ∧ r.2.mem ((c.tc : Thread Cert.ReferenceInIdeal.nD Cert.ReferenceInIdeal.τ).loc Cert.ReferenceInIdeal.main_v29) = v2 c
          ∧ r.2.mem ((c.tc : Thread Cert.ReferenceInIdeal.nD Cert.ReferenceInIdeal.τ).loc Cert.ReferenceInIdeal.main_v30) = v3 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)
      ∧ m' ((c.tc : Thread Cert.ReferenceAdaIdeal.nD Cert.ReferenceAdaIdeal.τ).loc Cert.ReferenceAdaIdeal.main_arg3) = m ((c.tc : Thread Cert.KernelAdaIdeal.nD Cert.KernelAdaIdeal.τ).loc Cert.KernelAdaIdeal.main_arg3)
      ∧ m' ((c.tc : Thread Cert.ReferenceAdaIdeal.nD Cert.ReferenceAdaIdeal.τ).loc Cert.ReferenceAdaIdeal.main_arg4) = m ((c.tc : Thread Cert.KernelAdaIdeal.nD Cert.KernelAdaIdeal.τ).loc Cert.KernelAdaIdeal.main_arg4)) →
    ∃ (v0 : (c : Dev Cert.KernelAdaIdeal.nD) → Buf (Elt Ideal) ((c.tc : Thread Cert.KernelAdaIdeal.nD Cert.KernelAdaIdeal.τ).loc Cert.KernelAdaIdeal.main_v0_0)) (v1 : (c : Dev Cert.KernelAdaIdeal.nD) → Buf (Elt Ideal) ((c.tc : Thread Cert.KernelAdaIdeal.nD Cert.KernelAdaIdeal.τ).loc Cert.KernelAdaIdeal.main_v0_1)) (v2 : (c : Dev Cert.KernelAdaIdeal.nD) → Buf (Elt Ideal) ((c.tc : Thread Cert.KernelAdaIdeal.nD Cert.KernelAdaIdeal.τ).loc Cert.KernelAdaIdeal.main_v0_2)) (v3 : (c : Dev Cert.KernelAdaIdeal.nD) → Buf (Elt Ideal) ((c.tc : Thread Cert.KernelAdaIdeal.nD Cert.KernelAdaIdeal.τ).loc Cert.KernelAdaIdeal.main_v0_3)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v0_0) = v0 c
          ∧ r.2.mem ((c.tc : Thread Cert.KernelAdaIdeal.nD Cert.KernelAdaIdeal.τ).loc Cert.KernelAdaIdeal.main_v0_1) = v1 c
          ∧ r.2.mem ((c.tc : Thread Cert.KernelAdaIdeal.nD Cert.KernelAdaIdeal.τ).loc Cert.KernelAdaIdeal.main_v0_2) = v2 c
          ∧ r.2.mem ((c.tc : Thread Cert.KernelAdaIdeal.nD Cert.KernelAdaIdeal.τ).loc Cert.KernelAdaIdeal.main_v0_3) = v3 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
          ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3)
          ∧ r.2.mem ((c.tc : Thread Cert.KernelAdaIdeal.nD Cert.KernelAdaIdeal.τ).loc Cert.KernelAdaIdeal.main_arg4) = m ((c.tc : Thread Cert.KernelAdaIdeal.nD Cert.KernelAdaIdeal.τ).loc Cert.KernelAdaIdeal.main_arg4))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v3) = v0 c
          ∧ r.2.mem ((c.tc : Thread Cert.ReferenceAdaIdeal.nD Cert.ReferenceAdaIdeal.τ).loc Cert.ReferenceAdaIdeal.main_v27) = v1 c
          ∧ r.2.mem ((c.tc : Thread Cert.ReferenceAdaIdeal.nD Cert.ReferenceAdaIdeal.τ).loc Cert.ReferenceAdaIdeal.main_v8) = v2 c
          ∧ r.2.mem ((c.tc : Thread Cert.ReferenceAdaIdeal.nD Cert.ReferenceAdaIdeal.τ).loc Cert.ReferenceAdaIdeal.main_v14) = v3 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2)
          ∧ r.2.mem ((c.tc : Thread Cert.ReferenceAdaIdeal.nD Cert.ReferenceAdaIdeal.τ).loc Cert.ReferenceAdaIdeal.main_arg3) = m' ((c.tc : Thread Cert.ReferenceAdaIdeal.nD Cert.ReferenceAdaIdeal.τ).loc Cert.ReferenceAdaIdeal.main_arg3)
          ∧ r.2.mem ((c.tc : Thread Cert.ReferenceAdaIdeal.nD Cert.ReferenceAdaIdeal.τ).loc Cert.ReferenceAdaIdeal.main_arg4) = m' ((c.tc : Thread Cert.ReferenceAdaIdeal.nD Cert.ReferenceAdaIdeal.τ).loc Cert.ReferenceAdaIdeal.main_arg4))

def Claim : Prop :=
  ∃ (hKernel : Cert.Kernel.Facts) (hKernelIdeal : Cert.KernelIdeal.Facts) (hReferenceIdeal : Cert.ReferenceIdeal.Facts) (hKernelFwd : Cert.KernelFwd.Facts) (hKernelFwdIdeal : Cert.KernelFwdIdeal.Facts) (hReferenceFwdIdeal : Cert.ReferenceFwdIdeal.Facts) (hKernelProj : Cert.KernelProj.Facts) (hKernelProjIdeal : Cert.KernelProjIdeal.Facts) (hReferenceProjIdeal : Cert.ReferenceProjIdeal.Facts) (hKernelProjW : Cert.KernelProjW.Facts) (hKernelProjWIdeal : Cert.KernelProjWIdeal.Facts) (hReferenceProjWIdeal : Cert.ReferenceProjWIdeal.Facts) (hKernelProjX : Cert.KernelProjX.Facts) (hKernelProjXIdeal : Cert.KernelProjXIdeal.Facts) (hReferenceProjXIdeal : Cert.ReferenceProjXIdeal.Facts) (hKernelOut : Cert.KernelOut.Facts) (hKernelOutIdeal : Cert.KernelOutIdeal.Facts) (hReferenceOutIdeal : Cert.ReferenceOutIdeal.Facts) (hKernelOutW : Cert.KernelOutW.Facts) (hKernelOutWIdeal : Cert.KernelOutWIdeal.Facts) (hReferenceOutWIdeal : Cert.ReferenceOutWIdeal.Facts) (hKernelNorm : Cert.KernelNorm.Facts) (hKernelNormIdeal : Cert.KernelNormIdeal.Facts) (hReferenceNormIdeal : Cert.ReferenceNormIdeal.Facts) (hKernelNormB : Cert.KernelNormB.Facts) (hKernelNormBIdeal : Cert.KernelNormBIdeal.Facts) (hReferenceNormBIdeal : Cert.ReferenceNormBIdeal.Facts) (hKernelResid : Cert.KernelResid.Facts) (hKernelResidIdeal : Cert.KernelResidIdeal.Facts) (hReferenceResidIdeal : Cert.ReferenceResidIdeal.Facts) (hKernelDown : Cert.KernelDown.Facts) (hKernelDownIdeal : Cert.KernelDownIdeal.Facts) (hReferenceDownIdeal : Cert.ReferenceDownIdeal.Facts) (hKernelUp : Cert.KernelUp.Facts) (hKernelUpIdeal : Cert.KernelUpIdeal.Facts) (hReferenceUpIdeal : Cert.ReferenceUpIdeal.Facts) (hKernelIn : Cert.KernelIn.Facts) (hKernelInIdeal : Cert.KernelInIdeal.Facts) (hReferenceInIdeal : Cert.ReferenceInIdeal.Facts) (hKernelAda : Cert.KernelAda.Facts) (hKernelAdaIdeal : Cert.KernelAdaIdeal.Facts) (hReferenceAdaIdeal : Cert.ReferenceAdaIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelProjW (hKernelProjW := hKernelProjW)
    ∧ quiescent_KernelProjWIdeal (hKernelProjWIdeal := hKernelProjWIdeal)
    ∧ quiescent_ReferenceProjWIdeal (hReferenceProjWIdeal := hReferenceProjWIdeal)
    ∧ quiescent_KernelProjX (hKernelProjX := hKernelProjX)
    ∧ quiescent_KernelProjXIdeal (hKernelProjXIdeal := hKernelProjXIdeal)
    ∧ quiescent_ReferenceProjXIdeal (hReferenceProjXIdeal := hReferenceProjXIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelOutW (hKernelOutW := hKernelOutW)
    ∧ quiescent_KernelOutWIdeal (hKernelOutWIdeal := hKernelOutWIdeal)
    ∧ quiescent_ReferenceOutWIdeal (hReferenceOutWIdeal := hReferenceOutWIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelNormB (hKernelNormB := hKernelNormB)
    ∧ quiescent_KernelNormBIdeal (hKernelNormBIdeal := hKernelNormBIdeal)
    ∧ quiescent_ReferenceNormBIdeal (hReferenceNormBIdeal := hReferenceNormBIdeal)
    ∧ quiescent_KernelResid (hKernelResid := hKernelResid)
    ∧ quiescent_KernelResidIdeal (hKernelResidIdeal := hKernelResidIdeal)
    ∧ quiescent_ReferenceResidIdeal (hReferenceResidIdeal := hReferenceResidIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFwd_KernelFwdIdeal
    ∧ algebraic_KernelFwdIdeal_ReferenceFwdIdeal (hKernelFwdIdeal := hKernelFwdIdeal) (hReferenceFwdIdeal := hReferenceFwdIdeal)
    ∧ preserves_KernelProj_KernelProjIdeal
    ∧ algebraic_KernelProjIdeal_ReferenceProjIdeal (hKernelProjIdeal := hKernelProjIdeal) (hReferenceProjIdeal := hReferenceProjIdeal)
    ∧ preserves_KernelProjW_KernelProjWIdeal
    ∧ algebraic_KernelProjWIdeal_ReferenceProjWIdeal (hKernelProjWIdeal := hKernelProjWIdeal) (hReferenceProjWIdeal := hReferenceProjWIdeal)
    ∧ preserves_KernelProjX_KernelProjXIdeal
    ∧ algebraic_KernelProjXIdeal_ReferenceProjXIdeal (hKernelProjXIdeal := hKernelProjXIdeal) (hReferenceProjXIdeal := hReferenceProjXIdeal)
    ∧ preserves_KernelOut_KernelOutIdeal
    ∧ algebraic_KernelOutIdeal_ReferenceOutIdeal (hKernelOutIdeal := hKernelOutIdeal) (hReferenceOutIdeal := hReferenceOutIdeal)
    ∧ preserves_KernelOutW_KernelOutWIdeal
    ∧ algebraic_KernelOutWIdeal_ReferenceOutWIdeal (hKernelOutWIdeal := hKernelOutWIdeal) (hReferenceOutWIdeal := hReferenceOutWIdeal)
    ∧ preserves_KernelNorm_KernelNormIdeal
    ∧ algebraic_KernelNormIdeal_ReferenceNormIdeal (hKernelNormIdeal := hKernelNormIdeal) (hReferenceNormIdeal := hReferenceNormIdeal)
    ∧ preserves_KernelNormB_KernelNormBIdeal
    ∧ algebraic_KernelNormBIdeal_ReferenceNormBIdeal (hKernelNormBIdeal := hKernelNormBIdeal) (hReferenceNormBIdeal := hReferenceNormBIdeal)
    ∧ preserves_KernelResid_KernelResidIdeal
    ∧ algebraic_KernelResidIdeal_ReferenceResidIdeal (hKernelResidIdeal := hKernelResidIdeal) (hReferenceResidIdeal := hReferenceResidIdeal)
    ∧ preserves_KernelDown_KernelDownIdeal
    ∧ algebraic_KernelDownIdeal_ReferenceDownIdeal (hKernelDownIdeal := hKernelDownIdeal) (hReferenceDownIdeal := hReferenceDownIdeal)
    ∧ preserves_KernelUp_KernelUpIdeal
    ∧ algebraic_KernelUpIdeal_ReferenceUpIdeal (hKernelUpIdeal := hKernelUpIdeal) (hReferenceUpIdeal := hReferenceUpIdeal)
    ∧ preserves_KernelIn_KernelInIdeal
    ∧ algebraic_KernelInIdeal_ReferenceInIdeal (hKernelInIdeal := hKernelInIdeal) (hReferenceInIdeal := hReferenceInIdeal)
    ∧ preserves_KernelAda_KernelAdaIdeal
    ∧ algebraic_KernelAdaIdeal_ReferenceAdaIdeal (hKernelAdaIdeal := hKernelAdaIdeal) (hReferenceAdaIdeal := hReferenceAdaIdeal)
-- ==== Pre_finite.lean ====
abbrev S2048x1024 : Shape := ⟨2, ![2048, 1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S1024x5632 .f32) (main_arg2 : FVec F S3x5632 .f32) (main_arg3 : FVec F S2816x1024 .f32) (main_arg4 : FVec F S2048x1024 .f32) : IVec S2048x1024 1 × IVec S1024x5632 1 × IVec S3x5632 1 × IVec S2816x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Kernel.lean ====
abbrev S2048x1024 : Shape := ⟨2, ![2048, 1024]⟩
abbrev S1024x5632 : Shape := ⟨2, ![1024, 5632]⟩
abbrev S3x5632 : Shape := ⟨2, ![3, 5632]⟩
abbrev S2816x1024 : Shape := ⟨2, ![2816, 1024]⟩
abbrev S5632x1024 : Shape := ⟨2, ![5632, 1024]⟩
abbrev S2x2816x1024 : Shape := ⟨3, ![2, 2816, 1024]⟩
abbrev S2048x5632 : Shape := ⟨2, ![2048, 5632]⟩
abbrev S2048x2816 : Shape := ⟨2, ![2048, 2816]⟩
abbrev S8x2816 : Shape := ⟨2, ![8, 2816]⟩
abbrev S1024x1024 : Shape := ⟨2, ![1024, 1024]⟩
abbrev S1024x256 : Shape := ⟨2, ![1024, 256]⟩
abbrev S16x256 : Shape := ⟨2, ![16, 256]⟩
abbrev S2x256x1024 : Shape := ⟨3, ![2, 256, 1024]⟩
abbrev S3x256 : Shape := ⟨2, ![3, 256]⟩
abbrev S256x1024 : Shape := ⟨2, ![256, 1024]⟩
abbrev S8x256 : Shape := ⟨2, ![8, 256]⟩
abbrev S2x8x256 : Shape := ⟨3, ![2, 8, 256]⟩
abbrev S512x1024 : Shape := ⟨2, ![512, 1024]⟩
abbrev S1x256 : Shape := ⟨2, ![1, 256]⟩
abbrev S1016x256 : Shape := ⟨2, ![1016, 256]⟩
abbrev S1x8x256 : Shape := ⟨3, ![1, 8, 256]⟩
abbrev S1024x512 : Shape := ⟨2, ![1024, 512]⟩
abbrev S256 : Shape := ⟨1, ![256]⟩

abbrev nBuf : Space → Nat
  | .hbm => 21
  | .vmem => 32
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S3x5632, .f32⟩
  | .hbm, ⟨3, _⟩ => ⟨S2816x1024, .f32⟩
  | .hbm, ⟨4, _⟩ => ⟨S2048x1024, .f32⟩
  | .hbm, ⟨5, _⟩ => ⟨S5632x1024, .f32⟩
  | .hbm, ⟨6, _⟩ => ⟨S5632x1024, .bf16⟩
  | .hbm, ⟨7, _⟩ => ⟨S2x2816x1024, .bf16⟩
  | .hbm, ⟨8, _⟩ => ⟨S2048x5632, .f32⟩
  | .hbm, ⟨9, _⟩ => ⟨S2048x2816, .f32⟩
  | .hbm, ⟨10, _⟩ => ⟨S2048x2816, .bf16⟩
  | .hbm, ⟨11, _⟩ => ⟨S2048x2816, .f32⟩
  | .hbm, ⟨12, _⟩ => ⟨S2048x2816, .bf16⟩
  | .hbm, ⟨13, _⟩ => ⟨S2048x1024, .bf16⟩
  | .hbm, ⟨14, _⟩ => ⟨S2048x1024, .bf16⟩
  | .hbm, ⟨15, _⟩ => ⟨S2816x1024, .bf16⟩
  | .hbm, ⟨16, _⟩ => ⟨S2048x1024, .f32⟩
  | .hbm, ⟨17, _⟩ => ⟨S2x2816x1024, .bf16⟩
  | .hbm, ⟨18, _⟩ => ⟨S2816x1024, .bf16⟩
  | .hbm, ⟨19, _⟩ => ⟨S8x2816, .f32⟩
  | .hbm, ⟨20, _⟩ => ⟨S8x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S16x256, .bf16⟩
  | .local _ .vmem, ⟨9, _⟩ => ⟨S16x256, .bf16⟩
  | .local _ .vmem, ⟨10, _⟩ => ⟨S16x256, .bf16⟩
  | .local _ .vmem, ⟨11, _⟩ => ⟨S16x256, .bf16⟩
  | .local _ .vmem, ⟨12, _⟩ => ⟨S2x256x1024, .bf16⟩
  | .local _ .vmem, ⟨13, _⟩ => ⟨S2x256x1024, .bf16⟩
  | .local _ .vmem, ⟨14, _⟩ => ⟨S3x256, .f32⟩
  | .local _ .vmem, ⟨15, _⟩ => ⟨S3x256, .f32⟩
  | .local _ .vmem, ⟨16, _⟩ => ⟨S3x256, .f32⟩
  | .local _ .vmem, ⟨17, _⟩ => ⟨S3x256, .f32⟩
  | .local _ .vmem, ⟨18, _⟩ => ⟨S256x1024, .bf16⟩
  | .local _ .vmem, ⟨19, _⟩ => ⟨S256x1024, .bf16⟩
  | .local _ .vmem, ⟨20, _⟩ => ⟨S2048x1024, .f32⟩
  | .local _ .vmem, ⟨21, _⟩ => ⟨S2x256x1024, .bf16⟩
  | .local _ .vmem, ⟨22, _⟩ => ⟨S2x256x1024, .bf16⟩
  | .local _ .vmem, ⟨23, _⟩ => ⟨S256x1024, .bf16⟩
  | .local _ .vmem, ⟨24, _⟩ => ⟨S256x1024, .bf16⟩
  | .local _ .vmem, ⟨25, _⟩ => ⟨S8x256, .f32⟩
  | .local _ .vmem, ⟨26, _⟩ => ⟨S8x256, .f32⟩
  | .local _ .vmem, ⟨27, _⟩ => ⟨S8x256, .f32⟩
  | .local _ .vmem, ⟨28, _⟩ => ⟨S8x256, .f32⟩
  | .local _ .vmem, ⟨29, _⟩ => ⟨S2x8x256, .f32⟩
  | .local _ .vmem, ⟨30, _⟩ => ⟨S512x1024, .f32⟩
  | .local _ .vmem, ⟨31, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![11, 2], ![false, false]⟩

def k0_mult1 (i : grid0.Coords) : BitVec 32 :=
  let c1_i32 : BitVec 32 := 1#32
  let arg1 : BitVec 32 := BitVec.ofNat 32 (i 1).val
  let v0 : BitVec 32 := Scalar.subi c1_i32 arg1
  let c1024_i32 : BitVec 32 := 1024#32
  let v1 : BitVec 32 := Scalar.muli v0 c1024_i32
  v1
def k0_cond4 (i : grid0.Coords) : BitVec 1 :=
  let arg0 : BitVec 32 := BitVec.ofNat 32 (i 0).val
  let c0_i32_95 : BitVec 32 := 0#32
  let v283 : BitVec 1 := Scalar.cmpi .eq arg0 c0_i32_95
  let v284 : BitVec 32 := Scalar.extui v283
  let c0_i32_96 : BitVec 32 := 0#32
  let v285 : BitVec 1 := Scalar.cmpi .ne v284 c0_i32_96
  v285

def k0_off1 (i : grid0.Coords) : Fin 2 → Nat :=
  let c1_i32 : BitVec 32 := 1#32
  let arg1 : BitVec 32 := BitVec.ofNat 32 (i 1).val
  let v0 : BitVec 32 := Scalar.subi c1_i32 arg1
  let c1024_i32 : BitVec 32 := 1024#32
  let v1 : BitVec 32 := Scalar.muli v0 c1024_i32
  let v2 : BitVec 32 := v1
  let v289 : Index := Scalar.indexCast v2
  let c0_99 : Index := 0#32
  ![v289.toNat, 0]
def k0_cond5 (i : grid0.Coords) : BitVec 1 :=
  let arg0 : BitVec 32 := BitVec.ofNat 32 (i 0).val
  let c0_i32_97 : BitVec 32 := 0#32
  let v286 : BitVec 1 := Scalar.cmpi .sgt arg0 c0_i32_97
  let v287 : BitVec 32 := Scalar.extui v286
  let c0_i32_98 : BitVec 32 := 0#32
  let v288 : BitVec 1 := Scalar.cmpi .ne v287 c0_i32_98
  v288

def k0_off2 (i : grid0.Coords) : Fin 2 → Nat :=
  let c1_i32 : BitVec 32 := 1#32
  let arg1 : BitVec 32 := BitVec.ofNat 32 (i 1).val
  let v0 : BitVec 32 := Scalar.subi c1_i32 arg1
  let c1024_i32 : BitVec 32 := 1024#32
  let v1 : BitVec 32 := Scalar.muli v0 c1024_i32
  let v2 : BitVec 32 := v1
  let v289 : Index := Scalar.indexCast v2
  let c0_99 : Index := 0#32
  ![v289.toNat, 0]
def k0_cond3 (i : grid0.Coords) : BitVec 1 :=
  let arg1 : BitVec 32 := BitVec.ofNat 32 (i 1).val
  let c1_i32_70 : BitVec 32 := 1#32
  let v256 : BitVec 1 := Scalar.cmpi .eq arg1 c1_i32_70
  let v257 : BitVec 32 := Scalar.extui v256
  let c0_i32_71 : BitVec 32 := 0#32
  let v258 : BitVec 1 := Scalar.cmpi .ne v257 c0_i32_71
  v258

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c64_i32 : BitVec 32 := 64#32
  let v1 : BitVec 32 := Scalar.muli v0 c64_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  ![v3.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c64_i32 : BitVec 32 := 64#32
  let v1 : BitVec 32 := Scalar.muli v0 c64_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  ![v3.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S2048x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S8x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S2048x1024 : Shape := ⟨2, ![2048, 1024]⟩
abbrev S1024x5632 : Shape := ⟨2, ![1024, 5632]⟩
abbrev S3x5632 : Shape := ⟨2, ![3, 5632]⟩
abbrev S2816x1024 : Shape := ⟨2, ![2816, 1024]⟩
abbrev S2048x5632 : Shape := ⟨2, ![2048, 5632]⟩
abbrev S_ : Shape := ⟨0, ![]⟩
abbrev S2x5632 : Shape := ⟨2, ![2, 5632]⟩
abbrev S2050x5632 : Shape := ⟨2, ![2050, 5632]⟩
abbrev S1x5632 : Shape := ⟨2, ![1, 5632]⟩
abbrev S5632 : Shape := ⟨1, ![5632]⟩
abbrev S2048x2816 : Shape := ⟨2, ![2048, 2816]⟩
abbrev S1024x2816 : Shape := ⟨2, ![1024, 2816]⟩
abbrev S5632x1024 : Shape := ⟨2, ![5632, 1024]⟩
abbrev S5x5632 : Shape := ⟨2, ![5, 5632]⟩
abbrev S8x5632 : Shape := ⟨2, ![8, 5632]⟩
abbrev S2x2816x1024 : Shape := ⟨3, ![2, 2816, 1024]⟩
abbrev S8x2816 : Shape := ⟨2, ![8, 2816]⟩

abbrev nBuf : Space → Nat
  | .hbm => 115
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S3x5632, .f32⟩
  | .hbm, ⟨3, _⟩ => ⟨S2816x1024, .f32⟩
  | .hbm, ⟨4, _⟩ => ⟨S2048x1024, .f32⟩
  | .hbm, ⟨5, _⟩ => ⟨S2048x5632, .f32⟩
  | .hbm, ⟨6, _⟩ => ⟨S_, .f32⟩
  | .hbm, ⟨7, _⟩ => ⟨S2x5632, .f32⟩
  | .hbm, ⟨8, _⟩ => ⟨S2050x5632, .f32⟩
  | .hbm, ⟨9, _⟩ => ⟨S_, .f32⟩
  | .hbm, ⟨10, _⟩ => ⟨S2x5632, .f32⟩
  | .hbm, ⟨11, _⟩ => ⟨S1x5632, .f32⟩
  | .hbm, ⟨12, _⟩ => ⟨S5632, .f32⟩
  | .hbm, ⟨13, _⟩ => ⟨S2048x5632, .f32⟩
  | .hbm, ⟨14, _⟩ => ⟨S1x5632, .f32⟩
  | .hbm, ⟨15, _⟩ => ⟨S2048x5632, .f32⟩
  | .hbm, ⟨16, _⟩ => ⟨S2048x5632, .f32⟩
  | .hbm, ⟨17, _⟩ => ⟨S1x5632, .f32⟩
  | .hbm, ⟨18, _⟩ => ⟨S5632, .f32⟩
  | .hbm, ⟨19, _⟩ => ⟨S2048x5632, .f32⟩
  | .hbm, ⟨20, _⟩ => ⟨S1x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S1x5632, .f32⟩
  | .hbm, ⟨25, _⟩ => ⟨S5632, .f32⟩
  | .hbm, ⟨26, _⟩ => ⟨S2048x5632, .f32⟩
  | .hbm, ⟨27, _⟩ => ⟨S1x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S_, .f32⟩
  | .hbm, ⟨39, _⟩ => ⟨S2048x2816, .f32⟩
  | .hbm, ⟨40, _⟩ => ⟨S2048x2816, .f32⟩
  | .hbm, ⟨41, _⟩ => ⟨S_, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x1024, .f32⟩
  | .hbm, ⟨48, _⟩ => ⟨S1024x2816, .f32⟩
  | .hbm, ⟨49, _⟩ => ⟨S2816x1024, .f32⟩
  | .hbm, ⟨50, _⟩ => ⟨S2048x2816, .f32⟩
  | .hbm, ⟨51, _⟩ => ⟨S2048x2816, .f32⟩
  | .hbm, ⟨52, _⟩ => ⟨S2048x2816, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2048x2816, .f32⟩
  | .hbm, ⟨57, _⟩ => ⟨S2048x5632, .f32⟩
  | .hbm, ⟨58, _⟩ => ⟨S2048x5632, .f32⟩
  | .hbm, ⟨59, _⟩ => ⟨S2048x5632, .f32⟩
  | .hbm, ⟨60, _⟩ => ⟨S2048x5632, .f32⟩
  | .hbm, ⟨61, _⟩ => ⟨S_, .f32⟩
  | .hbm, ⟨62, _⟩ => ⟨S5632, .f32⟩
  | .hbm, ⟨63, _⟩ => ⟨S1x5632, .f32⟩
  | .hbm, ⟨64, _⟩ => ⟨S_, .f32⟩
  | .hbm, ⟨65, _⟩ => ⟨S5632, .f32⟩
  | .hbm, ⟨66, _⟩ => ⟨S_, .f32⟩
  | .hbm, ⟨67, _⟩ => ⟨S2050x5632, .f32⟩
  | .hbm, ⟨68, _⟩ => ⟨S1x5632, .f32⟩
  | .hbm, ⟨69, _⟩ => ⟨S_, .f32⟩
  | .hbm, ⟨70, _⟩ => ⟨S3x5632, .f32⟩
  | .hbm, ⟨71, _⟩ => ⟨S2048x5632, .f32⟩
  | .hbm, ⟨72, _⟩ => ⟨S2048x5632, .f32⟩
  | .hbm, ⟨73, _⟩ => ⟨S2048x5632, .f32⟩
  | .hbm, ⟨74, _⟩ => ⟨S_, .f32⟩
  | .hbm, ⟨75, _⟩ => ⟨S5632, .f32⟩
  | .hbm, ⟨76, _⟩ => ⟨S1x5632, .f32⟩
  | .hbm, ⟨77, _⟩ => ⟨S_, .f32⟩
  | .hbm, ⟨78, _⟩ => ⟨S5632, .f32⟩
  | .hbm, ⟨79, _⟩ => ⟨S_, .f32⟩
  | .hbm, ⟨80, _⟩ => ⟨S2050x5632, .f32⟩
  | .hbm, ⟨81, _⟩ => ⟨S2050x5632, .f32⟩
  | .hbm, ⟨82, _⟩ => ⟨S1x5632, .f32⟩
  | .hbm, ⟨83, _⟩ => ⟨S_, .f32⟩
  | .hbm, ⟨84, _⟩ => ⟨S3x5632, .f32⟩
  | .hbm, ⟨85, _⟩ => ⟨S3x5632, .f32⟩
  | .hbm, ⟨86, _⟩ => ⟨S2048x5632, .f32⟩
  | .hbm, ⟨87, _⟩ => ⟨S2048x5632, .f32⟩
  | .hbm, ⟨88, _⟩ => ⟨S2048x5632, .f32⟩
  | .hbm, ⟨89, _⟩ => ⟨S_, .f32⟩
  | .hbm, ⟨90, _⟩ => ⟨S5632, .f32⟩
  | .hbm, ⟨91, _⟩ => ⟨S1x5632, .f32⟩
  | .hbm, ⟨92, _⟩ => ⟨S_, .f32⟩
  | .hbm, ⟨93, _⟩ => ⟨S5632, .f32⟩
  | .hbm, ⟨94, _⟩ => ⟨S_, .f32⟩
  | .hbm, ⟨95, _⟩ => ⟨S2050x5632, .f32⟩
  | .hbm, ⟨96, _⟩ => ⟨S2050x5632, .f32⟩
  | .hbm, ⟨97, _⟩ => ⟨S1x5632, .f32⟩
  | .hbm, ⟨98, _⟩ => ⟨S_, .f32⟩
  | .hbm, ⟨99, _⟩ => ⟨S3x5632, .f32⟩
  | .hbm, ⟨100, _⟩ => ⟨S3x5632, .f32⟩
  | .hbm, ⟨101, _⟩ => ⟨S2x5632, .f32⟩
  | .hbm, ⟨102, _⟩ => ⟨S2048x5632, .f32⟩
  | .hbm, ⟨103, _⟩ => ⟨S5632x1024, .f32⟩
  | .hbm, ⟨104, _⟩ => ⟨S1024x5632, .f32⟩
  | .hbm, ⟨105, _⟩ => ⟨S2048x1024, .f32⟩
  | .hbm, ⟨106, _⟩ => ⟨S_, .f32⟩
  | .hbm, ⟨107, _⟩ => ⟨S5x5632, .f32⟩
  | .hbm, ⟨108, _⟩ => ⟨S8x5632, .f32⟩
  | .hbm, ⟨109, _⟩ => ⟨S5632x1024, .f32⟩
  | .hbm, ⟨110, _⟩ => ⟨S2x2816x1024, .f32⟩
  | .hbm, ⟨111, _⟩ => ⟨S2x2816x1024, .bf16⟩
  | .hbm, ⟨112, _⟩ => ⟨S2816x1024, .bf16⟩
  | .hbm, ⟨113, _⟩ => ⟨S8x2816, .f32⟩
  | .hbm, ⟨114, _⟩ => ⟨S8x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v26_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v26_1 : Ref sig .tc := ⟨.hbm, 44, rfl⟩
abbrev main_v26_0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_1 : Ref sig .tc := ⟨.hbm, 61, rfl⟩
abbrev main_v39 : Ref sig .tc := ⟨.hbm, 62, rfl⟩
abbrev main_v40 : Ref sig .tc := ⟨.hbm, 63, rfl⟩
abbrev main_cst_2 : Ref sig .tc := ⟨.hbm, 64, rfl⟩
abbrev main_v41 : Ref sig .tc := ⟨.hbm, 65, rfl⟩
abbrev main_cst_3 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_5 : Ref sig .tc := ⟨.hbm, 74, rfl⟩
abbrev main_v48 : Ref sig .tc := ⟨.hbm, 75, rfl⟩
abbrev main_v49 : Ref sig .tc := ⟨.hbm, 76, rfl⟩
abbrev main_cst_6 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_cst_11 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_13 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩

abbrev nD : Nat := 1
abbrev τ : Topo := Topo.v7x

variable {F : FTy → Type} [FloatOps F]
-- ==== KernelFwd.lean ====
abbrev S2048x1024 : Shape := ⟨2, ![2048, 1024]⟩
abbrev S1024x5632 : Shape := ⟨2, ![1024, 5632]⟩
abbrev S3x5632 : Shape := ⟨2, ![3, 5632]⟩
abbrev S2816x1024 : Shape := ⟨2, ![2816, 1024]⟩
abbrev S5632x1024 : Shape := ⟨2, ![5632, 1024]⟩
abbrev S2x2816x1024 : Shape := ⟨3, ![2, 2816, 1024]⟩
abbrev S2048x2816 : Shape := ⟨2, ![2048, 2816]⟩
abbrev S1024x1024 : Shape := ⟨2, ![1024, 1024]⟩
abbrev S2x256x1024 : Shape := ⟨3, ![2, 256, 1024]⟩
abbrev S3x256 : Shape := ⟨2, ![3, 256]⟩
abbrev S1024x256 : Shape := ⟨2, ![1024, 256]⟩
abbrev S11x2x8x256 : Shape := ⟨4, ![11, 2, 8, 256]⟩
abbrev S1024x2816 : Shape := ⟨2, ![1024, 2816]⟩
abbrev S1x256x1024 : Shape := ⟨3, ![1, 256, 1024]⟩
abbrev S256x1024 : Shape := ⟨2, ![256, 1024]⟩
abbrev S1x1x8x256 : Shape := ⟨4, ![1, 1, 8, 256]⟩
abbrev S8x256 : Shape := ⟨2, ![8, 256]⟩
abbrev S1x256 : Shape := ⟨2, ![1, 256]⟩
abbrev S1016x256 : Shape := ⟨2, ![1016, 256]⟩

abbrev nBuf : Space → Nat
  | .hbm => 12
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S3x5632, .f32⟩
  | .hbm, ⟨3, _⟩ => ⟨S2816x1024, .f32⟩
  | .hbm, ⟨4, _⟩ => ⟨S5632x1024, .f32⟩
  | .hbm, ⟨5, _⟩ => ⟨S5632x1024, .bf16⟩
  | .hbm, ⟨6, _⟩ => ⟨S2x2816x1024, .bf16⟩
  | .hbm, ⟨7, _⟩ => ⟨S2048x1024, .bf16⟩
  | .hbm, ⟨8, _⟩ => ⟨S2816x1024, .bf16⟩
  | .hbm, ⟨9, _⟩ => ⟨S2048x2816, .bf16⟩
  | .hbm, ⟨10, _⟩ => ⟨S2048x2816, .bf16⟩
  | .hbm, ⟨11, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x256x1024, .bf16⟩
  | .local _ .vmem, ⟨3, _⟩ => ⟨S2x256x1024, .bf16⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S2816x1024, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x1024, .f32⟩
  | .local _ .vmem, ⟨14, _⟩ => ⟨S1024x1024, .f32⟩
  | .local _ .vmem, ⟨15, _⟩ => ⟨S11x2x8x256, .f32⟩
  | .local _ .vmem, ⟨16, _⟩ => ⟨S1024x2816, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 11], ![false, false]⟩

def k0_off1 (i : grid0.Coords) : Fin 4 → Nat :=
  let arg1 : BitVec 32 := BitVec.ofNat 32 (i 1).val
  let v15 : Index := Scalar.indexCast arg1
  let c0_11 : Index := 0#32
  let c0_12 : Index := 0#32
  let c0_13 : Index := 0#32
  ![v15.toNat, 0, 0, 0]
def k0_off2 (i : grid0.Coords) : Fin 4 → Nat :=
  let arg1 : BitVec 32 := BitVec.ofNat 32 (i 1).val
  let v61 : Index := Scalar.indexCast arg1
  let c1_21 : Index := 1#32
  let c0_22 : Index := 0#32
  let c0_23 : Index := 0#32
  ![v61.toNat, 1, 0, 0]
def k0_cond12 (i : grid0.Coords) : BitVec 1 :=
  let arg1 : BitVec 32 := BitVec.ofNat 32 (i 1).val
  let c10_i32_55 : BitVec 32 := 10#32
  let v159 : BitVec 1 := Scalar.cmpi .eq arg1 c10_i32_55
  let v160 : BitVec 32 := Scalar.extui v159
  let c0_i32_56 : BitVec 32 := 0#32
  let v161 : BitVec 1 := Scalar.cmpi .ne v160 c0_i32_56
  v161

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceFwdIdeal.lean ====
abbrev S2048x1024 : Shape := ⟨2, ![2048, 1024]⟩
abbrev S1024x5632 : Shape := ⟨2, ![1024, 5632]⟩
abbrev S3x5632 : Shape := ⟨2, ![3, 5632]⟩
abbrev S2816x1024 : Shape := ⟨2, ![2816, 1024]⟩
abbrev S2048x5632 : Shape := ⟨2, ![2048, 5632]⟩
abbrev S2048x2816 : Shape := ⟨2, ![2048, 2816]⟩
abbrev S_ : Shape := ⟨0, ![]⟩
abbrev S2x5632 : Shape := ⟨2, ![2, 5632]⟩
abbrev S2050x5632 : Shape := ⟨2, ![2050, 5632]⟩
abbrev S1x5632 : Shape := ⟨2, ![1, 5632]⟩
abbrev S5632 : Shape := ⟨1, ![5632]⟩

abbrev nBuf : Space → Nat
  | .hbm => 46
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S3x5632, .f32⟩
  | .hbm, ⟨3, _⟩ => ⟨S2816x1024, .f32⟩
  | .hbm, ⟨4, _⟩ => ⟨S2048x5632, .f32⟩
  | .hbm, ⟨5, _⟩ => ⟨S2048x2816, .f32⟩
  | .hbm, ⟨6, _⟩ => ⟨S2048x2816, .bf16⟩
  | .hbm, ⟨7, _⟩ => ⟨S2048x2816, .f32⟩
  | .hbm, ⟨8, _⟩ => ⟨S2048x2816, .bf16⟩
  | .hbm, ⟨9, _⟩ => ⟨S2048x5632, .f32⟩
  | .hbm, ⟨10, _⟩ => ⟨S_, .f32⟩
  | .hbm, ⟨11, _⟩ => ⟨S2x5632, .f32⟩
  | .hbm, ⟨12, _⟩ => ⟨S2050x5632, .f32⟩
  | .hbm, ⟨13, _⟩ => ⟨S1x5632, .f32⟩
  | .hbm, ⟨14, _⟩ => ⟨S5632, .f32⟩
  | .hbm, ⟨15, _⟩ => ⟨S2048x5632, .f32⟩
  | .hbm, ⟨16, _⟩ => ⟨S1x5632, .f32⟩
  | .hbm, ⟨17, _⟩ => ⟨S2048x5632, .f32⟩
  | .hbm, ⟨18, _⟩ => ⟨S2048x5632, .f32⟩
  | .hbm, ⟨19, _⟩ => ⟨S1x5632, .f32⟩
  | .hbm, ⟨20, _⟩ => ⟨S5632, .f32⟩
  | .hbm, ⟨21, _⟩ => ⟨S2048x5632, .f32⟩
  | .hbm, ⟨22, _⟩ => ⟨S1x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S1x5632, .f32⟩
  | .hbm, ⟨27, _⟩ => ⟨S5632, .f32⟩
  | .hbm, ⟨28, _⟩ => ⟨S2048x5632, .f32⟩
  | .hbm, ⟨29, _⟩ => ⟨S1x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S_, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== KernelProj.lean ====
abbrev S2048x1024 : Shape := ⟨2, ![2048, 1024]⟩
abbrev S1024x3200 : Shape := ⟨2, ![1024, 3200]⟩
abbrev S2048x3200 : Shape := ⟨2, ![2048, 3200]⟩
abbrev S1024x1024 : Shape := ⟨2, ![1024, 1024]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x3200, .bf16⟩
  | .hbm, ⟨2, _⟩ => ⟨S2048x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjIdeal.lean ====
abbrev S2048x1024 : Shape := ⟨2, ![2048, 1024]⟩
abbrev S1024x3200 : Shape := ⟨2, ![1024, 3200]⟩
abbrev S2048x3200 : Shape := ⟨2, ![2048, 3200]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3200, .bf16⟩
  | .hbm, ⟨2, _⟩ => ⟨S2048x1024, .f32⟩
  | .hbm, ⟨3, _⟩ => ⟨S1024x3200, .f32⟩
  | .hbm, ⟨4, _⟩ => ⟨S2048x3200, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelProjW.lean ====
abbrev S2048x1024 : Shape := ⟨2, ![2048, 1024]⟩
abbrev S2048x3200 : Shape := ⟨2, ![2048, 3200]⟩
abbrev S1024x3200 : Shape := ⟨2, ![1024, 3200]⟩
abbrev S2048x640 : Shape := ⟨2, ![2048, 640]⟩
abbrev S1024x640 : Shape := ⟨2, ![1024, 640]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x3200, .bf16⟩
  | .hbm, ⟨2, _⟩ => ⟨S1024x3200, .bf16⟩
  | .local _ .vmem, ⟨0, _⟩ => ⟨S2048x1024, .bf16⟩
  | .local _ .vmem, ⟨1, _⟩ => ⟨S2048x640, .bf16⟩
  | .local _ .vmem, ⟨2, _⟩ => ⟨S2048x640, .bf16⟩
  | .local _ .vmem, ⟨3, _⟩ => ⟨S1024x640, .bf16⟩
  | .local _ .vmem, ⟨4, _⟩ => ⟨S1024x640, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjWIdeal.lean ====
abbrev S2048x1024 : Shape := ⟨2, ![2048, 1024]⟩
abbrev S2048x3200 : Shape := ⟨2, ![2048, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3200, .bf16⟩
  | .hbm, ⟨2, _⟩ => ⟨S_, .f32⟩
  | .hbm, ⟨3, _⟩ => ⟨S1024x3200, .f32⟩
  | .hbm, ⟨4, _⟩ => ⟨S2048x1024, .f32⟩
  | .hbm, ⟨5, _⟩ => ⟨S2048x3200, .f32⟩
  | .hbm, ⟨6, _⟩ => ⟨S2048x3200, .f32⟩
  | .hbm, ⟨7, _⟩ => ⟨S3200x1024, .f32⟩
  | .hbm, ⟨8, _⟩ => ⟨S1024x3200, .f32⟩
  | .hbm, ⟨9, _⟩ => ⟨S1024x3200, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelProjX.lean ====
abbrev S2048x3200 : Shape := ⟨2, ![2048, 3200]⟩
abbrev S1024x3200 : Shape := ⟨2, ![1024, 3200]⟩
abbrev S2048x1024 : Shape := ⟨2, ![2048, 1024]⟩
abbrev S512x3200 : Shape := ⟨2, ![512, 3200]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x3200, .bf16⟩
  | .hbm, ⟨1, _⟩ => ⟨S1024x3200, .bf16⟩
  | .hbm, ⟨2, _⟩ => ⟨S2048x1024, .f32⟩
  | .local _ .vmem, ⟨0, _⟩ => ⟨S1024x3200, .bf16⟩
  | .local _ .vmem, ⟨1, _⟩ => ⟨S1024x3200, .bf16⟩
  | .local _ .vmem, ⟨2, _⟩ => ⟨S512x3200, .bf16⟩
  | .local _ .vmem, ⟨3, _⟩ => ⟨S512x3200, .bf16⟩
  | .local _ .vmem, ⟨4, _⟩ => ⟨S1024x512, .f32⟩
  | .local _ .vmem, ⟨5, _⟩ => ⟨S1024x512, .f32⟩
  | _, _ => ⟨S2048x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjXIdeal.lean ====
abbrev S2048x3200 : Shape := ⟨2, ![2048, 3200]⟩
abbrev S1024x3200 : Shape := ⟨2, ![1024, 3200]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x3200, .bf16⟩
  | .hbm, ⟨1, _⟩ => ⟨S1024x3200, .bf16⟩
  | .hbm, ⟨2, _⟩ => ⟨S_, .f32⟩
  | .hbm, ⟨3, _⟩ => ⟨S2048x1024, .f32⟩
  | .hbm, ⟨4, _⟩ => ⟨S1024x3200, .f32⟩
  | .hbm, ⟨5, _⟩ => ⟨S2048x3200, .f32⟩
  | .hbm, ⟨6, _⟩ => ⟨S2048x3200, .f32⟩
  | .hbm, ⟨7, _⟩ => ⟨S2048x1024, .f32⟩
  | _, _ => ⟨S2048x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOut.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOutIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelOutW.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== ReferenceOutWIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelNorm.lean ====
abbrev S2048x1024 : Shape := ⟨2, ![2048, 1024]⟩
abbrev S6x1024 : Shape := ⟨2, ![6, 1024]⟩
abbrev S1x1024 : Shape := ⟨2, ![1, 1024]⟩
abbrev S_ : Shape := ⟨0, ![]⟩
abbrev S2x1024 : Shape := ⟨2, ![2, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S6x1024, .f32⟩
  | .hbm, ⟨2, _⟩ => ⟨S1x1024, .f32⟩
  | .hbm, ⟨3, _⟩ => ⟨S_, .f32⟩
  | .hbm, ⟨4, _⟩ => ⟨S2x1024, .f32⟩
  | .hbm, ⟨5, _⟩ => ⟨S8x1024, .f32⟩
  | .hbm, ⟨6, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceNormIdeal.lean ====
abbrev S2048x1024 : Shape := ⟨2, ![2048, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S6x1024, .f32⟩
  | .hbm, ⟨2, _⟩ => ⟨S1x1024, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== KernelNormB.lean ====
abbrev S2048x1024 : Shape := ⟨2, ![2048, 1024]⟩
abbrev S6x1024 : Shape := ⟨2, ![6, 1024]⟩
abbrev S1x1024 : Shape := ⟨2, ![1, 1024]⟩
abbrev S_ : Shape := ⟨0, ![]⟩
abbrev S2x1024 : Shape := ⟨2, ![2, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S6x1024, .f32⟩
  | .hbm, ⟨4, _⟩ => ⟨S1x1024, .f32⟩
  | .hbm, ⟨5, _⟩ => ⟨S_, .f32⟩
  | .hbm, ⟨6, _⟩ => ⟨S2x1024, .f32⟩
  | .hbm, ⟨7, _⟩ => ⟨S8x1024, .f32⟩
  | .hbm, ⟨8, _⟩ => ⟨S2048x1024, .f32⟩
  | .hbm, ⟨9, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceNormBIdeal.lean ====
abbrev S2048x1024 : Shape := ⟨2, ![2048, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S5x1024 : Shape := ⟨2, ![5, 1024]⟩
abbrev S8x1024 : Shape := ⟨2, ![8, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S6x1024, .f32⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S_, .f32⟩
  | .hbm, ⟨44, _⟩ => ⟨S1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S2048x1024, .f32⟩
  | .hbm, ⟨62, _⟩ => ⟨S_, .f32⟩
  | .hbm, ⟨63, _⟩ => ⟨S2048, .f32⟩
  | .hbm, ⟨64, _⟩ => ⟨S2048x1, .f32⟩
  | .hbm, ⟨65, _⟩ => ⟨S2048x1024, .f32⟩
  | .hbm, ⟨66, _⟩ => ⟨S2048x1024, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S_, .f32⟩
  | .hbm, ⟨83, _⟩ => ⟨S5x1024, .f32⟩
  | .hbm, ⟨84, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_13 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== KernelResid.lean ====
abbrev S2048x1024 : Shape := ⟨2, ![2048, 1024]⟩
abbrev S6x1024 : Shape := ⟨2, ![6, 1024]⟩
abbrev S1x1024 : Shape := ⟨2, ![1, 1024]⟩
abbrev S_ : Shape := ⟨0, ![]⟩
abbrev S2x1024 : Shape := ⟨2, ![2, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S6x1024, .f32⟩
  | .hbm, ⟨3, _⟩ => ⟨S1x1024, .f32⟩
  | .hbm, ⟨4, _⟩ => ⟨S_, .f32⟩
  | .hbm, ⟨5, _⟩ => ⟨S2x1024, .f32⟩
  | .hbm, ⟨6, _⟩ => ⟨S8x1024, .f32⟩
  | .hbm, ⟨7, _⟩ => ⟨S2048x1024, .f32⟩
  | .hbm, ⟨8, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceResidIdeal.lean ====
abbrev S2048x1024 : Shape := ⟨2, ![2048, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S6x1024, .f32⟩
  | .hbm, ⟨3, _⟩ => ⟨S1x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== KernelDown.lean ====
abbrev S4x352x1024 : Shape := ⟨3, ![4, 352, 1024]⟩
abbrev S352x1024 : Shape := ⟨2, ![352, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceDownIdeal.lean ====
abbrev S4x352x1024 : Shape := ⟨3, ![4, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S4x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelUp.lean ====
abbrev S4x704x1024 : Shape := ⟨3, ![4, 704, 1024]⟩
abbrev S1024x704 : Shape := ⟨2, ![1024, 704]⟩
abbrev S704x1024 : Shape := ⟨2, ![704, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4x704x1024, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpIdeal.lean ====
abbrev S4x704x1024 : Shape := ⟨3, ![4, 704, 1024]⟩
abbrev S1024x704 : Shape := ⟨2, ![1024, 704]⟩
abbrev S_ : Shape := ⟨0, ![]⟩
abbrev S704x1024 : Shape := ⟨2, ![704, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S4x704x1024, .f32⟩
  | .hbm, ⟨5, _⟩ => ⟨S_, .f32⟩
  | .hbm, ⟨6, _⟩ => ⟨S704x1024, .f32⟩
  | .hbm, ⟨7, _⟩ => ⟨S1024x704, .f32⟩
  | .hbm, ⟨8, _⟩ => ⟨S_, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S1024x704, .f32⟩
  | .hbm, ⟨23, _⟩ => ⟨S_, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | .hbm, ⟨37, _⟩ => ⟨S1024x704, .f32⟩
  | .hbm, ⟨38, _⟩ => ⟨S_, .f32⟩
  | .hbm, ⟨39, _⟩ => ⟨S1024x704, .f32⟩
  | .hbm, ⟨40, _⟩ => ⟨S1024x704, .f32⟩
  | .hbm, ⟨41, _⟩ => ⟨S704x1024, .f32⟩
  | .hbm, ⟨42, _⟩ => ⟨S704x1024, .f32⟩
  | .hbm, ⟨43, _⟩ => ⟨S704x1024, .f32⟩
  | .hbm, ⟨44, _⟩ => ⟨S704x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== KernelIn.lean ====
abbrev S8x385x1024 : Shape := ⟨3, ![8, 385, 1024]⟩
abbrev S1024x385 : Shape := ⟨2, ![1024, 385]⟩
abbrev S385x1024 : Shape := ⟨2, ![385, 1024]⟩
abbrev S1x385x1024 : Shape := ⟨3, ![1, 385, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x385x1024, .bf16⟩
  | .hbm, ⟨1, _⟩ => ⟨S1024x385, .f32⟩
  | .hbm, ⟨2, _⟩ => ⟨S1024x385, .f32⟩
  | .hbm, ⟨3, _⟩ => ⟨S1024x385, .f32⟩
  | .hbm, ⟨4, _⟩ => ⟨S385x1024, .f32⟩
  | .hbm, ⟨5, _⟩ => ⟨S385x1024, .f32⟩
  | .hbm, ⟨6, _⟩ => ⟨S385x1024, .f32⟩
  | .hbm, ⟨7, _⟩ => ⟨S385x1024, .f32⟩
  | .hbm, ⟨8, _⟩ => ⟨S385x1024, .f32⟩
  | .hbm, ⟨9, _⟩ => ⟨S385x1024, .f32⟩
  | .hbm, ⟨10, _⟩ => ⟨S385x1024, .f32⟩
  | .local _ .vmem, ⟨0, _⟩ => ⟨S8x385x1024, .bf16⟩
  | .local _ .vmem, ⟨1, _⟩ => ⟨S385x1024, .f32⟩
  | .local _ .vmem, ⟨2, _⟩ => ⟨S385x1024, .f32⟩
  | .local _ .vmem, ⟨3, _⟩ => ⟨S385x1024, .f32⟩
  | .local _ .vmem, ⟨4, _⟩ => ⟨S385x1024, .f32⟩
  | .local _ .vmem, ⟨5, _⟩ => ⟨S385x1024, .f32⟩
  | .local _ .vmem, ⟨6, _⟩ => ⟨S385x1024, .f32⟩
  | .local _ .vmem, ⟨7, _⟩ => ⟨S385x1024, .f32⟩
  | _, _ => ⟨S8x385x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x385x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S385x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S385x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S385x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S385x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S385x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S385x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S385x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceInIdeal.lean ====
abbrev S8x385x1024 : Shape := ⟨3, ![8, 385, 1024]⟩
abbrev S1024x385 : Shape := ⟨2, ![1024, 385]⟩
abbrev S_ : Shape := ⟨0, ![]⟩
abbrev S385x1024 : Shape := ⟨2, ![385, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x385x1024, .bf16⟩
  | .hbm, ⟨1, _⟩ => ⟨S1024x385, .f32⟩
  | .hbm, ⟨2, _⟩ => ⟨S1024x385, .f32⟩
  | .hbm, ⟨3, _⟩ => ⟨S1024x385, .f32⟩
  | .hbm, ⟨4, _⟩ => ⟨S8x385x1024, .f32⟩
  | .hbm, ⟨5, _⟩ => ⟨S_, .f32⟩
  | .hbm, ⟨6, _⟩ => ⟨S385x1024, .f32⟩
  | .hbm, ⟨7, _⟩ => ⟨S1024x385, .f32⟩
  | .hbm, ⟨8, _⟩ => ⟨S_, .f32⟩
  | .hbm, ⟨9, _⟩ => ⟨S1024x385, .f32⟩
  | .hbm, ⟨10, _⟩ => ⟨S1024x385, .f32⟩
  | .hbm, ⟨11, _⟩ => ⟨S_, .f32⟩
  | .hbm, ⟨12, _⟩ => ⟨S1024x385, .f32⟩
  | .hbm, ⟨13, _⟩ => ⟨S1024x385, .f32⟩
  | .hbm, ⟨14, _⟩ => ⟨S1024x385, .f32⟩
  | .hbm, ⟨15, _⟩ => ⟨S_, .f32⟩
  | .hbm, ⟨16, _⟩ => ⟨S1024x385, .f32⟩
  | .hbm, ⟨17, _⟩ => ⟨S1024x385, .f32⟩
  | .hbm, ⟨18, _⟩ => ⟨S1024x385, .f32⟩
  | .hbm, ⟨19, _⟩ => ⟨S_, .f32⟩
  | .hbm, ⟨20, _⟩ => ⟨S1024x385, .f32⟩
  | .hbm, ⟨21, _⟩ => ⟨S1024x385, .f32⟩
  | .hbm, ⟨22, _⟩ => ⟨S1024x385, .f32⟩
  | .hbm, ⟨23, _⟩ => ⟨S_, .f32⟩
  | .hbm, ⟨24, _⟩ => ⟨S1024x385, .f32⟩
  | .hbm, ⟨25, _⟩ => ⟨S1024x385, .f32⟩
  | .hbm, ⟨26, _⟩ => ⟨S_, .f32⟩
  | .hbm, ⟨27, _⟩ => ⟨S1024x385, .f32⟩
  | .hbm, ⟨28, _⟩ => ⟨S1024x385, .f32⟩
  | .hbm, ⟨29, _⟩ => ⟨S1024x385, .f32⟩
  | .hbm, ⟨30, _⟩ => ⟨S_, .f32⟩
  | .hbm, ⟨31, _⟩ => ⟨S1024x385, .f32⟩
  | .hbm, ⟨32, _⟩ => ⟨S1024x385, .f32⟩
  | .hbm, ⟨33, _⟩ => ⟨S1024x385, .f32⟩
  | .hbm, ⟨34, _⟩ => ⟨S_, .f32⟩
  | .hbm, ⟨35, _⟩ => ⟨S1024x385, .f32⟩
  | .hbm, ⟨36, _⟩ => ⟨S1024x385, .f32⟩
  | .hbm, ⟨37, _⟩ => ⟨S1024x385, .f32⟩
  | .hbm, ⟨38, _⟩ => ⟨S_, .f32⟩
  | .hbm, ⟨39, _⟩ => ⟨S1024x385, .f32⟩
  | .hbm, ⟨40, _⟩ => ⟨S1024x385, .f32⟩
  | .hbm, ⟨41, _⟩ => ⟨S385x1024, .f32⟩
  | .hbm, ⟨42, _⟩ => ⟨S385x1024, .f32⟩
  | .hbm, ⟨43, _⟩ => ⟨S385x1024, .f32⟩
  | .hbm, ⟨44, _⟩ => ⟨S385x1024, .f32⟩
  | _, _ => ⟨S8x385x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== KernelAda.lean ====
abbrev S8x1024 : Shape := ⟨2, ![8, 1024]⟩
abbrev S8x768 : Shape := ⟨2, ![8, 768]⟩
abbrev S1024x768 : Shape := ⟨2, ![1024, 768]⟩
abbrev S8x256 : Shape := ⟨2, ![8, 256]⟩
abbrev S256x768 : Shape := ⟨2, ![256, 768]⟩

abbrev nBuf : Space → Nat
  | .hbm => 9
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .local _ .vmem, ⟨0, _⟩ => ⟨S8x256, .f32⟩
  | .local _ .vmem, ⟨1, _⟩ => ⟨S8x256, .f32⟩
  | .local _ .vmem, ⟨2, _⟩ => ⟨S8x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAdaIdeal.lean ====
abbrev S8x1024 : Shape := ⟨2, ![8, 1024]⟩
abbrev S8x768 : Shape := ⟨2, ![8, 768]⟩
abbrev S1024x768 : Shape := ⟨2, ![1024, 768]⟩
abbrev S_ : Shape := ⟨0, ![]⟩
abbrev S768x1024 : Shape := ⟨2, ![768, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x768, .f32⟩
  | .hbm, ⟨15, _⟩ => ⟨S768x1024, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S_, .f32⟩
  | .hbm, ⟨21, _⟩ => ⟨S1024x768, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S_, .f32⟩
  | .hbm, ⟨36, _⟩ => ⟨S1024x768, .f32⟩
  | .hbm, ⟨37, _⟩ => ⟨S1024x768, .f32⟩
  | .hbm, ⟨38, _⟩ => ⟨S1024x768, .f32⟩
  | .hbm, ⟨39, _⟩ => ⟨S_, .f32⟩
  | .hbm, ⟨40, _⟩ => ⟨S1024x768, .f32⟩
  | .hbm, ⟨41, _⟩ => ⟨S1024x768, .f32⟩
  | .hbm, ⟨42, _⟩ => ⟨S1024x768, .f32⟩
  | .hbm, ⟨43, _⟩ => ⟨S_, .f32⟩
  | .hbm, ⟨44, _⟩ => ⟨S1024x768, .f32⟩
  | .hbm, ⟨45, _⟩ => ⟨S1024x768, .f32⟩
  | .hbm, ⟨46, _⟩ => ⟨S1024x768, .f32⟩
  | .hbm, ⟨47, _⟩ => ⟨S_, .f32⟩
  | .hbm, ⟨48, _⟩ => ⟨S1024x768, .f32⟩
  | .hbm, ⟨49, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Proof.Vals.lean ====
/- What one grid point of the kernel computes, as functions of the ten blocks it is handed and of the rows the previous
   point left: each name below is one intermediate array of the body. -/
module

public import proofs.«01_k».proof.Proof.Gen.KernelIdeal.Skeleton
public import Idealize.ShloMosaic.Lib.VecWindow

@[expose] public section

noncomputable section

namespace Cert.KernelIdeal.Hand

open Cert.KernelIdeal Cert.KernelIdeal.Gen
open Idealize.ShloMosaic Idealize.ShloMosaic.VecWindow

variable {F : FTy → Type} [FloatOps F]

/-- The ten input blocks of one grid point. -/
structure Ins (F : FTy → Type) [FloatOps F] where
  /-- a block of 1024 rows of `dy` -/
  dy : Vec F S1024x1024 .bf16
  /-- the same rows of `h2` -/
  h2 : Vec F S1024x1024 .bf16
  /-- the gate half of `pre`, 256 columns -/
  pg : Vec F S1024x256 .bf16
  /-- the value half of `pre` -/
  pv : Vec F S1024x256 .bf16
  /-- the sixteen rows of the gate half before the block -/
  hg : Vec F S16x256 .bf16
  /-- the sixteen rows of the value half before the block -/
  hv : Vec F S16x256 .bf16
  /-- the two 256-row blocks of the transposed up projection -/
  wu : Vec F S2x256x1024 .bf16
  /-- the taps of the gate half -/
  cg : Vec F S3x256 .f32
  /-- the taps of the value half -/
  cv : Vec F S3x256 .f32
  /-- 256 rows of the down projection -/
  wd : Vec F S256x1024 .bf16

/-- The last eight halo rows of the gate half. -/
def hgr (b : Ins F) : Vec F S8x256 .bf16 := window b.hg ![8, 0] S8x256.size inb_S16x256_S8x256_8_0
/-- The last eight halo rows of the value half. -/
def hvr (b : Ins F) : Vec F S8x256 .bf16 := window b.hv ![8, 0] S8x256.size inb_S16x256_S8x256_8_0

/-- The grid's second coordinate as a word. -/
def ra (i : grid0.Coords) : BitVec 32 := BitVec.ofNat 32 (i 1).val
/-- The number of the row block: rows are visited from the last block to the first. -/
def rb (i : grid0.Coords) : BitVec 32 := Scalar.subi 1#32 (ra i)

/-- The gate rows one row down. -/
def s1g (i : grid0.Coords) (b : Ins F) : FVec F S1024x256 .f32 := k0_pay6 i b.pg (hgr b)
/-- The gate rows two rows down. -/
def s2g (i : grid0.Coords) (b : Ins F) : FVec F S1024x256 .f32 :=
  k0_pay10 (k0_pay5 i (hgr b)) (k0_pay7 b.pg) (iota .tc S8x256 32 [0] iota_S8x256_d0_w32) (k0_pay8 i b.pg (hgr b)) k0_pay9
/-- The convolved gate rows. -/
def ug (i : grid0.Coords) (b : Ins F) : FVec F S1024x256 .f32 :=
  k0_pay11 b.cg (k0_pay2 b.pg) (k0_pay5 i (hgr b)) (s1g i b) (k0_pay7 b.pg) (iota .tc S8x256 32 [0] iota_S8x256_d0_w32)
    (k0_pay8 i b.pg (hgr b)) k0_pay9
/-- The value rows one row down. -/
def s1v (i : grid0.Coords) (b : Ins F) : FVec F S1024x256 .f32 := k0_pay13 (rb i) (k0_pay3 b.pv) (hvr b)
/-- The value rows two rows down. -/
def s2v (i : grid0.Coords) (b : Ins F) : FVec F S1024x256 .f32 := k0_pay14 (rb i) (k0_pay3 b.pv) (hvr b)
/-- The activation. -/
def act (i : grid0.Coords) (b : Ins F) : FVec F S1024x256 .bf16 := k0_pay18 b.cv (k0_pay3 b.pv) (ug i b) (s1v i b) (s2v i b)
/-- The cotangent of the convolved gate rows. -/
def dug (i : grid0.Coords) (b : Ins F) : FVec F S1024x256 .f32 :=
  k0_pay21 b.cv (k0_pay3 b.pv) (ug i b) (s1v i b) (s2v i b) b.dy b.wd
/-- The cotangent of the convolved value rows. -/
def duv (i : grid0.Coords) (b : Ins F) : FVec F S1024x256 .f32 := k0_pay22 (ug i b) b.dy b.wd
/-- The cotangent of the gate half of `pre`, `ng` being the first rows of the gate cotangent of the block below. -/
def dpg (i : grid0.Coords) (b : Ins F) (ng : Vec F S1x8x256 .f32) : FVec F S1024x256 .f32 :=
  k0_pay28 b.cg (dug i b) (k0_pay24 (ra i) ng) (k0_pay25 (ra i) ng) (k0_pay26 (ra i) ng) (k0_pay27 b.cg)
/-- The cotangent of both halves of `pre`, side by side. -/
def dpre (i : grid0.Coords) (b : Ins F) (ng nv : Vec F S1x8x256 .f32) : FVec F S1024x512 .bf16 :=
  k0_pay40 b.cv (duv i b) (dpg i b ng) (k0_pay30 (ra i) nv) (k0_pay31 (ra i) nv) (k0_pay32 (ra i) nv)
    (k0_pay33 b.cv (duv i b)) (k0_pay34 b.cv) (k0_pay35 (duv i b)) (iota .tc S8x256 32 [0] iota_S8x256_d0_w32) (k0_pay36 (duv i b))
/-- The block's contribution to `dh`. -/
def dhT (i : grid0.Coords) (b : Ins F) (ng nv : Vec F S1x8x256 .f32) : FVec F S1024x1024 .f32 := k0_pay42 (dpre i b ng nv) b.wu
/-- The block's contribution to the gradient of the up projection. -/
def dwuT (i : grid0.Coords) (b : Ins F) (ng nv : Vec F S1x8x256 .f32) : FVec F S512x1024 .f32 :=
  k0_pay41 b.cv (duv i b) (dpg i b ng) (k0_pay30 (ra i) nv) (k0_pay31 (ra i) nv) (k0_pay32 (ra i) nv)
    (k0_pay33 b.cv (duv i b)) (k0_pay34 b.cv) (k0_pay35 (duv i b)) (iota .tc S8x256 32 [0] iota_S8x256_d0_w32) (k0_pay36 (duv i b)) b.h2
/-- The block's contribution to the gradient of the down projection. -/
def dwdT (i : grid0.Coords) (b : Ins F) : FVec F S256x1024 .f32 := k0_pay39 (act i b) (k0_pay19 b.dy)

/-- The gate tap gradients `Z` with the block's contribution added to their three rows. -/
def accG (i : grid0.Coords) (b : Ins F) (Z : Vec F S8x256 .f32) : Vec F S8x256 .f32 :=
  put (put (put Z ![0, 0] S1x256.size (k0_pay56 (s2g i b) (dug i b) (window Z ![0, 0] S1x256.size inb_S8x256_S1x256_0_0)))
    ![1, 0] S1x256.size (k0_pay58 (k0_pay43 (s1g i b) (dug i b)) (window Z ![1, 0] S1x256.size inb_S8x256_S1x256_1_0)))
    ![2, 0] S1x256.size (k0_pay60 (k0_pay44 (k0_pay2 b.pg) (dug i b)) (window Z ![2, 0] S1x256.size inb_S8x256_S1x256_2_0))
/-- The value tap gradients `Z` with the block's contribution added to their three rows. -/
def accV (i : grid0.Coords) (b : Ins F) (Z : Vec F S8x256 .f32) : Vec F S8x256 .f32 :=
  put (put (put Z ![0, 0] S1x256.size (k0_pay57 (k0_pay45 (s2v i b) (duv i b)) (window Z ![0, 0] S1x256.size inb_S8x256_S1x256_0_0)))
    ![1, 0] S1x256.size (k0_pay59 (k0_pay46 (s1v i b) (duv i b)) (window Z ![1, 0] S1x256.size inb_S8x256_S1x256_1_0)))
    ![2, 0] S1x256.size (k0_pay61 (k0_pay47 (k0_pay3 b.pv) (duv i b)) (window Z ![2, 0] S1x256.size inb_S8x256_S1x256_2_0))

/-- The two slabs of rows handed to the block above, written over `N`. -/
def nxtOf (i : grid0.Coords) (b : Ins F) (N : Vec F S2x8x256 .f32) : Vec F S2x8x256 .f32 :=
  put (put N ![0, 0, 0] S1x8x256.size (k0_pay37 (dug i b))) ![1, 0, 0] S1x8x256.size (k0_pay38 (duv i b))
/-- The gate slab of `N`. -/
def slabG (N : Vec F S2x8x256 .f32) : Vec F S1x8x256 .f32 := window N ![0, 0, 0] S1x8x256.size inb_S2x8x256_S1x8x256_0_0_0
/-- The value slab of `N`. -/
def slabV (N : Vec F S2x8x256 .f32) : Vec F S1x8x256 .f32 := window N ![1, 0, 0] S1x8x256.size inb_S2x8x256_S1x8x256_1_0_0

end Cert.KernelIdeal.Hand

end
-- ==== Proof.Run.lean ====
/- One run of the kernel's body at a grid point, in the four cases of its conditions: what every buffer holds afterwards, as a
   function of what it held before. -/
module

public import proofs.«01_k».proof.Proof.Vals
public import proofs.«01_k».proof.Proof.Gen.KernelIdeal.Frame
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

/-- A load through a unit-stride rectangle reads a window of what the view reads. -/
theorem rd_window {sp : Space} {s : Shape} {e : EltTy} (v : View sig .tc sp s e) (f : v.ty.Contents (Elt F)) (off size : Fin s.rank → ℕ)
    (inb : ∀ a, off a + size a ≤ s.size a) :
    v.readAt (Elt F) (Rect.unit off size inb).toLoadRect f = window (v.read (Elt F) f) off size inb := rfl
/-- Windows at equal offsets are equal. -/
theorem window_off {α : Type} {s : Shape} (x : s.Idx → α) {off off' : Fin s.rank → ℕ} (h : off = off') (size : Fin s.rank → ℕ)
    (inb : ∀ a, off a + size a ≤ s.size a) : window x off size inb = window x off' size (h ▸ inb) := by subst h; rfl

theorem window_full2 {α : Type} {m n : ℕ} (x : (⟨2, ![m, n]⟩ : Shape).Idx → α) (inb : ∀ a, (![0, 0] : Fin 2 → ℕ) a + (![m, n] : Fin 2 → ℕ) a ≤ (![m, n] : Fin 2 → ℕ) a) :
    window (s := ⟨2, ![m, n]⟩) x ![0, 0] ![m, n] inb = x :=
  funext fun y => congrArg x (Rect.emb_unit_full (s := ⟨2, ![m, n]⟩) inb y)

theorem window_full3 {α : Type} {l m n : ℕ} (x : (⟨3, ![l, m, n]⟩ : Shape).Idx → α)
    (inb : ∀ a, (![0, 0, 0] : Fin 3 → ℕ) a + (![l, m, n] : Fin 3 → ℕ) a ≤ (![l, m, n] : Fin 3 → ℕ) a) :
    window (s := ⟨3, ![l, m, n]⟩) x ![0, 0, 0] ![l, m, n] inb = x :=
  funext fun y => congrArg x (Rect.emb_unit_full (s := ⟨3, ![l, m, n]⟩) inb y)

theorem put_full2 {α : Type} {m n : ℕ} (x : (⟨2, ![m, n]⟩ : Shape).Idx → α) (w : (⟨2, ![m, n]⟩ : Shape).Idx → α) :
    put (s := ⟨2, ![m, n]⟩) x ![0, 0] ![m, n] w = w :=
  have h0 : ∀ a, (![0, 0] : Fin 2 → ℕ) a = 0 := fun a => by fin_cases a <;> rfl
  funext fun y => (dif_pos fun a => ⟨by rw [h0 a]; exact Nat.zero_le _, by rw [h0 a, Nat.zero_add]; exact (y a).isLt⟩).trans
    (congrArg w (funext fun a => Fin.ext (by show (y a).val - (![0, 0] : Fin 2 → ℕ) a = _; rw [h0 a]; exact Nat.sub_zero _)))

theorem put_full3 {α : Type} {l m n : ℕ} (x : (⟨3, ![l, m, n]⟩ : Shape).Idx → α) (w : (⟨3, ![l, m, n]⟩ : Shape).Idx → α) :
    put (s := ⟨3, ![l, m, n]⟩) x ![0, 0, 0] ![l, m, n] w = w :=
  have h0 : ∀ a, (![0, 0, 0] : Fin 3 → ℕ) a = 0 := fun a => by fin_cases a <;> rfl
  funext fun y => (dif_pos fun a => ⟨by rw [h0 a]; exact Nat.zero_le _, by rw [h0 a, Nat.zero_add]; exact (y a).isLt⟩).trans
    (congrArg w (funext fun a => Fin.ext (by show (y a).val - (![0, 0, 0] : Fin 3 → ℕ) a = _; rw [h0 a]; exact Nat.sub_zero _)))

/-- A store through a unit-stride rectangle puts its payload over what the earlier stores left. -/
theorem writes_put {sp : Space} {s : Shape} {e : EltTy} (v : View sig .tc sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = put (v.read (Elt F) (v.writes (Elt F) f L)) off size w :=
  View.read_writes_cons_put v f inb w L rfl

/-- A load of buffer contents that stores cover, as a window of what the stores left. -/
theorem readCov_window {sp : Space} {s : Shape} {e : EltTy} (v : View sig .tc sp s e) (L : List (View.Piece (Elt F) s e)) (off size : Fin s.rank → ℕ)
    (inb : ∀ a, off a + size a ≤ s.size a) :
    v.readCov (Val := Elt F) L (Rect.unit off size inb).toLoadRect = window (v.read (Elt F) (v.writes (Elt F) v.junk L)) off size inb := rfl

theorem window_rows10 {α : Type} (x : S8x256.Idx → α) (w : S1x256.Idx → α) (inb : ∀ a, (![1, 0] : Fin 2 → ℕ) a + (![1, 256] : Fin 2 → ℕ) a ≤ S8x256.size a) :
    window (put x ![0, 0] ![1, 256] w) ![1, 0] ![1, 256] inb = window x ![1, 0] ![1, 256] inb :=
  window_put_of_disjoint _ _ _ _ _ _ _ 0 (.inr (by decide))

theorem window_rows20 {α : Type} (x : S8x256.Idx → α) (w : S1x256.Idx → α) (inb : ∀ a, (![2, 0] : Fin 2 → ℕ) a + (![1, 256] : Fin 2 → ℕ) a ≤ S8x256.size a) :
    window (put x ![0, 0] ![1, 256] w) ![2, 0] ![1, 256] inb = window x ![2, 0] ![1, 256] inb :=
  window_put_of_disjoint _ _ _ _ _ _ _ 0 (.inr (by decide))

theorem window_rows21 {α : Type} (x : S8x256.Idx → α) (w : S1x256.Idx → α) (inb : ∀ a, (![2, 0] : Fin 2 → ℕ) a + (![1, 256] : Fin 2 → ℕ) a ≤ S8x256.size a) :
    window (put x ![1, 0] ![1, 256] w) ![2, 0] ![1, 256] inb = window x ![2, 0] ![1, 256] inb :=
  window_put_of_disjoint _ _ _ _ _ _ _ 0 (.inr (by decide))

theorem cond4_pos (i : grid0.Coords) (hj : 0 < (i 0).val) : ¬ k0_cond4 i = 1#1 := by
  have h : ∀ n : Fin 11, 0 < n.val → ¬ Scalar.cmpi .ne (Scalar.extui (Scalar.cmpi .eq (BitVec.ofNat 32 n.val) 0#32) : BitVec 32) 0#32 = 1#1 := by decide
  exact h (i 0) hj

theorem cond5_pos (i : grid0.Coords) (hj : 0 < (i 0).val) : k0_cond5 i = 1#1 := by
  have h : ∀ n : Fin 11, 0 < n.val → Scalar.cmpi .ne (Scalar.extui (Scalar.cmpi .sgt (BitVec.ofNat 32 n.val) 0#32) : BitVec 32) 0#32 = 1#1 := by decide
  exact h (i 0) hj

set_option maxHeartbeats 4000000 in
/-- The first row step of the first column tile. -/
theorem run_r0_j0 (c : Dev nD) (i : grid0.Coords) (hr : (i 1).val = 0) (hj : (i 0).val = 0)
    (a2 : Memref sig .tc .vmem S1024x1024 .bf16) (h2 : a2.IsWhole) (a3 : Memref sig .tc .vmem S1024x1024 .bf16) (h3 : a3.IsWhole) (a4 : Memref sig .tc .vmem S1024x256 .bf16) (h4 : a4.IsWhole)
    (a5 : Memref sig .tc .vmem S1024x256 .bf16) (h5 : a5.IsWhole) (a6 : Memref sig .tc .vmem S16x256 .bf16) (h6 : a6.IsWhole) (a7 : Memref sig .tc .vmem S16x256 .bf16) (h7 : a7.IsWhole)
    (a8 : Memref sig .tc .vmem S2x256x1024 .bf16) (h8 : a8.IsWhole) (a9 : Memref sig .tc .vmem S3x256 .f32) (h9 : a9.IsWhole) (a10 : Memref sig .tc .vmem S3x256 .f32) (h10 : a10.IsWhole)
    (a11 : Memref sig .tc .vmem S256x1024 .bf16) (h11 : a11.IsWhole) (a12 : Memref sig .tc .vmem S2048x1024 .f32) (h12 : a12.IsWhole) (a13 : Memref sig .tc .vmem S2x256x1024 .bf16) (h13 : a13.IsWhole)
    (a14 : Memref sig .tc .vmem S256x1024 .bf16) (h14 : a14.IsWhole) (a15 : Memref sig .tc .vmem S8x256 .f32) (h15 : a15.IsWhole) (a16 : Memref sig .tc .vmem S8x256 .f32) (h16 : a16.IsWhole)
    (a17 : Memref sig .tc .vmem S2x8x256 .f32) (h17 : a17.IsWhole) (a18 : Memref sig .tc .vmem S512x1024 .f32) (h18 : a18.IsWhole) (a19 : Memref sig .tc .vmem S256x1024 .f32) (h19 : a19.IsWhole)
    (b : Ins F) (x12 : Vec F S2048x1024 .f32) (x13 : Vec F S2x256x1024 .bf16) (x14 : Vec F S256x1024 .bf16) (x15 : Vec F S8x256 .f32) (x16 : Vec F S8x256 .f32) (x17 : Vec F S2x8x256 .f32) (x18 : Vec F S512x1024 .f32) (x19 : Vec F S256x1024 .f32) (K : PUnit → sProp 𝕄) :
    iprop(owns (c : Thread nD τ) a2 fullShare b.dy
      ∗ owns (c : Thread nD τ) a3 fullShare b.h2
      ∗ owns (c : Thread nD τ) a4 fullShare b.pg
      ∗ owns (c : Thread nD τ) a5 fullShare b.pv
      ∗ owns (c : Thread nD τ) a6 fullShare b.hg
      ∗ owns (c : Thread nD τ) a7 fullShare b.hv
      ∗ owns (c : Thread nD τ) a8 fullShare b.wu
      ∗ owns (c : Thread nD τ) a9 fullShare b.cg
      ∗ owns (c : Thread nD τ) a10 fullShare b.cv
      ∗ owns (c : Thread nD τ) a11 fullShare b.wd
      ∗ owns (c : Thread nD τ) a12 fullShare x12
      ∗ owns (c : Thread nD τ) a13 fullShare x13
      ∗ owns (c : Thread nD τ) a14 fullShare x14
      ∗ owns (c : Thread nD τ) a15 fullShare x15
      ∗ owns (c : Thread nD τ) a16 fullShare x16
      ∗ owns (c : Thread nD τ) a17 fullShare x17
      ∗ owns (c : Thread nD τ) a18 fullShare x18
      ∗ owns (c : Thread nD τ) a19 fullShare x19
      ∗ (iprop(owns (c : Thread nD τ) a2 fullShare b.dy
      ∗ owns (c : Thread nD τ) a3 fullShare b.h2
      ∗ owns (c : Thread nD τ) a4 fullShare b.pg
      ∗ owns (c : Thread nD τ) a5 fullShare b.pv
      ∗ owns (c : Thread nD τ) a6 fullShare b.hg
      ∗ owns (c : Thread nD τ) a7 fullShare b.hv
      ∗ owns (c : Thread nD τ) a8 fullShare b.wu
      ∗ owns (c : Thread nD τ) a9 fullShare b.cg
      ∗ owns (c : Thread nD τ) a10 fullShare b.cv
      ∗ owns (c : Thread nD τ) a11 fullShare b.wd
      ∗ owns (c : Thread nD τ) a12 fullShare (put x12 ![1024, 0] S1024x1024.size (dhT i b (slabG x17) (slabV x17)))
      ∗ owns (c : Thread nD τ) a13 fullShare x13
      ∗ owns (c : Thread nD τ) a14 fullShare x14
      ∗ owns (c : Thread nD τ) a15 fullShare (accG i b k0_pay50)
      ∗ owns (c : Thread nD τ) a16 fullShare (accV i b k0_pay51)
      ∗ owns (c : Thread nD τ) a17 fullShare (nxtOf i b x17)
      ∗ owns (c : Thread nD τ) a18 fullShare (k0_pay49 (dwuT i b (slabG x17) (slabV x17)))
      ∗ owns (c : Thread nD τ) a19 fullShare (k0_pay48 (dwdT i b))) -∗ K ⟨⟩))
      ⊢ wp frame (wpE (defs₀ (F := F)) Variants.none c none) Set.univ (cc0_ffn_bwd i a2 h2 a3 h3 a4 h4 a5 h5 a6 h6 a7 h7 a8 h8 a9 h9 a10 h10 a11 h11 a12 h12 a13 h13 a14 h14 a15 h15 a16 h16 a17 h17 a18 h18 a19 h19) K := by
  have hc1 : Scalar.cmpi .ne (Scalar.extui (Scalar.cmpi .eq (BitVec.ofNat 32 (i 1).val) 0#32) : BitVec 32) 0#32 = 1#1 := by rw [hr]; decide
  have hc2 : ¬ Scalar.cmpi .ne (Scalar.extui (Scalar.cmpi .sgt (BitVec.ofNat 32 (i 1).val) 0#32) : BitVec 32) 0#32 = 1#1 := by rw [hr]; decide
  have hc3 : ¬ k0_cond3 i = 1#1 := by unfold k0_cond3; rw [hr]; decide
  have hc4 : k0_cond4 i = 1#1 := by unfold k0_cond4; rw [hj]; decide
  have hc5 : ¬ k0_cond5 i = 1#1 := by unfold k0_cond5; rw [hj]; decide
  have ho1 : k0_off1 i = ![1024, 0] := by rw [k0_off1_eq, hr]
  have ho2 : k0_off2 i = ![1024, 0] := by rw [k0_off2_eq, hr]
  simp only [cc0_ffn_bwd_eq_skeleton]; unfold cc0_ffn_bwd_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, Hk⟩
  set_option sl_exec.resultNames true in
  sl_exec (disch := first | sl_exact hc1 | sl_exact hc2 | sl_exact hc3 | sl_exact hc4 | sl_exact hc5)
  sl_step
  iapply Hk
  isplitl [H2]
  · iexists _; isplitr; swap; iexact H2; ipureintro
    exact e2
  isplitl [H3]
  · iexists _; isplitr; swap; iexact H3; ipureintro
    exact e3
  isplitl [H4]
  · iexists _; isplitr; swap; iexact H4; ipureintro
    exact e4
  isplitl [H5]
  · iexists _; isplitr; swap; iexact H5; ipureintro
    exact e5
  isplitl [H6]
  · iexists _; isplitr; swap; iexact H6; ipureintro
    exact e6
  isplitl [H7]
  · iexists _; isplitr; swap; iexact H7; ipureintro
    exact e7
  isplitl [H8]
  · iexists _; isplitr; swap; iexact H8; ipureintro
    exact e8
  isplitl [H9]
  · iexists _; isplitr; swap; iexact H9; ipureintro
    exact e9
  isplitl [H10]
  · iexists _; isplitr; swap; iexact H10; ipureintro
    exact e10
  isplitl [H11]
  · iexists _; isplitr; swap; iexact H11; ipureintro
    exact e11
  isplitl [H12]
  · iexists _; isplitr; swap; iexact H12; ipureintro
    sl_unfold_run_names
    rw [View.read_writes_cons_put _ _ _ _ _ ho1, View.writes_nil, e12]
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  isplitl [H13]
  · iexists _; isplitr; swap; iexact H13; ipureintro
    exact e13
  isplitl [H14]
  · iexists _; isplitr; swap; iexact H14; ipureintro
    exact e14
  isplitl [H15]
  · iexists _; isplitr; swap; iexact H15; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  isplitl [H16]
  · iexists _; isplitr; swap; iexact H16; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  isplitl [H17]
  · iexists _; isplitr; swap; iexact H17; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  isplitl [H18]
  · iexists _; isplitr; swap; iexact H18; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  · iexists _; isplitr; swap; iexact H19; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl

set_option maxHeartbeats 4000000 in
/-- The second row step of the first column tile. -/
theorem run_r1_j0 (c : Dev nD) (i : grid0.Coords) (hr : (i 1).val = 1) (hj : (i 0).val = 0)
    (a2 : Memref sig .tc .vmem S1024x1024 .bf16) (h2 : a2.IsWhole) (a3 : Memref sig .tc .vmem S1024x1024 .bf16) (h3 : a3.IsWhole) (a4 : Memref sig .tc .vmem S1024x256 .bf16) (h4 : a4.IsWhole)
    (a5 : Memref sig .tc .vmem S1024x256 .bf16) (h5 : a5.IsWhole) (a6 : Memref sig .tc .vmem S16x256 .bf16) (h6 : a6.IsWhole) (a7 : Memref sig .tc .vmem S16x256 .bf16) (h7 : a7.IsWhole)
    (a8 : Memref sig .tc .vmem S2x256x1024 .bf16) (h8 : a8.IsWhole) (a9 : Memref sig .tc .vmem S3x256 .f32) (h9 : a9.IsWhole) (a10 : Memref sig .tc .vmem S3x256 .f32) (h10 : a10.IsWhole)
    (a11 : Memref sig .tc .vmem S256x1024 .bf16) (h11 : a11.IsWhole) (a12 : Memref sig .tc .vmem S2048x1024 .f32) (h12 : a12.IsWhole) (a13 : Memref sig .tc .vmem S2x256x1024 .bf16) (h13 : a13.IsWhole)
    (a14 : Memref sig .tc .vmem S256x1024 .bf16) (h14 : a14.IsWhole) (a15 : Memref sig .tc .vmem S8x256 .f32) (h15 : a15.IsWhole) (a16 : Memref sig .tc .vmem S8x256 .f32) (h16 : a16.IsWhole)
    (a17 : Memref sig .tc .vmem S2x8x256 .f32) (h17 : a17.IsWhole) (a18 : Memref sig .tc .vmem S512x1024 .f32) (h18 : a18.IsWhole) (a19 : Memref sig .tc .vmem S256x1024 .f32) (h19 : a19.IsWhole)
    (b : Ins F) (x12 : Vec F S2048x1024 .f32) (x13 : Vec F S2x256x1024 .bf16) (x14 : Vec F S256x1024 .bf16) (x15 : Vec F S8x256 .f32) (x16 : Vec F S8x256 .f32) (x17 : Vec F S2x8x256 .f32) (x18 : Vec F S512x1024 .f32) (x19 : Vec F S256x1024 .f32) (K : PUnit → sProp 𝕄) :
    iprop(owns (c : Thread nD τ) a2 fullShare b.dy
      ∗ owns (c : Thread nD τ) a3 fullShare b.h2
      ∗ owns (c : Thread nD τ) a4 fullShare b.pg
      ∗ owns (c : Thread nD τ) a5 fullShare b.pv
      ∗ owns (c : Thread nD τ) a6 fullShare b.hg
      ∗ owns (c : Thread nD τ) a7 fullShare b.hv
      ∗ owns (c : Thread nD τ) a8 fullShare b.wu
      ∗ owns (c : Thread nD τ) a9 fullShare b.cg
      ∗ owns (c : Thread nD τ) a10 fullShare b.cv
      ∗ owns (c : Thread nD τ) a11 fullShare b.wd
      ∗ owns (c : Thread nD τ) a12 fullShare x12
      ∗ owns (c : Thread nD τ) a13 fullShare x13
      ∗ owns (c : Thread nD τ) a14 fullShare x14
      ∗ owns (c : Thread nD τ) a15 fullShare x15
      ∗ owns (c : Thread nD τ) a16 fullShare x16
      ∗ owns (c : Thread nD τ) a17 fullShare x17
      ∗ owns (c : Thread nD τ) a18 fullShare x18
      ∗ owns (c : Thread nD τ) a19 fullShare x19
      ∗ (iprop(owns (c : Thread nD τ) a2 fullShare b.dy
      ∗ owns (c : Thread nD τ) a3 fullShare b.h2
      ∗ owns (c : Thread nD τ) a4 fullShare b.pg
      ∗ owns (c : Thread nD τ) a5 fullShare b.pv
      ∗ owns (c : Thread nD τ) a6 fullShare b.hg
      ∗ owns (c : Thread nD τ) a7 fullShare b.hv
      ∗ owns (c : Thread nD τ) a8 fullShare b.wu
      ∗ owns (c : Thread nD τ) a9 fullShare b.cg
      ∗ owns (c : Thread nD τ) a10 fullShare b.cv
      ∗ owns (c : Thread nD τ) a11 fullShare b.wd
      ∗ owns (c : Thread nD τ) a12 fullShare (put x12 ![0, 0] S1024x1024.size (dhT i b (slabG x17) (slabV x17)))
      ∗ owns (c : Thread nD τ) a13 fullShare (k0_pay55 (k0_pay53 (dwuT i b (slabG x17) (slabV x17)) x18))
      ∗ owns (c : Thread nD τ) a14 fullShare (k0_pay54 (k0_pay52 (dwdT i b) x19))
      ∗ owns (c : Thread nD τ) a15 fullShare (accG i b x15)
      ∗ owns (c : Thread nD τ) a16 fullShare (accV i b x16)
      ∗ owns (c : Thread nD τ) a17 fullShare (nxtOf i b x17)
      ∗ owns (c : Thread nD τ) a18 fullShare (k0_pay53 (dwuT i b (slabG x17) (slabV x17)) x18)
      ∗ owns (c : Thread nD τ) a19 fullShare (k0_pay52 (dwdT i b) x19)) -∗ K ⟨⟩))
      ⊢ wp frame (wpE (defs₀ (F := F)) Variants.none c none) Set.univ (cc0_ffn_bwd i a2 h2 a3 h3 a4 h4 a5 h5 a6 h6 a7 h7 a8 h8 a9 h9 a10 h10 a11 h11 a12 h12 a13 h13 a14 h14 a15 h15 a16 h16 a17 h17 a18 h18 a19 h19) K := by
  have hc1 : ¬ Scalar.cmpi .ne (Scalar.extui (Scalar.cmpi .eq (BitVec.ofNat 32 (i 1).val) 0#32) : BitVec 32) 0#32 = 1#1 := by rw [hr]; decide
  have hc2 : Scalar.cmpi .ne (Scalar.extui (Scalar.cmpi .sgt (BitVec.ofNat 32 (i 1).val) 0#32) : BitVec 32) 0#32 = 1#1 := by rw [hr]; decide
  have hc3 : k0_cond3 i = 1#1 := by unfold k0_cond3; rw [hr]; decide
  have hc4 : k0_cond4 i = 1#1 := by unfold k0_cond4; rw [hj]; decide
  have hc5 : ¬ k0_cond5 i = 1#1 := by unfold k0_cond5; rw [hj]; decide
  have ho1 : k0_off1 i = ![0, 0] := by rw [k0_off1_eq, hr]
  have ho2 : k0_off2 i = ![0, 0] := by rw [k0_off2_eq, hr]
  simp only [cc0_ffn_bwd_eq_skeleton]; unfold cc0_ffn_bwd_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, Hk⟩
  set_option sl_exec.resultNames true in
  sl_exec (disch := first | sl_exact hc1 | sl_exact hc2 | sl_exact hc3 | sl_exact hc4 | sl_exact hc5)
  sl_step
  iapply Hk
  isplitl [H2]
  · iexists _; isplitr; swap; iexact H2; ipureintro
    exact e2
  isplitl [H3]
  · iexists _; isplitr; swap; iexact H3; ipureintro
    exact e3
  isplitl [H4]
  · iexists _; isplitr; swap; iexact H4; ipureintro
    exact e4
  isplitl [H5]
  · iexists _; isplitr; swap; iexact H5; ipureintro
    exact e5
  isplitl [H6]
  · iexists _; isplitr; swap; iexact H6; ipureintro
    exact e6
  isplitl [H7]
  · iexists _; isplitr; swap; iexact H7; ipureintro
    exact e7
  isplitl [H8]
  · iexists _; isplitr; swap; iexact H8; ipureintro
    exact e8
  isplitl [H9]
  · iexists _; isplitr; swap; iexact H9; ipureintro
    exact e9
  isplitl [H10]
  · iexists _; isplitr; swap; iexact H10; ipureintro
    exact e10
  isplitl [H11]
  · iexists _; isplitr; swap; iexact H11; ipureintro
    exact e11
  isplitl [H12]
  · iexists _; isplitr; swap; iexact H12; ipureintro
    sl_unfold_run_names
    rw [View.read_writes_cons_put _ _ _ _ _ ho1, View.writes_nil, e12]
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  isplitl [H13]
  · iexists _; isplitr; swap; iexact H13; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  isplitl [H14]
  · iexists _; isplitr; swap; iexact H14; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  isplitl [H15]
  · iexists _; isplitr; swap; iexact H15; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  isplitl [H16]
  · iexists _; isplitr; swap; iexact H16; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  isplitl [H17]
  · iexists _; isplitr; swap; iexact H17; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  isplitl [H18]
  · iexists _; isplitr; swap; iexact H18; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  · iexists _; isplitr; swap; iexact H19; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl

set_option maxHeartbeats 4000000 in
/-- The first row step of a later column tile. -/
theorem run_r0_jp (c : Dev nD) (i : grid0.Coords) (hr : (i 1).val = 0) (hj : 0 < (i 0).val)
    (a2 : Memref sig .tc .vmem S1024x1024 .bf16) (h2 : a2.IsWhole) (a3 : Memref sig .tc .vmem S1024x1024 .bf16) (h3 : a3.IsWhole) (a4 : Memref sig .tc .vmem S1024x256 .bf16) (h4 : a4.IsWhole)
    (a5 : Memref sig .tc .vmem S1024x256 .bf16) (h5 : a5.IsWhole) (a6 : Memref sig .tc .vmem S16x256 .bf16) (h6 : a6.IsWhole) (a7 : Memref sig .tc .vmem S16x256 .bf16) (h7 : a7.IsWhole)
    (a8 : Memref sig .tc .vmem S2x256x1024 .bf16) (h8 : a8.IsWhole) (a9 : Memref sig .tc .vmem S3x256 .f32) (h9 : a9.IsWhole) (a10 : Memref sig .tc .vmem S3x256 .f32) (h10 : a10.IsWhole)
    (a11 : Memref sig .tc .vmem S256x1024 .bf16) (h11 : a11.IsWhole) (a12 : Memref sig .tc .vmem S2048x1024 .f32) (h12 : a12.IsWhole) (a13 : Memref sig .tc .vmem S2x256x1024 .bf16) (h13 : a13.IsWhole)
    (a14 : Memref sig .tc .vmem S256x1024 .bf16) (h14 : a14.IsWhole) (a15 : Memref sig .tc .vmem S8x256 .f32) (h15 : a15.IsWhole) (a16 : Memref sig .tc .vmem S8x256 .f32) (h16 : a16.IsWhole)
    (a17 : Memref sig .tc .vmem S2x8x256 .f32) (h17 : a17.IsWhole) (a18 : Memref sig .tc .vmem S512x1024 .f32) (h18 : a18.IsWhole) (a19 : Memref sig .tc .vmem S256x1024 .f32) (h19 : a19.IsWhole)
    (b : Ins F) (x12 : Vec F S2048x1024 .f32) (x13 : Vec F S2x256x1024 .bf16) (x14 : Vec F S256x1024 .bf16) (x15 : Vec F S8x256 .f32) (x16 : Vec F S8x256 .f32) (x17 : Vec F S2x8x256 .f32) (x18 : Vec F S512x1024 .f32) (x19 : Vec F S256x1024 .f32) (K : PUnit → sProp 𝕄) :
    iprop(owns (c : Thread nD τ) a2 fullShare b.dy
      ∗ owns (c : Thread nD τ) a3 fullShare b.h2
      ∗ owns (c : Thread nD τ) a4 fullShare b.pg
      ∗ owns (c : Thread nD τ) a5 fullShare b.pv
      ∗ owns (c : Thread nD τ) a6 fullShare b.hg
      ∗ owns (c : Thread nD τ) a7 fullShare b.hv
      ∗ owns (c : Thread nD τ) a8 fullShare b.wu
      ∗ owns (c : Thread nD τ) a9 fullShare b.cg
      ∗ owns (c : Thread nD τ) a10 fullShare b.cv
      ∗ owns (c : Thread nD τ) a11 fullShare b.wd
      ∗ owns (c : Thread nD τ) a12 fullShare x12
      ∗ owns (c : Thread nD τ) a13 fullShare x13
      ∗ owns (c : Thread nD τ) a14 fullShare x14
      ∗ owns (c : Thread nD τ) a15 fullShare x15
      ∗ owns (c : Thread nD τ) a16 fullShare x16
      ∗ owns (c : Thread nD τ) a17 fullShare x17
      ∗ owns (c : Thread nD τ) a18 fullShare x18
      ∗ owns (c : Thread nD τ) a19 fullShare x19
      ∗ (iprop(owns (c : Thread nD τ) a2 fullShare b.dy
      ∗ owns (c : Thread nD τ) a3 fullShare b.h2
      ∗ owns (c : Thread nD τ) a4 fullShare b.pg
      ∗ owns (c : Thread nD τ) a5 fullShare b.pv
      ∗ owns (c : Thread nD τ) a6 fullShare b.hg
      ∗ owns (c : Thread nD τ) a7 fullShare b.hv
      ∗ owns (c : Thread nD τ) a8 fullShare b.wu
      ∗ owns (c : Thread nD τ) a9 fullShare b.cg
      ∗ owns (c : Thread nD τ) a10 fullShare b.cv
      ∗ owns (c : Thread nD τ) a11 fullShare b.wd
      ∗ owns (c : Thread nD τ) a12 fullShare (put x12 ![1024, 0] S1024x1024.size (k0_pay1 (dhT i b (slabG x17) (slabV x17)) (window x12 ![1024, 0] S1024x1024.size (by decide : ∀ a, (![1024, 0] : Fin 2 → ℕ) a + S1024x1024.size a ≤ S2048x1024.size a))))
      ∗ owns (c : Thread nD τ) a13 fullShare x13
      ∗ owns (c : Thread nD τ) a14 fullShare x14
      ∗ owns (c : Thread nD τ) a15 fullShare (accG i b k0_pay50)
      ∗ owns (c : Thread nD τ) a16 fullShare (accV i b k0_pay51)
      ∗ owns (c : Thread nD τ) a17 fullShare (nxtOf i b x17)
      ∗ owns (c : Thread nD τ) a18 fullShare (k0_pay49 (dwuT i b (slabG x17) (slabV x17)))
      ∗ owns (c : Thread nD τ) a19 fullShare (k0_pay48 (dwdT i b))) -∗ K ⟨⟩))
      ⊢ wp frame (wpE (defs₀ (F := F)) Variants.none c none) Set.univ (cc0_ffn_bwd i a2 h2 a3 h3 a4 h4 a5 h5 a6 h6 a7 h7 a8 h8 a9 h9 a10 h10 a11 h11 a12 h12 a13 h13 a14 h14 a15 h15 a16 h16 a17 h17 a18 h18 a19 h19) K := by
  have hc1 : Scalar.cmpi .ne (Scalar.extui (Scalar.cmpi .eq (BitVec.ofNat 32 (i 1).val) 0#32) : BitVec 32) 0#32 = 1#1 := by rw [hr]; decide
  have hc2 : ¬ Scalar.cmpi .ne (Scalar.extui (Scalar.cmpi .sgt (BitVec.ofNat 32 (i 1).val) 0#32) : BitVec 32) 0#32 = 1#1 := by rw [hr]; decide
  have hc3 : ¬ k0_cond3 i = 1#1 := by unfold k0_cond3; rw [hr]; decide
  have hc4 : ¬ k0_cond4 i = 1#1 := cond4_pos i hj
  have hc5 : k0_cond5 i = 1#1 := cond5_pos i hj
  have ho1 : k0_off1 i = ![1024, 0] := by rw [k0_off1_eq, hr]
  have ho2 : k0_off2 i = ![1024, 0] := by rw [k0_off2_eq, hr]
  simp only [cc0_ffn_bwd_eq_skeleton]; unfold cc0_ffn_bwd_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, Hk⟩
  set_option sl_exec.resultNames true in
  sl_exec (disch := first | sl_exact hc1 | sl_exact hc2 | sl_exact hc3 | sl_exact hc4 | sl_exact hc5)
  sl_step
  iapply Hk
  isplitl [H2]
  · iexists _; isplitr; swap; iexact H2; ipureintro
    exact e2
  isplitl [H3]
  · iexists _; isplitr; swap; iexact H3; ipureintro
    exact e3
  isplitl [H4]
  · iexists _; isplitr; swap; iexact H4; ipureintro
    exact e4
  isplitl [H5]
  · iexists _; isplitr; swap; iexact H5; ipureintro
    exact e5
  isplitl [H6]
  · iexists _; isplitr; swap; iexact H6; ipureintro
    exact e6
  isplitl [H7]
  · iexists _; isplitr; swap; iexact H7; ipureintro
    exact e7
  isplitl [H8]
  · iexists _; isplitr; swap; iexact H8; ipureintro
    exact e8
  isplitl [H9]
  · iexists _; isplitr; swap; iexact H9; ipureintro
    exact e9
  isplitl [H10]
  · iexists _; isplitr; swap; iexact H10; ipureintro
    exact e10
  isplitl [H11]
  · iexists _; isplitr; swap; iexact H11; ipureintro
    exact e11
  isplitl [H12]
  · iexists _; isplitr; swap; iexact H12; ipureintro
    sl_unfold_run_names
    rw [View.read_writes_cons_put _ _ _ _ _ ho2, View.writes_nil, e12]
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rw [window_off x12 ho2]
    rfl
  isplitl [H13]
  · iexists _; isplitr; swap; iexact H13; ipureintro
    exact e13
  isplitl [H14]
  · iexists _; isplitr; swap; iexact H14; ipureintro
    exact e14
  isplitl [H15]
  · iexists _; isplitr; swap; iexact H15; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  isplitl [H16]
  · iexists _; isplitr; swap; iexact H16; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  isplitl [H17]
  · iexists _; isplitr; swap; iexact H17; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  isplitl [H18]
  · iexists _; isplitr; swap; iexact H18; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  · iexists _; isplitr; swap; iexact H19; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl

set_option maxHeartbeats 4000000 in
/-- The second row step of a later column tile. -/
theorem run_r1_jp (c : Dev nD) (i : grid0.Coords) (hr : (i 1).val = 1) (hj : 0 < (i 0).val)
    (a2 : Memref sig .tc .vmem S1024x1024 .bf16) (h2 : a2.IsWhole) (a3 : Memref sig .tc .vmem S1024x1024 .bf16) (h3 : a3.IsWhole) (a4 : Memref sig .tc .vmem S1024x256 .bf16) (h4 : a4.IsWhole)
    (a5 : Memref sig .tc .vmem S1024x256 .bf16) (h5 : a5.IsWhole) (a6 : Memref sig .tc .vmem S16x256 .bf16) (h6 : a6.IsWhole) (a7 : Memref sig .tc .vmem S16x256 .bf16) (h7 : a7.IsWhole)
    (a8 : Memref sig .tc .vmem S2x256x1024 .bf16) (h8 : a8.IsWhole) (a9 : Memref sig .tc .vmem S3x256 .f32) (h9 : a9.IsWhole) (a10 : Memref sig .tc .vmem S3x256 .f32) (h10 : a10.IsWhole)
    (a11 : Memref sig .tc .vmem S256x1024 .bf16) (h11 : a11.IsWhole) (a12 : Memref sig .tc .vmem S2048x1024 .f32) (h12 : a12.IsWhole) (a13 : Memref sig .tc .vmem S2x256x1024 .bf16) (h13 : a13.IsWhole)
    (a14 : Memref sig .tc .vmem S256x1024 .bf16) (h14 : a14.IsWhole) (a15 : Memref sig .tc .vmem S8x256 .f32) (h15 : a15.IsWhole) (a16 : Memref sig .tc .vmem S8x256 .f32) (h16 : a16.IsWhole)
    (a17 : Memref sig .tc .vmem S2x8x256 .f32) (h17 : a17.IsWhole) (a18 : Memref sig .tc .vmem S512x1024 .f32) (h18 : a18.IsWhole) (a19 : Memref sig .tc .vmem S256x1024 .f32) (h19 : a19.IsWhole)
    (b : Ins F) (x12 : Vec F S2048x1024 .f32) (x13 : Vec F S2x256x1024 .bf16) (x14 : Vec F S256x1024 .bf16) (x15 : Vec F S8x256 .f32) (x16 : Vec F S8x256 .f32) (x17 : Vec F S2x8x256 .f32) (x18 : Vec F S512x1024 .f32) (x19 : Vec F S256x1024 .f32) (K : PUnit → sProp 𝕄) :
    iprop(owns (c : Thread nD τ) a2 fullShare b.dy
      ∗ owns (c : Thread nD τ) a3 fullShare b.h2
      ∗ owns (c : Thread nD τ) a4 fullShare b.pg
      ∗ owns (c : Thread nD τ) a5 fullShare b.pv
      ∗ owns (c : Thread nD τ) a6 fullShare b.hg
      ∗ owns (c : Thread nD τ) a7 fullShare b.hv
      ∗ owns (c : Thread nD τ) a8 fullShare b.wu
      ∗ owns (c : Thread nD τ) a9 fullShare b.cg
      ∗ owns (c : Thread nD τ) a10 fullShare b.cv
      ∗ owns (c : Thread nD τ) a11 fullShare b.wd
      ∗ owns (c : Thread nD τ) a12 fullShare x12
      ∗ owns (c : Thread nD τ) a13 fullShare x13
      ∗ owns (c : Thread nD τ) a14 fullShare x14
      ∗ owns (c : Thread nD τ) a15 fullShare x15
      ∗ owns (c : Thread nD τ) a16 fullShare x16
      ∗ owns (c : Thread nD τ) a17 fullShare x17
      ∗ owns (c : Thread nD τ) a18 fullShare x18
      ∗ owns (c : Thread nD τ) a19 fullShare x19
      ∗ (iprop(owns (c : Thread nD τ) a2 fullShare b.dy
      ∗ owns (c : Thread nD τ) a3 fullShare b.h2
      ∗ owns (c : Thread nD τ) a4 fullShare b.pg
      ∗ owns (c : Thread nD τ) a5 fullShare b.pv
      ∗ owns (c : Thread nD τ) a6 fullShare b.hg
      ∗ owns (c : Thread nD τ) a7 fullShare b.hv
      ∗ owns (c : Thread nD τ) a8 fullShare b.wu
      ∗ owns (c : Thread nD τ) a9 fullShare b.cg
      ∗ owns (c : Thread nD τ) a10 fullShare b.cv
      ∗ owns (c : Thread nD τ) a11 fullShare b.wd
      ∗ owns (c : Thread nD τ) a12 fullShare (put x12 ![0, 0] S1024x1024.size (k0_pay1 (dhT i b (slabG x17) (slabV x17)) (window x12 ![0, 0] S1024x1024.size (by decide : ∀ a, (![0, 0] : Fin 2 → ℕ) a + S1024x1024.size a ≤ S2048x1024.size a))))
      ∗ owns (c : Thread nD τ) a13 fullShare (k0_pay55 (k0_pay53 (dwuT i b (slabG x17) (slabV x17)) x18))
      ∗ owns (c : Thread nD τ) a14 fullShare (k0_pay54 (k0_pay52 (dwdT i b) x19))
      ∗ owns (c : Thread nD τ) a15 fullShare (accG i b x15)
      ∗ owns (c : Thread nD τ) a16 fullShare (accV i b x16)
      ∗ owns (c : Thread nD τ) a17 fullShare (nxtOf i b x17)
      ∗ owns (c : Thread nD τ) a18 fullShare (k0_pay53 (dwuT i b (slabG x17) (slabV x17)) x18)
      ∗ owns (c : Thread nD τ) a19 fullShare (k0_pay52 (dwdT i b) x19)) -∗ K ⟨⟩))
      ⊢ wp frame (wpE (defs₀ (F := F)) Variants.none c none) Set.univ (cc0_ffn_bwd i a2 h2 a3 h3 a4 h4 a5 h5 a6 h6 a7 h7 a8 h8 a9 h9 a10 h10 a11 h11 a12 h12 a13 h13 a14 h14 a15 h15 a16 h16 a17 h17 a18 h18 a19 h19) K := by
  have hc1 : ¬ Scalar.cmpi .ne (Scalar.extui (Scalar.cmpi .eq (BitVec.ofNat 32 (i 1).val) 0#32) : BitVec 32) 0#32 = 1#1 := by rw [hr]; decide
  have hc2 : Scalar.cmpi .ne (Scalar.extui (Scalar.cmpi .sgt (BitVec.ofNat 32 (i 1).val) 0#32) : BitVec 32) 0#32 = 1#1 := by rw [hr]; decide
  have hc3 : k0_cond3 i = 1#1 := by unfold k0_cond3; rw [hr]; decide
  have hc4 : ¬ k0_cond4 i = 1#1 := cond4_pos i hj
  have hc5 : k0_cond5 i = 1#1 := cond5_pos i hj
  have ho1 : k0_off1 i = ![0, 0] := by rw [k0_off1_eq, hr]
  have ho2 : k0_off2 i = ![0, 0] := by rw [k0_off2_eq, hr]
  simp only [cc0_ffn_bwd_eq_skeleton]; unfold cc0_ffn_bwd_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, Hk⟩
  set_option sl_exec.resultNames true in
  sl_exec (disch := first | sl_exact hc1 | sl_exact hc2 | sl_exact hc3 | sl_exact hc4 | sl_exact hc5)
  sl_step
  iapply Hk
  isplitl [H2]
  · iexists _; isplitr; swap; iexact H2; ipureintro
    exact e2
  isplitl [H3]
  · iexists _; isplitr; swap; iexact H3; ipureintro
    exact e3
  isplitl [H4]
  · iexists _; isplitr; swap; iexact H4; ipureintro
    exact e4
  isplitl [H5]
  · iexists _; isplitr; swap; iexact H5; ipureintro
    exact e5
  isplitl [H6]
  · iexists _; isplitr; swap; iexact H6; ipureintro
    exact e6
  isplitl [H7]
  · iexists _; isplitr; swap; iexact H7; ipureintro
    exact e7
  isplitl [H8]
  · iexists _; isplitr; swap; iexact H8; ipureintro
    exact e8
  isplitl [H9]
  · iexists _; isplitr; swap; iexact H9; ipureintro
    exact e9
  isplitl [H10]
  · iexists _; isplitr; swap; iexact H10; ipureintro
    exact e10
  isplitl [H11]
  · iexists _; isplitr; swap; iexact H11; ipureintro
    exact e11
  isplitl [H12]
  · iexists _; isplitr; swap; iexact H12; ipureintro
    sl_unfold_run_names
    rw [View.read_writes_cons_put _ _ _ _ _ ho2, View.writes_nil, e12]
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rw [window_off x12 ho2]
    rfl
  isplitl [H13]
  · iexists _; isplitr; swap; iexact H13; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  isplitl [H14]
  · iexists _; isplitr; swap; iexact H14; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  isplitl [H15]
  · iexists _; isplitr; swap; iexact H15; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  isplitl [H16]
  · iexists _; isplitr; swap; iexact H16; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  isplitl [H17]
  · iexists _; isplitr; swap; iexact H17; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  isplitl [H18]
  · iexists _; isplitr; swap; iexact H18; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl
  · iexists _; isplitr; swap; iexact H19; ipureintro
    sl_unfold_run_names
    simp only [rd_window, readCov_window, writes_put, View.writes_nil, window_full2, window_full3, put_full2, put_full3, window_rows10, window_rows20, window_rows21, e2, e3, e4, e5, e6, e7, e8, e9, e10, e11, e12, e13, e14, e15, e16, e17, e18, e19]
    rfl

end Cert.KernelIdeal.Hand

end
-- ==== Proof.State.lean ====
/- What the buffers hold after each grid point, as functions of the arrays the region finds: the kernel's state along the
   twenty-two points of its grid. Point `2 j + r` works on column block `j` and on row block `1 - r`. -/
module

public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

variable (m : (ℓ : Loc nD τ sig) → Buf (Elt F) ℓ) (c : Dev nD)

/-- The ten blocks the body is handed at point `t`. -/
def insAt (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t⟩

/-- The point numbered `n`. -/
def pt (n : ℕ) : Fin cfg0.N := ⟨n % 22, lt_of_lt_of_eq (Nat.mod_lt n (by decide)) N_0.symm⟩

theorem pt_val (t : Fin cfg0.N) : pt t.val = t := Fin.ext (Nat.mod_eq_of_lt (lt_of_lt_of_eq t.isLt N_0))

/-- The gate slab the point numbered `n` leaves for the next. -/
def sG (n : ℕ) : Vec F S1x8x256 .f32 := k0_pay37 (dug (grid0.coords (pt n)) (insAt m c (pt n)))
/-- The value slab the point numbered `n` leaves for the next. -/
def sV (n : ℕ) : Vec F S1x8x256 .f32 := k0_pay38 (duv (grid0.coords (pt n)) (insAt m c (pt n)))

/-- The contribution of point `n` to `dh`. -/
def dhP (n : ℕ) : FVec F S1024x1024 .f32 := dhT (grid0.coords (pt n)) (insAt m c (pt n)) (sG m c (n - 1)) (sV m c (n - 1))
/-- The contribution of point `n` to the gradient of the up projection. -/
def dwuP (n : ℕ) : FVec F S512x1024 .f32 := dwuT (grid0.coords (pt n)) (insAt m c (pt n)) (sG m c (n - 1)) (sV m c (n - 1))
/-- The contribution of point `n` to the gradient of the down projection. -/
def dwdP (n : ℕ) : FVec F S256x1024 .f32 := dwdT (grid0.coords (pt n)) (insAt m c (pt n))
/-- The gate tap gradients `Z` after point `n` has added to them. -/
def accGP (n : ℕ) (Z : Vec F S8x256 .f32) : Vec F S8x256 .f32 := accG (grid0.coords (pt n)) (insAt m c (pt n)) Z
/-- The value tap gradients `Z` after point `n` has added to them. -/
def accVP (n : ℕ) (Z : Vec F S8x256 .f32) : Vec F S8x256 .f32 := accV (grid0.coords (pt n)) (insAt m c (pt n)) Z

/-- A half of `dh` after column block `j`: the half visited first for `r = 0`, the other for `r = 1`. -/
def dhC (r : ℕ) : ℕ → Vec F S1024x1024 .f32
  | 0 => dhP m c r
  | j + 1 => k0_pay1 (dhP m c (2 * (j + 1) + r)) (dhC r j)

/-- What is written of the gradient of the up projection at the odd point `n`. -/
def dwuF (n : ℕ) : Vec F S2x256x1024 .bf16 := k0_pay55 (k0_pay53 (dwuP m c n) (k0_pay49 (dwuP m c (n - 1))))
/-- What is written of the gradient of the down projection at the odd point `n`. -/
def dwdF (n : ℕ) : Vec F S256x1024 .bf16 := k0_pay54 (k0_pay52 (dwdP m c n) (k0_pay48 (dwdP m c (n - 1))))
/-- The gate tap gradients after point `n`. -/
def dcgF (n : ℕ) : Vec F S8x256 .f32 := accGP m c n (if n % 2 = 0 then k0_pay50 else accGP m c (n - 1) k0_pay50)
/-- The value tap gradients after point `n`. -/
def dcvF (n : ℕ) : Vec F S8x256 .f32 := accVP m c n (if n % 2 = 0 then k0_pay51 else accVP m c (n - 1) k0_pay51)

/-- The upper half of a `dh` buffer. -/
def lo (X : Vec F S2048x1024 .f32) : Vec F S1024x1024 .f32 :=
  window X ![0, 0] S1024x1024.size (by decide : ∀ a, (![0, 0] : Fin 2 → ℕ) a + S1024x1024.size a ≤ S2048x1024.size a)
/-- The lower half of a `dh` buffer. -/
def hi (X : Vec F S2048x1024 .f32) : Vec F S1024x1024 .f32 :=
  window X ![1024, 0] S1024x1024.size (by decide : ∀ a, (![1024, 0] : Fin 2 → ℕ) a + S1024x1024.size a ≤ S2048x1024.size a)

/-- The halves of `dh` that are determined after point `n`. -/
def dhOk (n : ℕ) (X : Vec F S2048x1024 .f32) : Prop :=
  hi X = dhC m c 0 (n / 2) ∧ (n % 2 = 0 → n ≠ 0 → lo X = dhC m c 1 (n / 2 - 1)) ∧ (n % 2 = 1 → lo X = dhC m c 1 (n / 2))

theorem hi_put_hi (X : Vec F S2048x1024 .f32) (w : Vec F S1024x1024 .f32) : hi (put X ![1024, 0] S1024x1024.size w) = w :=
  window_put_same _ _ _ _ _
theorem lo_put_lo (X : Vec F S2048x1024 .f32) (w : Vec F S1024x1024 .f32) : lo (put X ![0, 0] S1024x1024.size w) = w :=
  window_put_same _ _ _ _ _
theorem lo_put_hi (X : Vec F S2048x1024 .f32) (w : Vec F S1024x1024 .f32) : lo (put X ![1024, 0] S1024x1024.size w) = lo X :=
  window_put_of_disjoint _ _ _ _ _ _ _ (0 : Fin 2) (by decide)
theorem hi_put_lo (X : Vec F S2048x1024 .f32) (w : Vec F S1024x1024 .f32) : hi (put X ![0, 0] S1024x1024.size w) = hi X :=
  window_put_of_disjoint _ _ _ _ _ _ _ (0 : Fin 2) (by decide)

theorem slabG_nxtOf (i : grid0.Coords) (b : Ins F) (N : Vec F S2x8x256 .f32) : slabG (nxtOf i b N) = k0_pay37 (dug i b) :=
  (window_put_of_disjoint _ _ _ _ _ _ _ (0 : Fin 3) (by decide)).trans (window_put_same _ _ _ _ _)
theorem slabV_nxtOf (i : grid0.Coords) (b : Ins F) (N : Vec F S2x8x256 .f32) : slabV (nxtOf i b N) = k0_pay38 (duv i b) :=
  window_put_same _ _ _ _ _

/-- At the block visited first the slabs are replaced by zeros, whatever they hold. -/
theorem pay23_zero (i : grid0.Coords) (h : (i 1).val = 0) (n n' : Vec F S1x8x256 .f32) : k0_pay23 (ra i) n = k0_pay23 (ra i) n' := by
  unfold k0_pay23 ra; rw [h]; rfl
theorem pay29_zero (i : grid0.Coords) (h : (i 1).val = 0) (n n' : Vec F S1x8x256 .f32) : k0_pay29 (ra i) n = k0_pay29 (ra i) n' := by
  unfold k0_pay29 ra; rw [h]; rfl
theorem dpg_zero (i : grid0.Coords) (b : Ins F) (h : (i 1).val = 0) (n n' : Vec F S1x8x256 .f32) : dpg i b n = dpg i b n' := by
  unfold dpg k0_pay24 k0_pay25 k0_pay26; rw [pay23_zero i h n n']
theorem dpre_zero (i : grid0.Coords) (b : Ins F) (h : (i 1).val = 0) (n n' v v' : Vec F S1x8x256 .f32) : dpre i b n v = dpre i b n' v' := by
  unfold dpre k0_pay30 k0_pay31 k0_pay32; rw [dpg_zero i b h n n', pay29_zero i h v v']
theorem dhT_zero (i : grid0.Coords) (b : Ins F) (h : (i 1).val = 0) (n n' v v' : Vec F S1x8x256 .f32) : dhT i b n v = dhT i b n' v' := by
  unfold dhT; rw [dpre_zero i b h n n' v v']
theorem dwuT_zero (i : grid0.Coords) (b : Ins F) (h : (i 1).val = 0) (n n' v v' : Vec F S1x8x256 .f32) : dwuT i b n v = dwuT i b n' v' := by
  unfold dwuT k0_pay30 k0_pay31 k0_pay32; rw [dpg_zero i b h n n', pay29_zero i h v v']

end Cert.KernelIdeal.Hand
-- ==== Proof.Body.lean ====
/- The kernel's run: the contents of every buffer followed through the grid, and the program's execution from any memory. -/
module

public import proofs.«01_k».proof.Proof.State
public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

variable (m : (ℓ : Loc nD τ sig) → Buf (Elt F) ℓ) (ρ : Dev nD → PrngReg)

/-- The windows followed by a statement rather than by exact contents: the five results. -/
def outs : Fin cfg0.W → Bool := fun w => decide (10 ≤ w.val)

/-- What a result's buffer holds after point `t`. -/
def Rl (c : Dev nD) : (w : Fin cfg0.W) → Fin cfg0.N → ((cfg0.win w).block.Idx → Elt F (cfg0.win w).elt) → Prop
  | 0 => fun _ _ => True
  | 1 => fun _ _ => True
  | 2 => fun _ _ => True
  | 3 => fun _ _ => True
  | 4 => fun _ _ => True
  | 5 => fun _ _ => True
  | 6 => fun _ _ => True
  | 7 => fun _ _ => True
  | 8 => fun _ _ => True
  | 9 => fun _ _ => True
  | 10 => fun t X => dhOk m c t.val X
  | 11 => fun t X => t.val % 2 = 1 → X = dwuF m c t.val
  | 12 => fun t X => t.val % 2 = 1 → X = dwdF m c t.val
  | 13 => fun t X => X = dcgF m c t.val
  | 14 => fun t X => X = dcvF m c t.val
  | ⟨_ + 15, h⟩ => absurd h (Nat.not_lt.2 (Nat.le_add_left _ _))

/-- The kernel's private buffers before the point numbered `n`: before an odd point they hold what the point before left. -/
def Scr (c : Dev nD) (n : ℕ) (N : Vec F S2x8x256 .f32) (U : Vec F S512x1024 .f32) (D : Vec F S256x1024 .f32) : Prop :=
  n % 2 = 1 → slabG N = sG m c (n - 1) ∧ slabV N = sV m c (n - 1) ∧ U = k0_pay49 (dwuP m c (n - 1)) ∧ D = k0_pay48 (dwdP m c (n - 1))

/-- What is kept between points: the private buffers and the random number register. -/
def Φs (c : Dev nD) (n : ℕ) : sProp 𝕄 :=
  iprop((∃ N U D, ⌜Scr m c n N U D⌝ ∗ owns (c : Thread nD τ) (Memref.whole cc0_scratch0) fullShare N
      ∗ owns (c : Thread nD τ) (Memref.whole cc0_scratch1) fullShare U ∗ owns (c : Thread nD τ) (Memref.whole cc0_scratch2) fullShare D)
    ∗ ∃ r, prngReg c r)

/-- The exact part of the proof data: the inputs' blocks. -/
def dat (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => iblk m c 6 t
    | 7 => fun t => iblk m c 7 t
    | 8 => fun t => iblk m c 8 t
    | 9 => fun t => iblk m c 9 t
    | ⟨_ + 10, _⟩ => fun _ _ => Classical.arbitrary _
  Φ t := Φs m c t.val
  q := Pipeline.shareOf spec0
  owed := fun _ => 0

/-- The proof data. -/
abbrev rdat (c : Dev nD) := (dat m c).toRRel outs (Rl m c)

theorem coord0 : ∀ t : Fin cfg0.N, (grid0.coords t 0).val = t.val / 2 := by decide
theorem coord1 : ∀ t : Fin cfg0.N, (grid0.coords t 1).val = t.val % 2 := by decide

/-- A result's buffer at an odd point holds what the point before left there. -/
theorem finds_odd (c : Dev nD) (w : Fin cfg0.W) (hw : outs w = true) (hf : ∀ t, (cfg0.win w).fetch t = false) (t : Fin cfg0.N) (ht : t.val ≠ 0)
    (hfl : (cfg0.win w).flush ⟨t.val - 1, Nat.lt_of_le_of_lt (Nat.sub_le _ _) t.isLt⟩ ≠ true) (X)
    (h : (rdat m c).Finds w t X) : Rl m c w ⟨t.val - 1, Nat.lt_of_le_of_lt (Nat.sub_le _ _) t.isLt⟩ X :=
  (dat m c).toRRel_leaves hw ((((rdat m c).finds_of_pos (hf t) ht X).mp h).resolve_left hfl)

theorem insAt_pt (c : Dev nD) (t : Fin cfg0.N) : insAt m c (pt t.val) = insAt m c t := by rw [pt_val]

theorem pred_ne (t : Fin cfg0.N) (hr : t.val % 2 = 1) : t.val ≠ 0 := by omega

theorem scr_even (c : Dev nD) (t : Fin cfg0.N) (hr : t.val % 2 = 0) (N : Vec F S2x8x256 .f32) (a b : Vec F S1x8x256 .f32) :
    Scr m c (t.val + 1) (nxtOf (grid0.coords t) (insAt m c t) N) (k0_pay49 (dwuT (grid0.coords t) (insAt m c t) a b))
      (k0_pay48 (dwdT (grid0.coords t) (insAt m c t))) := fun _ => by
  have h0 : (grid0.coords t 1).val = 0 := (coord1 t).trans hr
  rw [slabG_nxtOf, slabV_nxtOf, Nat.add_sub_cancel]
  unfold sG sV dwuP dwdP
  rw [pt_val, dwuT_zero _ _ h0 a (sG m c (t.val - 1)) b (sV m c (t.val - 1))]
  exact ⟨rfl, rfl, rfl, rfl⟩

theorem scr_odd (c : Dev nD) (t : Fin cfg0.N) (hr : t.val % 2 = 1) (N : Vec F S2x8x256 .f32) (U : Vec F S512x1024 .f32) (D : Vec F S256x1024 .f32) :
    Scr m c (t.val + 1) N U D := fun h => absurd h (by omega)

theorem dwu_odd (c : Dev nD) (t : Fin cfg0.N) (hr : t.val % 2 = 1) (N : Vec F S2x8x256 .f32) (U : Vec F S512x1024 .f32) (D : Vec F S256x1024 .f32)
    (hS : Scr m c t.val N U D) :
    k0_pay55 (k0_pay53 (dwuT (grid0.coords t) (insAt m c t) (slabG N) (slabV N)) U) = dwuF m c t.val := by
  obtain ⟨e1, e2, e3, -⟩ := hS hr
  rw [e1, e2, e3]; unfold dwuF; rw [show dwuP m c t.val = dwuT (grid0.coords t) (insAt m c t) (sG m c (t.val - 1)) (sV m c (t.val - 1)) from by
    unfold dwuP; rw [pt_val]]

theorem dwd_odd (c : Dev nD) (t : Fin cfg0.N) (hr : t.val % 2 = 1) (N : Vec F S2x8x256 .f32) (U : Vec F S512x1024 .f32) (D : Vec F S256x1024 .f32)
    (hS : Scr m c t.val N U D) :
    k0_pay54 (k0_pay52 (dwdT (grid0.coords t) (insAt m c t)) D) = dwdF m c t.val := by
  obtain ⟨-, -, -, e4⟩ := hS hr
  rw [e4]; unfold dwdF; rw [show dwdP m c t.val = dwdT (grid0.coords t) (insAt m c t) from by unfold dwdP; rw [pt_val]]

theorem dcg_even (c : Dev nD) (t : Fin cfg0.N) (hr : t.val % 2 = 0) :
    accG (grid0.coords t) (insAt m c t) k0_pay50 = dcgF m c t.val := by
  unfold dcgF accGP; rw [if_pos hr, pt_val]
theorem dcv_even (c : Dev nD) (t : Fin cfg0.N) (hr : t.val % 2 = 0) :
    accV (grid0.coords t) (insAt m c t) k0_pay51 = dcvF m c t.val := by
  unfold dcvF accVP; rw [if_pos hr, pt_val]
theorem dcg_odd (c : Dev nD) (t : Fin cfg0.N) (hr : t.val % 2 = 1) (Y : Vec F S8x256 .f32) (h : (rdat m c).Finds 13 t Y) :
    accG (grid0.coords t) (insAt m c t) Y = dcgF m c t.val := by
  have e : Y = dcgF m c (t.val - 1) := finds_odd m c 13 (by decide) (by decide) t (pred_ne t hr) (fun h => by rw [flush0_13] at h; simp only at h; omega) Y h
  rw [e]; conv_rhs => unfold dcgF accGP
  rw [if_neg (by omega), pt_val]; unfold dcgF; rw [if_pos (by omega)]; rfl
theorem dcv_odd (c : Dev nD) (t : Fin cfg0.N) (hr : t.val % 2 = 1) (Y : Vec F S8x256 .f32) (h : (rdat m c).Finds 14 t Y) :
    accV (grid0.coords t) (insAt m c t) Y = dcvF m c t.val := by
  have e : Y = dcvF m c (t.val - 1) := finds_odd m c 14 (by decide) (by decide) t (pred_ne t hr) (fun h => by rw [flush0_14] at h; simp only at h; omega) Y h
  rw [e]; conv_rhs => unfold dcvF accVP
  rw [if_neg (by omega), pt_val]; unfold dcvF; rw [if_pos (by omega)]; rfl

theorem dh_finds (c : Dev nD) (t : Fin cfg0.N) (ht : t.val ≠ 0) (Y : Vec F S2048x1024 .f32) (h : (rdat m c).Finds 10 t Y) : dhOk m c (t.val - 1) Y :=
  finds_odd m c 10 (by decide) (by decide) t ht (fun h => by
    rw [flush0_10] at h; have := lt_of_lt_of_eq t.isLt N_0; simp only at h; omega) Y h

theorem dhP_even (c : Dev nD) (t : Fin cfg0.N) (hr : t.val % 2 = 0) (a b : Vec F S1x8x256 .f32) :
    dhT (grid0.coords t) (insAt m c t) a b = dhP m c t.val := by
  unfold dhP; rw [pt_val]; exact dhT_zero _ _ ((coord1 t).trans hr) _ _ _ _
theorem dhP_odd (c : Dev nD) (t : Fin cfg0.N) (hr : t.val % 2 = 1) (N : Vec F S2x8x256 .f32) {U : Vec F S512x1024 .f32} {D : Vec F S256x1024 .f32}
    (hS : Scr m c t.val N U D) : dhT (grid0.coords t) (insAt m c t) (slabG N) (slabV N) = dhP m c t.val := by
  obtain ⟨e1, e2, -, -⟩ := hS hr
  unfold dhP; rw [pt_val, e1, e2]
theorem dhC_succ (c : Dev nD) (n : ℕ) (h : 2 ≤ n) : dhC m c (n % 2) (n / 2) = k0_pay1 (dhP m c n) (dhC m c (n % 2) (n / 2 - 1)) := by
  obtain ⟨k, hk⟩ : ∃ k, n / 2 = k + 1 := ⟨n / 2 - 1, by omega⟩
  rw [hk, Nat.add_sub_cancel]; unfold dhC; rw [show 2 * (k + 1) + n % 2 = n from by omega]; cases k <;> rfl

theorem dh_r0_j0 (c : Dev nD) (t : Fin cfg0.N) (hr : t.val % 2 = 0) (hj : t.val < 2) (a b : Vec F S1x8x256 .f32) (Y : Vec F S2048x1024 .f32)
    (h : (rdat m c).Finds 10 t Y) :
    dhOk m c t.val (put Y ![1024, 0] S1024x1024.size (dhT (grid0.coords t) (insAt m c t) a b)) := by
  have h0 : t.val = 0 := by omega
  refine ⟨?_, fun _ hn => absurd h0 hn, fun h => absurd h (by omega)⟩
  rw [hi_put_hi, dhP_even m c t hr, h0]; rfl
theorem dh_r1_j0 (c : Dev nD) (t : Fin cfg0.N) (hr : t.val % 2 = 1) (hj : t.val < 2) (N : Vec F S2x8x256 .f32) (Y : Vec F S2048x1024 .f32)
    {U : Vec F S512x1024 .f32} {D : Vec F S256x1024 .f32} (hS : Scr m c t.val N U D) (h : (rdat m c).Finds 10 t Y) :
    dhOk m c t.val (put Y ![0, 0] S1024x1024.size (dhT (grid0.coords t) (insAt m c t) (slabG N) (slabV N))) := by
  have h1 : t.val = 1 := by omega
  have hF := dh_finds m c t (by omega) Y h
  refine ⟨?_, fun h => absurd h (by omega), fun _ => ?_⟩
  · rw [hi_put_lo, hF.1, h1]
  · rw [lo_put_lo, dhP_odd m c t hr N hS, h1]; rfl
theorem dh_r0_jp (c : Dev nD) (t : Fin cfg0.N) (hr : t.val % 2 = 0) (hj : t.val ≥ 2) (a b : Vec F S1x8x256 .f32) (Y : Vec F S2048x1024 .f32)
    (h : (rdat m c).Finds 10 t Y) :
    dhOk m c t.val (put Y ![1024, 0] S1024x1024.size (k0_pay1 (dhT (grid0.coords t) (insAt m c t) a b) (hi Y))) := by
  have hF := dh_finds m c t (by omega) Y h
  refine ⟨?_, fun _ _ => ?_, fun h => absurd h (by omega)⟩
  · rw [hi_put_hi, dhP_even m c t hr, hF.1]
    have e := dhC_succ m c t.val hj
    rw [hr] at e; rw [e, show (t.val - 1) / 2 = t.val / 2 - 1 from by omega]
  · rw [lo_put_hi, hF.2.2 (by omega), show (t.val - 1) / 2 = t.val / 2 - 1 from by omega]
theorem dh_r1_jp (c : Dev nD) (t : Fin cfg0.N) (hr : t.val % 2 = 1) (hj : t.val ≥ 2) (N : Vec F S2x8x256 .f32) (Y : Vec F S2048x1024 .f32)
    {U : Vec F S512x1024 .f32} {D : Vec F S256x1024 .f32} (hS : Scr m c t.val N U D) (h : (rdat m c).Finds 10 t Y) :
    dhOk m c t.val (put Y ![0, 0] S1024x1024.size (k0_pay1 (dhT (grid0.coords t) (insAt m c t) (slabG N) (slabV N)) (lo Y))) := by
  have hF := dh_finds m c t (by omega) Y h
  refine ⟨?_, fun h => absurd h (by omega), fun _ => ?_⟩
  · rw [hi_put_lo, hF.1, show (t.val - 1) / 2 = t.val / 2 from by omega]
  · rw [lo_put_lo, dhP_odd m c t hr N hS, hF.2.1 (by omega) (by omega)]
    have e := dhC_succ m c t.val hj
    rw [hr] at e; rw [e, show (t.val - 1) / 2 - 1 = t.val / 2 - 1 from by omega]

/-- What the body is handed at point `t`. -/
def bodyPre (c : Dev nD) (t : Fin cfg0.N) : sProp 𝕄 :=
  iprop((dat m c).Φ t.castSucc ∗ (dat m c).owesAt () t.castSucc ∗ (∃ d, owns (c : Thread nD τ) (st0_0 t) fullShare ((dat m c).before 0 t d)) ∗ (∃ d, owns (c : Thread nD τ) (st0_1 t) fullShare ((dat m c).before 1 t d)) ∗ (∃ d, owns (c : Thread nD τ) (st0_2 t) fullShare ((dat m c).before 2 t d)) ∗ (∃ d, owns (c : Thread nD τ) (st0_3 t) fullShare ((dat m c).before 3 t d)) ∗ (∃ d, owns (c : Thread nD τ) (st0_4 t) fullShare ((dat m c).before 4 t d)) ∗ (∃ d, owns (c : Thread nD τ) (st0_5 t) fullShare ((dat m c).before 5 t d)) ∗ (∃ d, owns (c : Thread nD τ) (st0_6 t) fullShare ((dat m c).before 6 t d)) ∗ (∃ d, owns (c : Thread nD τ) (st0_7 t) fullShare ((dat m c).before 7 t d)) ∗ (∃ d, owns (c : Thread nD τ) (st0_8 t) fullShare ((dat m c).before 8 t d)) ∗ (∃ d, owns (c : Thread nD τ) (st0_9 t) fullShare ((dat m c).before 9 t d)) ∗ (∃ Y, ⌜(rdat m c).Finds 10 t Y⌝ ∗ owns (c : Thread nD τ) (st0_10 t) fullShare Y) ∗ (∃ Y, ⌜(rdat m c).Finds 11 t Y⌝ ∗ owns (c : Thread nD τ) (st0_11 t) fullShare Y) ∗ (∃ Y, ⌜(rdat m c).Finds 12 t Y⌝ ∗ owns (c : Thread nD τ) (st0_12 t) fullShare Y) ∗ (∃ Y, ⌜(rdat m c).Finds 13 t Y⌝ ∗ owns (c : Thread nD τ) (st0_13 t) fullShare Y) ∗ (∃ Y, ⌜(rdat m c).Finds 14 t Y⌝ ∗ owns (c : Thread nD τ) (st0_14 t) fullShare Y))
/-- What the body gives back. -/
def bodyPost (c : Dev nD) (t : Fin cfg0.N) : sProp 𝕄 :=
  iprop((dat m c).Φ t.succ ∗ (dat m c).owesAt () t.succ ∗ owns (c : Thread nD τ) (st0_0 t) fullShare ((dat m c).after 0 t) ∗ owns (c : Thread nD τ) (st0_1 t) fullShare ((dat m c).after 1 t) ∗ owns (c : Thread nD τ) (st0_2 t) fullShare ((dat m c).after 2 t) ∗ owns (c : Thread nD τ) (st0_3 t) fullShare ((dat m c).after 3 t) ∗ owns (c : Thread nD τ) (st0_4 t) fullShare ((dat m c).after 4 t) ∗ owns (c : Thread nD τ) (st0_5 t) fullShare ((dat m c).after 5 t) ∗ owns (c : Thread nD τ) (st0_6 t) fullShare ((dat m c).after 6 t) ∗ owns (c : Thread nD τ) (st0_7 t) fullShare ((dat m c).after 7 t) ∗ owns (c : Thread nD τ) (st0_8 t) fullShare ((dat m c).after 8 t) ∗ owns (c : Thread nD τ) (st0_9 t) fullShare ((dat m c).after 9 t) ∗ (∃ X, ⌜Rl m c 10 t X⌝ ∗ owns (c : Thread nD τ) (st0_10 t) fullShare X) ∗ (∃ X, ⌜Rl m c 11 t X⌝ ∗ owns (c : Thread nD τ) (st0_11 t) fullShare X) ∗ (∃ X, ⌜Rl m c 12 t X⌝ ∗ owns (c : Thread nD τ) (st0_12 t) fullShare X) ∗ (∃ X, ⌜Rl m c 13 t X⌝ ∗ owns (c : Thread nD τ) (st0_13 t) fullShare X) ∗ (∃ X, ⌜Rl m c 14 t X⌝ ∗ owns (c : Thread nD τ) (st0_14 t) fullShare X))

set_option maxHeartbeats 2000000 in
theorem sound_r0_j0 (c : Dev nD) (t : Fin cfg0.N) (hr : t.val % 2 = 0) (hj : t.val < 2) :
    bodyPre m c t ⊢ wp frame (wpE (defs₀ (F := F)) Variants.none c none) Set.univ (bodyAt0 t) (fun _ => bodyPost m c t) := by
  have hr' : (grid0.coords t 1).val = 0 := (coord1 t).trans hr
  have hj' : (grid0.coords t 0).val = 0 := by rw [coord0 t]; omega
  unfold bodyPre bodyPost bodyAt0
  rw [show (dat m c).owesAt () t.succ = (dat m c).owesAt () t.castSucc from rfl,
    show (dat m c).Φ t.castSucc = Φs m c t.val from rfl, show (dat m c).Φ t.succ = Φs m c (t.val + 1) from rfl]
  simp only [before0_0_of m (dat m c) rfl (fun _ => rfl), before0_1_of m (dat m c) rfl (fun _ => rfl), before0_2_of m (dat m c) rfl (fun _ => rfl), before0_3_of m (dat m c) rfl (fun _ => rfl), before0_4_of m (dat m c) rfl (fun _ => rfl), before0_5_of m (dat m c) rfl (fun _ => rfl), before0_6_of m (dat m c) rfl (fun _ => rfl), before0_7_of m (dat m c) rfl (fun _ => rfl), before0_8_of m (dat m c) rfl (fun _ => rfl), before0_9_of m (dat m c) rfl (fun _ => rfl)]
  unfold Φs
  iintro ⟨⟨⟨%N, %U, %D, %hS, HN, HU, HD⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y10, %h10, H10⟩, ⟨%Y11, %h11, H11⟩, ⟨%Y12, %h12, H12⟩, ⟨%Y13, %h13, H13⟩, ⟨%Y14, %h14, H14⟩⟩
  iapply (run_r0_j0 c (grid0.coords t) hr' hj' (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _) (Memref.whole cc0_scratch1) (Memref.isWhole_whole _) (Memref.whole cc0_scratch2) (Memref.isWhole_whole _) (insAt m c t) Y10 Y11 Y12 Y13 Y14 N U D _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HN]; · iexact HN
  isplitl [HU]; · iexact HU
  isplitl [HD]; · iexact HD
  iintro ⟨H0, H1, H2, H3, H4, H5, H6, H7, H8, H9, H10, H11, H12, H13, H14, HN, HU, HD⟩
  isplitl [HN HU HD Hg]
  · isplitl [HN HU HD]
    · iexists _, _, _
      isplitr; swap
      · isplitl [HN]; · iexact HN
        isplitl [HU]; · iexact HU
        iexact HD
      ipureintro
      exact scr_even m c t hr N _ _
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; swap; iexact H10; ipureintro
    exact dh_r0_j0 m c t hr hj _ _ Y10 h10
  isplitl [H11]
  · iexists _; isplitr; swap; iexact H11; ipureintro
    exact fun h => absurd h (by omega)
  isplitl [H12]
  · iexists _; isplitr; swap; iexact H12; ipureintro
    exact fun h => absurd h (by omega)
  isplitl [H13]
  · iexists _; isplitr; swap; iexact H13; ipureintro
    exact dcg_even m c t hr
  iexists _; isplitr; swap; iexact H14; ipureintro
  exact dcv_even m c t hr

set_option maxHeartbeats 2000000 in
theorem sound_r1_j0 (c : Dev nD) (t : Fin cfg0.N) (hr : t.val % 2 = 1) (hj : t.val < 2) :
    bodyPre m c t ⊢ wp frame (wpE (defs₀ (F := F)) Variants.none c none) Set.univ (bodyAt0 t) (fun _ => bodyPost m c t) := by
  have hr' : (grid0.coords t 1).val = 1 := (coord1 t).trans hr
  have hj' : (grid0.coords t 0).val = 0 := by rw [coord0 t]; omega
  unfold bodyPre bodyPost bodyAt0
  rw [show (dat m c).owesAt () t.succ = (dat m c).owesAt () t.castSucc from rfl,
    show (dat m c).Φ t.castSucc = Φs m c t.val from rfl, show (dat m c).Φ t.succ = Φs m c (t.val + 1) from rfl]
  simp only [before0_0_of m (dat m c) rfl (fun _ => rfl), before0_1_of m (dat m c) rfl (fun _ => rfl), before0_2_of m (dat m c) rfl (fun _ => rfl), before0_3_of m (dat m c) rfl (fun _ => rfl), before0_4_of m (dat m c) rfl (fun _ => rfl), before0_5_of m (dat m c) rfl (fun _ => rfl), before0_6_of m (dat m c) rfl (fun _ => rfl), before0_7_of m (dat m c) rfl (fun _ => rfl), before0_8_of m (dat m c) rfl (fun _ => rfl), before0_9_of m (dat m c) rfl (fun _ => rfl)]
  unfold Φs
  iintro ⟨⟨⟨%N, %U, %D, %hS, HN, HU, HD⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y10, %h10, H10⟩, ⟨%Y11, %h11, H11⟩, ⟨%Y12, %h12, H12⟩, ⟨%Y13, %h13, H13⟩, ⟨%Y14, %h14, H14⟩⟩
  iapply (run_r1_j0 c (grid0.coords t) hr' hj' (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _) (Memref.whole cc0_scratch1) (Memref.isWhole_whole _) (Memref.whole cc0_scratch2) (Memref.isWhole_whole _) (insAt m c t) Y10 Y11 Y12 Y13 Y14 N U D _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HN]; · iexact HN
  isplitl [HU]; · iexact HU
  isplitl [HD]; · iexact HD
  iintro ⟨H0, H1, H2, H3, H4, H5, H6, H7, H8, H9, H10, H11, H12, H13, H14, HN, HU, HD⟩
  isplitl [HN HU HD Hg]
  · isplitl [HN HU HD]
    · iexists _, _, _
      isplitr; swap
      · isplitl [HN]; · iexact HN
        isplitl [HU]; · iexact HU
        iexact HD
      ipureintro
      exact scr_odd m c t hr _ _ _
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; swap; iexact H10; ipureintro
    exact dh_r1_j0 m c t hr hj N Y10 (hS) h10
  isplitl [H11]
  · iexists _; isplitr; swap; iexact H11; ipureintro
    exact fun _ => dwu_odd m c t hr N U D hS
  isplitl [H12]
  · iexists _; isplitr; swap; iexact H12; ipureintro
    exact fun _ => dwd_odd m c t hr N U D hS
  isplitl [H13]
  · iexists _; isplitr; swap; iexact H13; ipureintro
    exact dcg_odd m c t hr Y13 h13
  iexists _; isplitr; swap; iexact H14; ipureintro
  exact dcv_odd m c t hr Y14 h14

set_option maxHeartbeats 2000000 in
theorem sound_r0_jp (c : Dev nD) (t : Fin cfg0.N) (hr : t.val % 2 = 0) (hj : t.val ≥ 2) :
    bodyPre m c t ⊢ wp frame (wpE (defs₀ (F := F)) Variants.none c none) Set.univ (bodyAt0 t) (fun _ => bodyPost m c t) := by
  have hr' : (grid0.coords t 1).val = 0 := (coord1 t).trans hr
  have hj' : 0 < (grid0.coords t 0).val := by rw [coord0 t]; omega
  unfold bodyPre bodyPost bodyAt0
  rw [show (dat m c).owesAt () t.succ = (dat m c).owesAt () t.castSucc from rfl,
    show (dat m c).Φ t.castSucc = Φs m c t.val from rfl, show (dat m c).Φ t.succ = Φs m c (t.val + 1) from rfl]
  simp only [before0_0_of m (dat m c) rfl (fun _ => rfl), before0_1_of m (dat m c) rfl (fun _ => rfl), before0_2_of m (dat m c) rfl (fun _ => rfl), before0_3_of m (dat m c) rfl (fun _ => rfl), before0_4_of m (dat m c) rfl (fun _ => rfl), before0_5_of m (dat m c) rfl (fun _ => rfl), before0_6_of m (dat m c) rfl (fun _ => rfl), before0_7_of m (dat m c) rfl (fun _ => rfl), before0_8_of m (dat m c) rfl (fun _ => rfl), before0_9_of m (dat m c) rfl (fun _ => rfl)]
  unfold Φs
  iintro ⟨⟨⟨%N, %U, %D, %hS, HN, HU, HD⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y10, %h10, H10⟩, ⟨%Y11, %h11, H11⟩, ⟨%Y12, %h12, H12⟩, ⟨%Y13, %h13, H13⟩, ⟨%Y14, %h14, H14⟩⟩
  iapply (run_r0_jp c (grid0.coords t) hr' hj' (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _) (Memref.whole cc0_scratch1) (Memref.isWhole_whole _) (Memref.whole cc0_scratch2) (Memref.isWhole_whole _) (insAt m c t) Y10 Y11 Y12 Y13 Y14 N U D _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HN]; · iexact HN
  isplitl [HU]; · iexact HU
  isplitl [HD]; · iexact HD
  iintro ⟨H0, H1, H2, H3, H4, H5, H6, H7, H8, H9, H10, H11, H12, H13, H14, HN, HU, HD⟩
  isplitl [HN HU HD Hg]
  · isplitl [HN HU HD]
    · iexists _, _, _
      isplitr; swap
      · isplitl [HN]; · iexact HN
        isplitl [HU]; · iexact HU
        iexact HD
      ipureintro
      exact scr_even m c t hr N _ _
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; swap; iexact H10; ipureintro
    exact dh_r0_jp m c t hr hj _ _ Y10 h10
  isplitl [H11]
  · iexists _; isplitr; swap; iexact H11; ipureintro
    exact fun h => absurd h (by omega)
  isplitl [H12]
  · iexists _; isplitr; swap; iexact H12; ipureintro
    exact fun h => absurd h (by omega)
  isplitl [H13]
  · iexists _; isplitr; swap; iexact H13; ipureintro
    exact dcg_even m c t hr
  iexists _; isplitr; swap; iexact H14; ipureintro
  exact dcv_even m c t hr

set_option maxHeartbeats 2000000 in
theorem sound_r1_jp (c : Dev nD) (t : Fin cfg0.N) (hr : t.val % 2 = 1) (hj : t.val ≥ 2) :
    bodyPre m c t ⊢ wp frame (wpE (defs₀ (F := F)) Variants.none c none) Set.univ (bodyAt0 t) (fun _ => bodyPost m c t) := by
  have hr' : (grid0.coords t 1).val = 1 := (coord1 t).trans hr
  have hj' : 0 < (grid0.coords t 0).val := by rw [coord0 t]; omega
  unfold bodyPre bodyPost bodyAt0
  rw [show (dat m c).owesAt () t.succ = (dat m c).owesAt () t.castSucc from rfl,
    show (dat m c).Φ t.castSucc = Φs m c t.val from rfl, show (dat m c).Φ t.succ = Φs m c (t.val + 1) from rfl]
  simp only [before0_0_of m (dat m c) rfl (fun _ => rfl), before0_1_of m (dat m c) rfl (fun _ => rfl), before0_2_of m (dat m c) rfl (fun _ => rfl), before0_3_of m (dat m c) rfl (fun _ => rfl), before0_4_of m (dat m c) rfl (fun _ => rfl), before0_5_of m (dat m c) rfl (fun _ => rfl), before0_6_of m (dat m c) rfl (fun _ => rfl), before0_7_of m (dat m c) rfl (fun _ => rfl), before0_8_of m (dat m c) rfl (fun _ => rfl), before0_9_of m (dat m c) rfl (fun _ => rfl)]
  unfold Φs
  iintro ⟨⟨⟨%N, %U, %D, %hS, HN, HU, HD⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y10, %h10, H10⟩, ⟨%Y11, %h11, H11⟩, ⟨%Y12, %h12, H12⟩, ⟨%Y13, %h13, H13⟩, ⟨%Y14, %h14, H14⟩⟩
  iapply (run_r1_jp c (grid0.coords t) hr' hj' (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _) (Memref.whole cc0_scratch1) (Memref.isWhole_whole _) (Memref.whole cc0_scratch2) (Memref.isWhole_whole _) (insAt m c t) Y10 Y11 Y12 Y13 Y14 N U D _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HN]; · iexact HN
  isplitl [HU]; · iexact HU
  isplitl [HD]; · iexact HD
  iintro ⟨H0, H1, H2, H3, H4, H5, H6, H7, H8, H9, H10, H11, H12, H13, H14, HN, HU, HD⟩
  isplitl [HN HU HD Hg]
  · isplitl [HN HU HD]
    · iexists _, _, _
      isplitr; swap
      · isplitl [HN]; · iexact HN
        isplitl [HU]; · iexact HU
        iexact HD
      ipureintro
      exact scr_odd m c t hr _ _ _
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; swap; iexact H10; ipureintro
    exact dh_r1_jp m c t hr hj N Y10 (hS) h10
  isplitl [H11]
  · iexists _; isplitr; swap; iexact H11; ipureintro
    exact fun _ => dwu_odd m c t hr N U D hS
  isplitl [H12]
  · iexists _; isplitr; swap; iexact H12; ipureintro
    exact fun _ => dwd_odd m c t hr N U D hS
  isplitl [H13]
  · iexists _; isplitr; swap; iexact H13; ipureintro
    exact dcg_odd m c t hr Y13 h13
  iexists _; isplitr; swap; iexact H14; ipureintro
  exact dcv_odd m c t hr Y14 h14

theorem sound_body (c : Dev nD) (t : Fin cfg0.N) :
    bodyPre m c t ⊢ wp frame (wpE (defs₀ (F := F)) Variants.none c none) Set.univ (bodyAt0 t) (fun _ => bodyPost m c t) := by
  rcases Nat.mod_two_eq_zero_or_one t.val with hr | hr <;> rcases Nat.lt_or_ge t.val 2 with hj | hj
  · exact sound_r0_j0 m c t hr hj
  · exact sound_r0_jp m c t hr hj
  · exact sound_r1_j0 m c t hr hj
  · exact sound_r1_jp m c t hr hj

theorem defs₀_row (t : Fin cfg0.N) : defs₀ (F := F) .tc cfg0.body (cfg0.bodyArgs t (cfg0.slots t)) = bodyAt0 t := by
  unfold defs₀; rw [Defs.onTc_tc]

theorem body_obligation (c : Dev nD) :
    Pipeline.BodyObligationRel (dat (F := F) m c) (defs₀ (F := F)) Variants.none () Set.univ outs (Rl m c) := fun t => by
  rw [bigSep_W0, bigSep_W0, defs₀_row]
  exact triple_restated (sound_body m c t) rfl .rfl fun _ => .rfl

/-- What the region hands the kernel beside its windows, spelt out. -/
theorem ΦA_eq (c : Dev nD) : (Pipeline.ΦA spec0 c : sProp 𝕄) = iprop(((∃ f, owns (c : Thread nD τ) (Memref.whole cc0_scratch0) fullShare f)
      ∗ (∃ f, owns (c : Thread nD τ) (Memref.whole cc0_scratch1) fullShare f) ∗ (∃ f, owns (c : Thread nD τ) (Memref.whole cc0_scratch2) fullShare f))
    ∗ ∃ r, prngReg c r) := by
  unfold Pipeline.ΦA; rw [scopedRest0_eq]; simp only [owns_whole]

theorem enter (c : Dev nD) : (Pipeline.ΦA spec0 c : sProp 𝕄) ⊢ Φs m c 0 := by
  rw [ΦA_eq]; unfold Φs
  iintro ⟨⟨⟨%N, HN⟩, ⟨%U, HU⟩, ⟨%D, HD⟩⟩, Hg⟩
  isplitl [HN HU HD]
  · iexists N, U, D
    isplitr
    · ipureintro; exact fun h => absurd h (by decide)
    isplitl [HN]; · iexact HN
    isplitl [HU]; · iexact HU
    iexact HD
  iexact Hg

theorem leave (c : Dev nD) (n : ℕ) : (Φs m c n : sProp 𝕄) ⊢ Pipeline.ΦA spec0 c := by
  rw [ΦA_eq]; unfold Φs
  iintro ⟨⟨%N, %U, %D, -, HN, HU, HD⟩, Hg⟩
  isplitl [HN HU HD]
  · isplitl [HN]; · iexists _; iexact HN
    isplitl [HU]; · iexists _; iexact HU
    iexists _; iexact HD
  iexact Hg

set_option backward.isDefEq.respectTransparency.types false in
/-- From any memory with zero counters every weakly fair execution terminates, and every final state has the arrays at contents the
    followed statements allow, every other array as launched, and every counter at zero. -/
theorem run_main :
    θ_run defs (onTc (τ := τ) (main (F := F))) (s₀ m ρ)
      (fun r => Pipeline.RDat.FramePost cfg0 (fun c => rdat m c) (V m) r ∧ r.2.sem = fun _ => 0) :=
  Pipeline.RDat.θ_run_frame_track_shared (Q' := _) cfgs (0 : Fin 1) launch₀0 defs₀ Variants.none (fun c => rdat m c) m ρ main
    (hbody := fun c => (body_obligation m c).toRRel) (hq := fun _ _ _ => rfl) (howed := fun _ _ => rfl) (V := V m)
    (hmain := hmain m Variants.none) (hA := fun _ _ => rfl) (hin := fun c => enter m c) (hout := fun c => leave m c _)

end Cert.KernelIdeal.Hand
-- ==== Proof.Frames.lean ====
/- The frame claims: each program terminates from any memory, leaves its arguments as they were, and ends with every counter at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the run says of the arguments: each ends as launched. -/
theorem args_of (m : (ℓ : Loc nD τ sig) → Buf (Elt F) ℓ) {r : PUnit × MemSt nD τ sig (Elt F)}
    (h : Pipeline.RDat.FramePost cfg0 (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have h8 := (h c).1 8
  rw [Pipeline.RDat.ArrAt_in (rd := rdat m c) 8 rfl] at h8
  exact ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    h8.trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame at any float values. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => args_of m h.1 c, h.2⟩) (run_main m ρ)

set_option maxHeartbeats 4000000 in
/-- The two programs call the same functions, before the grid is bound to them. -/
theorem same_defs₀ : @Cert.Kernel.defs₀ Bits _ _ = @Cert.KernelIdeal.defs₀ Bits _ _ := by
  unfold Cert.Kernel.defs₀ Cert.KernelIdeal.defs₀
  refine congrArg Defs.onTc (funext fun l => funext fun a => ?_)
  match l, a with
  | 0, (t, s) => rfl

set_option maxHeartbeats 4000000 in
/-- The two programs call the same functions. -/
theorem same_defs : @Cert.Kernel.defs Bits _ _ = @Cert.KernelIdeal.defs Bits _ _ := by
  unfold Cert.Kernel.defs Cert.KernelIdeal.defs
  exact congrArg (Pipeline.defs _) same_defs₀

set_option maxHeartbeats 4000000 in
theorem frame_kernel : Cert.quiescent_Kernel := fun m ρ _ => by
  rw [same_defs]
  exact frame_any (F := Bits) m ρ

theorem frame_ideal : Cert.quiescent_KernelIdeal := fun m ρ _ => frame_any (F := Ideal) m ρ

theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

end Cert.KernelIdeal.Hand
-- ==== Proof.Spec.lean ====
/- The backward pass of the feed-forward block, written with arrays indexed by natural numbers: what both programs compute.
   `H` are the block's input rows, `U` the up projection, `W` the three taps of the convolution, `WD` the down projection and
   `DY` the cotangent of the output. Gate columns are those below 2816, value columns the 2816 after them. -/
module

public import Idealize.ShloMosaic.Lib.Pointwise
public import Idealize.ShloMosaic.Lib.ValueIdx

@[expose] public section

noncomputable section

namespace Cert.Ffn

open Idealize.ShloMosaic

/-- The up projection of the rows. -/
def pre (H U : ℕ → ℕ → EReal) (R C : ℕ) : EReal := ∑ k ∈ Finset.range 1024, H R k * U k C
/-- The array `k` rows down, zeros above. -/
def up (P : ℕ → ℕ → EReal) (k R C : ℕ) : EReal := if k ≤ R then P (R - k) C else 0
/-- The array `k` rows up, zeros below the last row. -/
def dn (D : ℕ → ℕ → EReal) (k R C : ℕ) : EReal := if R + k < 2048 then D (R + k) C else 0
/-- The causal convolution with three taps. -/
def conv (W P : ℕ → ℕ → EReal) (R C : ℕ) : EReal := W 2 C * P R C + W 1 C * up P 1 R C + W 0 C * up P 2 R C
/-- The logistic function, through the hyperbolic tangent. -/
def sg (x : EReal) : EReal :=
  Ideal.ofBits FTy.f32 1056964608#32 * Ideal.tanh (Ideal.ofBits FTy.f32 1056964608#32 * x) + Ideal.ofBits FTy.f32 1056964608#32
/-- The cotangent of the activation. -/
def da (WD DY : ℕ → ℕ → EReal) (R f : ℕ) : EReal := ∑ k ∈ Finset.range 1024, DY R k * WD f k
/-- The cotangent of the convolved gate rows. -/
def gt (Y A : ℕ → ℕ → EReal) (R f : ℕ) : EReal :=
  A R f * Y R (2816 + f) * (sg (Y R f) * (1 + Y R f * (1 - sg (Y R f))))
/-- The cotangent of the convolved value rows. -/
def vl (Y A : ℕ → ℕ → EReal) (R f : ℕ) : EReal := A R f * (Y R f * sg (Y R f))
/-- The cotangent of the convolved rows. -/
def du (Y A : ℕ → ℕ → EReal) (R C : ℕ) : EReal := if C < 2816 then gt Y A R C else vl Y A R (C - 2816)
/-- The cotangent of the rows before the convolution. -/
def dpr (W D : ℕ → ℕ → EReal) (R C : ℕ) : EReal := W 2 C * D R C + W 1 C * dn D 1 R C + W 0 C * dn D 2 R C
/-- The activation. -/
def ac (Y : ℕ → ℕ → EReal) (R f : ℕ) : EReal := Y R f * sg (Y R f) * Y R (2816 + f)
/-- The gradient of the block's input. -/
def gh (E U : ℕ → ℕ → EReal) (R d : ℕ) : EReal := ∑ C ∈ Finset.range 5632, E R C * U d C
/-- The gradient of the up projection, transposed. -/
def gu (E H : ℕ → ℕ → EReal) (C d : ℕ) : EReal := ∑ R ∈ Finset.range 2048, E R C * H R d
/-- The gradient of the down projection. -/
def gd (Y DY : ℕ → ℕ → EReal) (f d : ℕ) : EReal := ∑ R ∈ Finset.range 2048, ac Y R f * DY R d
/-- The gradient of the taps. -/
def gc (D P : ℕ → ℕ → EReal) (k C : ℕ) : EReal := ∑ R ∈ Finset.range 2048, D R C * up P (2 - k) R C

/-- An array of two axes, read at any pair of numbers: zero outside. -/
def at2 {a b : ℕ} (X : (⟨2, ![a, b]⟩ : Shape).Idx → EReal) (r l : ℕ) : EReal :=
  if h : r < a ∧ l < b then X (ix2 ⟨r, h.1⟩ ⟨l, h.2⟩) else 0

theorem at2_ix2 {a b : ℕ} (X : (⟨2, ![a, b]⟩ : Shape).Idx → EReal) (r : Fin a) (l : Fin b) : X (ix2 r l) = at2 X r.val l.val := by
  unfold at2; rw [dif_pos ⟨r.isLt, l.isLt⟩]

/-- The numbers below 2048 are the second thousand and the first. -/
theorem sum_2048 (f : ℕ → EReal) :
    ∑ k ∈ Finset.range 2048, f k = ∑ x ∈ Finset.range 1024, f (1024 + x) + ∑ x ∈ Finset.range 1024, f x := by
  rw [show (2048 : ℕ) = 1024 + 1024 from rfl, Finset.sum_range_add]; exact add_comm _ _

/-- A sum over a multiple of `n`, in runs of `n`. -/
theorem sum_runs (n k : ℕ) (f : ℕ → EReal) :
    ∑ x ∈ Finset.range (n * k), f x = ∑ j ∈ Finset.range k, ∑ y ∈ Finset.range n, f (n * j + y) := by
  induction k with
  | zero => simp
  | succ k ih => rw [Nat.mul_succ, Finset.sum_range_add, ih, Finset.sum_range_succ]

/-- The 5632 columns are eleven runs of 256 gate columns and the 256 value columns beside them. -/
theorem sum_5632 (f : ℕ → EReal) :
    ∑ C ∈ Finset.range 5632, f C
      = ∑ j ∈ Finset.range 11, (∑ y ∈ Finset.range 256, f (256 * j + y) + ∑ y ∈ Finset.range 256, f (2816 + (256 * j + y))) := by
  rw [show (5632 : ℕ) = 256 * 11 + 256 * 11 from rfl, Finset.sum_range_add, sum_runs, sum_runs, ← Finset.sum_add_distrib]

/-- A column block of 512, the gate half first. -/
theorem sum_512 (f : ℕ → EReal) :
    ∑ y ∈ Finset.range 512, f y = ∑ y ∈ Finset.range 256, f y + ∑ y ∈ Finset.range 256, f (256 + y) := by
  rw [show (512 : ℕ) = 256 + 256 from rfl, Finset.sum_range_add]

end Cert.Ffn

end
-- ==== Proof.Block.lean ====
/- One grid point of the kernel over the reals: when the blocks it is handed are rows `1024 q ..` and columns `256 j ..` of the
   arrays, each of its intermediate arrays is that part of the backward pass. -/
module

public import proofs.«01_k».proof.Proof.State
public import proofs.«01_k».proof.Proof.Spec

@[expose] public section

set_option maxRecDepth 16384

noncomputable section

namespace Cert.KernelIdeal.Hand

open Cert.KernelIdeal Cert.KernelIdeal.Gen Cert.Ffn
open Idealize.ShloMosaic Idealize.ShloMosaic.VecWindow

/-- The blocks `b` are rows `1024 q ..` and columns `256 j ..` of the five arrays. -/
structure Reads (b : Ins Ideal) (q j : ℕ) (H U W WD DY : ℕ → ℕ → EReal) : Prop where
  dy : ∀ (x : Fin 1024) (k : Fin 1024), b.dy (ix2 x k) = DY (1024 * q + x.val) k.val
  h2 : ∀ (x : Fin 1024) (k : Fin 1024), b.h2 (ix2 x k) = H (1024 * q + x.val) k.val
  pg : ∀ (x : Fin 1024) (y : Fin 256), b.pg (ix2 x y) = pre H U (1024 * q + x.val) (256 * j + y.val)
  pv : ∀ (x : Fin 1024) (y : Fin 256), b.pv (ix2 x y) = pre H U (1024 * q + x.val) (2816 + (256 * j + y.val))
  hg : q = 1 → ∀ (x : Fin 16) (y : Fin 256), b.hg (ix2 x y) = pre H U (1008 + x.val) (256 * j + y.val)
  hv : q = 1 → ∀ (x : Fin 16) (y : Fin 256), b.hv (ix2 x y) = pre H U (1008 + x.val) (2816 + (256 * j + y.val))
  wu : ∀ (a : Fin 2) (y : Fin 256) (d : Fin 1024), b.wu (ix3 a y d) = U d.val (2816 * a.val + (256 * j + y.val))
  cg : ∀ (k : Fin 3) (y : Fin 256), b.cg (ix2 k y) = W k.val (256 * j + y.val)
  cv : ∀ (k : Fin 3) (y : Fin 256), b.cv (ix2 k y) = W k.val (2816 + (256 * j + y.val))
  wd : ∀ (y : Fin 256) (k : Fin 1024), b.wd (ix2 y k) = WD (256 * j + y.val) k.val

theorem select_eq_nat (n k : ℕ) (hn : n < 4294967296) (hk : k < 4294967296) (a b : EReal) :
    Scalar.select (IntOp.cmpi CmpIPredicate.eq (BitVec.ofNat 32 n) (BitVec.ofNat 32 k)) a b = if n = k then a else b := by
  by_cases h : n = k
  · subst h; simp [Scalar.select, IntOp.cmpi]
  · have e : (BitVec.ofNat 32 n == BitVec.ofNat 32 k) = false := by
      rw [beq_eq_false_iff_ne, ne_eq, ← BitVec.toNat_inj, BitVec.toNat_ofNat, BitVec.toNat_ofNat, Nat.mod_eq_of_lt hn, Nat.mod_eq_of_lt hk]
      exact h
    rw [if_neg h]; simp [Scalar.select, IntOp.cmpi, e]

/-- A window of an array of two axes, read at an index. -/
theorem window_ix2 {α : Type} {a b n k o p : ℕ} (X : (⟨2, ![a, b]⟩ : Shape).Idx → α)
    (inb : ∀ c, (![o, p] : Fin 2 → ℕ) c + (![n, k] : Fin 2 → ℕ) c ≤ (⟨2, ![a, b]⟩ : Shape).size c) (r : Fin n) (l : Fin k)
    (r' : Fin a) (l' : Fin b) (hr : r'.val = o + r.val) (hl : l'.val = p + l.val) :
    window X ![o, p] ![n, k] inb (ix2 r l) = X (ix2 r' l') := by
  refine congrArg X (funext fun c => Fin.ext ?_)
  fin_cases c
  · show o + 1 * r.val = r'.val; omega
  · show p + 1 * l.val = l'.val; omega

/-- The row above within a block: the halo's last row in the first place. -/
theorem shift1 (P : ℕ → ℕ → EReal) (q C : ℕ) (hq : q ≤ 1) (i : grid0.Coords) (hi : (i 1).val = 1 - q) (x : Fin 1024) (h7 : EReal) (h : q = 1 → h7 = P 1023 C) :
    (if h : x.val < 8 then
      Scalar.select (IntOp.cmpi CmpIPredicate.eq (BitVec.ofNat 32 x.val) 0#32)
        (Scalar.select (Scalar.cmpi CmpIPredicate.sgt (Scalar.subi (1#32) (BitVec.ofNat 32 (i 1).val)) 0#32) h7 0)
        (P (1024 * q + (x.val + 1024 - 1) % 1024) C)
    else P (1024 * q + (8 + (x.val - 8) + 1024 - 1) % 1024) C) = up P 1 (1024 * q + x.val) C := by
  rw [select_eq_nat x.val 0 (by omega) (by omega), hi]
  have hx := x.isLt
  unfold up
  obtain rfl | rfl : q = 0 ∨ q = 1 := by omega
  · rw [show Scalar.cmpi CmpIPredicate.sgt (Scalar.subi 1#32 (BitVec.ofNat 32 (1 - 0))) 0#32 = 0#1 by decide]
    split
    · split
      · rw [if_neg (show ¬ 1 ≤ 1024 * 0 + x.val by omega)]; rfl
      · rw [if_pos (show 1 ≤ 1024 * 0 + x.val by omega)]; congr 1; omega
    · rw [if_pos (show 1 ≤ 1024 * 0 + x.val by omega)]; congr 1; omega
  · rw [show Scalar.cmpi CmpIPredicate.sgt (Scalar.subi 1#32 (BitVec.ofNat 32 (1 - 1))) 0#32 = 1#1 by decide]
    rw [if_pos (show 1 ≤ 1024 * 1 + x.val by omega)]
    split
    · split
      · refine (h rfl).trans ?_; congr 1; omega
      · congr 1; omega
    · congr 1; omega

/-- The row two above within a block: the halo's last two rows in the first places. -/
theorem shift2 (P : ℕ → ℕ → EReal) (q C : ℕ) (hq : q ≤ 1) (i : grid0.Coords) (hi : (i 1).val = 1 - q) (x : Fin 1024) (h6 h7 : EReal)
    (h : q = 1 → h7 = P 1023 C) (h' : q = 1 → h6 = P 1022 C) :
    (if h : x.val < 8 then
      Scalar.select (IntOp.cmpi CmpIPredicate.eq (BitVec.ofNat 32 x.val) 1#32)
        (Scalar.select (Scalar.cmpi CmpIPredicate.sgt (Scalar.subi (1#32) (BitVec.ofNat 32 (i 1).val)) 0#32) h7 0)
        (Scalar.select (IntOp.cmpi CmpIPredicate.eq (BitVec.ofNat 32 x.val) 0#32)
          (Scalar.select (Scalar.cmpi CmpIPredicate.sgt (Scalar.subi (1#32) (BitVec.ofNat 32 (i 1).val)) 0#32) h6 0)
          (P (1024 * q + (x.val + 1024 - 2) % 1024) C))
    else P (1024 * q + (8 + (x.val - 8) + 1024 - 2) % 1024) C) = up P 2 (1024 * q + x.val) C := by
  rw [select_eq_nat x.val 0 (by omega) (by omega), select_eq_nat x.val 1 (by omega) (by omega), hi]
  have hx := x.isLt
  unfold up
  obtain rfl | rfl : q = 0 ∨ q = 1 := by omega
  · rw [show Scalar.cmpi CmpIPredicate.sgt (Scalar.subi 1#32 (BitVec.ofNat 32 (1 - 0))) 0#32 = 0#1 by decide]
    split
    · split
      · rw [if_neg (show ¬ 2 ≤ 1024 * 0 + x.val by omega)]; rfl
      · split
        · rw [if_neg (show ¬ 2 ≤ 1024 * 0 + x.val by omega)]; rfl
        · rw [if_pos (show 2 ≤ 1024 * 0 + x.val by omega)]; congr 1; omega
    · rw [if_pos (show 2 ≤ 1024 * 0 + x.val by omega)]; congr 1; omega
  · rw [show Scalar.cmpi CmpIPredicate.sgt (Scalar.subi 1#32 (BitVec.ofNat 32 (1 - 1))) 0#32 = 1#1 by decide]
    rw [if_pos (show 2 ≤ 1024 * 1 + x.val by omega)]
    split
    · split
      · refine (h rfl).trans ?_; congr 1; omega
      · split
        · refine (h' rfl).trans ?_; congr 1; omega
        · congr 1; omega
    · congr 1; omega

/-- The row below within a block: the slab's first row in the last place. -/
theorem shiftD1 (D : ℕ → ℕ → EReal) (q C : ℕ) (hq : q ≤ 1) (i : grid0.Coords) (hi : (i 1).val = 1 - q) (x : Fin 1024) (n0 : EReal) (h : q = 0 → n0 = D 1024 C) :
    (if h : x.val < 1016 then D (1024 * q + (x.val + 1024 - 1023) % 1024) C
    else
      Scalar.select (IntOp.cmpi CmpIPredicate.eq (BitVec.ofNat 32 (x.val - 1016)) 7#32)
        (Scalar.select (Scalar.cmpi CmpIPredicate.sgt (BitVec.ofNat 32 (i 1).val) 0#32) n0 0)
        (D (1024 * q + (1016 + (x.val - 1016) + 1024 - 1023) % 1024) C)) = dn D 1 (1024 * q + x.val) C := by
  rw [select_eq_nat (x.val - 1016) 7 (by omega) (by omega), hi]
  have hx := x.isLt
  unfold dn
  obtain rfl | rfl : q = 0 ∨ q = 1 := by omega
  · rw [show Scalar.cmpi CmpIPredicate.sgt (BitVec.ofNat 32 (1 - 0)) 0#32 = 1#1 by decide]
    rw [if_pos (show 1024 * 0 + x.val + 1 < 2048 by omega)]
    split
    · congr 1; omega
    · split
      · refine (h rfl).trans ?_; congr 1; omega
      · congr 1; omega
  · rw [show Scalar.cmpi CmpIPredicate.sgt (BitVec.ofNat 32 (1 - 1)) 0#32 = 0#1 by decide]
    split
    · rw [if_pos (show 1024 * 1 + x.val + 1 < 2048 by omega)]; congr 1; omega
    · split
      · rw [if_neg (show ¬ 1024 * 1 + x.val + 1 < 2048 by omega)]; rfl
      · rw [if_pos (show 1024 * 1 + x.val + 1 < 2048 by omega)]; congr 1; omega

/-- The row two below within a block: the slab's first two rows in the last places. -/
theorem shiftD2 (D : ℕ → ℕ → EReal) (q C : ℕ) (hq : q ≤ 1) (i : grid0.Coords) (hi : (i 1).val = 1 - q) (x : Fin 1024) (n0 n1 : EReal)
    (h : q = 0 → n0 = D 1024 C) (h' : q = 0 → n1 = D 1025 C) :
    (if h : x.val < 1016 then D (1024 * q + (x.val + 1024 - 1022) % 1024) C
    else
      Scalar.select (IntOp.cmpi CmpIPredicate.eq (BitVec.ofNat 32 (x.val - 1016)) 7#32)
        (Scalar.select (Scalar.cmpi CmpIPredicate.sgt (BitVec.ofNat 32 (i 1).val) 0#32) n1 0)
        (Scalar.select (IntOp.cmpi CmpIPredicate.eq (BitVec.ofNat 32 (x.val - 1016)) 6#32)
          (Scalar.select (Scalar.cmpi CmpIPredicate.sgt (BitVec.ofNat 32 (i 1).val) 0#32) n0 0)
          (D (1024 * q + (1016 + (x.val - 1016) + 1024 - 1022) % 1024) C))) = dn D 2 (1024 * q + x.val) C := by
  rw [select_eq_nat (x.val - 1016) 7 (by omega) (by omega), select_eq_nat (x.val - 1016) 6 (by omega) (by omega), hi]
  have hx := x.isLt
  unfold dn
  obtain rfl | rfl : q = 0 ∨ q = 1 := by omega
  · rw [show Scalar.cmpi CmpIPredicate.sgt (BitVec.ofNat 32 (1 - 0)) 0#32 = 1#1 by decide]
    rw [if_pos (show 1024 * 0 + x.val + 2 < 2048 by omega)]
    split
    · congr 1; omega
    · split
      · refine (h' rfl).trans ?_; congr 1; omega
      · split
        · refine (h rfl).trans ?_; congr 1; omega
        · congr 1; omega
  · rw [show Scalar.cmpi CmpIPredicate.sgt (BitVec.ofNat 32 (1 - 1)) 0#32 = 0#1 by decide]
    split
    · rw [if_pos (show 1024 * 1 + x.val + 2 < 2048 by omega)]; congr 1; omega
    · split
      · rw [if_neg (show ¬ 1024 * 1 + x.val + 2 < 2048 by omega)]; rfl
      · split
        · rw [if_neg (show ¬ 1024 * 1 + x.val + 2 < 2048 by omega)]; rfl
        · rw [if_pos (show 1024 * 1 + x.val + 2 < 2048 by omega)]; congr 1; omega

/-- A row put into eight, read at an index. -/
theorem put_row (o : ℕ) (X : Vec Ideal S8x256 .f32) (w : Vec Ideal S1x256 .f32) (r : Fin 8) (l : Fin 256) :
    put X ![o, 0] S1x256.size w (ix2 r l) = if r.val = o then w (ix2 0 l) else X (ix2 r l) := by
  unfold put
  by_cases h : r.val = o
  · have hh : ∀ a, (![o, 0] : Fin 2 → ℕ) a ≤ (ix2 r l a).val ∧ (ix2 r l a).val < (![o, 0] : Fin 2 → ℕ) a + S1x256.size a := by
      intro a; fin_cases a
      · show o ≤ r.val ∧ r.val < o + 1; omega
      · show 0 ≤ l.val ∧ l.val < 0 + 256; omega
    rw [if_pos h]; refine (dif_pos hh).trans (congrArg w (funext fun a => Fin.ext ?_))
    fin_cases a
    · show r.val - o = 0; omega
    · rfl
  · rw [if_neg h]; refine dif_neg fun hh => ?_
    have := hh 0
    have : o ≤ r.val ∧ r.val < o + 1 := this
    omega

theorem slabG_read (D : FVec Ideal S1024x256 .f32) (y : Fin 256) (k : Fin 8) : k0_pay37 D (ix3 0 k y) = D (ix2 ⟨k.val, by omega⟩ y) := by
  pointwise [k0_pay37]
theorem slabV_read (D : FVec Ideal S1024x256 .f32) (y : Fin 256) (k : Fin 8) : k0_pay38 D (ix3 0 k y) = D (ix2 ⟨k.val, by omega⟩ y) := by
  pointwise [k0_pay38]

theorem dwuT_eq (i : grid0.Coords) (b : Ins Ideal) (ng nv : Vec Ideal S1x8x256 .f32) :
    dwuT i b ng nv = matmul (F := Ideal) (φ₂ := .bf16) dot_S1024x512_S1024x1024_S512x1024_0_0_1_1_n_n none (dpre i b ng nv)
      (shapeCast (α := Ideal .bf16) S1024x1024 b.h2 shapeCasts_S1024x1024_S1024x1024) (constant S512x1024 .f32 0x00000000#32) := by
  unfold dwuT k0_pay41 dpre; rfl

/-- The column of the whole array at place `y` of a point's 512: the gate columns first. -/
def colAt (j y : ℕ) : ℕ := if y < 256 then 256 * j + y else 2816 + (256 * j + (y - 256))

variable {b : Ins Ideal} {q j : ℕ} {H U W WD DY : ℕ → ℕ → EReal}

theorem halo_g (hb : Reads b q j H U W WD DY) (h : q = 1) (k : Fin 8) (y : Fin 256) :
    hgr b (ix2 k y) = pre H U (1016 + k.val) (256 * j + y.val) := by
  refine (window_ix2 _ _ k y ⟨8 + k.val, by omega⟩ y rfl (Nat.zero_add _).symm).trans ((hb.hg h _ y).trans ?_)
  congr 1; simp only; omega
theorem halo_v (hb : Reads b q j H U W WD DY) (h : q = 1) (k : Fin 8) (y : Fin 256) :
    hvr b (ix2 k y) = pre H U (1016 + k.val) (2816 + (256 * j + y.val)) := by
  refine (window_ix2 _ _ k y ⟨8 + k.val, by omega⟩ y rfl (Nat.zero_add _).symm).trans ((hb.hv h _ y).trans ?_)
  congr 1; simp only; omega

section

variable (hb : Reads b q j H U W WD DY) (hq : q ≤ 1) (i : grid0.Coords) (hi : (i 1).val = 1 - q)
include hb hq hi

theorem s1g_read (x : Fin 1024) (y : Fin 256) : s1g i b (ix2 x y) = up (pre H U) 1 (1024 * q + x.val) (256 * j + y.val) := by
  pointwise [s1g, k0_pay6, k0_pay4, k0_pay2]
  simp only [hb.pg]
  exact shift1 _ q _ hq i hi x _ fun h => halo_g hb h 7 y
theorem s2g_read (x : Fin 1024) (y : Fin 256) : s2g i b (ix2 x y) = up (pre H U) 2 (1024 * q + x.val) (256 * j + y.val) := by
  pointwise [s2g, k0_pay5, k0_pay7, k0_pay8, k0_pay9, k0_pay10, k0_pay4, k0_pay2]
  simp only [hb.pg]
  exact shift2 _ q _ hq i hi x _ _ (fun h => halo_g hb h 7 y) (fun h => halo_g hb h 6 y)
theorem s1v_read (x : Fin 1024) (y : Fin 256) : s1v i b (ix2 x y) = up (pre H U) 1 (1024 * q + x.val) (2816 + (256 * j + y.val)) := by
  pointwise [s1v, k0_pay13, k0_pay12, k0_pay3, rb, ra]
  simp only [hb.pv]
  exact shift1 _ q _ hq i hi x _ fun h => halo_v hb h 7 y
theorem s2v_read (x : Fin 1024) (y : Fin 256) : s2v i b (ix2 x y) = up (pre H U) 2 (1024 * q + x.val) (2816 + (256 * j + y.val)) := by
  pointwise [s2v, k0_pay14, k0_pay12, k0_pay3, rb, ra]
  simp only [hb.pv]
  exact shift2 _ q _ hq i hi x _ _ (fun h => halo_v hb h 7 y) (fun h => halo_v hb h 6 y)

theorem ug_read (x : Fin 1024) (y : Fin 256) : ug i b (ix2 x y) = conv W (pre H U) (1024 * q + x.val) (256 * j + y.val) := by
  have e : ug i b (ix2 x y) = b.cg (ix2 2 y) * b.pg (ix2 x y) + b.cg (ix2 1 y) * s1g i b (ix2 x y) + b.cg (ix2 0 y) * s2g i b (ix2 x y) := by
    pointwise [ug, s1g, s2g, k0_pay5, k0_pay6, k0_pay7, k0_pay8, k0_pay9, k0_pay10, k0_pay11, k0_pay4, k0_pay2]
  rw [e, hb.cg, hb.cg, hb.cg, hb.pg, s1g_read hb hq i hi, s2g_read hb hq i hi]; rfl

theorem dug_read (x : Fin 1024) (y : Fin 256) (hj : j < 11) :
    dug i b (ix2 x y) = du (conv W (pre H U)) (da WD DY) (1024 * q + x.val) (256 * j + y.val) := by
  pointwise [dug, k0_pay21, k0_pay16, k0_pay15, k0_pay20, k0_pay19, k0_pay3]
  simp only [ug_read hb hq i hi, s1v_read hb hq i hi, s2v_read hb hq i hi, hb.cv, hb.pv, hb.dy, hb.wd]
  unfold du; rw [if_pos (by omega)]
  unfold gt da; rw [Finset.sum_range]; rfl
theorem duv_read (x : Fin 1024) (y : Fin 256) :
    duv i b (ix2 x y) = du (conv W (pre H U)) (da WD DY) (1024 * q + x.val) (2816 + (256 * j + y.val)) := by
  pointwise [duv, k0_pay22, k0_pay16, k0_pay17, k0_pay20, k0_pay19, k0_pay3]
  simp only [ug_read hb hq i hi, hb.dy, hb.wd]
  unfold du; rw [if_neg (by omega), Nat.add_sub_cancel_left]
  unfold vl da; rw [Finset.sum_range]; rfl
theorem act_read (x : Fin 1024) (y : Fin 256) :
    act i b (ix2 x y) = ac (conv W (pre H U)) (1024 * q + x.val) (256 * j + y.val) := by
  pointwise [act, k0_pay18, k0_pay15, k0_pay16, k0_pay17, k0_pay3]
  simp only [ug_read hb hq i hi, s1v_read hb hq i hi, s2v_read hb hq i hi, hb.cv, hb.pv]
  rfl

/-- The block's cotangent of the gate rows, its slab `ng` holding the first rows of the block below. -/
theorem dpg_read (ng : Vec Ideal S1x8x256 .f32) (hj : j < 11)
    (hn : q = 0 → ∀ (k : Fin 8) (y : Fin 256), ng (ix3 0 k y) = du (conv W (pre H U)) (da WD DY) (1024 + k.val) (256 * j + y.val))
    (x : Fin 1024) (y : Fin 256) :
    dpg i b ng (ix2 x y) = dpr W (du (conv W (pre H U)) (da WD DY)) (1024 * q + x.val) (256 * j + y.val) := by
  pointwise [dpg, k0_pay23, k0_pay24, k0_pay25, k0_pay26, k0_pay27, k0_pay28, ra]
  simp only [dug_read hb hq i hi _ _ hj, hb.cg]
  exact congrArg₂ (· + ·)
    (congrArg₂ (· + ·) rfl (congrArg (W 1 (256 * j + y.val) * ·) (shiftD1 _ q _ hq i hi x _ fun h => hn h 0 y)))
    (congrArg (W 0 (256 * j + y.val) * ·) (shiftD2 _ q _ hq i hi x _ _ (fun h => hn h 0 y) fun h => hn h 1 y))

section

variable (ng nv : Vec Ideal S1x8x256 .f32) (hj : j < 11)
    (hn : q = 0 → ∀ (k : Fin 8) (y : Fin 256), ng (ix3 0 k y) = du (conv W (pre H U)) (da WD DY) (1024 + k.val) (256 * j + y.val))
    (hv : q = 0 → ∀ (k : Fin 8) (y : Fin 256), nv (ix3 0 k y) = du (conv W (pre H U)) (da WD DY) (1024 + k.val) (2816 + (256 * j + y.val)))
include hj hn hv

theorem dpre_read (x : Fin 1024) (y : Fin 512) :
    dpre i b ng nv (ix2 x y) = dpr W (du (conv W (pre H U)) (da WD DY)) (1024 * q + x.val) (colAt j y.val) := by
  pointwise [dpre, k0_pay40, k0_pay30, k0_pay31, k0_pay32, k0_pay33, k0_pay34, k0_pay35, k0_pay36, k0_pay29, ra]
  simp only [duv_read hb hq i hi, hb.cv, dpg_read hb hq i hi ng hj hn]
  unfold colAt
  by_cases h : y.val < 256
  · rw [dif_pos h, if_pos h]
  · rw [dif_neg h, if_neg h]
    have hl : y.val - 256 < 256 := by omega
    generalize hC : 2816 + (256 * j + (y.val - 256)) = C
    have h0 : ∀ k : Fin 8, q = 0 → nv (ix3 0 k ⟨y.val - 256, hl⟩) = du (conv W (pre H U)) (da WD DY) (1024 + k.val) C := fun k h => hC ▸ hv h k _
    rw [shiftD1 (du (conv W (pre H U)) (da WD DY)) q C hq i hi x _ (h0 0), shiftD2 (du (conv W (pre H U)) (da WD DY)) q C hq i hi x _ _ (h0 0) (h0 1)]
    rfl

theorem dhT_read (x d : Fin 1024) :
    dhT i b ng nv (ix2 x d)
      = ∑ y ∈ Finset.range 256, dpr W (du (conv W (pre H U)) (da WD DY)) (1024 * q + x.val) (256 * j + y) * U d.val (256 * j + y)
        + ∑ y ∈ Finset.range 256, dpr W (du (conv W (pre H U)) (da WD DY)) (1024 * q + x.val) (2816 + (256 * j + y)) * U d.val (2816 + (256 * j + y)) := by
  pointwise [dhT, k0_pay42]
  simp only [dpre_read hb hq i hi ng nv hj hn hv, hb.wu]
  refine (Finset.sum_range (fun y => dpr W (du (conv W (pre H U)) (da WD DY)) (1024 * q + x.val) (colAt j y) * U d.val (2816 * (y / 256) + (256 * j + y % 256)))).symm.trans ?_
  rw [sum_512]
  refine congrArg₂ (· + ·) (Finset.sum_congr rfl fun y hy => ?_) (Finset.sum_congr rfl fun y hy => ?_)
  all_goals have hy := Finset.mem_range.mp hy
  · rw [colAt, if_pos hy, Nat.div_eq_of_lt hy, Nat.mod_eq_of_lt hy, Nat.mul_zero, Nat.zero_add]
  · rw [colAt, if_neg (by omega), Nat.add_sub_cancel_left, show (256 + y) / 256 = 1 by omega, show (256 + y) % 256 = y by omega, Nat.mul_one]

theorem dwuT_read (y : Fin 512) (d : Fin 1024) :
    dwuT i b ng nv (ix2 y d)
      = ∑ x ∈ Finset.range 1024, dpr W (du (conv W (pre H U)) (da WD DY)) (1024 * q + x) (colAt j y.val) * H (1024 * q + x) d.val := by
  have e : dwuT i b ng nv (ix2 y d) = ∑ x, dpre i b ng nv (ix2 x y) * b.h2 (ix2 x d) := by
    rw [dwuT_eq]; pointwise []
  rw [e, Finset.sum_range]
  exact Finset.sum_congr rfl fun x _ => by rw [dpre_read hb hq i hi ng nv hj hn hv, hb.h2]

end

theorem dwdT_read (y : Fin 256) (d : Fin 1024) :
    dwdT i b (ix2 y d) = ∑ x ∈ Finset.range 1024, ac (conv W (pre H U)) (1024 * q + x) (256 * j + y.val) * DY (1024 * q + x) d.val := by
  pointwise [dwdT, k0_pay39, k0_pay19]
  rw [Finset.sum_range]
  exact Finset.sum_congr rfl fun x _ => by rw [act_read hb hq i hi, hb.dy]

theorem accG_read (Z : Vec Ideal S8x256 .f32) (hj : j < 11) (k : Fin 8) (y : Fin 256) :
    accG i b Z (ix2 k y) = if k.val < 3 then
      Z (ix2 k y) + ∑ x ∈ Finset.range 1024, du (conv W (pre H U)) (da WD DY) (1024 * q + x) (256 * j + y.val) * up (pre H U) (2 - k.val) (1024 * q + x) (256 * j + y.val)
      else Z (ix2 k y) := by
  unfold accG
  rw [put_row, put_row, put_row]
  have e2 : ∀ Z', k0_pay60 (k0_pay44 (k0_pay2 b.pg) (dug i b)) Z' (ix2 0 y) = Z' (ix2 0 y) + ∑ x, dug i b (ix2 x y) * b.pg (ix2 x y) := fun Z' => by
    pointwise [k0_pay60, k0_pay44, k0_pay2]
  have e1 : ∀ Z', k0_pay58 (k0_pay43 (s1g i b) (dug i b)) Z' (ix2 0 y) = Z' (ix2 0 y) + ∑ x, dug i b (ix2 x y) * s1g i b (ix2 x y) := fun Z' => by
    pointwise [k0_pay58, k0_pay43]
  have e0 : ∀ Z', k0_pay56 (s2g i b) (dug i b) Z' (ix2 0 y) = Z' (ix2 0 y) + ∑ x, dug i b (ix2 x y) * s2g i b (ix2 x y) := fun Z' => by
    pointwise [k0_pay56]
  rw [e0, e1, e2]
  rw [Finset.sum_range]
  simp only [s1g_read hb hq i hi, s2g_read hb hq i hi, hb.pg, dug_read hb hq i hi _ _ hj]
  by_cases h2 : k.val = 2
  · rw [if_pos h2, if_pos (by omega), h2]
    exact congrArg₂ (· + ·) (window_ix2 _ _ 0 y k y h2 (Nat.zero_add _).symm) rfl
  by_cases h1 : k.val = 1
  · rw [if_neg (by omega), if_pos h1, if_pos (by omega), h1]
    exact congrArg₂ (· + ·) (window_ix2 _ _ 0 y k y h1 (Nat.zero_add _).symm) rfl
  by_cases h0 : k.val = 0
  · rw [if_neg (by omega), if_neg (by omega), if_pos h0, if_pos (by omega), h0]
    exact congrArg₂ (· + ·) (window_ix2 _ _ 0 y k y h0 (Nat.zero_add _).symm) rfl
  rw [if_neg h2, if_neg h1, if_neg h0, if_neg (by omega)]

theorem accV_read (Z : Vec Ideal S8x256 .f32) (k : Fin 8) (y : Fin 256) :
    accV i b Z (ix2 k y) = if k.val < 3 then
      Z (ix2 k y) + ∑ x ∈ Finset.range 1024, du (conv W (pre H U)) (da WD DY) (1024 * q + x) (2816 + (256 * j + y.val)) * up (pre H U) (2 - k.val) (1024 * q + x) (2816 + (256 * j + y.val))
      else Z (ix2 k y) := by
  unfold accV
  rw [put_row, put_row, put_row]
  have e2 : ∀ Z', k0_pay61 (k0_pay47 (k0_pay3 b.pv) (duv i b)) Z' (ix2 0 y) = Z' (ix2 0 y) + ∑ x, duv i b (ix2 x y) * b.pv (ix2 x y) := fun Z' => by
    pointwise [k0_pay61, k0_pay47, k0_pay3]
  have e1 : ∀ Z', k0_pay59 (k0_pay46 (s1v i b) (duv i b)) Z' (ix2 0 y) = Z' (ix2 0 y) + ∑ x, duv i b (ix2 x y) * s1v i b (ix2 x y) := fun Z' => by
    pointwise [k0_pay59, k0_pay46]
  have e0 : ∀ Z', k0_pay57 (k0_pay45 (s2v i b) (duv i b)) Z' (ix2 0 y) = Z' (ix2 0 y) + ∑ x, duv i b (ix2 x y) * s2v i b (ix2 x y) := fun Z' => by
    pointwise [k0_pay57, k0_pay45]
  rw [e0, e1, e2]
  rw [Finset.sum_range]
  simp only [s1v_read hb hq i hi, s2v_read hb hq i hi, hb.pv, duv_read hb hq i hi]
  by_cases h2 : k.val = 2
  · rw [if_pos h2, if_pos (by omega), h2]
    exact congrArg₂ (· + ·) (window_ix2 _ _ 0 y k y h2 (Nat.zero_add _).symm) rfl
  by_cases h1 : k.val = 1
  · rw [if_neg (by omega), if_pos h1, if_pos (by omega), h1]
    exact congrArg₂ (· + ·) (window_ix2 _ _ 0 y k y h1 (Nat.zero_add _).symm) rfl
  by_cases h0 : k.val = 0
  · rw [if_neg (by omega), if_neg (by omega), if_pos h0, if_pos (by omega), h0]
    exact congrArg₂ (· + ·) (window_ix2 _ _ 0 y k y h0 (Nat.zero_add _).symm) rfl
  rw [if_neg h2, if_neg h1, if_neg h0, if_neg (by omega)]

end

end Cert.KernelIdeal.Hand

end
-- ==== Proof.Arrays.lean ====
/- The kernel's blocks at each grid point, as parts of the five argument arrays. -/
module

public import proofs.«01_k».proof.Proof.Block
public import proofs.«01_k».proof.Proof.Body
public import Idealize.ShloMosaic.Lib.Pipeline.ValueKit.Point

@[expose] public section

set_option maxRecDepth 16384

noncomputable section

namespace Cert.KernelIdeal.Hand

open Cert.KernelIdeal Cert.KernelIdeal.Gen Cert.Ffn
open Idealize.ShloMosaic Idealize.ShloMosaic.TcCoe Idealize.ShloMosaic.VecWindow Idealize.SL Idealize.SL.Sem

variable (m : (ℓ : Loc nD τ sig) → Buf (Elt Ideal) ℓ) (c : Dev nD)

/-- The five arguments, read at pairs of numbers. -/
def aH : ℕ → ℕ → EReal := at2 (m ((c.tc : Thread nD τ).loc main_arg0) : S2048x1024.Idx → EReal)
def aU : ℕ → ℕ → EReal := at2 (m ((c.tc : Thread nD τ).loc main_arg1) : S1024x5632.Idx → EReal)
def aW : ℕ → ℕ → EReal := at2 (m ((c.tc : Thread nD τ).loc main_arg2) : S3x5632.Idx → EReal)
def aWD : ℕ → ℕ → EReal := at2 (m ((c.tc : Thread nD τ).loc main_arg3) : S2816x1024.Idx → EReal)
def aDY : ℕ → ℕ → EReal := at2 (m ((c.tc : Thread nD τ).loc main_arg4) : S2048x1024.Idx → EReal)

theorem v8_read (r : Fin 2048) (l : Fin 1024) : (V m c main_v8 : S2048x1024.Idx → EReal) (ix2 r l) = aDY m c r l := by
  entry_read
  pointwise []
  exact at2_ix2 _ r l
theorem v9_read (r : Fin 2048) (l : Fin 1024) : (V m c main_v9 : S2048x1024.Idx → EReal) (ix2 r l) = aH m c r l := by
  entry_read
  pointwise []
  exact at2_ix2 _ r l
theorem v10_read (r : Fin 2816) (l : Fin 1024) : (V m c main_v10 : S2816x1024.Idx → EReal) (ix2 r l) = aWD m c r l := by
  entry_read
  pointwise []
  exact at2_ix2 _ r l
theorem v2_read (a : Fin 2) (r : Fin 2816) (l : Fin 1024) : (V m c main_v2 : S2x2816x1024.Idx → EReal) (ix3 a r l) = aU m c l (2816 * a.val + r.val) := by
  entry_read
  pointwise []
  refine (at2_ix2 _ l _).trans ?_
  rw [Nat.mul_comm 2816]; rfl
theorem v5_read (r : Fin 2048) (l : Fin 2816) : (V m c main_v5 : S2048x2816.Idx → EReal) (ix2 r l) = pre (aH m c) (aU m c) r l := by
  entry_read
  pointwise []
  refine Eq.trans ?_ (Finset.sum_range (M := EReal) fun k => aH m c r.val k * aU m c k l.val).symm
  exact Finset.sum_congr (M := EReal) rfl fun x _ => congrArg₂ (· * ·) (at2_ix2 _ r x) (at2_ix2 _ x _)
theorem v7_read (r : Fin 2048) (l : Fin 2816) : (V m c main_v7 : S2048x2816.Idx → EReal) (ix2 r l) = pre (aH m c) (aU m c) r (2816 + l.val) := by
  entry_read
  pointwise []
  refine Eq.trans ?_ (Finset.sum_range (M := EReal) fun k => aH m c r.val k * aU m c k (2816 + l.val)).symm
  exact Finset.sum_congr (M := EReal) rfl fun x _ => congrArg₂ (· * ·) (at2_ix2 _ r x) (at2_ix2 _ x _)
theorem arg2_read (r : Fin 3) (l : Fin 5632) : (V m c main_arg2 : S3x5632.Idx → EReal) (ix2 r l) = aW m c r l :=
  (congrFun (V_main_arg2 m c) _).trans (at2_ix2 _ r l)

/-! Which block each window is on. -/

theorem idx0 : ∀ t : Fin cfg0.N, win0_0.index t = ![1 - t.val % 2, 0] := (by decide +kernel : ∀ t : Fin grid0.N, win0_0.index t = ![1 - t.val % 2, 0])
theorem idx1 : ∀ t : Fin cfg0.N, win0_1.index t = ![1 - t.val % 2, 0] := (by decide +kernel : ∀ t : Fin grid0.N, win0_1.index t = ![1 - t.val % 2, 0])
theorem idx2 : ∀ t : Fin cfg0.N, win0_2.index t = ![1 - t.val % 2, t.val / 2] := (by decide +kernel : ∀ t : Fin grid0.N, win0_2.index t = ![1 - t.val % 2, t.val / 2])
theorem idx3 : ∀ t : Fin cfg0.N, win0_3.index t = ![1 - t.val % 2, t.val / 2] := (by decide +kernel : ∀ t : Fin grid0.N, win0_3.index t = ![1 - t.val % 2, t.val / 2])
theorem idx4 : ∀ t : Fin cfg0.N, win0_4.index t = ![63 * (1 - t.val % 2), t.val / 2] := (by decide +kernel : ∀ t : Fin grid0.N, win0_4.index t = ![63 * (1 - t.val % 2), t.val / 2])
theorem idx5 : ∀ t : Fin cfg0.N, win0_5.index t = ![63 * (1 - t.val % 2), t.val / 2] := (by decide +kernel : ∀ t : Fin grid0.N, win0_5.index t = ![63 * (1 - t.val % 2), t.val / 2])
theorem idx6 : ∀ t : Fin cfg0.N, win0_6.index t = ![0, t.val / 2, 0] := (by decide +kernel : ∀ t : Fin grid0.N, win0_6.index t = ![0, t.val / 2, 0])
theorem idx7 : ∀ t : Fin cfg0.N, win0_7.index t = ![0, t.val / 2] := (by decide +kernel : ∀ t : Fin grid0.N, win0_7.index t = ![0, t.val / 2])
theorem idx8 : ∀ t : Fin cfg0.N, win0_8.index t = ![0, 11 + t.val / 2] := (by decide +kernel : ∀ t : Fin grid0.N, win0_8.index t = ![0, 11 + t.val / 2])
theorem idx9 : ∀ t : Fin cfg0.N, win0_9.index t = ![t.val / 2, 0] := (by decide +kernel : ∀ t : Fin grid0.N, win0_9.index t = ![t.val / 2, 0])
theorem idx10 : ∀ t : Fin cfg0.N, win0_10.index t = ![0, 0] := (by decide +kernel : ∀ t : Fin grid0.N, win0_10.index t = ![0, 0])
theorem idx11 : ∀ t : Fin cfg0.N, win0_11.index t = ![0, t.val / 2, 0] := (by decide +kernel : ∀ t : Fin grid0.N, win0_11.index t = ![0, t.val / 2, 0])
theorem idx12 : ∀ t : Fin cfg0.N, win0_12.index t = ![t.val / 2, 0] := (by decide +kernel : ∀ t : Fin grid0.N, win0_12.index t = ![t.val / 2, 0])
theorem idx13 : ∀ t : Fin cfg0.N, win0_13.index t = ![0, t.val / 2] := (by decide +kernel : ∀ t : Fin grid0.N, win0_13.index t = ![0, t.val / 2])
theorem idx14 : ∀ t : Fin cfg0.N, win0_14.index t = ![0, t.val / 2] := (by decide +kernel : ∀ t : Fin grid0.N, win0_14.index t = ![0, t.val / 2])

/-! The entries of each block. -/

theorem blk0 (t : Fin cfg0.N) (x k : Fin 1024) : (iblk m c 0 t : S1024x1024.Idx → EReal) (ix2 x k)
    = (V m c main_v8 : S2048x1024.Idx → EReal) (ix2 ⟨1024 * (1 - t.val % 2) + x.val, by omega⟩ k) := by
  blk_ext [iblk, idx0 t]
theorem blk1 (t : Fin cfg0.N) (x k : Fin 1024) : (iblk m c 1 t : S1024x1024.Idx → EReal) (ix2 x k)
    = (V m c main_v9 : S2048x1024.Idx → EReal) (ix2 ⟨1024 * (1 - t.val % 2) + x.val, by omega⟩ k) := by
  blk_ext [iblk, idx1 t]
theorem blk2 (t : Fin cfg0.N) (x : Fin 1024) (y : Fin 256) : (iblk m c 2 t : S1024x256.Idx → EReal) (ix2 x y)
    = (V m c main_v5 : S2048x2816.Idx → EReal) (ix2 ⟨1024 * (1 - t.val % 2) + x.val, by omega⟩ ⟨256 * (t.val / 2) + y.val, by have := lt_of_lt_of_eq t.isLt N_0; omega⟩) := by
  blk_ext [iblk, idx2 t]
theorem blk3 (t : Fin cfg0.N) (x : Fin 1024) (y : Fin 256) : (iblk m c 3 t : S1024x256.Idx → EReal) (ix2 x y)
    = (V m c main_v7 : S2048x2816.Idx → EReal) (ix2 ⟨1024 * (1 - t.val % 2) + x.val, by omega⟩ ⟨256 * (t.val / 2) + y.val, by have := lt_of_lt_of_eq t.isLt N_0; omega⟩) := by
  blk_ext [iblk, idx3 t]
theorem blk4 (t : Fin cfg0.N) (h : 1 - t.val % 2 = 1) (x : Fin 16) (y : Fin 256) : (iblk m c 4 t : S16x256.Idx → EReal) (ix2 x y)
    = (V m c main_v5 : S2048x2816.Idx → EReal) (ix2 ⟨1008 + x.val, by omega⟩ ⟨256 * (t.val / 2) + y.val, by have := lt_of_lt_of_eq t.isLt N_0; omega⟩) := by
  blk_ext [iblk, idx4 t]
theorem blk5 (t : Fin cfg0.N) (h : 1 - t.val % 2 = 1) (x : Fin 16) (y : Fin 256) : (iblk m c 5 t : S16x256.Idx → EReal) (ix2 x y)
    = (V m c main_v7 : S2048x2816.Idx → EReal) (ix2 ⟨1008 + x.val, by omega⟩ ⟨256 * (t.val / 2) + y.val, by have := lt_of_lt_of_eq t.isLt N_0; omega⟩) := by
  blk_ext [iblk, idx5 t]
theorem blk6 (t : Fin cfg0.N) (a : Fin 2) (y : Fin 256) (d : Fin 1024) : (iblk m c 6 t : S2x256x1024.Idx → EReal) (ix3 a y d)
    = (V m c main_v2 : S2x2816x1024.Idx → EReal) (ix3 a ⟨256 * (t.val / 2) + y.val, by have := lt_of_lt_of_eq t.isLt N_0; omega⟩ d) := by
  blk_ext [iblk, idx6 t]
theorem blk7 (t : Fin cfg0.N) (k : Fin 3) (y : Fin 256) : (iblk m c 7 t : S3x256.Idx → EReal) (ix2 k y)
    = (V m c main_arg2 : S3x5632.Idx → EReal) (ix2 k ⟨256 * (t.val / 2) + y.val, by have := lt_of_lt_of_eq t.isLt N_0; omega⟩) := by
  blk_ext [iblk, idx7 t]
theorem blk8 (t : Fin cfg0.N) (k : Fin 3) (y : Fin 256) : (iblk m c 8 t : S3x256.Idx → EReal) (ix2 k y)
    = (V m c main_arg2 : S3x5632.Idx → EReal) (ix2 k ⟨2816 + (256 * (t.val / 2) + y.val), by have := lt_of_lt_of_eq t.isLt N_0; omega⟩) := by
  blk_ext [iblk, idx8 t]
theorem blk9 (t : Fin cfg0.N) (y : Fin 256) (k : Fin 1024) : (iblk m c 9 t : S256x1024.Idx → EReal) (ix2 y k)
    = (V m c main_v10 : S2816x1024.Idx → EReal) (ix2 ⟨256 * (t.val / 2) + y.val, by have := lt_of_lt_of_eq t.isLt N_0; omega⟩ k) := by
  blk_ext [iblk, idx9 t]

set_option maxHeartbeats 2000000 in
/-- The blocks of point `t` are row block `1 - t % 2` and column block `t / 2` of the arguments. -/
theorem reads_at (t : Fin cfg0.N) : Reads (insAt m c t) (1 - t.val % 2) (t.val / 2) (aH m c) (aU m c) (aW m c) (aWD m c) (aDY m c) where
  dy x k := (blk0 m c t x k).trans (v8_read m c _ _)
  h2 x k := (blk1 m c t x k).trans (v9_read m c _ _)
  pg x y := (blk2 m c t x y).trans (v5_read m c _ _)
  pv x y := (blk3 m c t x y).trans (v7_read m c _ _)
  hg h x y := (blk4 m c t h x y).trans (v5_read m c _ _)
  hv h x y := (blk5 m c t h x y).trans (v7_read m c _ _)
  wu a y d := (blk6 m c t a y d).trans (v2_read m c _ _ _)
  cg k y := (blk7 m c t k y).trans (arg2_read m c _ _)
  cv k y := (blk8 m c t k y).trans (arg2_read m c _ _)
  wd y k := (blk9 m c t y k).trans (v10_read m c _ _)

end Cert.KernelIdeal.Hand

end
-- ==== Proof.Final.lean ====
/- What the kernel's five result arrays hold when it ends, as the backward pass of the feed-forward block. -/
module

public import proofs.«01_k».proof.Proof.Arrays
public import proofs.«01_k».proof.Proof.Frames

@[expose] public section

set_option maxRecDepth 16384

noncomputable section

namespace Cert.KernelIdeal.Hand

open Cert.KernelIdeal Cert.KernelIdeal.Gen Cert.Ffn
open Idealize.ShloMosaic Idealize.ShloMosaic.TcCoe Idealize.ShloMosaic.VecWindow Idealize.SL Idealize.SL.Sem

theorem pay1_read (a Z : Vec Ideal S1024x1024 .f32) (x d : Fin 1024) : k0_pay1 a Z (ix2 x d) = Z (ix2 x d) + a (ix2 x d) := by
  pointwise [k0_pay1]
theorem payU_read (a b : FVec Ideal S512x1024 .f32) (k : Fin 2) (y : Fin 256) (d : Fin 1024) :
    k0_pay55 (k0_pay53 a (k0_pay49 b)) (ix3 k y d) = b (ix2 ⟨256 * k.val + y.val, by omega⟩ d) + a (ix2 ⟨256 * k.val + y.val, by omega⟩ d) := by
  pointwise [k0_pay55, k0_pay53, k0_pay49]
  simp only [Nat.mul_comm k.val 256]
theorem payD_read (a b : FVec Ideal S256x1024 .f32) (y : Fin 256) (d : Fin 1024) :
    k0_pay54 (k0_pay52 a (k0_pay48 b)) (ix2 y d) = b (ix2 y d) + a (ix2 y d) := by
  pointwise [k0_pay54, k0_pay52, k0_pay48]
theorem pay50_read (k : Fin 8) (y : Fin 256) : (k0_pay50 (F := Ideal)) (ix2 k y) = 0 := by
  pointwise [k0_pay50]
theorem pay51_read (k : Fin 8) (y : Fin 256) : (k0_pay51 (F := Ideal)) (ix2 k y) = 0 := by
  pointwise [k0_pay51]

variable (m : (ℓ : Loc nD τ sig) → Buf (Elt Ideal) ℓ) (c : Dev nD)

/-- The rows before the convolution. -/
abbrev aP : ℕ → ℕ → EReal := pre (aH m c) (aU m c)
/-- The convolved rows. -/
abbrev aY : ℕ → ℕ → EReal := conv (aW m c) (aP m c)
/-- The cotangent of the convolved rows. -/
abbrev aD : ℕ → ℕ → EReal := du (aY m c) (da (aWD m c) (aDY m c))
/-- The cotangent of the rows before the convolution. -/
abbrev aE : ℕ → ℕ → EReal := dpr (aW m c) (aD m c)

theorem coord_q (t : Fin cfg0.N) : (grid0.coords t 1).val = 1 - (1 - t.val % 2) := by rw [coord1]; omega
theorem pt_mod (n : ℕ) (h : n < 22) : (pt n).val = n := Nat.mod_eq_of_lt h

section
variable (n : ℕ) (hn : n < 22)
include hn

/-- The blocks of the point numbered `n`. -/
theorem reads_pt : Reads (insAt m c (pt n)) (1 - n % 2) (n / 2) (aH m c) (aU m c) (aW m c) (aWD m c) (aDY m c) := by
  have := reads_at m c (pt n); rwa [pt_mod n hn] at this
theorem coord_pt : (grid0.coords (pt n) 1).val = 1 - (1 - n % 2) := by
  have := coord_q (pt n); rwa [pt_mod n hn] at this

theorem sG_read (h : n % 2 = 0) (k : Fin 8) (y : Fin 256) : sG m c n (ix3 0 k y) = aD m c (1024 + k.val) (256 * (n / 2) + y.val) := by
  unfold sG
  rw [slabG_read, dug_read (reads_pt m c n hn) (by omega) _ (coord_pt n hn) _ _ (by omega), h]
theorem sV_read (h : n % 2 = 0) (k : Fin 8) (y : Fin 256) : sV m c n (ix3 0 k y) = aD m c (1024 + k.val) (2816 + (256 * (n / 2) + y.val)) := by
  unfold sV
  rw [slabV_read, duv_read (reads_pt m c n hn) (by omega) _ (coord_pt n hn), h]

theorem slab_g (h : 1 - n % 2 = 0) (k : Fin 8) (y : Fin 256) : sG m c (n - 1) (ix3 0 k y) = aD m c (1024 + k.val) (256 * (n / 2) + y.val) := by
  rw [sG_read m c (n - 1) (by omega) (by omega), show (n - 1) / 2 = n / 2 by omega]
theorem slab_v (h : 1 - n % 2 = 0) (k : Fin 8) (y : Fin 256) : sV m c (n - 1) (ix3 0 k y) = aD m c (1024 + k.val) (2816 + (256 * (n / 2) + y.val)) := by
  rw [sV_read m c (n - 1) (by omega) (by omega), show (n - 1) / 2 = n / 2 by omega]

theorem dhP_read (x d : Fin 1024) : dhP m c n (ix2 x d)
    = ∑ y ∈ Finset.range 256, aE m c (1024 * (1 - n % 2) + x.val) (256 * (n / 2) + y) * aU m c d.val (256 * (n / 2) + y)
      + ∑ y ∈ Finset.range 256, aE m c (1024 * (1 - n % 2) + x.val) (2816 + (256 * (n / 2) + y)) * aU m c d.val (2816 + (256 * (n / 2) + y)) :=
  dhT_read (reads_pt m c n hn) (by omega) _ (coord_pt n hn) _ _ (by omega) (slab_g m c n hn) (slab_v m c n hn) x d
theorem dwuP_read (y : Fin 512) (d : Fin 1024) : dwuP m c n (ix2 y d)
    = ∑ x ∈ Finset.range 1024, aE m c (1024 * (1 - n % 2) + x) (colAt (n / 2) y.val) * aH m c (1024 * (1 - n % 2) + x) d.val :=
  dwuT_read (reads_pt m c n hn) (by omega) _ (coord_pt n hn) _ _ (by omega) (slab_g m c n hn) (slab_v m c n hn) y d
theorem dwdP_read (y : Fin 256) (d : Fin 1024) : dwdP m c n (ix2 y d)
    = ∑ x ∈ Finset.range 1024, ac (aY m c) (1024 * (1 - n % 2) + x) (256 * (n / 2) + y.val) * aDY m c (1024 * (1 - n % 2) + x) d.val :=
  dwdT_read (reads_pt m c n hn) (by omega) _ (coord_pt n hn) y d
theorem accGP_read (Z : Vec Ideal S8x256 .f32) (k : Fin 8) (y : Fin 256) : accGP m c n Z (ix2 k y) = if k.val < 3 then
      Z (ix2 k y) + ∑ x ∈ Finset.range 1024, aD m c (1024 * (1 - n % 2) + x) (256 * (n / 2) + y.val) * up (aP m c) (2 - k.val) (1024 * (1 - n % 2) + x) (256 * (n / 2) + y.val)
      else Z (ix2 k y) :=
  accG_read (reads_pt m c n hn) (by omega) _ (coord_pt n hn) Z (by omega) k y
theorem accVP_read (Z : Vec Ideal S8x256 .f32) (k : Fin 8) (y : Fin 256) : accVP m c n Z (ix2 k y) = if k.val < 3 then
      Z (ix2 k y) + ∑ x ∈ Finset.range 1024, aD m c (1024 * (1 - n % 2) + x) (2816 + (256 * (n / 2) + y.val)) * up (aP m c) (2 - k.val) (1024 * (1 - n % 2) + x) (2816 + (256 * (n / 2) + y.val))
      else Z (ix2 k y) :=
  accV_read (reads_pt m c n hn) (by omega) _ (coord_pt n hn) Z k y

end

/-- The half of `dh` after column block `j`, `r` being `0` for the lower half and `1` for the upper. -/
theorem dhC_read (r : ℕ) (hr : r ≤ 1) (x d : Fin 1024) : ∀ j < 11, dhC m c r j (ix2 x d) = ∑ j' ∈ Finset.range (j + 1),
    (∑ y ∈ Finset.range 256, aE m c (1024 * (1 - r) + x.val) (256 * j' + y) * aU m c d.val (256 * j' + y)
      + ∑ y ∈ Finset.range 256, aE m c (1024 * (1 - r) + x.val) (2816 + (256 * j' + y)) * aU m c d.val (2816 + (256 * j' + y)))
  | 0, _ => by
    rw [Finset.sum_range_one, dhC, dhP_read m c r (by omega), show r % 2 = r by omega, show r / 2 = 0 by omega]
  | j + 1, h => by
    rw [Finset.sum_range_succ, ← dhC_read r hr x d j (by omega), dhC, pay1_read, dhP_read m c _ (by omega),
      show (2 * (j + 1) + r) % 2 = r by omega, show (2 * (j + 1) + r) / 2 = j + 1 by omega]

theorem dhC_full (r : ℕ) (hr : r ≤ 1) (x d : Fin 1024) : dhC m c r 10 (ix2 x d) = gh (aE m c) (aU m c) (1024 * (1 - r) + x.val) d.val := by
  rw [dhC_read m c r hr x d 10 (by omega)]
  unfold gh; rw [sum_5632]

/-- The gradient of the input, whole. -/
def gA0 : S2048x1024.Idx → EReal := fun i => gh (aE m c) (aU m c) (i 0).val (i 1).val
/-- The gradient of the up projection, whole. -/
def gA1 : S2x2816x1024.Idx → EReal := fun i => gu (aE m c) (aH m c) (2816 * (i 0).val + (i 1).val) (i 2).val
/-- The gradient of the down projection, whole. -/
def gA2 : S2816x1024.Idx → EReal := fun i => gd (aY m c) (aDY m c) (i 0).val (i 1).val
/-- The gradient of the gate taps in the first three of eight rows. -/
def gA3 : S8x2816.Idx → EReal := fun i => if (i 0).val < 3 then gc (aD m c) (aP m c) (i 0).val (i 1).val else 0
/-- The gradient of the value taps in the first three of eight rows. -/
def gA4 : S8x2816.Idx → EReal := fun i => if (i 0).val < 3 then gc (aD m c) (aP m c) (i 0).val (2816 + (i 1).val) else 0

theorem dh_final (X : Vec Ideal S2048x1024 .f32) (h : dhOk m c 21 X) : X = gA0 m c := by
  obtain ⟨h0, -, h1⟩ := h
  have h1 := h1 (by decide)
  funext i
  obtain ⟨R, d, rfl⟩ : ∃ (R : Fin 2048) (d : Fin 1024), i = ix2 R d := ⟨_, _, eq_ix2 i⟩
  by_cases hR : R.val < 1024
  · have e : lo X (ix2 ⟨R.val, hR⟩ d) = X (ix2 R d) := window_ix2 _ _ _ _ R d (Nat.zero_add _).symm (Nat.zero_add _).symm
    rw [← e, h1, dhC_full m c 1 (by omega)]
    unfold gA0; congr 1; simp
  · have e : hi X (ix2 ⟨R.val - 1024, by omega⟩ d) = X (ix2 R d) := window_ix2 _ _ _ _ R d (by simp only; omega) (Nat.zero_add _).symm
    rw [← e, h0, dhC_full m c 0 (by omega)]
    unfold gA0; congr 1; simp only [ix2]; show 1024 * 1 + (R.val - 1024) = R.val; omega

theorem dwuF_read (j : ℕ) (hj : j < 11) (k : Fin 2) (y : Fin 256) (d : Fin 1024) :
    dwuF m c (2 * j + 1) (ix3 k y d) = gu (aE m c) (aH m c) (2816 * k.val + (256 * j + y.val)) d.val := by
  unfold dwuF
  rw [payU_read, dwuP_read m c _ (by omega), dwuP_read m c _ (by omega),
    show (2 * j + 1 - 1) % 2 = 0 by omega, show (2 * j + 1 - 1) / 2 = j by omega, show (2 * j + 1) % 2 = 1 by omega, show (2 * j + 1) / 2 = j by omega]
  have e : colAt j (256 * k.val + y.val) = 2816 * k.val + (256 * j + y.val) := by
    unfold colAt; split <;> omega
  simp only [e]
  unfold gu; rw [sum_2048]
  simp
theorem dwdF_read (j : ℕ) (hj : j < 11) (y : Fin 256) (d : Fin 1024) :
    dwdF m c (2 * j + 1) (ix2 y d) = gd (aY m c) (aDY m c) (256 * j + y.val) d.val := by
  unfold dwdF
  rw [payD_read, dwdP_read m c _ (by omega), dwdP_read m c _ (by omega),
    show (2 * j + 1 - 1) % 2 = 0 by omega, show (2 * j + 1 - 1) / 2 = j by omega, show (2 * j + 1) % 2 = 1 by omega, show (2 * j + 1) / 2 = j by omega]
  unfold gd; rw [sum_2048]
  simp
theorem dcgF_read (j : ℕ) (hj : j < 11) (k : Fin 8) (y : Fin 256) :
    dcgF m c (2 * j + 1) (ix2 k y) = if k.val < 3 then gc (aD m c) (aP m c) k.val (256 * j + y.val) else 0 := by
  unfold dcgF
  rw [if_neg (show ¬ (2 * j + 1) % 2 = 0 by omega), accGP_read m c _ (by omega), accGP_read m c _ (by omega), pay50_read,
    show (2 * j + 1 - 1) % 2 = 0 by omega, show (2 * j + 1 - 1) / 2 = j by omega, show (2 * j + 1) % 2 = 1 by omega, show (2 * j + 1) / 2 = j by omega]
  split
  · unfold gc; rw [sum_2048, zero_add]; simp
  · rfl
theorem dcvF_read (j : ℕ) (hj : j < 11) (k : Fin 8) (y : Fin 256) :
    dcvF m c (2 * j + 1) (ix2 k y) = if k.val < 3 then gc (aD m c) (aP m c) k.val (2816 + (256 * j + y.val)) else 0 := by
  unfold dcvF
  rw [if_neg (show ¬ (2 * j + 1) % 2 = 0 by omega), accVP_read m c _ (by omega), accVP_read m c _ (by omega), pay51_read,
    show (2 * j + 1 - 1) % 2 = 0 by omega, show (2 * j + 1 - 1) / 2 = j by omega, show (2 * j + 1) % 2 = 1 by omega, show (2 * j + 1) / 2 = j by omega]
  split
  · unfold gc; rw [sum_2048, zero_add]; simp
  · rfl

/-- The run leaves the five gradients in the results and the arguments as they were. -/
theorem run_values (ρ : Dev nD → PrngReg) :
    θ_run defs (onTc (τ := τ) (main (F := Ideal))) ⟨m, fun _ => 0, ρ⟩ (fun r => ∀ c : Dev nD,
      (r.2.mem ((c.tc : Thread nD τ).loc main_v11_0) = gA0 m c
      ∧ r.2.mem ((c.tc : Thread nD τ).loc main_v11_1) = gA1 m c
      ∧ r.2.mem ((c.tc : Thread nD τ).loc main_v11_2) = gA2 m c
      ∧ r.2.mem ((c.tc : Thread nD τ).loc main_v11_3) = gA3 m c
      ∧ r.2.mem ((c.tc : Thread nD τ).loc main_v11_4) = gA4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, args_of m h.1 c⟩) (run_main m ρ)
  obtain ⟨after, hL, hA⟩ := Pipeline.RDat.FramePost.exists_exact h.1 c
  have hR : ∀ w u, (cfg0.win w).flush u = true → outs w = true → Rl m c w u (after w u) := fun w u hf ho => (dat m c).toRRel_leaves ho (hL w u hf)
  refine ⟨(hA 10).trans ?_, (hA 11).trans ?_, (hA 12).trans ?_, (hA 13).trans ?_, (hA 14).trans ?_⟩
  · have e : after 10 ⟨21, by decide⟩ = gA0 m c := dh_final m c _ (hR 10 ⟨21, by decide⟩ ((flush0_10 _).mpr (by decide)) rfl)
    refine Pipeline.Dat.arrAt_eq_of_after_last ((rdat m c).withAfter after) 10 ⟨21, by decide⟩ (by decide +kernel) (gA0 m c) fun y => ?_
    exact congrFun e _
  · refine Pipeline.Dat.arrAt_eq_of_covers ((rdat m c).withAfter after) 11 (gA1 m c) (by decide +kernel) fun t hf y => ?_
    have ht := (flush0_11 t).mp hf
    have hR := hR 11 t hf rfl ht
    have hj : t.val / 2 < 11 := by have := lt_of_lt_of_eq t.isLt N_0; omega
    have e : after 11 t = dwuF m c (2 * (t.val / 2) + 1) := hR.trans (congrArg (dwuF m c) (by omega))
    obtain ⟨k, x, d, rfl⟩ : ∃ (k : Fin 2) (x : Fin 256) (d : Fin 1024), y = ix3 k x d := ⟨_, _, _, eq_ix3 y⟩
    refine (congrFun e _).trans ((dwuF_read m c _ hj k x d).trans ?_)
    refine Eq.trans (b := gA1 m c (ix3 k ⟨256 * (t.val / 2) + x.val, by omega⟩ d)) rfl ?_
    symm
    blk_ext [idx11 t]
  · refine Pipeline.Dat.arrAt_eq_of_covers ((rdat m c).withAfter after) 12 (gA2 m c) (by decide +kernel) fun t hf y => ?_
    have ht := (flush0_12 t).mp hf
    have hR := hR 12 t hf rfl ht
    have hj : t.val / 2 < 11 := by have := lt_of_lt_of_eq t.isLt N_0; omega
    have e : after 12 t = dwdF m c (2 * (t.val / 2) + 1) := hR.trans (congrArg (dwdF m c) (by omega))
    obtain ⟨x, d, rfl⟩ : ∃ (x : Fin 256) (d : Fin 1024), y = ix2 x d := ⟨_, _, eq_ix2 y⟩
    refine (congrFun e _).trans ((dwdF_read m c _ hj x d).trans ?_)
    refine Eq.trans (b := gA2 m c (ix2 ⟨256 * (t.val / 2) + x.val, by omega⟩ d)) rfl ?_
    symm
    blk_ext [idx12 t]
  · refine Pipeline.Dat.arrAt_eq_of_covers ((rdat m c).withAfter after) 13 (gA3 m c) (by decide +kernel) fun t hf y => ?_
    have ht := (flush0_13 t).mp hf
    have hR := hR 13 t hf rfl
    have hj : t.val / 2 < 11 := by have := lt_of_lt_of_eq t.isLt N_0; omega
    have e : after 13 t = dcgF m c (2 * (t.val / 2) + 1) := hR.trans (congrArg (dcgF m c) (by omega))
    obtain ⟨k, x, rfl⟩ : ∃ (k : Fin 8) (x : Fin 256), y = ix2 k x := ⟨_, _, eq_ix2 y⟩
    refine (congrFun e _).trans ((dcgF_read m c _ hj k x).trans ?_)
    refine Eq.trans (b := gA3 m c (ix2 k ⟨256 * (t.val / 2) + x.val, by omega⟩)) rfl ?_
    symm
    blk_ext [idx13 t]
  · refine Pipeline.Dat.arrAt_eq_of_covers ((rdat m c).withAfter after) 14 (gA4 m c) (by decide +kernel) fun t hf y => ?_
    have ht := (flush0_14 t).mp hf
    have hR := hR 14 t hf rfl
    have hj : t.val / 2 < 11 := by have := lt_of_lt_of_eq t.isLt N_0; omega
    have e : after 14 t = dcvF m c (2 * (t.val / 2) + 1) := hR.trans (congrArg (dcvF m c) (by omega))
    obtain ⟨k, x, rfl⟩ : ∃ (k : Fin 8) (x : Fin 256), y = ix2 k x := ⟨_, _, eq_ix2 y⟩
    refine (congrFun e _).trans ((dcvF_read m c _ hj k x).trans ?_)
    refine Eq.trans (b := gA4 m c (ix2 k ⟨256 * (t.val / 2) + x.val, by omega⟩)) rfl ?_
    symm
    blk_ext [idx14 t]

end Cert.KernelIdeal.Hand

end
-- ==== Proof.RefVal.lean ====
/- The reference's five results over the reals, as the backward pass of the feed-forward block. -/
module

public import proofs.«01_k».proof.Proof.Gen.ReferenceIdeal.Read
public import proofs.«01_k».proof.Proof.Spec

@[expose] public section

set_option maxRecDepth 16384

noncomputable section

namespace Cert.ReferenceIdeal.Hand

open Cert.ReferenceIdeal Cert.ReferenceIdeal.Read Cert.Ffn
open Idealize.ShloMosaic

variable (x0 : (⟨S2048x1024, .f32⟩ : BufTy).Contents (Elt Ideal)) (x1 : (⟨S1024x5632, .f32⟩ : BufTy).Contents (Elt Ideal))
  (x2 : (⟨S3x5632, .f32⟩ : BufTy).Contents (Elt Ideal)) (x3 : (⟨S2816x1024, .f32⟩ : BufTy).Contents (Elt Ideal))
  (x4 : (⟨S2048x1024, .f32⟩ : BufTy).Contents (Elt Ideal))

/-! ## Real entries -/

/-- A real number among the extended reals. -/
def IsReal (x : EReal) : Prop := ∃ r : ℝ, x = (r : EReal)

theorem real_zero : IsReal 0 := ⟨0, rfl⟩
theorem real_add {x y : EReal} (hx : IsReal x) (hy : IsReal y) : IsReal (x + y) := by
  obtain ⟨r, rfl⟩ := hx; obtain ⟨s, rfl⟩ := hy; exact ⟨r + s, (EReal.coe_add r s).symm⟩
theorem real_mul {x y : EReal} (hx : IsReal x) (hy : IsReal y) : IsReal (x * y) := by
  obtain ⟨r, rfl⟩ := hx; obtain ⟨s, rfl⟩ := hy; exact ⟨r * s, (EReal.coe_mul r s).symm⟩
theorem real_sum {n : ℕ} {f : ℕ → EReal} (h : ∀ k, IsReal (f k)) : IsReal (∑ k ∈ Finset.range n, f k) := by
  induction n with
  | zero => exact real_zero
  | succ n ih => rw [Finset.sum_range_succ]; exact real_add ih (h n)
theorem real_at2 {a b : ℕ} (X : (⟨2, ![a, b]⟩ : Shape).Idx → EReal) (h : ∀ i, IsReal (X i)) (r l : ℕ) : IsReal (at2 X r l) := by
  unfold at2; split
  · exact h _
  · exact real_zero
theorem real_pre {H U : ℕ → ℕ → EReal} (hH : ∀ r l, IsReal (H r l)) (hU : ∀ r l, IsReal (U r l)) (R C : ℕ) : IsReal (pre H U R C) :=
  real_sum fun k => real_mul (hH R k) (hU k C)
theorem real_up {P : ℕ → ℕ → EReal} (hP : ∀ r l, IsReal (P r l)) (k R C : ℕ) : IsReal (up P k R C) := by
  unfold up; split
  · exact hP _ _
  · exact real_zero
theorem real_conv {W P : ℕ → ℕ → EReal} (hW : ∀ r l, IsReal (W r l)) (hP : ∀ r l, IsReal (P r l)) (R C : ℕ) : IsReal (conv W P R C) :=
  real_add (real_add (real_mul (hW 2 C) (hP R C)) (real_mul (hW 1 C) (real_up hP 1 R C))) (real_mul (hW 0 C) (real_up hP 2 R C))
theorem real_da {WD DY : ℕ → ℕ → EReal} (hWD : ∀ r l, IsReal (WD r l)) (hDY : ∀ r l, IsReal (DY r l)) (R f : ℕ) : IsReal (da WD DY R f) :=
  real_sum fun k => real_mul (hDY R k) (hWD f k)

/-! ## The logistic function, by its quotient and by the hyperbolic tangent -/

/-- The tangent form of the logistic function over the reals. -/
def sr (u : ℝ) : ℝ := 1 / 2 * Real.tanh (1 / 2 * u) + 1 / 2

theorem sr_eq (u : ℝ) : sr u = 1 / (1 + Real.exp (-u)) := by
  unfold sr
  have e : Real.exp (-u) = Real.exp (-(1 / 2 * u)) * Real.exp (-(1 / 2 * u)) := by rw [← Real.exp_add]; congr 1; ring
  have p : Real.exp (1 / 2 * u) * Real.exp (-(1 / 2 * u)) = 1 := by rw [← Real.exp_add, add_neg_cancel, Real.exp_zero]
  rw [Real.tanh_eq_sinh_div_cosh, Real.sinh_eq, Real.cosh_eq, e]
  have ha : 0 < Real.exp (1 / 2 * u) := Real.exp_pos _
  have hb : 0 < Real.exp (-(1 / 2 * u)) := Real.exp_pos _
  generalize Real.exp (1 / 2 * u) = a at *
  generalize Real.exp (-(1 / 2 * u)) = b at *
  have h1 : a + b ≠ 0 := by positivity
  have h2 : 1 + b * b ≠ 0 := by positivity
  field_simp
  nlinarith [p]

theorem half_bits : Ideal.ofBits FTy.f32 1056964608#32 = ((1 / 2 : ℝ) : EReal) := by
  simp [Ideal.ofBits, Ideal.ieee, -EReal.coe_mul]; norm_num

theorem sg_real (u : ℝ) : sg (u : EReal) = (sr u : EReal) := by
  unfold sg sr; rw [half_bits, ← EReal.coe_mul, Ideal.tanh_coe, ← EReal.coe_mul, ← EReal.coe_add]

theorem quot_real (u : ℝ) : Ideal.div 1 (1 + Ideal.exp (-(u : EReal))) = (sr u : EReal) := by
  have h : (1 : EReal) + Ideal.exp (-(u : EReal)) = ((1 + Real.exp (-u) : ℝ) : EReal) := by
    rw [← EReal.coe_neg, Ideal.exp_coe, EReal.coe_add]; rfl
  have hp : (1 + Real.exp (-u) : ℝ) ≠ 0 := by positivity
  rw [h, Ideal.div_coe hp, one_mul, sr_eq]

theorem quot_sg {x : EReal} (hx : IsReal x) : Ideal.div 1 (1 + Ideal.exp (-x)) = sg x := by
  obtain ⟨u, rfl⟩ := hx; rw [quot_real, sg_real]

/-- The derivative of the gate, as a sum of two products and as one product. -/
theorem gate_eq {a v x : EReal} (ha : IsReal a) (hv : IsReal v) (hx : IsReal x) :
    a * v * sg x + x * (a * v) * (sg x * (1 - sg x)) = a * v * (sg x * (1 + x * (1 - sg x))) := by
  obtain ⟨a, rfl⟩ := ha; obtain ⟨v, rfl⟩ := hv; obtain ⟨u, rfl⟩ := hx
  rw [sg_real]
  have e1 : (1 : EReal) = ((1 : ℝ) : EReal) := rfl
  rw [e1]
  simp only [← EReal.coe_mul, ← EReal.coe_sub, ← EReal.coe_add]
  congr 1; ring

/-! ## The reference's arrays -/

theorem v2_read (r : Fin 2050) (l : Fin 5632) :
    val_main_v2 (F := Ideal) x0 x1 (ix2 r l) = up (pre (at2 x0) (at2 x1)) 2 r.val l.val := by
  pointwise [val_main_v2, val_main_v1, val_main_v0, val_main_cst]
  unfold up pre
  by_cases h : r.val < 2
  · rw [dif_pos h, if_neg (by omega)]
  · rw [dif_neg h, if_pos (show 2 ≤ r.val by omega)]
    refine Eq.trans ?_ (Finset.sum_range (M := EReal) (n := 1024) (fun k => at2 x0 (r.val - 2) k * at2 x1 k l.val)).symm
    refine Finset.sum_congr (M := EReal) rfl fun k _ => ?_
    exact congrArg₂ (fun a b : EReal => a * b) (at2_ix2 x0 _ _) (at2_ix2 x1 _ _)

theorem v23_read (r : Fin 2048) (l : Fin 5632) :
    val_main_v23 (F := Ideal) x0 x1 x2 (ix2 r l) = conv (at2 x2) (pre (at2 x0) (at2 x1)) r.val l.val := by
  pointwise [val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4]
  rw [v2_read, v2_read, v2_read, at2_ix2 x2, at2_ix2 x2, at2_ix2 x2]
  have e1 : up (pre (at2 x0) (at2 x1)) 2 (1 + r.val) l.val = up (pre (at2 x0) (at2 x1)) 1 r.val l.val := by
    unfold up; simp only [show 2 ≤ 1 + r.val ↔ 1 ≤ r.val by omega, show 1 + r.val - 2 = r.val - 1 by omega]
  have e2 : up (pre (at2 x0) (at2 x1)) 2 (2 + r.val) l.val = pre (at2 x0) (at2 x1) r.val l.val := by
    unfold up; rw [if_pos (by omega), Nat.add_sub_cancel_left]
  show at2 x2 0 l.val * up (pre (at2 x0) (at2 x1)) 2 r.val l.val + at2 x2 1 l.val * up (pre (at2 x0) (at2 x1)) 2 (1 + r.val) l.val
    + at2 x2 2 l.val * up (pre (at2 x0) (at2 x1)) 2 (2 + r.val) l.val = _
  rw [e1, e2]; unfold conv
  rw [add_comm, add_comm (at2 x2 0 l.val * _), ← add_assoc]

/-- Every entry of every argument is a real number. -/
structure Fin5 : Prop where
  h0 : ∀ i, IsReal (x0 i)
  h1 : ∀ i, IsReal (x1 i)
  h2 : ∀ i, IsReal (x2 i)
  h3 : ∀ i, IsReal (x3 i)
  h4 : ∀ i, IsReal (x4 i)

/-- The rows before the convolution. -/
abbrev rP : ℕ → ℕ → EReal := pre (at2 x0) (at2 x1)
/-- The convolved rows. -/
abbrev rY : ℕ → ℕ → EReal := conv (at2 x2) (rP x0 x1)
/-- The cotangent of the convolved rows. -/
abbrev rD : ℕ → ℕ → EReal := du (rY x0 x1 x2) (da (at2 x3) (at2 x4))
/-- The cotangent of the rows before the convolution. -/
abbrev rE : ℕ → ℕ → EReal := dpr (at2 x2) (rD x0 x1 x2 x3 x4)

variable {x0 x1 x2 x3 x4}

theorem real_Y (h0 : ∀ i, IsReal (x0 i)) (h1 : ∀ i, IsReal (x1 i)) (h2 : ∀ i, IsReal (x2 i)) (R C : ℕ) : IsReal (rY x0 x1 x2 R C) :=
  real_conv (real_at2 x2 h2) (real_pre (real_at2 x0 h0) (real_at2 x1 h1)) R C

theorem da_read (r : Fin 2048) (f : Fin 2816) : (∑ k : Fin 1024, x4 (ix2 r k) * x3 (ix2 f k) : EReal) = da (at2 x3) (at2 x4) r.val f.val := by
  unfold da
  rw [Finset.sum_range]
  refine Finset.sum_congr (M := EReal) rfl fun k _ => ?_
  rw [at2_ix2 x4, at2_ix2 x3]

theorem v34_read (h : Fin5 x0 x1 x2 x3 x4) (r : Fin 2048) (l : Fin 2816) :
    val_main_v34 (F := Ideal) x0 x1 x2 x3 x4 (ix2 r l) = gt (rY x0 x1 x2) (da (at2 x3) (at2 x4)) r.val l.val := by
  pointwise [val_main_v34, val_main_call1_v0, val_main_call1_v1, val_main_call1_v2, val_main_v33, val_main_v31, val_main_v26_2,
    val_main_v26_1, val_main_v25, val_main_v24, val_main_call0_v0, val_main_call0_v1, val_main_call0_v2, val_main_call0_v3,
    val_main_call0_v4, val_main_call0_v6, val_main_call0_v7, val_main_call0_cst, val_main_call0_cst_0, val_main_call0_cst_1]
  rw [v23_read, v23_read, da_read]
  have hy := real_Y h.h0 h.h1 h.h2
  have hd := real_da (real_at2 x3 h.h3) (real_at2 x4 h.h4) r.val l.val
  rw [quot_sg (hy r.val l.val)]
  exact gate_eq hd (hy r.val (2816 + l.val)) (hy r.val l.val)

theorem v35_read (h : Fin5 x0 x1 x2 x3 x4) (r : Fin 2048) (l : Fin 5632) :
    val_main_v35 (F := Ideal) x0 x1 x2 x3 x4 (ix2 r l) = rD x0 x1 x2 x3 x4 r.val l.val := by
  pointwise [val_main_v35, val_main_v32, val_main_v26_0, val_main_v26_2, val_main_v31, val_main_v24, val_main_call0_v0,
    val_main_call0_v1, val_main_call0_v2, val_main_call0_v3, val_main_call0_v4, val_main_call0_v6, val_main_call0_v7,
    val_main_call0_cst, val_main_call0_cst_0, val_main_call0_cst_1]
  unfold rD du
  by_cases hl : l.val < 2816
  · rw [dif_pos hl, if_pos hl, v34_read h]
  · rw [dif_neg hl, if_neg hl, v23_read, da_read]
    rw [quot_sg (real_Y h.h0 h.h1 h.h2 _ _)]
    exact mul_comm _ _

theorem v68_read (h : Fin5 x0 x1 x2 x3 x4) (r : Fin 2048) (l : Fin 5632) :
    val_main_v68 (F := Ideal) x0 x1 x2 x3 x4 (ix2 r l) = rE x0 x1 x2 x3 x4 r.val l.val := by
  pointwise [val_main_v68, val_main_v63, val_main_v62, val_main_v52, val_main_v51, val_main_v42, val_main_v57, val_main_v56,
    val_main_v46, val_main_v45, val_main_v37, val_main_v36, val_main_v20, val_main_v18, val_main_v17, val_main_v13, val_main_v11,
    val_main_v10, val_main_v7, val_main_v5, val_main_v4, val_main_cst_3, val_main_cst_7, val_main_cst_11]
  unfold rE dpr dn
  rw [v35_read h, at2_ix2 x2]
  congr 1
  · congr 1
    by_cases h1 : r.val + 1 < 2048
    · rw [dif_pos (show 1 ≤ 2 + r.val ∧ 2 + r.val - 1 < 2048 by omega), if_pos h1, v35_read h, at2_ix2 x2]
      simp only [show 2 + r.val - 1 = r.val + 1 by omega]; rfl
    · rw [dif_neg (show ¬ (1 ≤ 2 + r.val ∧ 2 + r.val - 1 < 2048) by omega), if_neg h1, mul_zero]
  · by_cases h2 : r.val + 2 < 2048
    · rw [dif_pos (show 2 + r.val < 2048 by omega), if_pos h2, v35_read h, at2_ix2 x2]
      simp only [show 2 + r.val = r.val + 2 by omega]; rfl
    · rw [dif_neg (show ¬ 2 + r.val < 2048 by omega), if_neg h2, mul_zero]

/-- The taps' gradient: the cotangent of the convolved rows against the padded rows from `o` on. -/
theorem tap_read (h : Fin5 x0 x1 x2 x3 x4) (o : ℕ) (ho : o < 3) (q : ∀ x : Fin 2048, o + x.val < 2050) (l : Fin 5632) :
    (∑ x : Fin 2048, val_main_v35 (F := Ideal) x0 x1 x2 x3 x4 (ix2 x l) * val_main_v2 (F := Ideal) x0 x1 (ix2 ⟨o + x.val, q x⟩ l) : EReal)
      = gc (rD x0 x1 x2 x3 x4) (rP x0 x1) o l.val := by
  unfold gc
  rw [Finset.sum_range]
  refine Finset.sum_congr (M := EReal) rfl fun x _ => ?_
  rw [v35_read h, v2_read]
  congr 1
  show up (rP x0 x1) 2 (o + x.val) l.val = _
  unfold up
  simp only [show 2 ≤ o + x.val ↔ 2 - o ≤ x.val by omega, show o + x.val - 2 = x.val - (2 - o) by omega]

theorem v66_read (h : Fin5 x0 x1 x2 x3 x4) (r : Fin 3) (l : Fin 5632) :
    val_main_v66 (F := Ideal) x0 x1 x2 x3 x4 (ix2 r l) = gc (rD x0 x1 x2 x3 x4) (rP x0 x1) r.val l.val := by
  pointwise [val_main_v66, val_main_v65, val_main_v55, val_main_v54, val_main_v44, val_main_v64, val_main_v61, val_main_v60,
    val_main_v59, val_main_v58, val_main_v53, val_main_v50, val_main_v49, val_main_v48, val_main_v47, val_main_v43, val_main_v41,
    val_main_v40, val_main_v39, val_main_v38, val_main_cst_1, val_main_cst_2, val_main_cst_4, val_main_cst_5, val_main_cst_6,
    val_main_cst_8, val_main_cst_9, val_main_cst_10, val_main_cst_12, val_main_v6, val_main_v12, val_main_v19]
  have t0 := tap_read h 0 (by omega) (fun x => by omega) l
  have t1 := tap_read h 1 (by omega) (fun x => by omega) l
  have t2 := tap_read h 2 (by omega) (fun x => by omega) l
  simp only [Nat.zero_add] at t0
  simp only [Fin.sum_univ_one, t0, t1, t2]
  match r with
  | ⟨0, _⟩ => simp
  | ⟨1, _⟩ => simp
  | ⟨2, _⟩ => simp

/-! ## The five results -/

theorem v71_read (h : Fin5 x0 x1 x2 x3 x4) (r : Fin 2048) (d : Fin 1024) :
    val_main_v71 (F := Ideal) x0 x1 x2 x3 x4 (ix2 r d) = gh (rE x0 x1 x2 x3 x4) (at2 x1) r.val d.val := by
  pointwise [val_main_v71]
  unfold gh
  rw [Finset.sum_range]
  refine Finset.sum_congr (M := EReal) rfl fun k _ => ?_
  rw [v68_read h, at2_ix2 x1]

theorem v76_read (h : Fin5 x0 x1 x2 x3 x4) (a : Fin 2) (y : Fin 2816) (d : Fin 1024) :
    val_main_v76 (F := Ideal) x0 x1 x2 x3 x4 (ix3 a y d) = gu (rE x0 x1 x2 x3 x4) (at2 x0) (2816 * a.val + y.val) d.val := by
  pointwise [val_main_v76, val_main_v75, val_main_v74, val_main_v70, val_main_v69]
  unfold gu
  rw [Finset.sum_range]
  refine Finset.sum_congr (M := EReal) rfl fun k _ => ?_
  rw [v68_read h, at2_ix2 x0]
  show rE x0 x1 x2 x3 x4 k.val (a.val * 2816 + y.val) * _ = _
  rw [Nat.mul_comm a.val]

theorem v77_read (h0 : ∀ i, IsReal (x0 i)) (h1 : ∀ i, IsReal (x1 i)) (h2 : ∀ i, IsReal (x2 i)) (f : Fin 2816) (d : Fin 1024) :
    val_main_v77 (F := Ideal) x0 x1 x2 x4 (ix2 f d) = gd (rY x0 x1 x2) (at2 x4) f.val d.val := by
  pointwise [val_main_v77, val_main_v30, val_main_v29, val_main_v27, val_main_v25, val_main_v24, val_main_v26_0, val_main_v26_2,
    val_main_call0_v0, val_main_call0_v1, val_main_call0_v2, val_main_call0_v3, val_main_call0_v4, val_main_call0_cst,
    val_main_call0_cst_0]
  unfold gd ac
  rw [Finset.sum_range]
  refine Finset.sum_congr (M := EReal) rfl fun k _ => ?_
  rw [v23_read, v23_read, at2_ix2 x4, quot_sg (real_Y h0 h1 h2 _ _)]
  exact mul_comm _ _

theorem v73_read (h : Fin5 x0 x1 x2 x3 x4) (r : Fin 8) (l : Fin 5632) :
    val_main_v73 (F := Ideal) x0 x1 x2 x3 x4 (ix2 r l) = if r.val < 3 then gc (rD x0 x1 x2 x3 x4) (rP x0 x1) r.val l.val else 0 := by
  pointwise [val_main_v73, val_main_v72, val_main_cst_13]
  by_cases hr : r.val < 3
  · rw [dif_pos hr, if_pos hr, v66_read h]
  · rw [dif_neg hr, if_neg hr]

theorem v78_read (h : Fin5 x0 x1 x2 x3 x4) (r : Fin 8) (l : Fin 2816) :
    val_main_v78 (F := Ideal) x0 x1 x2 x3 x4 (ix2 r l) = if r.val < 3 then gc (rD x0 x1 x2 x3 x4) (rP x0 x1) r.val l.val else 0 := by
  pointwise [val_main_v78]
  rw [v73_read h]

theorem v79_read (h : Fin5 x0 x1 x2 x3 x4) (r : Fin 8) (l : Fin 2816) :
    val_main_v79 (F := Ideal) x0 x1 x2 x3 x4 (ix2 r l)
      = if r.val < 3 then gc (rD x0 x1 x2 x3 x4) (rP x0 x1) r.val (2816 + l.val) else 0 := by
  pointwise [val_main_v79]
  rw [v73_read h]

end Cert.ReferenceIdeal.Hand

end
-- ==== Proof.Algebraic.lean ====
/- The kernel and the reference give the same five arrays when every argument is finite. -/
module

public import proofs.«01_k».proof.Defs
public import proofs.«01_k».proof.Proof.Final
public import proofs.«01_k».proof.Proof.RefVal
public import proofs.«01_k».proof.Proof.Gen.ReferenceIdeal.Run

@[expose] public section

set_option maxRecDepth 16384

noncomputable section

namespace Cert.Hand

open Idealize.ShloMosaic Idealize.SL.Sem Cert.ReferenceIdeal.Hand Cert.Ffn

/-- A scalar spreads over any array. -/
theorem facts_finite : Cert.Pre_finite.Facts where
  bcast_S_S2048x1024 := by decide
  bcast_S_S1024x5632 := by decide
  bcast_S_S3x5632 := by decide
  bcast_S_S2816x1024 := by decide

/-- A magnitude below infinity belongs to a real number. -/
theorem isReal_of_lt {x : EReal} (h : Ideal.cmp .olt (max x (-x)) (Ideal.ofBits FTy.f32 2139095040#32) = 1#1) : IsReal x := by
  have ht : Ideal.ofBits FTy.f32 2139095040#32 = (⊤ : EReal) := by simp [Ideal.ofBits, Ideal.ieee]
  rw [ht] at h
  induction x with
  | bot => simp [Ideal.cmp] at h
  | top => simp [Ideal.cmp] at h
  | coe r => exact ⟨r, rfl⟩

open Cert.KernelIdeal in
theorem finite_args [Cert.Pre_finite.Facts] (m : (ℓ : Loc nD τ sig) → Buf (Elt Ideal) ℓ) (h : Cert.Pre_KernelIdeal_finite m) (c : Dev nD) :
    Fin5 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  obtain ⟨h0, h1, h2, h3, h4⟩ := h c
  exact ⟨fun i => isReal_of_lt (congrFun h0 i), fun i => isReal_of_lt (congrFun h1 i), fun i => isReal_of_lt (congrFun h2 i),
    fun i => isReal_of_lt (congrFun h3 i), fun i => isReal_of_lt (congrFun h4 i)⟩

section
open Cert.KernelIdeal Cert.KernelIdeal.Hand Cert.ReferenceIdeal.Read
variable (m : (ℓ : Loc nD τ sig) → Buf (Elt Ideal) ℓ) (c : Dev nD)

/-- The reference's five arrays at the kernel's arguments are the kernel's. -/
theorem ref_values (h : Fin5 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) :
    val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = gA0 m c
    ∧ val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = gA1 m c
    ∧ val_main_v77 (F := Ideal) (m ((c.tc : Thread nD τ).loc main_arg0)) (m ((c.tc : Thread nD τ).loc main_arg1)) (m ((c.tc : Thread nD τ).loc main_arg2)) (m ((c.tc : Thread nD τ).loc main_arg4)) = gA2 m c
    ∧ val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = gA3 m c
    ∧ val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = gA4 m c := by
  refine ⟨funext fun i => ?_, funext fun i => ?_, funext fun i => ?_, funext fun i => ?_, funext fun i => ?_⟩
  · rw [eq_ix2 i]; exact v71_read h (i 0) (i 1)
  · rw [eq_ix3 i]; exact v76_read h (i 0) (i 1) (i 2)
  · rw [eq_ix2 i]; exact v77_read h.h0 h.h1 h.h2 (i 0) (i 1)
  · rw [eq_ix2 i]; exact v78_read h (i 0) (i 1)
  · rw [eq_ix2 i]; exact v79_read h (i 0) (i 1)

end

theorem algebraic [Cert.Pre_finite.Facts] : Cert.algebraic_KernelIdeal_ReferenceIdeal_pre_finite (hKernelIdeal := Cert.KernelIdeal.Gen.facts)
    (hReferenceIdeal := Cert.ReferenceIdeal.Gen.facts) := by
  intro m g m' g' hm ha
  refine ⟨Cert.KernelIdeal.Hand.gA0 m, Cert.KernelIdeal.Hand.gA1 m, Cert.KernelIdeal.Hand.gA2 m, Cert.KernelIdeal.Hand.gA3 m,
    Cert.KernelIdeal.Hand.gA4 m, ?_, ?_⟩
  · exact (θ_run Cert.KernelIdeal.defs _ _).mono (fun r h c => by
      obtain ⟨⟨h0, h1, h2, h3, h4⟩, h5⟩ := h c
      exact ⟨h0, h1, h2, h3, h4, h5⟩) (Cert.KernelIdeal.Hand.run_values m g)
  · exact (θ_run Cert.ReferenceIdeal.defs _ _).mono (fun r h c => by
      obtain ⟨h0, h1, h2, h3, h4, h5⟩ := h c
      obtain ⟨a0, a1, a2, a3, a4⟩ := ha c
      obtain ⟨e0, e1, e2, e3, e4⟩ := ref_values m c (finite_args m hm c)
      refine ⟨h0.trans ?_, h1.trans ?_, h2.trans ?_, h3.trans ?_, h4.trans ?_, h5⟩
      · rw [Cert.ReferenceIdeal.Read.val_main_v71_eq, a0, a1, a2, a3, a4]; exact e0
      · rw [Cert.ReferenceIdeal.Read.val_main_v76_eq, a0, a1, a2, a3, a4]; exact e1
      · rw [Cert.ReferenceIdeal.Read.val_main_v77_eq, a0, a1, a2, a4]; exact e2
      · rw [Cert.ReferenceIdeal.Read.val_main_v78_eq, a0, a1, a2, a3, a4]; exact e3
      · rw [Cert.ReferenceIdeal.Read.val_main_v79_eq, a0, a1, a2, a3, a4]; exact e4) (Cert.ReferenceIdeal.Value.run m' g')

end Cert.Hand

end
-- ==== Proof.FwdVals.lean ====
/- What one grid point of the forward kernel computes, as functions of the five blocks it is handed and of the rows its
   predecessor in the column left. -/
module

public import proofs.«01_k».proof.Proof.Gen.KernelFwdIdeal.Skeleton
public import Idealize.ShloMosaic.Lib.VecWindow

@[expose] public section

noncomputable section

namespace Cert.KernelFwdIdeal.Hand

open Cert.KernelFwdIdeal Cert.KernelFwdIdeal.Gen
open Idealize.ShloMosaic Idealize.ShloMosaic.VecWindow

variable {F : FTy → Type} [FloatOps F]

/-- The five input blocks of one grid point. -/
structure Ins (F : FTy → Type) [FloatOps F] where
  /-- a block of 1024 rows of `h2` -/
  h2 : Vec F S1024x1024 .bf16
  /-- the two 256-row blocks of the transposed up projection -/
  wu : Vec F S2x256x1024 .bf16
  /-- the taps of the gate half -/
  cg : Vec F S3x256 .f32
  /-- the taps of the value half -/
  cv : Vec F S3x256 .f32
  /-- the down projection -/
  wd : Vec F S2816x1024 .bf16

/-- The gate block of the up projection. -/
def wuG (b : Ins F) : Vec F S1x256x1024 .bf16 := window b.wu ![0, 0, 0] S1x256x1024.size inb_S2x256x1024_S1x256x1024_0_0_0
/-- The value block of the up projection. -/
def wuV (b : Ins F) : Vec F S1x256x1024 .bf16 := window b.wu ![1, 0, 0] S1x256x1024.size inb_S2x256x1024_S1x256x1024_1_0_0

/-- The gate rows before the convolution, as written. -/
def pgB (b : Ins F) : FVec F S1024x256 .bf16 := k0_pay4 b.h2 (wuG b)
/-- The value rows before the convolution, as written. -/
def pvB (b : Ins F) : FVec F S1024x256 .bf16 := k0_pay5 b.h2 (wuV b)
/-- The gate rows before the convolution. -/
def pgF (b : Ins F) : FVec F S1024x256 .f32 := k0_pay6 b.h2 (wuG b)
/-- The value rows before the convolution. -/
def pvF (b : Ins F) : FVec F S1024x256 .f32 := k0_pay7 b.h2 (wuV b)
/-- The last eight gate rows, kept for the next row block. -/
def hG (b : Ins F) : FVec F S1x1x8x256 .f32 := k0_pay19 (pgF b)
/-- The last eight value rows, kept for the next row block. -/
def hV (b : Ins F) : FVec F S1x1x8x256 .f32 := k0_pay20 (pvF b)

/-- The gate rows kept for this column block. -/
def slabG (i : grid0.Coords) (N : Vec F S11x2x8x256 .f32) : Vec F S1x1x8x256 .f32 := window N (k0_off1 i) S1x1x8x256.size (k0_off1_inb i)
/-- The value rows kept for this column block. -/
def slabV (i : grid0.Coords) (N : Vec F S11x2x8x256 .f32) : Vec F S1x1x8x256 .f32 := window N (k0_off2 i) S1x1x8x256.size (k0_off2_inb i)
/-- The kept rows after the point. -/
def haloOf (i : grid0.Coords) (b : Ins F) (N : Vec F S11x2x8x256 .f32) : Vec F S11x2x8x256 .f32 :=
  put (put N (k0_off1 i) S1x1x8x256.size (hG b)) (k0_off2 i) S1x1x8x256.size (hV b)

/-- The grid's first coordinate, the row block, as a word. -/
def ra (i : grid0.Coords) : BitVec 32 := BitVec.ofNat 32 (i 0).val

/-- The convolved gate rows, from the kept rows `ng`. -/
def ug (i : grid0.Coords) (b : Ins F) (ng : Vec F S1x1x8x256 .f32) : FVec F S1024x256 .f32 :=
  k0_pay14 (pgF b) b.cg (k0_pay9 i ng) (k0_pay10 i ng) (k0_pay12 i b.h2 (wuG b) ng) (k0_pay13 b.h2 (wuG b))
/-- The activation, from the kept rows `ng` and `nv`. -/
def act (i : grid0.Coords) (b : Ins F) (ng nv : Vec F S1x1x8x256 .f32) : FVec F S1024x256 .bf16 :=
  k0_pay22 (k0_pay21 (pvF b) (ug i b ng) b.cv (k0_pay16 (ra i) nv) (k0_pay17 (ra i) nv) (k0_pay18 (ra i) (pvF b) nv) 2#32)
/-- The activations `A` after the point has put its 256 columns. -/
def actOf (i : grid0.Coords) (b : Ins F) (N : Vec F S11x2x8x256 .f32) (A : Vec F S1024x2816 .bf16) : Vec F S1024x2816 .bf16 :=
  put A ![0, 256 * (i 1).val] S1024x256.size (act i b (slabG i N) (slabV i N))

end Cert.KernelFwdIdeal.Hand

end
-- ==== Proof.FwdBlock.lean ====
/- What the forward kernel computes at one grid point over the reals, entry by entry. -/
module

public import proofs.«01_k».proof.Proof.FwdVals
public import proofs.«01_k».proof.Proof.Block

@[expose] public section

set_option maxRecDepth 16384

noncomputable section

namespace Cert.KernelFwdIdeal.Hand

open Cert.KernelFwdIdeal Cert.KernelFwdIdeal.Gen Cert.Ffn
open Idealize.ShloMosaic Idealize.ShloMosaic.VecWindow
open Cert.KernelIdeal.Hand (select_eq_nat)

/-- The blocks `b` are rows `1024 q ..` and columns `256 j ..` of the four arrays. -/
structure Reads (b : Ins Ideal) (q j : ℕ) (H U W WD : ℕ → ℕ → EReal) : Prop where
  h2 : ∀ (x : Fin 1024) (k : Fin 1024), b.h2 (ix2 x k) = H (1024 * q + x.val) k.val
  wu : ∀ (a : Fin 2) (y : Fin 256) (d : Fin 1024), b.wu (ix3 a y d) = U d.val (2816 * a.val + (256 * j + y.val))
  cg : ∀ (k : Fin 3) (y : Fin 256), b.cg (ix2 k y) = W k.val (256 * j + y.val)
  cv : ∀ (k : Fin 3) (y : Fin 256), b.cv (ix2 k y) = W k.val (2816 + (256 * j + y.val))
  wd : ∀ (f : Fin 2816) (k : Fin 1024), b.wd (ix2 f k) = WD f.val k.val

/-- The row above within a block: the kept rows' last one in the first place. -/
theorem shift1 (P : ℕ → ℕ → EReal) (q C : ℕ) (hq : q ≤ 1) (i : grid0.Coords) (hi : (i 0).val = q) (x : Fin 1024) (h7 : EReal) (h : q = 1 → h7 = P 1023 C) :
    (if h : x.val < 8 then
      Scalar.select (IntOp.cmpi CmpIPredicate.eq (BitVec.ofNat 32 x.val) 0#32)
        (Scalar.select (Scalar.cmpi CmpIPredicate.sgt (BitVec.ofNat 32 (i 0).val) 0#32) h7 0)
        (P (1024 * q + (x.val + 1024 - 1) % 1024) C)
    else P (1024 * q + (8 + (x.val - 8) + 1024 - 1) % 1024) C) = up P 1 (1024 * q + x.val) C := by
  rw [select_eq_nat x.val 0 (by omega) (by omega), hi]
  have hx := x.isLt
  unfold up
  obtain rfl | rfl : q = 0 ∨ q = 1 := by omega
  · rw [show Scalar.cmpi CmpIPredicate.sgt (BitVec.ofNat 32 0) 0#32 = 0#1 by decide]
    split
    · split
      · rw [if_neg (show ¬ 1 ≤ 1024 * 0 + x.val by omega)]; rfl
      · rw [if_pos (show 1 ≤ 1024 * 0 + x.val by omega)]; congr 1; omega
    · rw [if_pos (show 1 ≤ 1024 * 0 + x.val by omega)]; congr 1; omega
  · rw [show Scalar.cmpi CmpIPredicate.sgt (BitVec.ofNat 32 1) 0#32 = 1#1 by decide]
    rw [if_pos (show 1 ≤ 1024 * 1 + x.val by omega)]
    split
    · split
      · refine (h rfl).trans ?_; congr 1; omega
      · congr 1; omega
    · congr 1; omega

/-- The row two above within a block: the kept rows' last two in the first places. -/
theorem shift2 (P : ℕ → ℕ → EReal) (q C : ℕ) (hq : q ≤ 1) (i : grid0.Coords) (hi : (i 0).val = q) (x : Fin 1024) (h6 h7 : EReal)
    (h : q = 1 → h7 = P 1023 C) (h' : q = 1 → h6 = P 1022 C) :
    (if h : x.val < 8 then
      Scalar.select (IntOp.cmpi CmpIPredicate.eq (BitVec.ofNat 32 x.val) 1#32)
        (Scalar.select (Scalar.cmpi CmpIPredicate.sgt (BitVec.ofNat 32 (i 0).val) 0#32) h7 0)
        (Scalar.select (IntOp.cmpi CmpIPredicate.eq (BitVec.ofNat 32 x.val) 0#32)
          (Scalar.select (Scalar.cmpi CmpIPredicate.sgt (BitVec.ofNat 32 (i 0).val) 0#32) h6 0)
          (P (1024 * q + (x.val + 1024 - 2) % 1024) C))
    else P (1024 * q + (8 + (x.val - 8) + 1024 - 2) % 1024) C) = up P 2 (1024 * q + x.val) C := by
  rw [select_eq_nat x.val 0 (by omega) (by omega), select_eq_nat x.val 1 (by omega) (by omega), hi]
  have hx := x.isLt
  unfold up
  obtain rfl | rfl : q = 0 ∨ q = 1 := by omega
  · rw [show Scalar.cmpi CmpIPredicate.sgt (BitVec.ofNat 32 0) 0#32 = 0#1 by decide]
    split
    · split
      · rw [if_neg (show ¬ 2 ≤ 1024 * 0 + x.val by omega)]; rfl
      · split
        · rw [if_neg (show ¬ 2 ≤ 1024 * 0 + x.val by omega)]; rfl
        · rw [if_pos (show 2 ≤ 1024 * 0 + x.val by omega)]; congr 1; omega
    · rw [if_pos (show 2 ≤ 1024 * 0 + x.val by omega)]; congr 1; omega
  · rw [show Scalar.cmpi CmpIPredicate.sgt (BitVec.ofNat 32 1) 0#32 = 1#1 by decide]
    rw [if_pos (show 2 ≤ 1024 * 1 + x.val by omega)]
    split
    · split
      · refine (h rfl).trans ?_; congr 1; omega
      · split
        · refine (h' rfl).trans ?_; congr 1; omega
        · congr 1; omega
    · congr 1; omega

/-- One of the two blocks of the up projection, read at an index. -/
theorem window_wu {α : Type} (X : S2x256x1024.Idx → α) (a : Fin 2) (inb) (y : Fin 256) (d : Fin 1024) :
    window X ![a.val, 0, 0] S1x256x1024.size inb (ix3 0 y d) = X (ix3 a y d) := by
  refine congrArg X (funext fun c => Fin.ext ?_)
  fin_cases c
  · show a.val + 1 * 0 = a.val; omega
  · show 0 + 1 * y.val = y.val; omega
  · show 0 + 1 * d.val = d.val; omega

theorem hG_read (b : Ins Ideal) (k : Fin 8) (y : Fin 256) : hG b (ix4 0 0 k y) = pgF b (ix2 ⟨1016 + k.val, by omega⟩ y) := by
  pointwise [hG, k0_pay19]
theorem hV_read (b : Ins Ideal) (k : Fin 8) (y : Fin 256) : hV b (ix4 0 0 k y) = pvF b (ix2 ⟨1016 + k.val, by omega⟩ y) := by
  pointwise [hV, k0_pay20]

variable {b : Ins Ideal} {q j : ℕ} {H U W WD : ℕ → ℕ → EReal}

section
variable (hb : Reads b q j H U W WD)
include hb

theorem pgB_read (x : Fin 1024) (y : Fin 256) : pgB b (ix2 x y) = pre H U (1024 * q + x.val) (256 * j + y.val) := by
  pointwise [pgB, k0_pay4, k0_pay3]
  refine Eq.trans ?_ (Finset.sum_range (M := EReal) fun k => H (1024 * q + x.val) k * U k (256 * j + y.val)).symm
  refine Finset.sum_congr (M := EReal) rfl fun k _ => congrArg₂ (· * ·) (hb.h2 x k) ?_
  refine (window_wu b.wu 0 _ y k).trans ((hb.wu 0 y k).trans ?_)
  congr 1; simp
theorem pvB_read (x : Fin 1024) (y : Fin 256) : pvB b (ix2 x y) = pre H U (1024 * q + x.val) (2816 + (256 * j + y.val)) := by
  pointwise [pvB, k0_pay5, k0_pay3]
  refine Eq.trans ?_ (Finset.sum_range (M := EReal) fun k => H (1024 * q + x.val) k * U k (2816 + (256 * j + y.val))).symm
  refine Finset.sum_congr (M := EReal) rfl fun k _ => congrArg₂ (· * ·) (hb.h2 x k) ?_
  exact (window_wu b.wu 1 _ y k).trans (hb.wu 1 y k)
theorem pgF_read (x : Fin 1024) (y : Fin 256) : k0_pay6 b.h2 (wuG b) (ix2 x y) = pre H U (1024 * q + x.val) (256 * j + y.val) :=
  pgB_read hb x y
theorem pvF_read (x : Fin 1024) (y : Fin 256) : k0_pay7 b.h2 (wuV b) (ix2 x y) = pre H U (1024 * q + x.val) (2816 + (256 * j + y.val)) :=
  pvB_read hb x y

end

section

variable (hb : Reads b q j H U W WD) (hq : q ≤ 1) (i : grid0.Coords) (hi : (i 0).val = q) (ng nv : Vec Ideal S1x1x8x256 .f32)
    (hn : q = 1 → ∀ (k : Fin 8) (y : Fin 256), ng (ix4 0 0 k y) = pre H U (1016 + k.val) (256 * j + y.val))
    (hv : q = 1 → ∀ (k : Fin 8) (y : Fin 256), nv (ix4 0 0 k y) = pre H U (1016 + k.val) (2816 + (256 * j + y.val)))
include hb hq hi hn

theorem ug_read (x : Fin 1024) (y : Fin 256) : ug i b ng (ix2 x y) = conv W (pre H U) (1024 * q + x.val) (256 * j + y.val) := by
  pointwise [ug, pgF, k0_pay14, k0_pay9, k0_pay10, k0_pay12, k0_pay13, k0_pay11, k0_pay8]
  simp only [pgF_read hb, hb.cg]
  exact congrArg₂ (· + ·)
    (congrArg₂ (· + ·) rfl (congrArg (W 1 (256 * j + y.val) * ·) (shift1 _ q _ hq i hi x _ fun h => hn h 7 y)))
    (congrArg (W 0 (256 * j + y.val) * ·) (shift2 _ q _ hq i hi x _ _ (fun h => hn h 7 y) fun h => hn h 6 y))

include hv
theorem act_read (x : Fin 1024) (y : Fin 256) :
    act i b ng nv (ix2 x y) = ac (conv W (pre H U)) (1024 * q + x.val) (256 * j + y.val) := by
  pointwise [act, pvF, ra, k0_pay22, k0_pay21, k0_pay18, k0_pay17, k0_pay16, k0_pay15]
  simp only [ug_read hb hq i hi ng hn, pvF_read hb, hb.cv]
  refine congrArg₂ (· * ·) rfl (congrArg₂ (· + ·)
    (congrArg₂ (· + ·) rfl (congrArg (W 1 (2816 + (256 * j + y.val)) * ·) (shift1 _ q _ hq i hi x _ fun h => hv h 7 y)))
    (congrArg (W 0 (2816 + (256 * j + y.val)) * ·) (shift2 _ q _ hq i hi x _ _ (fun h => hv h 7 y) fun h => hv h 6 y)))

end

theorem pay2_read (A : Vec Ideal S1024x2816 .bf16) (D : Vec Ideal S2816x1024 .bf16) (x d : Fin 1024) :
    k0_pay2 A D (ix2 x d) = ∑ f : Fin 2816, A (ix2 x f) * D (ix2 f d) := by
  pointwise [k0_pay2]

end Cert.KernelFwdIdeal.Hand

end
-- ==== Proof.FwdRun.lean ====
/- One run of the forward kernel's body at a grid point: what every buffer holds afterwards, as a function of what it held before. -/
module

public import proofs.«01_k».proof.Proof.FwdVals
public import proofs.«01_k».proof.Proof.Run
public import proofs.«01_k».proof.Proof.Gen.KernelFwdIdeal.Frame

@[expose] public section

set_option maxRecDepth 16384

noncomputable section

namespace Cert.KernelFwdIdeal.Hand

open Cert.KernelFwdIdeal Cert.KernelFwdIdeal.Gen
open Cert.KernelIdeal.Hand (window_full2 put_full2)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

/-- A load of a rectangle of consecutive places is a window of what the view reads. -/
theorem rd_window {sp : Space} {s : Shape} {e : EltTy} (v : View sig .tc sp s e) (f : v.ty.Contents (Elt F)) (off size : Fin s.rank → ℕ)
    (inb : ∀ a, off a + size a ≤ s.size a) :
    v.readAt (Elt F) (Rect.unit off size inb).toLoadRect f = window (v.read (Elt F) f) off size inb := rfl

/-- A store of a rectangle of consecutive places puts its payload over what the earlier stores left. -/
theorem writes_put {sp : Space} {s : Shape} {e : EltTy} (v : View sig .tc sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = put (v.read (Elt F) (v.writes (Elt F) f L)) off size w :=
  View.read_writes_cons_put v f inb w L rfl

/-- A load of contents that the stores cover, as a window of what they left. -/
theorem readCov_window {sp : Space} {s : Shape} {e : EltTy} (v : View sig .tc sp s e) (L : List (View.Piece (Elt F) s e)) (off size : Fin s.rank → ℕ)
    (inb : ∀ a, off a + size a ≤ s.size a) :
    v.readCov (Val := Elt F) L (Rect.unit off size inb).toLoadRect = window (v.read (Elt F) (v.writes (Elt F) v.junk L)) off size inb := rfl

/-- The condition that chooses the column block `k`. -/
theorem cnd (i : grid0.Coords) (k : ℕ) : (Scalar.cmpi .ne (Scalar.extui (Scalar.cmpi .eq (BitVec.ofNat 32 (i 1).val) (BitVec.ofNat 32 k)) : BitVec 32) 0#32 = 1#1)
    ↔ (i 1).val = k % 4294967296 := by
  have hn : (i 1).val < 11 := (i 1).isLt
  have e : BitVec.ofNat 32 (i 1).val = BitVec.ofNat 32 k ↔ (i 1).val = k % 4294967296 := by
    rw [← BitVec.toNat_inj, BitVec.toNat_ofNat, BitVec.toNat_ofNat, Nat.mod_eq_of_lt (show (i 1).val < 2 ^ 32 by omega)]
  rw [← e]
  by_cases h : BitVec.ofNat 32 (i 1).val = BitVec.ofNat 32 k
  · simp [Scalar.cmpi, Scalar.extui, IntOp.cmpi, h]
  · simp [Scalar.cmpi, Scalar.extui, IntOp.cmpi, h, beq_eq_false_iff_ne.mpr h]

set_option maxHeartbeats 4000000 in
/-- A point of the last column block: the output rows are written too. -/
theorem run_last (c : Dev nD) (i : grid0.Coords) (hJ : (i 1).val = 10)
    (a2 : Memref sig .tc .vmem S1024x1024 .bf16) (h2 : a2.IsWhole) (a3 : Memref sig .tc .vmem S2x256x1024 .bf16) (h3 : a3.IsWhole) (a4 : Memref sig .tc .vmem S3x256 .f32) (h4 : a4.IsWhole) (a5 : Memref sig .tc .vmem S3x256 .f32) (h5 : a5.IsWhole) (a6 : Memref sig .tc .vmem S2816x1024 .bf16) (h6 : a6.IsWhole) (a7 : Memref sig .tc .vmem S1024x256 .bf16) (h7 : a7.IsWhole) (a8 : Memref sig .tc .vmem S1024x256 .bf16) (h8 : a8.IsWhole) (a9 : Memref sig .tc .vmem S1024x1024 .f32) (h9 : a9.IsWhole) (a10 : Memref sig .tc .vmem S11x2x8x256 .f32) (h10 : a10.IsWhole) (a11 : Memref sig .tc .vmem S1024x2816 .bf16) (h11 : a11.IsWhole)
    (b : Ins F) (x7 : Vec F S1024x256 .bf16) (x8 : Vec F S1024x256 .bf16) (x9 : Vec F S1024x1024 .f32) (x10 : Vec F S11x2x8x256 .f32) (x11 : Vec F S1024x2816 .bf16) (K : PUnit → sProp 𝕄) :
    iprop(owns (c : Thread nD τ) a2 fullShare b.h2
      ∗ owns (c : Thread nD τ) a3 fullShare b.wu
      ∗ owns (c : Thread nD τ) a4 fullShare b.cg
      ∗ owns (c : Thread nD τ) a5 fullShare b.cv
      ∗ owns (c : Thread nD τ) a6 fullShare b.wd
      ∗ owns (c : Thread nD τ) a7 fullShare x7
      ∗ owns (c : Thread nD τ) a8 fullShare x8
      ∗ owns (c : Thread nD τ) a9 fullShare x9
      ∗ owns (c : Thread nD τ) a10 fullShare x10
      ∗ owns (c : Thread nD τ) a11 fullShare x11
      ∗ (iprop(owns (c : Thread nD τ) a2 fullShare b.h2
      ∗ owns (c : Thread nD τ) a3 fullShare b.wu
      ∗ owns (c : Thread nD τ) a4 fullShare b.cg
      ∗ owns (c : Thread nD τ) a5 fullShare b.cv
      ∗ owns (c : Thread nD τ) a6 fullShare b.wd
      ∗ owns (c : Thread nD τ) a7 fullShare (pgB b)
      ∗ owns (c : Thread nD τ) a8 fullShare (pvB b)
      ∗ owns (c : Thread nD τ) a9 fullShare (k0_pay2 (actOf i b x10 x11) b.wd)
      ∗ owns (c : Thread nD τ) a10 fullShare (haloOf i b x10)
      ∗ owns (c : Thread nD τ) a11 fullShare (actOf i b x10 x11)) -∗ K ⟨⟩))
      ⊢ wp frame (wpE (defs₀ (F := F)) Variants.none c none) Set.univ (cc0_ffn_fwd i a2 h2 a3 h3 a4 h4 a5 h5 a6 h6 a7 h7 a8 h8 a9 h9 a10 h10 a11 h11) K := by
  have hc : k0_cond12 i = 1#1 := by unfold k0_cond12; rw [hJ]; decide
  unfold actOf haloOf
  rw [hJ]
  simp only [cc0_ffn_fwd_eq_skeleton]; unfold cc0_ffn_fwd_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, Hk⟩
  set_option sl_exec.resultNames true in
  sl_exec (disch := sl_exact hc)
  sl_step
  iapply Hk
  isplitl [H2]
  · iexists _; isplitr; swap; iexact H2; ipureintro
    exact e2
  isplitl [H3]
  · iexists _; isplitr; swap; iexact H3; ipureintro
    exact e3
  isplitl [H4]
  · iexists _; isplitr; swap; iexact H4; ipureintro
    exact e4
  isplitl [H5]
  · iexists _; isplitr; swap; iexact H5; ipureintro
    exact e5
  isplitl [H6]
  · iexists _; isplitr; swap; iexact H6; ipureintro
    exact e6
  isplitl [H7]
  · iexists _; isplitr; swap; iexact H7; ipureintro
    sl_unfold_run_names
    simp only [rd_window, readCov_window, writes_put, View.writes_nil, window_full2, put_full2, e2, e3, e4, e5, e6, e7, e8, e9, e10, e11]
    rfl
  isplitl [H8]
  · iexists _; isplitr; swap; iexact H8; ipureintro
    sl_unfold_run_names
    simp only [rd_window, readCov_window, writes_put, View.writes_nil, window_full2, put_full2, e2, e3, e4, e5, e6, e7, e8, e9, e10, e11]
    rfl
  isplitl [H9]
  · iexists _; isplitr; swap; iexact H9; ipureintro
    sl_unfold_run_names
    simp only [cnd, Nat.reduceMod]
    simp only [hJ, Nat.reduceEqDiff, OfNat.ofNat_ne_zero, OfNat.ofNat_ne_one, ↓reduceDIte, rd_window, readCov_window, writes_put, View.writes_nil, window_full2, put_full2, e2, e3, e4, e5, e6, e7, e8, e9, e10, e11]
    rfl
  isplitl [H10]
  · iexists _; isplitr; swap; iexact H10; ipureintro
    sl_unfold_run_names
    simp only [rd_window, readCov_window, writes_put, View.writes_nil, window_full2, put_full2, e2, e3, e4, e5, e6, e7, e8, e9, e10, e11]
    rfl
  · iexists _; isplitr; swap; iexact H11; ipureintro
    sl_unfold_run_names
    simp only [cnd, Nat.reduceMod]
    simp only [hJ, Nat.reduceEqDiff, OfNat.ofNat_ne_zero, OfNat.ofNat_ne_one, ↓reduceDIte, rd_window, readCov_window, writes_put, View.writes_nil, window_full2, put_full2, e2, e3, e4, e5, e6, e7, e8, e9, e10, e11]
    rfl

set_option maxHeartbeats 4000000 in
/-- A point of one of the first ten column blocks. -/
theorem run_lt (c : Dev nD) (i : grid0.Coords) (hj : (i 1).val < 10)
    (a2 : Memref sig .tc .vmem S1024x1024 .bf16) (h2 : a2.IsWhole) (a3 : Memref sig .tc .vmem S2x256x1024 .bf16) (h3 : a3.IsWhole) (a4 : Memref sig .tc .vmem S3x256 .f32) (h4 : a4.IsWhole) (a5 : Memref sig .tc .vmem S3x256 .f32) (h5 : a5.IsWhole) (a6 : Memref sig .tc .vmem S2816x1024 .bf16) (h6 : a6.IsWhole) (a7 : Memref sig .tc .vmem S1024x256 .bf16) (h7 : a7.IsWhole) (a8 : Memref sig .tc .vmem S1024x256 .bf16) (h8 : a8.IsWhole) (a9 : Memref sig .tc .vmem S1024x1024 .f32) (h9 : a9.IsWhole) (a10 : Memref sig .tc .vmem S11x2x8x256 .f32) (h10 : a10.IsWhole) (a11 : Memref sig .tc .vmem S1024x2816 .bf16) (h11 : a11.IsWhole)
    (b : Ins F) (x7 : Vec F S1024x256 .bf16) (x8 : Vec F S1024x256 .bf16) (x9 : Vec F S1024x1024 .f32) (x10 : Vec F S11x2x8x256 .f32) (x11 : Vec F S1024x2816 .bf16) (K : PUnit → sProp 𝕄) :
    iprop(owns (c : Thread nD τ) a2 fullShare b.h2
      ∗ owns (c : Thread nD τ) a3 fullShare b.wu
      ∗ owns (c : Thread nD τ) a4 fullShare b.cg
      ∗ owns (c : Thread nD τ) a5 fullShare b.cv
      ∗ owns (c : Thread nD τ) a6 fullShare b.wd
      ∗ owns (c : Thread nD τ) a7 fullShare x7
      ∗ owns (c : Thread nD τ) a8 fullShare x8
      ∗ owns (c : Thread nD τ) a9 fullShare x9
      ∗ owns (c : Thread nD τ) a10 fullShare x10
      ∗ owns (c : Thread nD τ) a11 fullShare x11
      ∗ (iprop(owns (c : Thread nD τ) a2 fullShare b.h2
      ∗ owns (c : Thread nD τ) a3 fullShare b.wu
      ∗ owns (c : Thread nD τ) a4 fullShare b.cg
      ∗ owns (c : Thread nD τ) a5 fullShare b.cv
      ∗ owns (c : Thread nD τ) a6 fullShare b.wd
      ∗ owns (c : Thread nD τ) a7 fullShare (pgB b)
      ∗ owns (c : Thread nD τ) a8 fullShare (pvB b)
      ∗ owns (c : Thread nD τ) a9 fullShare x9
      ∗ owns (c : Thread nD τ) a10 fullShare (haloOf i b x10)
      ∗ owns (c : Thread nD τ) a11 fullShare (actOf i b x10 x11)) -∗ K ⟨⟩))
      ⊢ wp frame (wpE (defs₀ (F := F)) Variants.none c none) Set.univ (cc0_ffn_fwd i a2 h2 a3 h3 a4 h4 a5 h5 a6 h6 a7 h7 a8 h8 a9 h9 a10 h10 a11 h11) K := by
  have hc : ¬ k0_cond12 i = 1#1 := by
    have h : ∀ n : Fin 11, n.val < 10 → ¬ Scalar.cmpi .ne (Scalar.extui (Scalar.cmpi .eq (BitVec.ofNat 32 n.val) 10#32) : BitVec 32) 0#32 = 1#1 := by decide
    exact h (i 1) hj
  unfold actOf haloOf
  simp only [cc0_ffn_fwd_eq_skeleton]; unfold cc0_ffn_fwd_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, Hk⟩
  set_option sl_exec.resultNames true in
  sl_exec (disch := sl_exact hc)
  sl_step
  iapply Hk
  isplitl [H2]
  · iexists _; isplitr; swap; iexact H2; ipureintro
    exact e2
  isplitl [H3]
  · iexists _; isplitr; swap; iexact H3; ipureintro
    exact e3
  isplitl [H4]
  · iexists _; isplitr; swap; iexact H4; ipureintro
    exact e4
  isplitl [H5]
  · iexists _; isplitr; swap; iexact H5; ipureintro
    exact e5
  isplitl [H6]
  · iexists _; isplitr; swap; iexact H6; ipureintro
    exact e6
  isplitl [H7]
  · iexists _; isplitr; swap; iexact H7; ipureintro
    sl_unfold_run_names
    simp only [rd_window, readCov_window, writes_put, View.writes_nil, window_full2, put_full2, e2, e3, e4, e5, e6, e7, e8, e9, e10, e11]
    rfl
  isplitl [H8]
  · iexists _; isplitr; swap; iexact H8; ipureintro
    sl_unfold_run_names
    simp only [rd_window, readCov_window, writes_put, View.writes_nil, window_full2, put_full2, e2, e3, e4, e5, e6, e7, e8, e9, e10, e11]
    rfl
  isplitl [H9]
  · iexists _; isplitr; swap; iexact H9; ipureintro
    exact e9
  isplitl [H10]
  · iexists _; isplitr; swap; iexact H10; ipureintro
    sl_unfold_run_names
    simp only [rd_window, readCov_window, writes_put, View.writes_nil, window_full2, put_full2, e2, e3, e4, e5, e6, e7, e8, e9, e10, e11]
    rfl
  · iexists _; isplitr; swap; iexact H11; ipureintro
    sl_unfold_run_names
    simp only [cnd, Nat.reduceMod]
    obtain ⟨J, hJ⟩ : ∃ J, (i 1).val = J := ⟨_, rfl⟩
    rw [hJ] at hj ⊢
    clear hJ
    obtain rfl | rfl | rfl | rfl | rfl | rfl | rfl | rfl | rfl | rfl : J = 0 ∨ J = 1 ∨ J = 2 ∨ J = 3 ∨ J = 4 ∨ J = 5 ∨ J = 6 ∨ J = 7 ∨ J = 8 ∨ J = 9 := by omega
    all_goals
      simp only [Nat.reduceEqDiff, OfNat.ofNat_ne_zero, OfNat.zero_ne_ofNat, OfNat.one_ne_ofNat, OfNat.ofNat_ne_one, one_ne_zero, zero_ne_one, ↓reduceDIte,
        rd_window, writes_put, View.writes_nil, window_full2, e2, e3, e4, e5, e6, e7, e8, e9, e10, e11]
      rfl

end Cert.KernelFwdIdeal.Hand

end
-- ==== Proof.FwdState.lean ====
/- What the buffers hold after each grid point of the forward kernel, as functions of the arrays it finds. Point `11 r + j` works on
   row block `r` and on column block `j`. -/
module

public import proofs.«01_k».proof.Proof.FwdRun
public import Idealize.ShloMosaic.Lib.Pointwise

@[expose] public section

set_option maxRecDepth 16384

noncomputable section

namespace Cert.KernelFwdIdeal.Hand

open Cert.KernelFwdIdeal Cert.KernelFwdIdeal.Gen
open Idealize.ShloMosaic Idealize.ShloMosaic.TcCoe Idealize.ShloMosaic.VecWindow

variable {F : FTy → Type} [FloatOps F]

variable (m : (ℓ : Loc nD τ sig) → Buf (Elt F) ℓ) (c : Dev nD)

/-- The five blocks the body is handed at point `t`. -/
def insAt (t : Fin cfg0.N) : Ins F := ⟨iblk m c 0 t, iblk m c 1 t, iblk m c 2 t, iblk m c 3 t, iblk m c 4 t⟩

/-- The point numbered `n`. -/
def pt (n : ℕ) : Fin cfg0.N := ⟨n % 22, lt_of_lt_of_eq (Nat.mod_lt n (by decide)) N_0.symm⟩

theorem pt_val (t : Fin cfg0.N) : pt t.val = t := Fin.ext (Nat.mod_eq_of_lt (lt_of_lt_of_eq t.isLt N_0))

theorem coord0 : ∀ t : Fin cfg0.N, (grid0.coords t 0).val = t.val / 11 := by decide
theorem coord1 : ∀ t : Fin cfg0.N, (grid0.coords t 1).val = t.val % 11 := by decide

/-- The activation of the point numbered `n`, from the rows that the point eleven before kept. -/
def actP (n : ℕ) : FVec F S1024x256 .bf16 :=
  act (grid0.coords (pt n)) (insAt m c (pt n)) (hG (insAt m c (pt (n - 11)))) (hV (insAt m c (pt (n - 11))))

/-- The activations of row block `r`, side by side. -/
def rowA (r : ℕ) : Vec F S1024x2816 .bf16 := fun y =>
  actP m c (11 * r + (y 1).val / 256) (ix2 (n0 := 1024) (n1 := 256) (y 0) ⟨(y 1).val % 256, Nat.mod_lt _ (by decide)⟩)

/-- The gate rows kept for column block `k`. -/
def slG (k : Fin 11) (N : Vec F S11x2x8x256 .f32) : Vec F S1x1x8x256 .f32 :=
  window N ![k.val, 0, 0, 0] S1x1x8x256.size ((by decide : ∀ k : Fin 11, ∀ a, (![k.val, 0, 0, 0] : Fin 4 → ℕ) a + S1x1x8x256.size a ≤ S11x2x8x256.size a) k)
/-- The value rows kept for column block `k`. -/
def slV (k : Fin 11) (N : Vec F S11x2x8x256 .f32) : Vec F S1x1x8x256 .f32 :=
  window N ![k.val, 1, 0, 0] S1x1x8x256.size ((by decide : ∀ k : Fin 11, ∀ a, (![k.val, 1, 0, 0] : Fin 4 → ℕ) a + S1x1x8x256.size a ≤ S11x2x8x256.size a) k)
/-- The activations of column block `k`. -/
def tile (k : Fin 11) (A : Vec F S1024x2816 .bf16) : Vec F S1024x256 .bf16 :=
  window A ![0, 256 * k.val] S1024x256.size ((by decide : ∀ k : Fin 11, ∀ a, (![0, 256 * k.val] : Fin 2 → ℕ) a + S1024x256.size a ≤ S1024x2816.size a) k)

theorem slabG_eq (i : grid0.Coords) (N : Vec F S11x2x8x256 .f32) : slabG i N = slG (i 1) N :=
  Cert.KernelIdeal.Hand.window_off N (k0_off1_eq i) _ _
theorem slabV_eq (i : grid0.Coords) (N : Vec F S11x2x8x256 .f32) : slabV i N = slV (i 1) N :=
  Cert.KernelIdeal.Hand.window_off N (k0_off2_eq i) _ _

theorem slG_halo (i : grid0.Coords) (b : Ins F) (N : Vec F S11x2x8x256 .f32) (k : Fin 11) :
    slG k (haloOf i b N) = if k.val = (i 1).val then hG b else slG k N := by
  unfold haloOf slG
  rw [k0_off1_eq, k0_off2_eq]
  rw [window_put_of_disjoint _ _ _ _ _ _ _ (1 : Fin 4) (.inl (show 0 + 1 ≤ 1 by decide))]
  by_cases h : k.val = (i 1).val
  · obtain rfl : k = i 1 := Fin.ext h
    rw [if_pos rfl]; exact window_put_same _ _ _ _ _
  · rw [if_neg h]
    refine window_put_of_disjoint _ _ _ _ _ _ _ (0 : Fin 4) ?_
    show k.val + 1 ≤ (i 1).val ∨ (i 1).val + 1 ≤ k.val
    omega
theorem slV_halo (i : grid0.Coords) (b : Ins F) (N : Vec F S11x2x8x256 .f32) (k : Fin 11) :
    slV k (haloOf i b N) = if k.val = (i 1).val then hV b else slV k N := by
  unfold haloOf slV
  rw [k0_off1_eq, k0_off2_eq]
  by_cases h : k.val = (i 1).val
  · obtain rfl : k = i 1 := Fin.ext h
    rw [if_pos rfl]; exact window_put_same _ _ _ _ _
  · rw [if_neg h]
    rw [window_put_of_disjoint _ _ _ _ _ _ _ (0 : Fin 4) (show k.val + 1 ≤ (i 1).val ∨ (i 1).val + 1 ≤ k.val by omega)]
    exact window_put_of_disjoint _ _ _ _ _ _ _ (1 : Fin 4) (.inr (show 0 + 1 ≤ 1 by decide))
theorem tile_act (i : grid0.Coords) (b : Ins F) (N : Vec F S11x2x8x256 .f32) (A : Vec F S1024x2816 .bf16) (k : Fin 11) :
    tile k (actOf i b N A) = if k.val = (i 1).val then act i b (slabG i N) (slabV i N) else tile k A := by
  unfold actOf tile
  by_cases h : k.val = (i 1).val
  · obtain rfl : k = i 1 := Fin.ext h
    rw [if_pos rfl]; exact window_put_same _ _ _ _ _
  · rw [if_neg h]
    refine window_put_of_disjoint _ _ _ _ _ _ _ (1 : Fin 2) ?_
    show 256 * k.val + 256 ≤ 256 * (i 1).val ∨ 256 * (i 1).val + 256 ≤ 256 * k.val
    omega

/-- In the first row block the kept rows are replaced by zeros, whatever they are. -/
theorem pay8_zero (i : grid0.Coords) (h : (i 0).val = 0) (n n' : Vec F S1x1x8x256 .f32) : k0_pay8 i n = k0_pay8 i n' := by
  unfold k0_pay8; rw [h]; rfl
theorem pay15_zero (i : grid0.Coords) (h : (i 0).val = 0) (n n' : Vec F S1x1x8x256 .f32) : k0_pay15 (ra i) n = k0_pay15 (ra i) n' := by
  unfold k0_pay15 ra; rw [h]; rfl
theorem act_zero (i : grid0.Coords) (b : Ins F) (h : (i 0).val = 0) (n n' v v' : Vec F S1x1x8x256 .f32) : act i b n v = act i b n' v' := by
  unfold act ug k0_pay9 k0_pay10 k0_pay12 k0_pay16 k0_pay17 k0_pay18
  rw [pay8_zero i h n n', pay15_zero i h v v']

/-- Tiles that are the activations of a row block make up that row block. -/
theorem rows_of_tiles (r : ℕ) (A : Vec F S1024x2816 .bf16) (h : ∀ k : Fin 11, tile k A = actP m c (11 * r + k.val)) : A = rowA m c r := by
  funext y
  have hy : (y 1).val < 2816 := (y 1).isLt
  have e := congrFun (h ⟨(y 1).val / 256, by omega⟩) (ix2 (n0 := 1024) (n1 := 256) (y 0) ⟨(y 1).val % 256, Nat.mod_lt _ (by decide)⟩)
  refine Eq.trans (congrArg A (funext fun a => Fin.ext ?_)) e
  fin_cases a
  · show (y 0).val = 0 + 1 * (y 0).val; omega
  · show (y 1).val = 256 * ((y 1).val / 256) + 1 * ((y 1).val % 256); omega

/-- What the kernel's two private buffers hold before the point numbered `n`: the kept rows of the first row block where they are
    still to be read, and the activations of this row block so far. -/
def Scr (n : ℕ) (N : Vec F S11x2x8x256 .f32) (A : Vec F S1024x2816 .bf16) : Prop :=
  (∀ k : Fin 11, k.val < n → n ≤ 11 + k.val → slG k N = hG (insAt m c (pt k.val)) ∧ slV k N = hV (insAt m c (pt k.val)))
    ∧ ∀ k : Fin 11, k.val < n % 11 → tile k A = actP m c (n - n % 11 + k.val)

theorem scr_zero (N : Vec F S11x2x8x256 .f32) (A : Vec F S1024x2816 .bf16) : Scr m c 0 N A :=
  ⟨fun _ h => absurd h (Nat.not_lt_zero _), fun _ h => absurd h (Nat.not_lt_zero _)⟩

/-- The activation computed at a point, from the kept rows there. -/
theorem act_now (t : Fin cfg0.N) {N : Vec F S11x2x8x256 .f32} {A : Vec F S1024x2816 .bf16} (h : Scr m c t.val N A) :
    act (grid0.coords t) (insAt m c t) (slabG (grid0.coords t) N) (slabV (grid0.coords t) N) = actP m c t.val := by
  have hN := lt_of_lt_of_eq t.isLt N_0
  unfold actP; rw [pt_val]
  by_cases hr : t.val < 11
  · exact act_zero _ _ ((coord0 t).trans (by omega)) _ _ _ _
  · have e := h.1 (grid0.coords t 1) (by rw [coord1]; omega) (by rw [coord1]; omega)
    rw [slabG_eq, slabV_eq, e.1, e.2, coord1, show t.val % 11 = t.val - 11 by omega]

theorem scr_succ (t : Fin cfg0.N) {N : Vec F S11x2x8x256 .f32} {A : Vec F S1024x2816 .bf16} (h : Scr m c t.val N A) :
    Scr m c (t.val + 1) (haloOf (grid0.coords t) (insAt m c t) N) (actOf (grid0.coords t) (insAt m c t) N A) := by
  have hN := lt_of_lt_of_eq t.isLt N_0
  have hc := coord1 t
  refine ⟨fun k h1 h2 => ?_, fun k h1 => ?_⟩
  · rw [slG_halo, slV_halo]
    by_cases hk : k.val = (grid0.coords t 1).val
    · have e : k.val = t.val := by omega
      rw [if_pos hk, if_pos hk, e, pt_val]; exact ⟨rfl, rfl⟩
    · have e : k.val ≠ t.val % 11 := fun e => hk (e.trans hc.symm)
      rw [if_neg hk, if_neg hk]; exact h.1 k (by omega) (by omega)
  · rw [tile_act]
    by_cases hk : k.val = (grid0.coords t 1).val
    · have e : k.val = t.val % 11 := hk.trans hc
      rw [if_pos hk, act_now m c t h]; congr 1; omega
    · have e : k.val ≠ t.val % 11 := fun e => hk (e.trans hc.symm)
      rw [if_neg hk, h.2 k (by omega)]; congr 1; omega

/-- After the last column block the activations of the row block are complete. -/
theorem rows_full (t : Fin cfg0.N) (ht : t.val % 11 = 10) {N : Vec F S11x2x8x256 .f32} {A : Vec F S1024x2816 .bf16} (h : Scr m c t.val N A) :
    actOf (grid0.coords t) (insAt m c t) N A = rowA m c (t.val / 11) := by
  refine rows_of_tiles m c _ _ fun k => ?_
  have hc := coord1 t
  rw [tile_act]
  by_cases hk : k.val = (grid0.coords t 1).val
  · have e : k.val = t.val % 11 := hk.trans hc
    rw [if_pos hk, act_now m c t h]; congr 1; omega
  · have e : k.val ≠ t.val % 11 := fun e => hk (e.trans hc.symm)
    rw [if_neg hk, h.2 k (by omega)]; congr 1; omega

end Cert.KernelFwdIdeal.Hand

end
-- ==== Proof.FwdBody.lean ====
/- The forward kernel's run: the contents of every buffer followed through the grid, and the program's execution from any memory. -/
module

public import proofs.«01_k».proof.Proof.FwdState
public import Idealize.ShloMosaic.Lib.Pipeline.DatRel
public import Idealize.ShloMosaic.Lib.Pipeline.ArrRel

@[expose] public section

set_option maxRecDepth 16384

noncomputable section

namespace Cert.KernelFwdIdeal.Hand

open Cert.KernelFwdIdeal Cert.KernelFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow

variable (m : (ℓ : Loc nD τ sig) → Buf (Elt F) ℓ) (ρ : Dev nD → PrngReg)

/-- The windows followed by a statement rather than by exact contents: the three results. -/
def outs : Fin cfg0.W → Bool := fun w => decide (5 ≤ w.val)

/-- What a result's buffer holds after point `t`: the output rows only at the last column block of a row block. -/
def Rl (c : Dev nD) : (w : Fin cfg0.W) → Fin cfg0.N → ((cfg0.win w).block.Idx → Elt F (cfg0.win w).elt) → Prop
  | 0 => fun _ _ => True
  | 1 => fun _ _ => True
  | 2 => fun _ _ => True
  | 3 => fun _ _ => True
  | 4 => fun _ _ => True
  | 5 => fun t X => X = pgB (insAt m c t)
  | 6 => fun t X => X = pvB (insAt m c t)
  | 7 => fun t X => t.val % 11 = 10 → X = k0_pay2 (rowA m c (t.val / 11)) (insAt m c t).wd
  | ⟨_ + 8, h⟩ => absurd h (Nat.not_lt.2 (Nat.le_add_left _ _))

/-- What is kept between points: the private buffers and the random number register. -/
def Φs (c : Dev nD) (n : ℕ) : sProp 𝕄 :=
  iprop((∃ N A, ⌜Scr m c n N A⌝ ∗ owns (c : Thread nD τ) (Memref.whole cc0_scratch0) fullShare N
      ∗ owns (c : Thread nD τ) (Memref.whole cc0_scratch1) fullShare A)
    ∗ ∃ r, prngReg c r)

/-- The exact part of the proof data: the inputs' blocks. -/
def dat (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | ⟨_ + 5, _⟩ => fun _ _ => Classical.arbitrary _
  Φ t := Φs m c t.val
  q := Pipeline.shareOf spec0
  owed := fun _ => 0

/-- The proof data. -/
abbrev rdat (c : Dev nD) := (dat m c).toRRel outs (Rl m c)

/-- What the body is handed at point `t`. -/
def bodyPre (c : Dev nD) (t : Fin cfg0.N) : sProp 𝕄 :=
  iprop((dat m c).Φ t.castSucc ∗ (dat m c).owesAt () t.castSucc ∗ (∃ d, owns (c : Thread nD τ) (st0_0 t) fullShare ((dat m c).before 0 t d)) ∗ (∃ d, owns (c : Thread nD τ) (st0_1 t) fullShare ((dat m c).before 1 t d)) ∗ (∃ d, owns (c : Thread nD τ) (st0_2 t) fullShare ((dat m c).before 2 t d)) ∗ (∃ d, owns (c : Thread nD τ) (st0_3 t) fullShare ((dat m c).before 3 t d)) ∗ (∃ d, owns (c : Thread nD τ) (st0_4 t) fullShare ((dat m c).before 4 t d)) ∗ (∃ Y, ⌜(rdat m c).Finds 5 t Y⌝ ∗ owns (c : Thread nD τ) (st0_5 t) fullShare Y) ∗ (∃ Y, ⌜(rdat m c).Finds 6 t Y⌝ ∗ owns (c : Thread nD τ) (st0_6 t) fullShare Y) ∗ (∃ Y, ⌜(rdat m c).Finds 7 t Y⌝ ∗ owns (c : Thread nD τ) (st0_7 t) fullShare Y))
/-- What the body gives back. -/
def bodyPost (c : Dev nD) (t : Fin cfg0.N) : sProp 𝕄 :=
  iprop((dat m c).Φ t.succ ∗ (dat m c).owesAt () t.succ ∗ owns (c : Thread nD τ) (st0_0 t) fullShare ((dat m c).after 0 t) ∗ owns (c : Thread nD τ) (st0_1 t) fullShare ((dat m c).after 1 t) ∗ owns (c : Thread nD τ) (st0_2 t) fullShare ((dat m c).after 2 t) ∗ owns (c : Thread nD τ) (st0_3 t) fullShare ((dat m c).after 3 t) ∗ owns (c : Thread nD τ) (st0_4 t) fullShare ((dat m c).after 4 t) ∗ (∃ X, ⌜Rl m c 5 t X⌝ ∗ owns (c : Thread nD τ) (st0_5 t) fullShare X) ∗ (∃ X, ⌜Rl m c 6 t X⌝ ∗ owns (c : Thread nD τ) (st0_6 t) fullShare X) ∗ (∃ X, ⌜Rl m c 7 t X⌝ ∗ owns (c : Thread nD τ) (st0_7 t) fullShare X))

set_option maxHeartbeats 2000000 in
theorem sound_last (c : Dev nD) (t : Fin cfg0.N) (hj : t.val % 11 = 10) :
    bodyPre m c t ⊢ wp frame (wpE (defs₀ (F := F)) Variants.none c none) Set.univ (bodyAt0 t) (fun _ => bodyPost m c t) := by
  have hj' : (grid0.coords t 1).val = 10 := by rw [coord1 t]; omega
  unfold bodyPre bodyPost bodyAt0
  rw [show (dat m c).owesAt () t.succ = (dat m c).owesAt () t.castSucc from rfl,
    show (dat m c).Φ t.castSucc = Φs m c t.val from rfl, show (dat m c).Φ t.succ = Φs m c (t.val + 1) from rfl]
  simp only [before0_0_of m (dat m c) rfl (fun _ => rfl), before0_1_of m (dat m c) rfl (fun _ => rfl), before0_2_of m (dat m c) rfl (fun _ => rfl), before0_3_of m (dat m c) rfl (fun _ => rfl), before0_4_of m (dat m c) rfl (fun _ => rfl)]
  unfold Φs
  iintro ⟨⟨⟨%N, %A, %hS, HN, HA⟩, Hg⟩, HO, ⟨%d0, H0⟩, ⟨%d1, H1⟩, ⟨%d2, H2⟩, ⟨%d3, H3⟩, ⟨%d4, H4⟩, ⟨%Y5, %h5, H5⟩, ⟨%Y6, %h6, H6⟩, ⟨%Y7, %h7, H7⟩⟩
  iapply (run_last c (grid0.coords t) hj' (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (insAt m c t) Y5 Y6 Y7 N A _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HN]; · iexact HN
  isplitl [HA]; · iexact HA
  iintro ⟨H0, H1, H2, H3, H4, H5, H6, H7, HN, HA⟩
  isplitl [HN HA Hg]
  · isplitl [HN HA]
    · iexists _, _
      isplitr; swap
      · isplitl [HN]; · iexact HN
        iexact HA
      ipureintro
      exact scr_succ m c t hS
    iexact Hg
  isplitl [HO]; · iexact HO
  isplitl [H0]; · iexact H0
  isplitl [H1]; · iexact H1
  isplitl [H2]; · iexact H2
  isplitl [H3]; · iexact H3
  isplitl [H4]; · iexact H4
  isplitl [H5]
  · iexists _; isplitr; swap; iexact H5; ipureintro; rfl
  isplitl [H6]
  · iexists _; isplitr; swap; iexact H6; ipureintro; rfl
  iexists _; isplitr; swap; iexact H7; ipureintro
  exact fun _ => congrArg (fun A => k0_pay2 A _) (rows_full m c t hj hS)

set_option maxHeartbeats 2000000 in
theorem sound_lt (c : Dev nD) (t : Fin cfg0.N) (hj : t.val % 11 < 10) :
    bodyPre m c t ⊢ wp frame (wpE (defs₀ (F := F)) Variants.none c none) Set.univ (bodyAt0 t) (fun _ => bodyPost m c t) := by
  have hj' : (grid0.coords t 1).val < 10 := by rw [coord1 t]; omega
  unfold bodyPre bodyPost bodyAt0
  rw [show (dat m c).owesAt () t.succ = (dat m c).owesAt () t.castSucc from rfl,
    show (dat m c).Φ t.castSucc = Φs m c t.val from rfl, show (dat m c).Φ t.succ = Φs m c (t.val + 1) from rfl]
  simp only [before0_0_of m (dat m c) rfl (fun _ => rfl), before0_1_of m (dat m c) rfl (fun _ => rfl), before0_2_of m (dat m c) rfl (fun _ => rfl), before0_3_of m (dat m c) rfl (fun _ => rfl), before0_4_of m (dat m c) rfl (fun _ => rfl)]
  unfold Φs
  iintro ⟨⟨⟨%N, %A, %hS, HN, HA⟩, Hg⟩, HO, ⟨%d0, H0⟩, ⟨%d1, H1⟩, ⟨%d2, H2⟩, ⟨%d3, H3⟩, ⟨%d4, H4⟩, ⟨%Y5, %h5, H5⟩, ⟨%Y6, %h6, H6⟩, ⟨%Y7, %h7, H7⟩⟩
  iapply (run_lt c (grid0.coords t) hj' (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (insAt m c t) Y5 Y6 Y7 N A _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HN]; · iexact HN
  isplitl [HA]; · iexact HA
  iintro ⟨H0, H1, H2, H3, H4, H5, H6, H7, HN, HA⟩
  isplitl [HN HA Hg]
  · isplitl [HN HA]
    · iexists _, _
      isplitr; swap
      · isplitl [HN]; · iexact HN
        iexact HA
      ipureintro
      exact scr_succ m c t hS
    iexact Hg
  isplitl [HO]; · iexact HO
  isplitl [H0]; · iexact H0
  isplitl [H1]; · iexact H1
  isplitl [H2]; · iexact H2
  isplitl [H3]; · iexact H3
  isplitl [H4]; · iexact H4
  isplitl [H5]
  · iexists _; isplitr; swap; iexact H5; ipureintro; rfl
  isplitl [H6]
  · iexists _; isplitr; swap; iexact H6; ipureintro; rfl
  iexists _; isplitr; swap; iexact H7; ipureintro
  exact fun h => absurd h (by omega)

theorem sound_body (c : Dev nD) (t : Fin cfg0.N) :
    bodyPre m c t ⊢ wp frame (wpE (defs₀ (F := F)) Variants.none c none) Set.univ (bodyAt0 t) (fun _ => bodyPost m c t) := by
  rcases (show t.val % 11 = 10 ∨ t.val % 11 < 10 by omega) with h | h
  · exact sound_last m c t h
  · exact sound_lt m c t h

theorem defs₀_row (t : Fin cfg0.N) : defs₀ (F := F) .tc cfg0.body (cfg0.bodyArgs t (cfg0.slots t)) = bodyAt0 t := by
  unfold defs₀; rw [Defs.onTc_tc]

theorem body_obligation (c : Dev nD) :
    Pipeline.BodyObligationRel (dat (F := F) m c) (defs₀ (F := F)) Variants.none () Set.univ outs (Rl m c) := fun t => by
  rw [bigSep_W0, bigSep_W0, defs₀_row]
  exact triple_restated (sound_body m c t) rfl .rfl fun _ => .rfl

/-- What the region hands the kernel beside its windows, spelt out. -/
theorem ΦA_eq (c : Dev nD) : (Pipeline.ΦA spec0 c : sProp 𝕄) = iprop(((∃ f, owns (c : Thread nD τ) (Memref.whole cc0_scratch0) fullShare f)
      ∗ (∃ f, owns (c : Thread nD τ) (Memref.whole cc0_scratch1) fullShare f))
    ∗ ∃ r, prngReg c r) := by
  unfold Pipeline.ΦA; rw [scopedRest0_eq]; simp only [owns_whole]

theorem enter (c : Dev nD) : (Pipeline.ΦA spec0 c : sProp 𝕄) ⊢ Φs m c 0 := by
  rw [ΦA_eq]; unfold Φs
  iintro ⟨⟨⟨%N, HN⟩, ⟨%A, HA⟩⟩, Hg⟩
  isplitl [HN HA]
  · iexists N, A
    isplitr
    · ipureintro; exact scr_zero m c N A
    isplitl [HN]; · iexact HN
    iexact HA
  iexact Hg

theorem leave (c : Dev nD) (n : ℕ) : (Φs m c n : sProp 𝕄) ⊢ Pipeline.ΦA spec0 c := by
  rw [ΦA_eq]; unfold Φs
  iintro ⟨⟨%N, %A, -, HN, HA⟩, Hg⟩
  isplitl [HN HA]
  · isplitl [HN]; · iexists _; iexact HN
    iexists _; iexact HA
  iexact Hg

set_option backward.isDefEq.respectTransparency.types false in
/-- From any memory with zero counters every weakly fair execution terminates, and every final state has the arrays at contents the
    followed statements allow, every other array as launched, and every counter at zero. -/
theorem run_main :
    θ_run defs (onTc (τ := τ) (main (F := F))) (s₀ m ρ)
      (fun r => Pipeline.RDat.FramePost cfg0 (fun c => rdat m c) (V m) r ∧ r.2.sem = fun _ => 0) :=
  Pipeline.RDat.θ_run_frame_track_shared (Q' := _) cfgs (0 : Fin 1) launch₀0 defs₀ Variants.none (fun c => rdat m c) m ρ main
    (hbody := fun c => (body_obligation m c).toRRel) (hq := fun _ _ _ => rfl) (howed := fun _ _ => rfl) (V := V m)
    (hmain := hmain m Variants.none) (hA := fun _ _ => rfl) (hin := fun c => enter m c) (hout := fun c => leave m c _)

end Cert.KernelFwdIdeal.Hand
-- ==== Proof.FwdFrames.lean ====
/- The frame claims of the forward kernel: each program terminates from any memory, leaves its arguments as they were, and ends with
   every counter at zero. -/
module

public import proofs.«01_k».proof.Defs
public import proofs.«01_k».proof.Proof.Gen.KernelFwd
public import proofs.«01_k».proof.Proof.Gen.KernelFwdIdeal
public import proofs.«01_k».proof.Proof.Gen.ReferenceFwdIdeal
public import proofs.«01_k».proof.Proof.Gen.ReferenceFwdIdeal.Run
public import proofs.«01_k».proof.Proof.FwdBody

@[expose] public section

noncomputable section

namespace Cert.KernelFwdIdeal.Hand

open Cert.KernelFwdIdeal Cert.KernelFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the run says of the arguments: each ends as launched. -/
theorem args_of (m : (ℓ : Loc nD τ sig) → Buf (Elt F) ℓ) {r : PUnit × MemSt nD τ sig (Elt F)}
    (h : Pipeline.RDat.FramePost cfg0 (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have h3 := (h c).1 3
  rw [Pipeline.RDat.ArrAt_in (rd := rdat m c) 3 rfl] at h3
  exact ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    h3.trans (V_main_arg2 m c),
    ((h c).2 main_arg3 (Pipeline.mem_restRefs_of main_arg3 (by decide) (by decide))).trans (V_main_arg3 m c)⟩

/-- The frame at any float values. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => args_of m h.1 c, h.2⟩) (run_main m ρ)

set_option maxHeartbeats 4000000 in
/-- The two programs call the same functions, before the grid is bound to them. -/
theorem same_defs₀ : @Cert.KernelFwd.defs₀ Bits _ _ = @Cert.KernelFwdIdeal.defs₀ Bits _ _ := by
  unfold Cert.KernelFwd.defs₀ Cert.KernelFwdIdeal.defs₀
  refine congrArg Defs.onTc (funext fun l => funext fun a => ?_)
  match l, a with
  | 0, (t, s) => rfl

set_option maxHeartbeats 4000000 in
/-- The two programs call the same functions. -/
theorem same_defs : @Cert.KernelFwd.defs Bits _ _ = @Cert.KernelFwdIdeal.defs Bits _ _ := by
  unfold Cert.KernelFwd.defs Cert.KernelFwdIdeal.defs
  exact congrArg (Pipeline.defs _) same_defs₀

set_option maxHeartbeats 4000000 in
theorem frame_kernel : Cert.quiescent_KernelFwd := fun m ρ _ => by
  rw [same_defs]
  exact frame_any (F := Bits) m ρ

theorem frame_ideal : Cert.quiescent_KernelFwdIdeal := fun m ρ _ => frame_any (F := Ideal) m ρ

theorem frame_reference : Cert.quiescent_ReferenceFwdIdeal := fun m ρ _ =>
  (θ_run Cert.ReferenceFwdIdeal.defs _ _).mono (fun r h => ⟨fun c => (h c).2.2.2, sem_eq_zero_of_no_sems (by decide) r.2⟩)
    (Cert.ReferenceFwdIdeal.Value.run (F := Ideal) m ρ)

end Cert.KernelFwdIdeal.Hand
-- ==== Proof.FwdFinal.lean ====
/- What the forward kernel's three result arrays hold when it ends, as the forward pass of the feed-forward block. -/
module

public import proofs.«01_k».proof.Proof.FwdBlock
public import proofs.«01_k».proof.Proof.FwdFrames
public import Idealize.ShloMosaic.Lib.Pipeline.ValueKit.Point

@[expose] public section

set_option maxRecDepth 16384

noncomputable section

namespace Cert.KernelFwdIdeal.Hand

open Cert.KernelFwdIdeal Cert.KernelFwdIdeal.Gen Cert.Ffn
open Idealize.ShloMosaic Idealize.ShloMosaic.TcCoe Idealize.ShloMosaic.VecWindow Idealize.SL Idealize.SL.Sem

variable (m : (ℓ : Loc nD τ sig) → Buf (Elt Ideal) ℓ) (c : Dev nD)

/-- The four arguments, read at pairs of numbers. -/
def aH : ℕ → ℕ → EReal := at2 (m ((c.tc : Thread nD τ).loc main_arg0) : S2048x1024.Idx → EReal)
def aU : ℕ → ℕ → EReal := at2 (m ((c.tc : Thread nD τ).loc main_arg1) : S1024x5632.Idx → EReal)
def aW : ℕ → ℕ → EReal := at2 (m ((c.tc : Thread nD τ).loc main_arg2) : S3x5632.Idx → EReal)
def aWD : ℕ → ℕ → EReal := at2 (m ((c.tc : Thread nD τ).loc main_arg3) : S2816x1024.Idx → EReal)

theorem v3_read (r : Fin 2048) (l : Fin 1024) : (V m c main_v3 : S2048x1024.Idx → EReal) (ix2 r l) = aH m c r l := by
  entry_read
  pointwise []
  exact at2_ix2 _ r l
theorem v4_read (r : Fin 2816) (l : Fin 1024) : (V m c main_v4 : S2816x1024.Idx → EReal) (ix2 r l) = aWD m c r l := by
  entry_read
  pointwise []
  exact at2_ix2 _ r l
theorem v2_read (a : Fin 2) (r : Fin 2816) (l : Fin 1024) : (V m c main_v2 : S2x2816x1024.Idx → EReal) (ix3 a r l) = aU m c l (2816 * a.val + r.val) := by
  entry_read
  pointwise []
  refine (at2_ix2 _ l _).trans ?_
  rw [Nat.mul_comm 2816]; rfl
theorem arg2_read (r : Fin 3) (l : Fin 5632) : (V m c main_arg2 : S3x5632.Idx → EReal) (ix2 r l) = aW m c r l :=
  (congrFun (V_main_arg2 m c) _).trans (at2_ix2 _ r l)

/-! Which block each window is on. -/

theorem idx0 : ∀ t : Fin cfg0.N, win0_0.index t = ![t.val / 11, 0] := (by decide +kernel : ∀ t : Fin grid0.N, win0_0.index t = ![t.val / 11, 0])
theorem idx1 : ∀ t : Fin cfg0.N, win0_1.index t = ![0, t.val % 11, 0] := (by decide +kernel : ∀ t : Fin grid0.N, win0_1.index t = ![0, t.val % 11, 0])
theorem idx2 : ∀ t : Fin cfg0.N, win0_2.index t = ![0, t.val % 11] := (by decide +kernel : ∀ t : Fin grid0.N, win0_2.index t = ![0, t.val % 11])
theorem idx3 : ∀ t : Fin cfg0.N, win0_3.index t = ![0, 11 + t.val % 11] := (by decide +kernel : ∀ t : Fin grid0.N, win0_3.index t = ![0, 11 + t.val % 11])
theorem idx4 : ∀ t : Fin cfg0.N, win0_4.index t = ![0, 0] := (by decide +kernel : ∀ t : Fin grid0.N, win0_4.index t = ![0, 0])
theorem idx5 : ∀ t : Fin cfg0.N, win0_5.index t = ![t.val / 11, t.val % 11] := (by decide +kernel : ∀ t : Fin grid0.N, win0_5.index t = ![t.val / 11, t.val % 11])
theorem idx6 : ∀ t : Fin cfg0.N, win0_6.index t = ![t.val / 11, t.val % 11] := (by decide +kernel : ∀ t : Fin grid0.N, win0_6.index t = ![t.val / 11, t.val % 11])
theorem idx7 : ∀ t : Fin cfg0.N, win0_7.index t = ![t.val / 11, 0] := (by decide +kernel : ∀ t : Fin grid0.N, win0_7.index t = ![t.val / 11, 0])

/-! The entries of each block. -/

theorem blk0 (t : Fin cfg0.N) (x k : Fin 1024) : (iblk m c 0 t : S1024x1024.Idx → EReal) (ix2 x k)
    = (V m c main_v3 : S2048x1024.Idx → EReal) (ix2 ⟨1024 * (t.val / 11) + x.val, by have := lt_of_lt_of_eq t.isLt N_0; omega⟩ k) := by
  blk_ext [iblk, idx0 t]
theorem blk1 (t : Fin cfg0.N) (a : Fin 2) (y : Fin 256) (d : Fin 1024) : (iblk m c 1 t : S2x256x1024.Idx → EReal) (ix3 a y d)
    = (V m c main_v2 : S2x2816x1024.Idx → EReal) (ix3 a ⟨256 * (t.val % 11) + y.val, by omega⟩ d) := by
  blk_ext [iblk, idx1 t]
theorem blk2 (t : Fin cfg0.N) (k : Fin 3) (y : Fin 256) : (iblk m c 2 t : S3x256.Idx → EReal) (ix2 k y)
    = (V m c main_arg2 : S3x5632.Idx → EReal) (ix2 k ⟨256 * (t.val % 11) + y.val, by omega⟩) := by
  blk_ext [iblk, idx2 t]
theorem blk3 (t : Fin cfg0.N) (k : Fin 3) (y : Fin 256) : (iblk m c 3 t : S3x256.Idx → EReal) (ix2 k y)
    = (V m c main_arg2 : S3x5632.Idx → EReal) (ix2 k ⟨2816 + (256 * (t.val % 11) + y.val), by omega⟩) := by
  blk_ext [iblk, idx3 t]
theorem blk4 (t : Fin cfg0.N) (f : Fin 2816) (k : Fin 1024) : (iblk m c 4 t : S2816x1024.Idx → EReal) (ix2 f k)
    = (V m c main_v4 : S2816x1024.Idx → EReal) (ix2 f k) := by
  blk_ext [iblk, idx4 t]

/-- The blocks of point `t` are row block `t / 11` and column block `t % 11` of the arguments. -/
theorem reads_at (t : Fin cfg0.N) : Reads (insAt m c t) (t.val / 11) (t.val % 11) (aH m c) (aU m c) (aW m c) (aWD m c) where
  h2 x k := (blk0 m c t x k).trans (v3_read m c _ _)
  wu a y d := (blk1 m c t a y d).trans (v2_read m c _ _ _)
  cg k y := (blk2 m c t k y).trans (arg2_read m c _ _)
  cv k y := (blk3 m c t k y).trans (arg2_read m c _ _)
  wd f k := (blk4 m c t f k).trans (v4_read m c _ _)

/-- The rows before the convolution. -/
abbrev aP : ℕ → ℕ → EReal := pre (aH m c) (aU m c)
/-- The convolved rows. -/
abbrev aY : ℕ → ℕ → EReal := conv (aW m c) (aP m c)

theorem pt_mod (n : ℕ) (h : n < 22) : (pt n).val = n := Nat.mod_eq_of_lt h

theorem reads_pt (n : ℕ) (hn : n < 22) : Reads (insAt m c (pt n)) (n / 11) (n % 11) (aH m c) (aU m c) (aW m c) (aWD m c) := by
  have := reads_at m c (pt n); rwa [pt_mod n hn] at this

theorem actP_read (n : ℕ) (hn : n < 22) (x : Fin 1024) (y : Fin 256) :
    actP m c n (ix2 x y) = ac (aY m c) (1024 * (n / 11) + x.val) (256 * (n % 11) + y.val) := by
  unfold actP
  have hi : (grid0.coords (pt n) 0).val = n / 11 := by rw [coord0, pt_mod n hn]
  refine act_read (reads_pt m c n hn) (by omega) _ hi _ _ (fun h k y => ?_) (fun h k y => ?_) x y
  · refine (hG_read _ k y).trans ((pgF_read (reads_pt m c (n - 11) (by omega)) _ y).trans ?_)
    refine congrArg₂ (aP m c) (?_ : 1024 * ((n - 11) / 11) + (1016 + k.val) = 1016 + k.val) (?_ : 256 * ((n - 11) % 11) + y.val = 256 * (n % 11) + y.val) <;> omega
  · refine (hV_read _ k y).trans ((pvF_read (reads_pt m c (n - 11) (by omega)) _ y).trans ?_)
    refine congrArg₂ (aP m c) (?_ : 1024 * ((n - 11) / 11) + (1016 + k.val) = 1016 + k.val)
      (?_ : 2816 + (256 * ((n - 11) % 11) + y.val) = 2816 + (256 * (n % 11) + y.val)) <;> omega

theorem rowA_read (r : ℕ) (hr : r < 2) (x : Fin 1024) (f : Fin 2816) : rowA m c r (ix2 x f) = ac (aY m c) (1024 * r + x.val) f.val := by
  unfold rowA
  refine (actP_read m c (11 * r + f.val / 256) (by omega) x _).trans ?_
  congr 1
  · omega
  · show 256 * ((11 * r + f.val / 256) % 11) + f.val % 256 = f.val
    omega

/-- The gate rows before the convolution, whole. -/
def gA0 : S2048x2816.Idx → EReal := fun i => aP m c (i 0).val (i 1).val
/-- The value rows before the convolution, whole. -/
def gA1 : S2048x2816.Idx → EReal := fun i => aP m c (i 0).val (2816 + (i 1).val)
/-- The block's output rows, whole. -/
def gA2 : S2048x1024.Idx → EReal := fun i => ∑ f ∈ Finset.range 2816, ac (aY m c) (i 0).val f * aWD m c f (i 1).val

theorem y_read (t : Fin cfg0.N) (x d : Fin 1024) : k0_pay2 (rowA m c (t.val / 11)) (insAt m c t).wd (ix2 x d)
    = ∑ f ∈ Finset.range 2816, ac (aY m c) (1024 * (t.val / 11) + x.val) f * aWD m c f d.val := by
  have hN := lt_of_lt_of_eq t.isLt N_0
  rw [pay2_read]
  refine Eq.trans ?_ (Finset.sum_range (M := EReal) fun f => ac (aY m c) (1024 * (t.val / 11) + x.val) f * aWD m c f d.val).symm
  exact Finset.sum_congr (M := EReal) rfl fun f _ => congrArg₂ (· * ·) (rowA_read m c _ (by omega) x f) ((reads_at m c t).wd f d)

/-- The run leaves the three arrays in the results and the arguments as they were. -/
theorem run_values (ρ : Dev nD → PrngReg) :
    θ_run defs (onTc (τ := τ) (main (F := Ideal))) ⟨m, fun _ => 0, ρ⟩ (fun r => ∀ c : Dev nD,
      (r.2.mem ((c.tc : Thread nD τ).loc main_v5_0) = gA0 m c
      ∧ r.2.mem ((c.tc : Thread nD τ).loc main_v5_1) = gA1 m c
      ∧ r.2.mem ((c.tc : Thread nD τ).loc main_v5_2) = gA2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, args_of m h.1 c⟩) (run_main m ρ)
  obtain ⟨after, hL, hA⟩ := Pipeline.RDat.FramePost.exists_exact h.1 c
  have hR : ∀ w u, (cfg0.win w).flush u = true → outs w = true → Rl m c w u (after w u) := fun w u hf ho => (dat m c).toRRel_leaves ho (hL w u hf)
  refine ⟨(hA 5).trans ?_, (hA 6).trans ?_, (hA 7).trans ?_⟩
  · refine Pipeline.Dat.arrAt_eq_of_covers ((rdat m c).withAfter after) 5 (gA0 m c) (by decide +kernel) fun t hf y => ?_
    have hN := lt_of_lt_of_eq t.isLt N_0
    have e : after 5 t = pgB (insAt m c t) := hR 5 t hf rfl
    obtain ⟨x, l, rfl⟩ : ∃ (x : Fin 1024) (l : Fin 256), y = ix2 x l := ⟨_, _, eq_ix2 y⟩
    refine (congrFun e _).trans ((pgB_read (reads_at m c t) x l).trans ?_)
    refine Eq.trans (b := gA0 m c (ix2 ⟨1024 * (t.val / 11) + x.val, by omega⟩ ⟨256 * (t.val % 11) + l.val, by omega⟩)) rfl ?_
    symm
    blk_ext [idx5 t]
  · refine Pipeline.Dat.arrAt_eq_of_covers ((rdat m c).withAfter after) 6 (gA1 m c) (by decide +kernel) fun t hf y => ?_
    have hN := lt_of_lt_of_eq t.isLt N_0
    have e : after 6 t = pvB (insAt m c t) := hR 6 t hf rfl
    obtain ⟨x, l, rfl⟩ : ∃ (x : Fin 1024) (l : Fin 256), y = ix2 x l := ⟨_, _, eq_ix2 y⟩
    refine (congrFun e _).trans ((pvB_read (reads_at m c t) x l).trans ?_)
    refine Eq.trans (b := gA1 m c (ix2 ⟨1024 * (t.val / 11) + x.val, by omega⟩ ⟨256 * (t.val % 11) + l.val, by omega⟩)) rfl ?_
    symm
    blk_ext [idx6 t]
  · refine Pipeline.Dat.arrAt_eq_of_covers ((rdat m c).withAfter after) 7 (gA2 m c) (by decide +kernel) fun t hf y => ?_
    have hN := lt_of_lt_of_eq t.isLt N_0
    have e : after 7 t = k0_pay2 (rowA m c (t.val / 11)) (insAt m c t).wd := hR 7 t hf rfl ((flush0_7 t).mp hf)
    obtain ⟨x, d, rfl⟩ : ∃ (x : Fin 1024) (d : Fin 1024), y = ix2 x d := ⟨_, _, eq_ix2 y⟩
    refine (congrFun e _).trans ((y_read m c t x d).trans ?_)
    refine Eq.trans (b := gA2 m c (ix2 ⟨1024 * (t.val / 11) + x.val, by omega⟩ d)) rfl ?_
    symm
    blk_ext [idx7 t]

end Cert.KernelFwdIdeal.Hand

end
-- ==== Proof.FwdRefVal.lean ====
/- The reference's three results over the extended reals, as the forward pass of the feed-forward block. -/
module

public import proofs.«01_k».proof.Proof.Gen.ReferenceFwdIdeal.Read
public import proofs.«01_k».proof.Proof.RefVal

@[expose] public section

set_option maxRecDepth 16384

noncomputable section

namespace Cert.ReferenceFwdIdeal.Hand

open Cert.ReferenceFwdIdeal Cert.ReferenceFwdIdeal.Read Cert.Ffn
open Idealize.ShloMosaic
open Cert.ReferenceIdeal.Hand (half_bits quot_sg)

variable (x0 : (⟨S2048x1024, .f32⟩ : BufTy).Contents (Elt Ideal)) (x1 : (⟨S1024x5632, .f32⟩ : BufTy).Contents (Elt Ideal))
  (x2 : (⟨S3x5632, .f32⟩ : BufTy).Contents (Elt Ideal)) (x3 : (⟨S2816x1024, .f32⟩ : BufTy).Contents (Elt Ideal))

/-- The logistic function by its quotient and by the hyperbolic tangent, at the infinities too. -/
theorem quot_all (x : EReal) : Ideal.div 1 (1 + Ideal.exp (-x)) = sg x := by
  have hp : (0 : ℝ) < 1 / 2 := by norm_num
  induction x with
  | bot =>
    have e : (1 : EReal) + ⊤ = ⊤ := rfl
    unfold sg
    rw [half_bits, EReal.coe_mul_bot_of_pos hp, EReal.neg_bot]
    show Ideal.div 1 (1 + ⊤) = ((1 / 2 : ℝ) : EReal) * (-1) + ((1 / 2 : ℝ) : EReal)
    rw [e, mul_neg, mul_one, ← EReal.coe_neg, ← EReal.coe_add]
    simp [Ideal.div]
  | top =>
    unfold sg
    rw [half_bits, EReal.coe_mul_top_of_pos hp, EReal.neg_top]
    show Ideal.div 1 (1 + 0) = ((1 / 2 : ℝ) : EReal) * 1 + ((1 / 2 : ℝ) : EReal)
    rw [add_zero, mul_one, ← EReal.coe_add]
    have e : ((1 / 2 + 1 / 2 : ℝ) : EReal) = ((1 : ℝ) : EReal) := by norm_num
    rw [e]
    have h := Ideal.div_coe (x := 1) (y := (1 : ℝ)) one_ne_zero
    simp [Ideal.div]
  | coe r => exact quot_sg ⟨r, rfl⟩

/-- The up projection, whole. -/
theorem v5_read (r : Fin 2048) (l : Fin 5632) : val_main_v5 (F := Ideal) x0 x1 (ix2 r l) = pre (at2 x0) (at2 x1) r.val l.val := by
  pointwise [val_main_v5]
  refine Eq.trans ?_ (Finset.sum_range (M := EReal) (n := 1024) (fun k => at2 x0 r.val k * at2 x1 k l.val)).symm
  refine Finset.sum_congr (M := EReal) rfl fun k _ => ?_
  exact congrArg₂ (fun a b : EReal => a * b) (at2_ix2 x0 _ _) (at2_ix2 x1 _ _)

theorem v2_read (r : Fin 2048) (l : Fin 2816) : val_main_v2 (F := Ideal) x0 x1 (ix2 r l) = pre (at2 x0) (at2 x1) r.val l.val := by
  pointwise [val_main_v2, val_main_v1]
  exact v5_read x0 x1 r ⟨l.val, by omega⟩
theorem v4_read (r : Fin 2048) (l : Fin 2816) : val_main_v4 (F := Ideal) x0 x1 (ix2 r l) = pre (at2 x0) (at2 x1) r.val (2816 + l.val) := by
  pointwise [val_main_v4, val_main_v3]
  exact v5_read x0 x1 r ⟨2816 + l.val, by omega⟩

/-- The rows with two zero rows above. -/
theorem v7_read (r : Fin 2050) (l : Fin 5632) : val_main_v7 (F := Ideal) x0 x1 (ix2 r l) = up (pre (at2 x0) (at2 x1)) 2 r.val l.val := by
  pointwise [val_main_v7, val_main_v6, val_main_cst]
  unfold up
  by_cases h : r.val < 2
  · rw [dif_pos h, if_neg (by omega)]
  · rw [dif_neg h, if_pos (show 2 ≤ r.val by omega)]
    exact v5_read x0 x1 ⟨r.val - 2, by omega⟩ l

/-- The convolved rows. -/
theorem v27_read (r : Fin 2048) (l : Fin 5632) :
    val_main_v27 (F := Ideal) x0 x1 x2 (ix2 r l) = conv (at2 x2) (pre (at2 x0) (at2 x1)) r.val l.val := by
  pointwise [val_main_v27, val_main_v26, val_main_v25, val_main_v24, val_main_v23, val_main_v22, val_main_v21, val_main_v20,
    val_main_v19, val_main_v18, val_main_v17, val_main_v16, val_main_v15, val_main_v14, val_main_v13, val_main_v12, val_main_v11,
    val_main_v10, val_main_v9, val_main_v8]
  rw [v7_read, v7_read, v7_read, at2_ix2 x2, at2_ix2 x2, at2_ix2 x2]
  have e1 : up (pre (at2 x0) (at2 x1)) 2 (1 + r.val) l.val = up (pre (at2 x0) (at2 x1)) 1 r.val l.val := by
    unfold up; simp only [show 2 ≤ 1 + r.val ↔ 1 ≤ r.val by omega, show 1 + r.val - 2 = r.val - 1 by omega]
  have e2 : up (pre (at2 x0) (at2 x1)) 2 (2 + r.val) l.val = pre (at2 x0) (at2 x1) r.val l.val := by
    unfold up; rw [if_pos (by omega), Nat.add_sub_cancel_left]
  show at2 x2 0 l.val * up (pre (at2 x0) (at2 x1)) 2 r.val l.val + at2 x2 1 l.val * up (pre (at2 x0) (at2 x1)) 2 (1 + r.val) l.val
    + at2 x2 2 l.val * up (pre (at2 x0) (at2 x1)) 2 (2 + r.val) l.val = _
  rw [e1, e2]; unfold conv
  rw [add_comm, add_comm (at2 x2 0 l.val * _), ← add_assoc]

/-- The activation. -/
theorem v31_read (r : Fin 2048) (l : Fin 2816) :
    val_main_v31 (F := Ideal) x0 x1 x2 (ix2 r l) = ac (conv (at2 x2) (pre (at2 x0) (at2 x1))) r.val l.val := by
  pointwise [val_main_v31, val_main_v30, val_main_call0_v5, val_main_call0_v4, val_main_call0_cst_0, val_main_call0_v3,
    val_main_call0_v2, val_main_call0_cst, val_main_call0_v1, val_main_call0_v0, val_main_v29, val_main_v28]
  rw [v27_read, v27_read, quot_all]
  rfl

theorem v32_read (r : Fin 2048) (l : Fin 1024) : val_main_v32 (F := Ideal) x0 x1 x2 x3 (ix2 r l)
    = ∑ f ∈ Finset.range 2816, ac (conv (at2 x2) (pre (at2 x0) (at2 x1))) r.val f * at2 x3 f l.val := by
  pointwise [val_main_v32]
  refine Eq.trans ?_ (Finset.sum_range (M := EReal) (n := 2816) (fun f => ac (conv (at2 x2) (pre (at2 x0) (at2 x1))) r.val f * at2 x3 f l.val)).symm
  refine Finset.sum_congr (M := EReal) rfl fun f _ => ?_
  exact congrArg₂ (fun a b : EReal => a * b) (v31_read x0 x1 x2 r f) (at2_ix2 x3 _ _)

end Cert.ReferenceFwdIdeal.Hand

end
-- ==== Proof.FwdAlgebraic.lean ====
/- The forward kernel and its reference give the same three arrays, whatever the arguments. -/
module

public import proofs.«01_k».proof.Defs
public import proofs.«01_k».proof.Proof.FwdFinal
public import proofs.«01_k».proof.Proof.FwdRefVal
public import proofs.«01_k».proof.Proof.Gen.ReferenceFwdIdeal.Run

@[expose] public section

set_option maxRecDepth 16384

noncomputable section

namespace Cert.KernelFwdIdeal.Hand

open Idealize.ShloMosaic Idealize.SL.Sem Cert.Ffn

section
open Cert.KernelFwdIdeal Cert.ReferenceFwdIdeal.Read
variable (m : (ℓ : Loc nD τ sig) → Buf (Elt Ideal) ℓ) (c : Dev nD)

/-- The reference's three arrays at the kernel's arguments are the kernel's. -/
theorem ref_values :
    val_main_v2 (F := Ideal) (m ((c.tc : Thread nD τ).loc main_arg0)) (m ((c.tc : Thread nD τ).loc main_arg1)) = gA0 m c
    ∧ val_main_v4 (F := Ideal) (m ((c.tc : Thread nD τ).loc main_arg0)) (m ((c.tc : Thread nD τ).loc main_arg1)) = gA1 m c
    ∧ val_main_v32 (F := Ideal) (m ((c.tc : Thread nD τ).loc main_arg0)) (m ((c.tc : Thread nD τ).loc main_arg1)) (m ((c.tc : Thread nD τ).loc main_arg2)) (m ((c.tc : Thread nD τ).loc main_arg3)) = gA2 m c := by
  refine ⟨funext fun i => ?_, funext fun i => ?_, funext fun i => ?_⟩
  · rw [eq_ix2 i]; exact Cert.ReferenceFwdIdeal.Hand.v2_read _ _ (i 0) (i 1)
  · rw [eq_ix2 i]; exact Cert.ReferenceFwdIdeal.Hand.v4_read _ _ (i 0) (i 1)
  · rw [eq_ix2 i]; exact Cert.ReferenceFwdIdeal.Hand.v32_read _ _ _ _ (i 0) (i 1)

end

theorem algebraic : Cert.algebraic_KernelFwdIdeal_ReferenceFwdIdeal (hKernelFwdIdeal := Cert.KernelFwdIdeal.Gen.facts)
    (hReferenceFwdIdeal := Cert.ReferenceFwdIdeal.Gen.facts) := by
  intro m g m' g' hm ha
  refine ⟨gA0 m, gA1 m, gA2 m, ?_, ?_⟩
  · exact (θ_run Cert.KernelFwdIdeal.defs _ _).mono (fun r h c => by
      obtain ⟨⟨h0, h1, h2⟩, h5⟩ := h c
      exact ⟨h0, h1, h2, h5⟩) (run_values m g)
  · exact (θ_run Cert.ReferenceFwdIdeal.defs _ _).mono (fun r h c => by
      obtain ⟨h0, h1, h2, h5⟩ := h c
      obtain ⟨a0, a1, a2, a3⟩ := ha c
      obtain ⟨e0, e1, e2⟩ := ref_values m c
      refine ⟨h0.trans ?_, h1.trans ?_, h2.trans ?_, h5⟩
      · rw [Cert.ReferenceFwdIdeal.Read.val_main_v2_eq, a0, a1]; exact e0
      · rw [Cert.ReferenceFwdIdeal.Read.val_main_v4_eq, a0, a1]; exact e1
      · rw [Cert.ReferenceFwdIdeal.Read.val_main_v32_eq, a0, a1, a2, a3]; exact e2) (Cert.ReferenceFwdIdeal.Value.run m' g')

end Cert.KernelFwdIdeal.Hand

end
-- ==== Proof.ProjForward.lean ====
/- The product with the input projection: each block of the result is a block of rows times a block of columns. -/
module

public import proofs.«01_k».proof.Defs
public import proofs.«01_k».proof.Proof.Gen.KernelProjIdeal.Value
public import proofs.«01_k».proof.Proof.Gen.ReferenceProjIdeal.Run
public import proofs.«01_k».proof.Proof.Gen.ReferenceProjIdeal.Read
public import Idealize.ShloMosaic.Lib.Pipeline.ValueKit.Point

@[expose] public section

set_option maxRecDepth 16384

noncomputable section

namespace Cert.KernelProjIdeal.Hand

open Cert.KernelProjIdeal Cert.KernelProjIdeal.Gen Idealize.ShloMosaic Idealize.ShloMosaic.TcCoe Idealize.SL.Sem

theorem idx0 : ∀ t : Fin cfg0.N, win0_0.index t = ![t.val / 5, 0] := (by decide +kernel : ∀ t : Fin grid0.N, win0_0.index t = ![t.val / 5, 0])
theorem idx1 : ∀ t : Fin cfg0.N, win0_1.index t = ![0, t.val % 5] := (by decide +kernel : ∀ t : Fin grid0.N, win0_1.index t = ![0, t.val % 5])
theorem idx2 : ∀ t : Fin cfg0.N, win0_2.index t = ![t.val / 5, t.val % 5] := (by decide +kernel : ∀ t : Fin grid0.N, win0_2.index t = ![t.val / 5, t.val % 5])

/-- The product of the two arrays, as a function of the index. -/
def prod (a : S2048x1024.Idx → EReal) (b : S1024x3200.Idx → EReal) : S2048x3200.Idx → EReal :=
  fun i => ∑ k : Fin 1024, a (ix2 (i 0) k) * b (ix2 k (i 1))

theorem block_read (x : Vec Ideal S1024x1024 .bf16) (y : Vec Ideal S1024x640 .bf16) (r : Fin 1024) (l : Fin 640) :
    out0_2 (F := Ideal) x y (ix2 r l) = ∑ k : Fin 1024, x (ix2 r k) * y (ix2 k l) := by
  have hz : (![0, 0] : Fin 2 → Nat) = fun _ => 0 := funext fun i => by fin_cases i <;> rfl
  unfold out0_2
  rw [View.canon_unit_zero hz, View.ld_unit_zero (S := S1024x1024) hz _ x, View.ld_unit_zero (S := S1024x640) hz _ y]
  pointwise [k0_pay1]

variable (m : (ℓ : Loc nD τ sig) → Buf (Elt Ideal) ℓ)

theorem final (c : Dev nD) : (dats m 0 c).arrAt 2 cfg0.N = prod (m ((c : Thread nD τ).loc main_arg0)) (m ((c : Thread nD τ).loc main_arg1)) := by
  refine Pipeline.Dat.arrAt_eq_of_covers (dats m 0 c) 2 _ (by decide +kernel) fun t hf y => ?_
  obtain ⟨r, l, rfl⟩ : ∃ (r : Fin 1024) (l : Fin 640), y = ix2 r l := ⟨_, _, eq_ix2 y⟩
  have ht : t.val < 10 := lt_of_lt_of_eq t.isLt (by decide)
  have hx (k : Fin 1024) : (iblk m c 0 t : S1024x1024.Idx → EReal) (ix2 r k) = V m c main_arg0 (ix2 ⟨1024 * (t.val / 5) + r.val, by omega⟩ k) := by
    blk_ext [iblk, idx0 t]
  have hy (k : Fin 1024) : (iblk m c 1 t : S1024x640.Idx → EReal) (ix2 k l) = V m c main_arg1 (ix2 k ⟨640 * (t.val % 5) + l.val, by omega⟩) := by
    blk_ext [iblk, idx1 t]
  refine (congrFun (after0_2 m c t) _).trans ((block_read _ _ r l).trans ?_)
  refine Eq.trans (b := prod (m ((c : Thread nD τ).loc main_arg0)) (m ((c : Thread nD τ).loc main_arg1))
    (ix2 ⟨1024 * (t.val / 5) + r.val, by omega⟩ ⟨640 * (t.val % 5) + l.val, by omega⟩)) ?_ ?_
  · refine Finset.sum_congr (M := EReal) rfl fun k _ => ?_
    rw [hx, hy, V_main_arg0, V_main_arg1]
    rfl
  · symm
    blk_ext [idx2 t]

theorem reference (a : S2048x1024.Idx → EReal) (b : S1024x3200.Idx → EReal) :
    Cert.ReferenceProjIdeal.Read.val_main_v2 (F := Ideal) a b = prod a b := by
  funext i
  obtain ⟨r, l, rfl⟩ : ∃ (r : Fin 2048) (l : Fin 3200), i = ix2 r l := ⟨_, _, eq_ix2 i⟩
  unfold prod
  pointwise [Cert.ReferenceProjIdeal.Read.val_main_v2, Cert.ReferenceProjIdeal.Read.val_main_v1, Cert.ReferenceProjIdeal.Read.val_main_v0]

theorem frame_reference : Cert.quiescent_ReferenceProjIdeal := fun m ρ _ =>
  (θ_run Cert.ReferenceProjIdeal.defs _ _).mono (fun r h => ⟨fun c => (h c).2, sem_eq_zero_of_no_sems (by decide) r.2⟩)
    (Cert.ReferenceProjIdeal.Value.run (F := Ideal) m ρ)

theorem algebraic : Cert.algebraic_KernelProjIdeal_ReferenceProjIdeal := by
  intro m g m' g' _ ha
  refine ⟨fun c => prod (m ((c : Thread nD τ).loc main_arg0)) (m ((c : Thread nD τ).loc main_arg1)), ?_, ?_⟩
  · exact (θ_run defs _ _).mono (fun r h c => ⟨(h c).1.trans (final m c), (h c).2⟩) (Value.run_blocks m g)
  · refine (θ_run Cert.ReferenceProjIdeal.defs _ _).mono (fun r h c => ⟨(h c).1.trans ?_, (h c).2⟩) (Cert.ReferenceProjIdeal.Value.run m' g')
    rw [Cert.ReferenceProjIdeal.Read.val_main_v2_eq, (ha c).1, (ha c).2]
    exact reference _ _

end Cert.KernelProjIdeal.Hand

end
-- ==== Proof.ProjWeight.lean ====
/- The gradient of the input projection: each block of columns of the result is the transposed first argument times that block of columns of the second. -/

module

public import proofs.«01_k».proof.Defs
public import proofs.«01_k».proof.Proof.Gen.KernelProjWIdeal.Value
public import proofs.«01_k».proof.Proof.Gen.ReferenceProjWIdeal.Run
public import proofs.«01_k».proof.Proof.Gen.ReferenceProjWIdeal.Read
public import Idealize.ShloMosaic.Lib.Pipeline.ValueKit.Point

@[expose] public section

set_option maxRecDepth 16384

noncomputable section

namespace Cert.KernelProjWIdeal.Hand

open Cert.KernelProjWIdeal Cert.KernelProjWIdeal.Gen Idealize.ShloMosaic Idealize.ShloMosaic.TcCoe Idealize.SL.Sem

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])

/-- The product of the transposed first array with the second, as a function of the index. -/
def prod (a : S2048x1024.Idx → EReal) (b : S2048x3200.Idx → EReal) : S1024x3200.Idx → EReal :=
  fun i => ∑ k : Fin 2048, a (ix2 k (i 0)) * b (ix2 k (i 1))

theorem block_read (x : Vec Ideal S2048x1024 .bf16) (y : Vec Ideal S2048x640 .bf16) (r : Fin 1024) (l : Fin 640) :
    out0_2 (F := Ideal) x y (ix2 r l) = ∑ k : Fin 2048, x (ix2 k r) * y (ix2 k l) := by
  have hz : (![0, 0] : Fin 2 → Nat) = fun _ => 0 := funext fun i => by fin_cases i <;> rfl
  unfold out0_2
  rw [View.canon_unit_zero hz, View.ld_unit_zero (S := S2048x1024) hz _ x, View.ld_unit_zero (S := S2048x640) hz _ y]
  pointwise [k0_pay1]

variable (m : (ℓ : Loc nD τ sig) → Buf (Elt Ideal) ℓ)

theorem final (c : Dev nD) : (dats m 0 c).arrAt 2 cfg0.N = prod (m ((c : Thread nD τ).loc main_arg0)) (m ((c : Thread nD τ).loc main_arg1)) := by
  refine Pipeline.Dat.arrAt_eq_of_covers (dats m 0 c) 2 _ (by decide +kernel) fun t hf y => ?_
  obtain ⟨r, l, rfl⟩ : ∃ (r : Fin 1024) (l : Fin 640), y = ix2 r l := ⟨_, _, eq_ix2 y⟩
  have ht : t.val < 5 := lt_of_lt_of_eq t.isLt (by decide)
  have hx (k : Fin 2048) : (iblk m c 0 t : S2048x1024.Idx → EReal) (ix2 k r) = V m c main_arg0 (ix2 k r) := by
    blk_ext [iblk, idx0 t]
  have hy (k : Fin 2048) : (iblk m c 1 t : S2048x640.Idx → EReal) (ix2 k l) = V m c main_arg1 (ix2 k ⟨640 * t.val + l.val, by omega⟩) := by
    blk_ext [iblk, idx1 t]
  refine (congrFun (after0_2 m c t) _).trans ((block_read _ _ r l).trans ?_)
  refine Eq.trans (b := prod (m ((c : Thread nD τ).loc main_arg0)) (m ((c : Thread nD τ).loc main_arg1))
    (ix2 r ⟨640 * t.val + l.val, by omega⟩)) ?_ ?_
  · refine Finset.sum_congr (M := EReal) rfl fun k _ => ?_
    rw [hx, hy, V_main_arg0, V_main_arg1]
    rfl
  · symm
    blk_ext [idx2 t]

theorem reference (a : S2048x1024.Idx → EReal) (b : S2048x3200.Idx → EReal) :
    Cert.ReferenceProjWIdeal.Read.val_main_v6 (F := Ideal) a b = prod a b := by
  funext i
  obtain ⟨r, l, rfl⟩ : ∃ (r : Fin 1024) (l : Fin 3200), i = ix2 r l := ⟨_, _, eq_ix2 i⟩
  unfold prod
  pointwise [Cert.ReferenceProjWIdeal.Read.val_main_v6, Cert.ReferenceProjWIdeal.Read.val_main_v5, Cert.ReferenceProjWIdeal.Read.val_main_v4, Cert.ReferenceProjWIdeal.Read.val_main_v3, Cert.ReferenceProjWIdeal.Read.val_main_v1]
  exact Finset.sum_congr (M := EReal) rfl fun k _ => mul_comm _ _

theorem frame_reference : Cert.quiescent_ReferenceProjWIdeal := fun m ρ _ =>
  (θ_run Cert.ReferenceProjWIdeal.defs _ _).mono (fun r h => ⟨fun c => (h c).2, sem_eq_zero_of_no_sems (by decide) r.2⟩)
    (Cert.ReferenceProjWIdeal.Value.run (F := Ideal) m ρ)

theorem algebraic : Cert.algebraic_KernelProjWIdeal_ReferenceProjWIdeal := by
  intro m g m' g' _ ha
  refine ⟨fun c => prod (m ((c : Thread nD τ).loc main_arg0)) (m ((c : Thread nD τ).loc main_arg1)), ?_, ?_⟩
  · exact (θ_run defs _ _).mono (fun r h c => ⟨(h c).1.trans (final m c), (h c).2⟩) (Value.run_blocks m g)
  · refine (θ_run Cert.ReferenceProjWIdeal.defs _ _).mono (fun r h c => ⟨(h c).1.trans ?_, (h c).2⟩) (Cert.ReferenceProjWIdeal.Value.run m' g')
    rw [Cert.ReferenceProjWIdeal.Read.val_main_v6_eq, (ha c).1, (ha c).2]
    exact reference _ _

end Cert.KernelProjWIdeal.Hand

end
-- ==== Proof.ProjInput.lean ====
/- The gradient of the projected array: each block of the result is a block of rows of the first argument times the transpose of a block of rows of the second. -/

module

public import proofs.«01_k».proof.Defs
public import proofs.«01_k».proof.Proof.Gen.KernelProjXIdeal.Value
public import proofs.«01_k».proof.Proof.Gen.ReferenceProjXIdeal.Run
public import proofs.«01_k».proof.Proof.Gen.ReferenceProjXIdeal.Read
public import Idealize.ShloMosaic.Lib.Pipeline.ValueKit.Point

@[expose] public section

set_option maxRecDepth 16384

noncomputable section

namespace Cert.KernelProjXIdeal.Hand

open Cert.KernelProjXIdeal Cert.KernelProjXIdeal.Gen Idealize.ShloMosaic Idealize.ShloMosaic.TcCoe Idealize.SL.Sem

theorem idx0 : ∀ t : Fin cfg0.N, win0_0.index t = ![t.val / 2, 0] := (by decide +kernel : ∀ t : Fin grid0.N, win0_0.index t = ![t.val / 2, 0])
theorem idx1 : ∀ t : Fin cfg0.N, win0_1.index t = ![t.val % 2, 0] := (by decide +kernel : ∀ t : Fin grid0.N, win0_1.index t = ![t.val % 2, 0])
theorem idx2 : ∀ t : Fin cfg0.N, win0_2.index t = ![t.val / 2, t.val % 2] := (by decide +kernel : ∀ t : Fin grid0.N, win0_2.index t = ![t.val / 2, t.val % 2])

/-- The product of the first array with the transposed second, as a function of the index. -/
def prod (a : S2048x3200.Idx → EReal) (b : S1024x3200.Idx → EReal) : S2048x1024.Idx → EReal :=
  fun i => ∑ k : Fin 3200, a (ix2 (i 0) k) * b (ix2 (i 1) k)

theorem block_read (x : Vec Ideal S1024x3200 .bf16) (y : Vec Ideal S512x3200 .bf16) (r : Fin 1024) (l : Fin 512) :
    out0_2 (F := Ideal) x y (ix2 r l) = ∑ k : Fin 3200, x (ix2 r k) * y (ix2 l k) := by
  have hz : (![0, 0] : Fin 2 → Nat) = fun _ => 0 := funext fun i => by fin_cases i <;> rfl
  unfold out0_2
  rw [View.canon_unit_zero hz, View.ld_unit_zero (S := S1024x3200) hz _ x, View.ld_unit_zero (S := S512x3200) hz _ y]
  pointwise [k0_pay1]

variable (m : (ℓ : Loc nD τ sig) → Buf (Elt Ideal) ℓ)

theorem final (c : Dev nD) : (dats m 0 c).arrAt 2 cfg0.N = prod (m ((c : Thread nD τ).loc main_arg0)) (m ((c : Thread nD τ).loc main_arg1)) := by
  refine Pipeline.Dat.arrAt_eq_of_covers (dats m 0 c) 2 _ (by decide +kernel) fun t hf y => ?_
  obtain ⟨r, l, rfl⟩ : ∃ (r : Fin 1024) (l : Fin 512), y = ix2 r l := ⟨_, _, eq_ix2 y⟩
  have ht : t.val < 4 := lt_of_lt_of_eq t.isLt (by decide)
  have hx (k : Fin 3200) : (iblk m c 0 t : S1024x3200.Idx → EReal) (ix2 r k) = V m c main_arg0 (ix2 ⟨1024 * (t.val / 2) + r.val, by omega⟩ k) := by
    blk_ext [iblk, idx0 t]
  have hy (k : Fin 3200) : (iblk m c 1 t : S512x3200.Idx → EReal) (ix2 l k) = V m c main_arg1 (ix2 ⟨512 * (t.val % 2) + l.val, by omega⟩ k) := by
    blk_ext [iblk, idx1 t]
  refine (congrFun (after0_2 m c t) _).trans ((block_read _ _ r l).trans ?_)
  refine Eq.trans (b := prod (m ((c : Thread nD τ).loc main_arg0)) (m ((c : Thread nD τ).loc main_arg1))
    (ix2 ⟨1024 * (t.val / 2) + r.val, by omega⟩ ⟨512 * (t.val % 2) + l.val, by omega⟩)) ?_ ?_
  · refine Finset.sum_congr (M := EReal) rfl fun k _ => ?_
    rw [hx, hy, V_main_arg0, V_main_arg1]
    rfl
  · symm
    blk_ext [idx2 t]

theorem reference (a : S2048x3200.Idx → EReal) (b : S1024x3200.Idx → EReal) :
    Cert.ReferenceProjXIdeal.Read.val_main_v4 (F := Ideal) a b = prod a b := by
  funext i
  obtain ⟨r, l, rfl⟩ : ∃ (r : Fin 2048) (l : Fin 1024), i = ix2 r l := ⟨_, _, eq_ix2 i⟩
  unfold prod
  pointwise [Cert.ReferenceProjXIdeal.Read.val_main_v4, Cert.ReferenceProjXIdeal.Read.val_main_v3, Cert.ReferenceProjXIdeal.Read.val_main_v1]

theorem frame_reference : Cert.quiescent_ReferenceProjXIdeal := fun m ρ _ =>
  (θ_run Cert.ReferenceProjXIdeal.defs _ _).mono (fun r h => ⟨fun c => (h c).2, sem_eq_zero_of_no_sems (by decide) r.2⟩)
    (Cert.ReferenceProjXIdeal.Value.run (F := Ideal) m ρ)

theorem algebraic : Cert.algebraic_KernelProjXIdeal_ReferenceProjXIdeal := by
  intro m g m' g' _ ha
  refine ⟨fun c => prod (m ((c : Thread nD τ).loc main_arg0)) (m ((c : Thread nD τ).loc main_arg1)), ?_, ?_⟩
  · exact (θ_run defs _ _).mono (fun r h c => ⟨(h c).1.trans (final m c), (h c).2⟩) (Value.run_blocks m g)
  · refine (θ_run Cert.ReferenceProjXIdeal.defs _ _).mono (fun r h c => ⟨(h c).1.trans ?_, (h c).2⟩) (Cert.ReferenceProjXIdeal.Value.run m' g')
    rw [Cert.ReferenceProjXIdeal.Read.val_main_v4_eq, (ha c).1, (ha c).2]
    exact reference _ _

end Cert.KernelProjXIdeal.Hand

end
-- ==== Proof.OutForward.lean ====
/- The product with the output projection: each block of rows of the result is that block of rows of the first argument times the second. -/

module

public import proofs.«01_k».proof.Defs
public import proofs.«01_k».proof.Proof.Gen.KernelOutIdeal.Value
public import proofs.«01_k».proof.Proof.Gen.ReferenceOutIdeal.Run
public import proofs.«01_k».proof.Proof.Gen.ReferenceOutIdeal.Read
public import Idealize.ShloMosaic.Lib.Pipeline.ValueKit.Point

@[expose] public section

set_option maxRecDepth 16384

noncomputable section

namespace Cert.KernelOutIdeal.Hand

open Cert.KernelOutIdeal Cert.KernelOutIdeal.Gen Idealize.ShloMosaic Idealize.ShloMosaic.TcCoe Idealize.SL.Sem

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- The product of the two arrays, as a function of the index. -/
def prod (a : S2048x1024.Idx → EReal) (b : S1024x1024.Idx → EReal) : S2048x1024.Idx → EReal :=
  fun i => ∑ k : Fin 1024, a (ix2 (i 0) k) * b (ix2 k (i 1))

theorem block_read (x : Vec Ideal S1024x1024 .bf16) (y : Vec Ideal S1024x1024 .bf16) (r : Fin 1024) (l : Fin 1024) :
    out0_2 (F := Ideal) x y (ix2 r l) = ∑ k : Fin 1024, x (ix2 r k) * y (ix2 k l) := by
  have hz : (![0, 0] : Fin 2 → Nat) = fun _ => 0 := funext fun i => by fin_cases i <;> rfl
  unfold out0_2
  rw [View.canon_unit_zero hz, View.ld_unit_zero (S := S1024x1024) hz _ x, View.ld_unit_zero (S := S1024x1024) hz _ y]
  pointwise [k0_pay1]

variable (m : (ℓ : Loc nD τ sig) → Buf (Elt Ideal) ℓ)

theorem final (c : Dev nD) : (dats m 0 c).arrAt 2 cfg0.N = prod (m ((c : Thread nD τ).loc main_arg0)) (m ((c : Thread nD τ).loc main_arg1)) := by
  refine Pipeline.Dat.arrAt_eq_of_covers (dats m 0 c) 2 _ (by decide +kernel) fun t hf y => ?_
  obtain ⟨r, l, rfl⟩ : ∃ (r : Fin 1024) (l : Fin 1024), y = ix2 r l := ⟨_, _, eq_ix2 y⟩
  have ht : t.val < 2 := lt_of_lt_of_eq t.isLt (by decide)
  have hx (k : Fin 1024) : (iblk m c 0 t : S1024x1024.Idx → EReal) (ix2 r k) = V m c main_arg0 (ix2 ⟨1024 * (t.val) + r.val, by omega⟩ k) := by
    blk_ext [iblk, idx0 t]
  have hy (k : Fin 1024) : (iblk m c 1 t : S1024x1024.Idx → EReal) (ix2 k l) = V m c main_arg1 (ix2 k l) := by
    blk_ext [iblk, idx1 t]
  refine (congrFun (after0_2 m c t) _).trans ((block_read _ _ r l).trans ?_)
  refine Eq.trans (b := prod (m ((c : Thread nD τ).loc main_arg0)) (m ((c : Thread nD τ).loc main_arg1))
    (ix2 ⟨1024 * (t.val) + r.val, by omega⟩ l)) ?_ ?_
  · refine Finset.sum_congr (M := EReal) rfl fun k _ => ?_
    rw [hx, hy, V_main_arg0, V_main_arg1]
    rfl
  · symm
    blk_ext [idx2 t]

theorem reference (a : S2048x1024.Idx → EReal) (b : S1024x1024.Idx → EReal) :
    Cert.ReferenceOutIdeal.Read.val_main_v2 (F := Ideal) a b = prod a b := by
  funext i
  obtain ⟨r, l, rfl⟩ : ∃ (r : Fin 2048) (l : Fin 1024), i = ix2 r l := ⟨_, _, eq_ix2 i⟩
  unfold prod
  pointwise [Cert.ReferenceOutIdeal.Read.val_main_v2, Cert.ReferenceOutIdeal.Read.val_main_v1, Cert.ReferenceOutIdeal.Read.val_main_v0]

theorem frame_reference : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

theorem algebraic : Cert.algebraic_KernelOutIdeal_ReferenceOutIdeal := by
  intro m g m' g' _ ha
  refine ⟨fun c => prod (m ((c : Thread nD τ).loc main_arg0)) (m ((c : Thread nD τ).loc main_arg1)), ?_, ?_⟩
  · exact (θ_run defs _ _).mono (fun r h c => ⟨(h c).1.trans (final m c), (h c).2⟩) (Value.run_blocks m g)
  · refine (θ_run Cert.ReferenceOutIdeal.defs _ _).mono (fun r h c => ⟨(h c).1.trans ?_, (h c).2⟩) (Cert.ReferenceOutIdeal.Value.run m' g')
    rw [Cert.ReferenceOutIdeal.Read.val_main_v2_eq, (ha c).1, (ha c).2]
    exact reference _ _

end Cert.KernelOutIdeal.Hand

end
-- ==== Proof.OutWeight.lean ====
/- The gradient of the output projection: the transposed first argument times the second, in one block. -/
module

public import proofs.«01_k».proof.Defs
public import proofs.«01_k».proof.Proof.Gen.KernelOutWIdeal.Value
public import proofs.«01_k».proof.Proof.Gen.ReferenceOutWIdeal.Run
public import proofs.«01_k».proof.Proof.Gen.ReferenceOutWIdeal.Read
public import Idealize.ShloMosaic.Lib.Pipeline.ValueKit.Point

@[expose] public section

set_option maxRecDepth 16384

noncomputable section

namespace Cert.KernelOutWIdeal.Hand

open Cert.KernelOutWIdeal Cert.KernelOutWIdeal.Gen Idealize.ShloMosaic Idealize.ShloMosaic.TcCoe Idealize.SL.Sem

theorem reference (a b : S2048x1024.Idx → EReal) :
    Cert.ReferenceOutWIdeal.Read.val_main_v6 (F := Ideal) a b = Value.G2 (F := Ideal) a b := by
  funext i
  obtain ⟨r, l, rfl⟩ : ∃ (r l : Fin 1024), i = ix2 r l := ⟨_, _, eq_ix2 i⟩
  pointwise [Value.G2, k0_pay1, Cert.ReferenceOutWIdeal.Read.val_main_v6, Cert.ReferenceOutWIdeal.Read.val_main_v5, Cert.ReferenceOutWIdeal.Read.val_main_v4,
    Cert.ReferenceOutWIdeal.Read.val_main_v3, Cert.ReferenceOutWIdeal.Read.val_main_v1]
  exact Finset.sum_congr (M := EReal) rfl fun k _ => mul_comm _ _

theorem frame_reference : Cert.quiescent_ReferenceOutWIdeal := fun m ρ _ =>
  (θ_run Cert.ReferenceOutWIdeal.defs _ _).mono (fun r h => ⟨fun c => (h c).2, sem_eq_zero_of_no_sems (by decide) r.2⟩)
    (Cert.ReferenceOutWIdeal.Value.run (F := Ideal) m ρ)

theorem algebraic : Cert.algebraic_KernelOutWIdeal_ReferenceOutWIdeal := by
  intro m g m' g' _ ha
  refine ⟨fun c => Value.G2 (m ((c : Thread nD τ).loc main_arg0)) (m ((c : Thread nD τ).loc main_arg1)), Value.run m g, ?_⟩
  refine (θ_run Cert.ReferenceOutWIdeal.defs _ _).mono (fun r h c => ⟨(h c).1.trans ?_, (h c).2⟩) (Cert.ReferenceOutWIdeal.Value.run m' g')
  rw [Cert.ReferenceOutWIdeal.Read.val_main_v6_eq, (ha c).1, (ha c).2]
  exact reference _ _

end Cert.KernelOutWIdeal.Hand

end
-- ==== Proof.RowNorm.lean ====
/- The norm of a row followed by the modulation, as an exact function of the row, the gain, the scale and the shift. -/
module

public import proofs.«01_k».proof.Defs
public import Idealize.ShloMosaic.Lib.Pipeline.ValueKit.Point

@[expose] public section

noncomputable section

namespace Cert.RowNorm

open Idealize.ShloMosaic

/-- The row divided by the root of its mean square, times the gain, scaled and shifted. -/
def nrm (x : Fin 1024 → EReal) (g s b : EReal) (l : Fin 1024) : EReal :=
  x l * Ideal.rsqrt (Ideal.div (∑ k : Fin 1024, x k * x k) (Ideal.ofBits FTy.f32 1149239296#32) + Ideal.ofBits FTy.f32 897988541#32)
    * g * (1 + s) + b

end Cert.RowNorm

end
-- ==== Proof.NormForward.lean ====
/- The first norm with its modulation, forward: each block norms its own rows. -/
module

public import proofs.«01_k».proof.Defs
public import proofs.«01_k».proof.Proof.RowNorm
public import proofs.«01_k».proof.Proof.Gen.KernelNormIdeal.Value
public import proofs.«01_k».proof.Proof.Gen.ReferenceNormIdeal.Run
public import proofs.«01_k».proof.Proof.Gen.ReferenceNormIdeal.Read
public import Idealize.ShloMosaic.Lib.Pipeline.ValueKit.Point

@[expose] public section

set_option maxRecDepth 16384

noncomputable section

namespace Cert.KernelNormIdeal.Hand

open Cert.KernelNormIdeal Cert.KernelNormIdeal.Gen Cert.RowNorm Idealize.ShloMosaic Idealize.ShloMosaic.TcCoe Idealize.SL.Sem

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])

/-- The result, row by row. -/
def normed (x : S2048x1024.Idx → EReal) (w : S6x1024.Idx → EReal) (g : S1x1024.Idx → EReal) : S2048x1024.Idx → EReal := fun i =>
  nrm (fun k => x (ix2 (i 0) k)) (g (ix2 0 (i 1))) (w (ix2 1 (i 1))) (w (ix2 0 (i 1))) (i 1)

theorem body (x : Vec Ideal S512x1024 .f32) (w : Vec Ideal S8x1024 .f32) (g : Vec Ideal S1x1024 .f32) (r : Fin 512) (l : Fin 1024) :
    out0_3 (F := Ideal) x w g (ix2 r l) = nrm (fun k => x (ix2 r k)) (g (ix2 0 l)) (w (ix2 1 l)) (w (ix2 0 l)) l := by
  have hz : (![0, 0] : Fin 2 → Nat) = fun _ => 0 := funext fun i => by fin_cases i <;> rfl
  unfold out0_3 nrm
  rw [View.canon_unit_zero hz]
  pointwise [k0_pay1]

/-- The modulation's six rows, padded to eight before the call. -/
theorem rows (m : (ℓ : Loc nD τ sig) → Buf (Elt Ideal) ℓ) (c : Dev nD) (q : Fin 6) (l : Fin 1024) :
    (V m c main_v1 : S8x1024.Idx → EReal) (ix2 ⟨q.val, by omega⟩ l) = (m ((c : Thread nD τ).loc main_arg1) : S6x1024.Idx → EReal) (ix2 q l) := by
  entry_read
  pointwise []

theorem final (m : (ℓ : Loc nD τ sig) → Buf (Elt Ideal) ℓ) (c : Dev nD) : (dats m 0 c).arrAt 3 cfg0.N
    = normed (m ((c : Thread nD τ).loc main_arg0)) (m ((c : Thread nD τ).loc main_arg1)) (m ((c : Thread nD τ).loc main_arg2)) := by
  refine Pipeline.Dat.arrAt_eq_of_covers (dats m 0 c) 3 _ (by decide +kernel) fun t hf y => ?_
  obtain ⟨r, l, rfl⟩ : ∃ (r : Fin 512) (l : Fin 1024), y = ix2 r l := ⟨_, _, eq_ix2 y⟩
  have ht : t.val < 4 := lt_of_lt_of_eq t.isLt (by decide)
  have hx (k : Fin 1024) : (iblk m c 0 t : S512x1024.Idx → EReal) (ix2 r k) = V m c main_arg0 (ix2 ⟨512 * t.val + r.val, by omega⟩ k) := by
    blk_ext [iblk, idx0 t]
  have hw (q : Fin 8) (l : Fin 1024) : (iblk m c 1 t : S8x1024.Idx → EReal) (ix2 q l) = V m c main_v1 (ix2 q l) := by
    blk_ext [iblk, idx1 t]
  have hg : (iblk m c 2 t : S1x1024.Idx → EReal) (ix2 0 l) = V m c main_arg2 (ix2 0 l) := by
    blk_ext [iblk, idx2 t]
  refine (congrFun (after0_3 m c t) _).trans ((body _ _ _ r l).trans ?_)
  refine Eq.trans (b := normed (m ((c : Thread nD τ).loc main_arg0)) (m ((c : Thread nD τ).loc main_arg1)) (m ((c : Thread nD τ).loc main_arg2))
    (ix2 ⟨512 * t.val + r.val, by omega⟩ l)) ?_ ?_
  · have h1 := (hw 1 l).trans (rows m c 1 l)
    have h0 := (hw 0 l).trans (rows m c 0 l)
    rw [funext hx, hg, h1, h0, V_main_arg0, V_main_arg2]
    rfl
  · symm
    blk_ext [idx3 t]

open Cert.ReferenceNormIdeal.Read in
theorem reference (x : S2048x1024.Idx → EReal) (w : S6x1024.Idx → EReal) (g : S1x1024.Idx → EReal) :
    val_main_v26 (F := Ideal) x w g = normed x w g := by
  funext i
  obtain ⟨r, l, rfl⟩ : ∃ (r : Fin 2048) (l : Fin 1024), i = ix2 r l := ⟨_, _, eq_ix2 i⟩
  unfold normed nrm
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

theorem frame_reference : Cert.quiescent_ReferenceNormIdeal := fun m ρ _ =>
  (θ_run Cert.ReferenceNormIdeal.defs _ _).mono (fun r h => ⟨fun c => (h c).2, sem_eq_zero_of_no_sems (by decide) r.2⟩)
    (Cert.ReferenceNormIdeal.Value.run (F := Ideal) m ρ)

theorem algebraic : Cert.algebraic_KernelNormIdeal_ReferenceNormIdeal := by
  intro m g m' g' _ ha
  refine ⟨fun c => normed (m ((c : Thread nD τ).loc main_arg0)) (m ((c : Thread nD τ).loc main_arg1)) (m ((c : Thread nD τ).loc main_arg2)), ?_, ?_⟩
  · exact (θ_run defs _ _).mono (fun r h c => ⟨(h c).1.trans (final m c), (h c).2⟩) (Value.run_blocks m g)
  · refine (θ_run Cert.ReferenceNormIdeal.defs _ _).mono (fun r h c => ⟨(h c).1.trans ?_, (h c).2⟩) (Cert.ReferenceNormIdeal.Value.run m' g')
    obtain ⟨a0, a1, a2⟩ := ha c
    rw [Cert.ReferenceNormIdeal.Read.val_main_v26_eq, a0, a1, a2]
    exact reference _ _ _

end Cert.KernelNormIdeal.Hand

end
-- ==== Proof.NormGrad.lean ====
/- The gradient of a row's norm: the two ways to write it agree for every row, infinite entries included. -/
module

public import proofs.«01_k».proof.Defs
public import Idealize.ShloMosaic.Lib.Pipeline.ValueKit.Point

@[expose] public section

noncomputable section

namespace Cert.NormGrad

open Idealize.ShloMosaic

/-- The mean square of a row, plus the small constant. -/
def msq (x : Fin 1024 → EReal) : EReal :=
  Ideal.div (∑ k : Fin 1024, x k * x k) (Ideal.ofBits FTy.f32 1149239296#32) + Ideal.ofBits FTy.f32 897988541#32

theorem bits_len : Ideal.ofBits FTy.f32 1149239296#32 = ((1024 : ℝ) : EReal) := by
  simp [Ideal.ofBits, Ideal.ieee, -EReal.coe_mul]; norm_num

theorem bits_eps : ∃ e : ℝ, 0 < e ∧ Ideal.ofBits FTy.f32 897988541#32 = (e : EReal) := by
  refine ⟨_, ?_, by simp [Ideal.ofBits, Ideal.ieee, -EReal.coe_mul]; rfl⟩
  positivity

theorem bits_half : Ideal.ofBits FTy.f32 3204448256#32 = ((-(1 / 2) : ℝ) : EReal) := by
  simp [Ideal.ofBits, Ideal.ieee, -EReal.coe_mul]; norm_num

theorem div_len (y : EReal) : Ideal.div y (Ideal.ofBits FTy.f32 1149239296#32) = ((1 / 1024 : ℝ) : EReal) * y := by
  rw [bits_len, Ideal.div, if_neg (by norm_num), ← EReal.coe_inv, mul_comm]
  norm_num

theorem coe_mul_sum {n : ℕ} (r : ℝ) (hr : 0 ≤ r) (f : Fin n → EReal) : (r : EReal) * ∑ k, f k = ∑ k, (r : EReal) * f k := by
  induction n with
  | zero => simp
  | succ n ih =>
    rw [Fin.sum_univ_succ, Fin.sum_univ_succ, EReal.left_distrib_of_nonneg_of_ne_top (by exact_mod_cast hr) (EReal.coe_ne_top r), ih]

theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

theorem sq_nonneg' (y : EReal) : 0 ≤ y * y := by
  induction y with
  | bot => simp
  | top => simp
  | coe a => exact_mod_cast mul_self_nonneg a

theorem twice (b : ℝ) (y : EReal) : (b : EReal) * y + (b : EReal) * y = ((2 * b : ℝ) : EReal) * y := by
  have h (z : EReal) : z + z = ((2 : ℝ) : EReal) * z := by
    induction z with
    | bot => rw [EReal.coe_mul_bot_of_pos (by norm_num)]; rfl
    | top => rw [EReal.coe_mul_top_of_pos (by norm_num)]; rfl
    | coe a => rw [← EReal.coe_add, ← EReal.coe_mul, two_mul]
  rw [h, EReal.coe_mul, mul_assoc]

theorem eq_sqrt {v r : ℝ} (hv : 0 < v) (hr : r = (Real.sqrt v)⁻¹) : r / v = r * r * r := by
  have h : Real.sqrt v * Real.sqrt v = v := Real.mul_self_sqrt hv.le
  have h0 : Real.sqrt v ≠ 0 := (Real.sqrt_pos.mpr hv).ne'
  subst hr
  nth_rw 2 [← h]
  field_simp

/-- The mean square and the norm's factor of a row of real entries are real and positive. -/
theorem msq_real (x : Fin 1024 → ℝ) : ∃ v r : ℝ, 0 < v ∧ 0 ≤ r ∧ r / v = r * r * r ∧ msq (fun k => (x k : EReal)) = (v : EReal)
    ∧ Ideal.rsqrt (msq fun k => (x k : EReal)) = (r : EReal) := by
  obtain ⟨e, he, hb⟩ := bits_eps
  have h : msq (fun k => (x k : EReal)) = ((1 / 1024 * (∑ k, x k * x k) + e : ℝ) : EReal) := by
    rw [msq, div_len, hb]
    have : (∑ k, (x k : EReal) * (x k : EReal)) = ((∑ k, x k * x k : ℝ) : EReal) := by
      rw [coe_sum]
      exact Finset.sum_congr rfl fun k _ => (EReal.coe_mul _ _).symm
    rw [this, ← EReal.coe_mul, ← EReal.coe_add]
  have hv : 0 < 1 / 1024 * (∑ k, x k * x k) + e := by
    have : 0 ≤ ∑ k, x k * x k := Finset.sum_nonneg fun k _ => mul_self_nonneg _
    positivity
  refine ⟨_, _, hv, inv_nonneg.mpr (Real.sqrt_nonneg _), eq_sqrt hv rfl, h, ?_⟩
  rw [h]
  show (if _ < _ then _ else if _ = _ then _ else _) = _
  rw [if_neg hv.not_gt, if_neg hv.ne']

/-- An infinite entry makes the factor zero. -/
theorem msq_top (x : Fin 1024 → EReal) (k : Fin 1024) (h : x k = ⊤ ∨ x k = ⊥) : msq x = ⊤ := by
  obtain ⟨e, he, hb⟩ := bits_eps
  have ht : x k * x k = ⊤ := by rcases h with h | h <;> rw [h] <;> simp
  have hs : (∑ k, x k * x k) = ⊤ :=
    top_le_iff.mp (ht ▸ Finset.single_le_sum (f := fun k => x k * x k) (fun k _ => sq_nonneg' _) (Finset.mem_univ k))
  rw [msq, div_len, hs, hb, EReal.coe_mul_top_of_pos (by norm_num), EReal.top_add_coe]

/-- The factor times the difference of the incoming gradient and the row's own share of it, against the two halves taken apart. -/
theorem grad_eq (x d : Fin 1024 → EReal) (l : Fin 1024) :
    Ideal.rsqrt (msq x) * (d l - x l * Ideal.rsqrt (msq x)
        * Ideal.div (∑ k, d k * (x k * Ideal.rsqrt (msq x))) (Ideal.ofBits FTy.f32 1149239296#32))
      = d l * Ideal.rsqrt (msq x)
        + x l * Ideal.div ((∑ k, x k * d k) * (Ideal.ofBits FTy.f32 3204448256#32 * Ideal.div (Ideal.rsqrt (msq x)) (msq x)))
          (Ideal.ofBits FTy.f32 1149239296#32)
        + Ideal.div ((∑ k, x k * d k) * (Ideal.ofBits FTy.f32 3204448256#32 * Ideal.div (Ideal.rsqrt (msq x)) (msq x)))
          (Ideal.ofBits FTy.f32 1149239296#32) * x l := by
  by_cases h : ∃ k, x k = ⊤ ∨ x k = ⊥
  · obtain ⟨k, h⟩ := h
    have hr : Ideal.rsqrt ⊤ = 0 := rfl
    have hd : Ideal.div 0 ⊤ = 0 := by rw [Ideal.div, if_neg (by simp), zero_mul]
    simp only [msq_top x k h, hr, hd, div_len, mul_zero, zero_mul, add_zero]
  · have hx : x = fun k => ((x k).toReal : EReal) := funext fun k => by
      have := not_exists.mp h k
      exact (EReal.coe_toReal (fun e => this (.inl e)) (fun e => this (.inr e))).symm
    obtain ⟨y, rfl⟩ : ∃ y : Fin 1024 → ℝ, x = fun k => (y k : EReal) := ⟨_, hx⟩
    obtain ⟨v, r, hv, hr, hvr, hm, hq⟩ := msq_real y
    have hdiv : Ideal.div (r : EReal) (v : EReal) = ((r * r * r : ℝ) : EReal) := by
      rw [Ideal.div, if_neg (by exact_mod_cast hv.ne'), ← EReal.coe_inv, ← EReal.coe_mul, ← hvr]
      rfl
    have hs : (∑ k, d k * ((y k : EReal) * (r : EReal))) = (r : EReal) * ∑ k, (y k : EReal) * d k := by
      rw [coe_mul_sum r hr]
      exact Finset.sum_congr rfl fun k _ => by rw [← mul_assoc, mul_comm, mul_comm (d k)]
    rw [hm] at hq
    simp only [hm, hq, hdiv, bits_half, div_len, hs]
    generalize (∑ k, (y k : EReal) * d k) = T
    have h1 : (y l : EReal) * (((1 / 1024 : ℝ) : EReal) * (T * (((-(1 / 2) : ℝ) : EReal) * ((r * r * r : ℝ) : EReal))))
        = ((y l * (1 / 1024) * (-(1 / 2) * (r * r * r)) : ℝ) : EReal) * T := by
      simp only [EReal.coe_mul]; ac_rfl
    have h2 : (((1 / 1024 : ℝ) : EReal) * (T * (((-(1 / 2) : ℝ) : EReal) * ((r * r * r : ℝ) : EReal)))) * (y l : EReal)
        = ((y l * (1 / 1024) * (-(1 / 2) * (r * r * r)) : ℝ) : EReal) * T := by
      rw [mul_comm]; exact h1
    have h3 : (r : EReal) * ((y l : EReal) * (r : EReal) * (((1 / 1024 : ℝ) : EReal) * ((r : EReal) * T)))
        = ((y l * (1 / 1024) * (r * r * r) : ℝ) : EReal) * T := by
      simp only [EReal.coe_mul]; ac_rfl
    rw [h1, h2, add_assoc, twice, sub_eq_add_neg, EReal.left_distrib_of_nonneg_of_ne_top (by exact_mod_cast hr) (EReal.coe_ne_top r),
      mul_neg, h3, mul_comm (d l), ← EReal.neg_mul, ← EReal.coe_neg]
    congr 3
    ring

end Cert.NormGrad

end
-- ==== Proof.NormBackward.lean ====
/- The first norm's gradient: each block gives its own rows' gradient, and three rows of column sums are carried from block to block. -/
module

public import proofs.«01_k».proof.Defs
public import proofs.«01_k».proof.Proof.NormGrad
public import proofs.«01_k».proof.Proof.Gen.KernelNormBIdeal.Value
public import proofs.«01_k».proof.Proof.Gen.ReferenceNormBIdeal.Run
public import proofs.«01_k».proof.Proof.Gen.ReferenceNormBIdeal.Read
public import Idealize.ShloMosaic.Lib.WritesUnit
public import Idealize.ShloMosaic.Lib.Pipeline.ReadBack
public import Idealize.ShloMosaic.Lib.Pipeline.ValueKit.Point
public import Idealize.ShloMosaic.Lib.Pipeline.ValueKit.Acc

@[expose] public section

set_option maxRecDepth 16384

noncomputable section

namespace Cert.KernelNormBIdeal.Hand

open Cert.KernelNormBIdeal Cert.KernelNormBIdeal.Gen Cert.NormGrad Idealize.ShloMosaic Idealize.ShloMosaic.TcCoe Idealize.SL.Sem

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem idx6 : ∀ t : Fin cfg0.N, win0_6.index t = ![0, 0] := (by decide +kernel : ∀ t : Fin grid0.N, win0_6.index t = ![0, 0])

/-- One entry of the input's gradient, from the row, the row's incoming gradient after gain and scale, and the gradient that goes past the norm. -/
def entry (x d : Fin 1024 → EReal) (z : EReal) (l : Fin 1024) : EReal :=
  z + Ideal.rsqrt (msq x) * (d l - x l * Ideal.rsqrt (msq x)
    * Ideal.div (∑ k, d k * (x k * Ideal.rsqrt (msq x))) (Ideal.ofBits FTy.f32 1149239296#32))

/-- What one row adds to row `q` of the sums: the shift's, the scale's, the gain's, and nothing to the others. -/
def share (q : Fin 8) (d : EReal) (x : Fin 1024 → EReal) (s g : EReal) (l : Fin 1024) : EReal :=
  if q.val = 0 then d else if q.val = 1 then d * (x l * Ideal.rsqrt (msq x) * g)
  else if q.val = 2 then d * (1 + s) * (x l * Ideal.rsqrt (msq x)) else 0

/-- The input's gradient. -/
def inGrad (d x z : S2048x1024.Idx → EReal) (w : S6x1024.Idx → EReal) (g : S1x1024.Idx → EReal) : S2048x1024.Idx → EReal := fun i =>
  entry (fun k => x (ix2 (i 0) k)) (fun k => d (ix2 (i 0) k) * (1 + w (ix2 1 k)) * g (ix2 0 k)) (z (ix2 (i 0) (i 1))) (i 1)

/-- The rows of sums over all the input's rows. -/
def sums (d x : S2048x1024.Idx → EReal) (w : S6x1024.Idx → EReal) (g : S1x1024.Idx → EReal) : S8x1024.Idx → EReal := fun i =>
  ∑ k : Fin 2048, share (i 0) (d (ix2 k (i 1))) (fun j => x (ix2 k j)) (w (ix2 1 (i 1))) (g (ix2 0 (i 1))) (i 1)

/-- The same over one block's rows. -/
def part (d x : S512x1024.Idx → EReal) (w : S8x1024.Idx → EReal) (g : S1x1024.Idx → EReal) : S8x1024.Idx → EReal := fun i =>
  ∑ k : Fin 512, share (i 0) (d (ix2 k (i 1))) (fun j => x (ix2 k j)) (w (ix2 1 (i 1))) (g (ix2 0 (i 1))) (i 1)

theorem pay_entry (x d z : Vec Ideal S512x1024 .f32) (g w : Vec Ideal S1x1024 .f32) (r : Fin 512) (l : Fin 1024) :
    k0_pay8 (F := Ideal) x d g w z (ix2 r l)
      = entry (fun k => x (ix2 r k)) (fun k => d (ix2 r k) * (1 + w (ix2 0 k)) * g (ix2 0 k)) (z (ix2 r l)) l := by
  unfold entry msq
  pointwise [k0_pay8, k0_pay7, k0_pay6, k0_pay5]

theorem pay_shift (d : Vec Ideal S512x1024 .f32) (a : Vec Ideal S1x1024 .f32) (l : Fin 1024) :
    k0_pay1 (F := Ideal) d a (ix2 0 l) = a (ix2 0 l) + ∑ k : Fin 512, d (ix2 k l) := by
  pointwise [k0_pay1]

theorem pay_scale (x d : Vec Ideal S512x1024 .f32) (g a : Vec Ideal S1x1024 .f32) (l : Fin 1024) :
    k0_pay2 (F := Ideal) d g (k0_pay6 x) a (ix2 0 l)
      = a (ix2 0 l) + ∑ k : Fin 512, d (ix2 k l) * (x (ix2 k l) * Ideal.rsqrt (msq fun j => x (ix2 k j)) * g (ix2 0 l)) := by
  unfold msq
  pointwise [k0_pay2, k0_pay6, k0_pay5]

theorem pay_gain (x d : Vec Ideal S512x1024 .f32) (w a : Vec Ideal S1x1024 .f32) (l : Fin 1024) :
    k0_pay3 (F := Ideal) (k0_pay6 x) (k0_pay7 d w) a (ix2 0 l)
      = a (ix2 0 l) + ∑ k : Fin 512, d (ix2 k l) * (1 + w (ix2 0 l)) * (x (ix2 k l) * Ideal.rsqrt (msq fun j => x (ix2 k j))) := by
  unfold msq
  pointwise [k0_pay3, k0_pay7, k0_pay6, k0_pay5]

theorem ld_row (X : Vec Ideal S8x1024 .f32) (q : Fin 8) (inb) (l : Fin 1024) :
    View.ld X (Rect.unit (s := S8x1024) ![q.val, 0] ![1, 1024] inb) (ix2 0 l) = X (ix2 q l) :=
  View.ld_unit_apply_of X _ _ inb _ _ fun a => by fin_cases a <;> simp [ix2]

/-- Three rows written one after the other, read back. -/
theorem read_rows {κ : Kind} {sp : Space} (v : View sig κ sp S8x1024 .f32) (f) (w2 w1 w0 : S1x1024.Idx → EReal) (i2 i1 i0)
    (L : List (View.Piece (Elt Ideal) S8x1024 .f32)) (q : Fin 8) (l : Fin 1024) :
    v.read (Elt Ideal) (v.writes (Elt Ideal) f (⟨Rect.unit (s := S8x1024) ![2, 0] ![1, 1024] i2, w2⟩
      :: ⟨Rect.unit (s := S8x1024) ![1, 0] ![1, 1024] i1, w1⟩ :: ⟨Rect.unit (s := S8x1024) ![0, 0] ![1, 1024] i0, w0⟩ :: L)) (ix2 q l)
      = if q.val = 0 then w0 (ix2 0 l) else if q.val = 1 then w1 (ix2 0 l) else if q.val = 2 then w2 (ix2 0 l)
        else v.read (Elt Ideal) (v.writes (Elt Ideal) f L) (ix2 q l) := by
  have hit (p : ℕ) (hp : q.val = p) (a : Fin 2) : ((ix2 q l : S8x1024.Idx) a).val = (![p, 0] : Fin 2 → ℕ) a + ((ix2 0 l : S1x1024.Idx) a).val := by
    subst hp; fin_cases a <;> simp [ix2]
  have miss (p : ℕ) (hp : q.val ≠ p) : ((ix2 q l : S8x1024.Idx) 0).val < (![p, 0] : Fin 2 → ℕ) 0
      ∨ (![p, 0] : Fin 2 → ℕ) 0 + (![1, 1024] : Fin 2 → ℕ) 0 ≤ ((ix2 q l : S8x1024.Idx) 0).val := by
    show q.val < p ∨ p + 1 ≤ q.val
    omega
  by_cases h2 : q.val = 2
  · rw [if_neg (by omega), if_neg (by omega), if_pos h2]
    exact View.read_writes_cons_unit_of_mem v f i2 w2 _ _ (ix2 0 l) rfl (hit 2 h2)
  refine (View.read_writes_cons_unit_of_not_mem v f i2 w2 _ _ rfl 0 (miss 2 h2)).trans ?_
  by_cases h1 : q.val = 1
  · rw [if_neg (by omega), if_pos h1]
    exact View.read_writes_cons_unit_of_mem v f i1 w1 _ _ (ix2 0 l) rfl (hit 1 h1)
  refine (View.read_writes_cons_unit_of_not_mem v f i1 w1 _ _ rfl 0 (miss 1 h1)).trans ?_
  by_cases h0 : q.val = 0
  · rw [if_pos h0]
    exact View.read_writes_cons_unit_of_mem v f i0 w0 _ _ (ix2 0 l) rfl (hit 0 h0)
  rw [if_neg h0, if_neg h1, if_neg h2]
  exact View.read_writes_cons_unit_of_not_mem v f i0 w0 _ _ rfl 0 (miss 0 h0)

/-- The three sums over a carried block, collected into one statement. -/
theorem collect (d x : Vec Ideal S512x1024 .f32) (w : Vec Ideal S8x1024 .f32) (g : Vec Ideal S1x1024 .f32) (a : Vec Ideal S8x1024 .f32)
    (iw i2 i1 i0) (rest : EReal) (q : Fin 8) (l : Fin 1024) (hrest : 2 < q.val → rest = a (ix2 q l)) :
    (if q.val = 0 then k0_pay1 (F := Ideal) d (View.ld a (Rect.unit (s := S8x1024) ![0, 0] ![1, 1024] i0)) (ix2 0 l)
      else if q.val = 1 then k0_pay2 (F := Ideal) d g (k0_pay6 x) (View.ld a (Rect.unit (s := S8x1024) ![1, 0] ![1, 1024] i1)) (ix2 0 l)
      else if q.val = 2 then k0_pay3 (F := Ideal) (k0_pay6 x) (k0_pay7 d (View.ld w (Rect.unit (s := S8x1024) ![1, 0] ![1, 1024] iw)))
        (View.ld a (Rect.unit (s := S8x1024) ![2, 0] ![1, 1024] i2)) (ix2 0 l)
      else rest)
      = a (ix2 q l) + part d x w g (ix2 q l) := by
  unfold part share
  have e0 := pay_shift d (View.ld a (Rect.unit (s := S8x1024) ![0, 0] ![1, 1024] i0)) l
  have e1 := pay_scale x d g (View.ld a (Rect.unit (s := S8x1024) ![1, 0] ![1, 1024] i1)) l
  have e2 := pay_gain x d (View.ld w (Rect.unit (s := S8x1024) ![1, 0] ![1, 1024] iw)) (View.ld a (Rect.unit (s := S8x1024) ![2, 0] ![1, 1024] i2)) l
  have r0 := ld_row a 0 i0 l
  have r1 := ld_row a 1 i1 l
  have r2 := ld_row a 2 i2 l
  have rw1 := ld_row w 1 iw l
  by_cases h0 : q.val = 0
  · obtain rfl : q = 0 := Fin.ext h0
    simp only [if_pos h0]
    exact e0.trans (congrArg (fun z : EReal => z + _) r0)
  by_cases h1 : q.val = 1
  · obtain rfl : q = 1 := Fin.ext h1
    simp only [if_neg h0, if_pos h1]
    exact e1.trans (congrArg (fun z : EReal => z + _) r1)
  by_cases h2 : q.val = 2
  · obtain rfl : q = 2 := Fin.ext h2
    simp only [if_neg h0, if_neg h1, if_pos h2]
    refine e2.trans ?_
    erw [r2, rw1]
    rfl
  · have h3 : ¬ ((ix2 q l : S8x1024.Idx) 0).val = 0 ∧ ¬ ((ix2 q l : S8x1024.Idx) 0).val = 1 ∧ ¬ ((ix2 q l : S8x1024.Idx) 0).val = 2 := ⟨h0, h1, h2⟩
    simp only [if_neg h0, if_neg h1, if_neg h2, if_neg h3.1, if_neg h3.2.1, if_neg h3.2.2, Finset.sum_const_zero, add_zero]
    exact hrest (by omega)

variable (m : (ℓ : Loc nD τ sig) → Buf (Elt Ideal) ℓ) (c : Dev nD)

theorem step_first (t : Fin cfg0.N) (h : t.val % 4 = 0) (i : S8x1024.Idx) :
    (outsAt0 (F := Ideal) m c t.val t.isLt).2 i = (fun _ => (0 : EReal)) i + part (iblk m c 0 t) (iblk m c 1 t) (iblk m c 3 t) (iblk m c 4 t) i := by
  obtain ⟨q, l, rfl⟩ : ∃ (q : Fin 8) (l : Fin 1024), i = ix2 q l := ⟨_, _, eq_ix2 i⟩
  rw [outsAt0_A m c t h]
  frame_out
  simp (disch := decide) only [↓View.readCov_skip, View.readCov_fill]
  rw [← View.read_writes_junk_eq_canon (ms0_6 t).view]
  have hz (q : Fin 8) (l : Fin 1024) : k0_pay4 (F := Ideal) (ix2 q l) = 0 := by
    pointwise [k0_pay4]
  refine (read_rows (ms0_6 t).view _ _ _ _ _ _ _ _ q l).trans ((collect (iblk m c 0 t) (iblk m c 1 t) (iblk m c 3 t) (iblk m c 4 t) (k0_pay4 (F := Ideal)) _ _ _ _ _ q l ?_).trans ?_)
  · intro _
    exact View.read_writes_cons_unit_of_mem _ _ _ _ _ _ (ix2 q l) rfl fun a => by fin_cases a <;> simp [ix2]
  · rw [hz]

theorem step_next (t : Fin cfg0.N) (h : ¬t.val % 4 = 0) (i : S8x1024.Idx) :
    (outsAt0 (F := Ideal) m c t.val t.isLt).2 i = (outsAt0 (F := Ideal) m c (t.val - 1) (Nat.lt_of_le_of_lt (Nat.sub_le _ _) t.isLt)).2 i
      + part (iblk m c 0 t) (iblk m c 1 t) (iblk m c 3 t) (iblk m c 4 t) i := by
  obtain ⟨q, l, rfl⟩ : ∃ (q : Fin 8) (l : Fin 1024), i = ix2 q l := ⟨_, _, eq_ix2 i⟩
  rw [outsAt0_B m c t h]
  frame_out
  refine (read_rows (ms0_6 t).view _ _ _ _ _ _ _ _ q l).trans (collect (iblk m c 0 t) (iblk m c 1 t) (iblk m c 3 t) (iblk m c 4 t) _ _ _ _ _ _ q l ?_)
  intro _
  exact congrFun ((hs0_6 t).read_unread _) _

/-- The modulation's six rows, padded to eight before the call. -/
theorem rows (q : Fin 6) (l : Fin 1024) :
    (V m c main_v1 : S8x1024.Idx → EReal) (ix2 ⟨q.val, by omega⟩ l) = (m ((c : Thread nD τ).loc main_arg3) : S6x1024.Idx → EReal) (ix2 q l) := by
  entry_read
  pointwise []

theorem blk_d (t : Fin cfg0.N) (ht : t.val < 4) (r : Fin 512) (l : Fin 1024) :
    (iblk m c 0 t : S512x1024.Idx → EReal) (ix2 r l) = (m ((c : Thread nD τ).loc main_arg0) : S2048x1024.Idx → EReal) (ix2 ⟨t.val * 512 + r.val, by omega⟩ l) := by
  rw [← V_main_arg0 m c]
  blk_ext [iblk, idx0 t]

theorem blk_x (t : Fin cfg0.N) (ht : t.val < 4) (r : Fin 512) (l : Fin 1024) :
    (iblk m c 1 t : S512x1024.Idx → EReal) (ix2 r l) = (m ((c : Thread nD τ).loc main_arg1) : S2048x1024.Idx → EReal) (ix2 ⟨t.val * 512 + r.val, by omega⟩ l) := by
  rw [← V_main_arg1 m c]
  blk_ext [iblk, idx1 t]

theorem blk_z (t : Fin cfg0.N) (ht : t.val < 4) (r : Fin 512) (l : Fin 1024) :
    (iblk m c 2 t : S512x1024.Idx → EReal) (ix2 r l) = (m ((c : Thread nD τ).loc main_arg2) : S2048x1024.Idx → EReal) (ix2 ⟨t.val * 512 + r.val, by omega⟩ l) := by
  rw [← V_main_arg2 m c]
  blk_ext [iblk, idx2 t]

theorem blk_w (t : Fin cfg0.N) (l : Fin 1024) :
    (iblk m c 3 t : S8x1024.Idx → EReal) (ix2 1 l) = (m ((c : Thread nD τ).loc main_arg3) : S6x1024.Idx → EReal) (ix2 1 l) := by
  refine Eq.trans (b := (V m c main_v1 : S8x1024.Idx → EReal) (ix2 1 l)) ?_ (rows m c 1 l)
  blk_ext [iblk, idx3 t]

theorem blk_g (t : Fin cfg0.N) (l : Fin 1024) :
    (iblk m c 4 t : S1x1024.Idx → EReal) (ix2 0 l) = (m ((c : Thread nD τ).loc main_arg4) : S1x1024.Idx → EReal) (ix2 0 l) := by
  rw [← V_main_arg4 m c]
  blk_ext [iblk, idx4 t]

theorem pay_row (x d z : Vec Ideal S512x1024 .f32) (g : Vec Ideal S1x1024 .f32) (w : Vec Ideal S8x1024 .f32) (inb) (r : Fin 512) (l : Fin 1024) :
    k0_pay8 (F := Ideal) x d g (View.ld w (Rect.unit (s := S8x1024) ![1, 0] ![1, 1024] inb)) z (ix2 r l)
      = entry (fun k => x (ix2 r k)) (fun k => d (ix2 r k) * (1 + w (ix2 1 k)) * g (ix2 0 k)) (z (ix2 r l)) l :=
  (pay_entry x d z g _ r l).trans (congrArg (fun f : Fin 1024 → EReal => entry (fun k => x (ix2 r k))
    (fun k => d (ix2 r k) * (1 + f k) * g (ix2 0 k)) (z (ix2 r l)) l) (funext fun k => ld_row w 1 inb k))

theorem out_entry (t : Fin cfg0.N) (r : Fin 512) (l : Fin 1024) :
    (outsAt0 (F := Ideal) m c t.val t.isLt).1 (ix2 r l)
      = entry (fun k => (iblk m c 1 t : S512x1024.Idx → EReal) (ix2 r k))
        (fun k => (show EReal from (iblk m c 0 t : S512x1024.Idx → EReal) (ix2 r k)) * (1 + (show EReal from (iblk m c 3 t : S8x1024.Idx → EReal) (ix2 1 k)))
          * (show EReal from (iblk m c 4 t : S1x1024.Idx → EReal) (ix2 0 k))) ((iblk m c 2 t : S512x1024.Idx → EReal) (ix2 r l)) l := by
  by_cases h0 : t.val % 4 = 0
  · rw [outsAt0_A m c t h0]
    frame_out
    exact pay_row (iblk m c 1 t) (iblk m c 0 t) (iblk m c 2 t) (iblk m c 4 t) (iblk m c 3 t) _ r l
  · rw [outsAt0_B m c t h0]
    frame_out
    exact pay_row (iblk m c 1 t) (iblk m c 0 t) (iblk m c 2 t) (iblk m c 4 t) (iblk m c 3 t) _ r l

theorem final_entry : (dats m 0 c).arrAt 5 cfg0.N
    = inGrad (m ((c : Thread nD τ).loc main_arg0)) (m ((c : Thread nD τ).loc main_arg1)) (m ((c : Thread nD τ).loc main_arg2))
      (m ((c : Thread nD τ).loc main_arg3)) (m ((c : Thread nD τ).loc main_arg4)) := by
  refine Pipeline.Dat.arrAt_eq_of_covers (dats m 0 c) 5 _ (by decide +kernel) fun t hf y => ?_
  obtain ⟨r, l, rfl⟩ : ∃ (r : Fin 512) (l : Fin 1024), y = ix2 r l := ⟨_, _, eq_ix2 y⟩
  have ht : t.val < 4 := lt_of_lt_of_eq t.isLt (by decide)
  refine (congrFun (after0_5 m c t) _).trans ((out_entry m c t r l).trans ?_)
  refine Eq.trans (b := inGrad (m ((c : Thread nD τ).loc main_arg0)) (m ((c : Thread nD τ).loc main_arg1)) (m ((c : Thread nD τ).loc main_arg2))
      (m ((c : Thread nD τ).loc main_arg3)) (m ((c : Thread nD τ).loc main_arg4)) (ix2 ⟨t.val * 512 + r.val, by omega⟩ l)) ?_ ?_
  · simp only [blk_d m c t ht, blk_x m c t ht, blk_z m c t ht, blk_w m c t, blk_g m c t]
    rfl
  · symm
    blk_ext [idx5 t]

theorem out_sums (t : Fin cfg0.N) (ht : t.val + 1 = cfg0.N) (i : S8x1024.Idx) :
    (outsAt0 (F := Ideal) m c t.val t.isLt).2 i
      = sums (m ((c : Thread nD τ).loc main_arg0)) (m ((c : Thread nD τ).loc main_arg1)) (m ((c : Thread nD τ).loc main_arg3))
        (m ((c : Thread nD τ).loc main_arg4)) i := by
  have h := Pipeline.eq_sum_fin_of_reset_step_apply_last (M := EReal) (fun n h => (outsAt0 (F := Ideal) m c n h).2) 4 (fun _ => 0)
    (fun t => part (iblk m c 0 t) (iblk m c 1 t) (iblk m c 3 t) (iblk m c 4 t)) (step_first m c) (step_next m c) (le_of_eq N_0) t ht i
  refine h.trans ((zero_add _).trans ?_)
  refine Fin.sum_mul_add_congr (M := EReal) fun s k hl => ?_
  have hs : s.val < 4 := lt_of_lt_of_eq s.isLt (by decide)
  have hx := funext fun j => blk_x m c s hs k j
  have hd := blk_d m c s hs k (i 1)
  have hw := blk_w m c s (i 1)
  have hg := blk_g m c s (i 1)
  show share (i 0) ((iblk m c 0 s : S512x1024.Idx → EReal) (ix2 k (i 1))) (fun j => (iblk m c 1 s : S512x1024.Idx → EReal) (ix2 k j))
    ((iblk m c 3 s : S8x1024.Idx → EReal) (ix2 1 (i 1))) ((iblk m c 4 s : S1x1024.Idx → EReal) (ix2 0 (i 1))) (i 1) = _
  rw [hx, hd, hw, hg]

theorem final_sums : (dats m 0 c).arrAt 6 cfg0.N
    = sums (m ((c : Thread nD τ).loc main_arg0)) (m ((c : Thread nD τ).loc main_arg1)) (m ((c : Thread nD τ).loc main_arg3))
      (m ((c : Thread nD τ).loc main_arg4)) := by
  refine Pipeline.Dat.arrAt_eq_of_covers (dats m 0 c) 6 _ (by decide +kernel) fun t hf y => ?_
  obtain ⟨q, l, rfl⟩ : ∃ (q : Fin 8) (l : Fin 1024), y = ix2 q l := ⟨_, _, eq_ix2 y⟩
  have ht : t.val < 4 := lt_of_lt_of_eq t.isLt (by decide)
  have h3 := (flush0_6 t).mp hf
  refine (congrFun (after0_6 m c t) _).trans ((out_sums m c t (show t.val + 1 = 4 by omega) (ix2 q l)).trans ?_)
  symm
  blk_ext [idx6 t]

open Cert.ReferenceNormBIdeal.Read in
theorem reference_entry (d x z : S2048x1024.Idx → EReal) (w : S6x1024.Idx → EReal) (g : S1x1024.Idx → EReal) :
    val_main_v59 (F := Ideal) d x z w g = inGrad d x z w g := by
  funext i
  obtain ⟨r, l, rfl⟩ : ∃ (r : Fin 2048) (l : Fin 1024), i = ix2 r l := ⟨_, _, eq_ix2 i⟩
  have h := grad_eq (fun k => x (ix2 r k)) (fun k => d (ix2 r k) * (1 + w (ix2 1 k)) * g (ix2 0 k)) l
  refine Eq.trans ?_ (congrArg (fun y : EReal => z (ix2 r l) + y) h).symm
  unfold msq
  pointwise [val_main_v59, val_main_v58, val_main_v57, val_main_v56, val_main_v55, val_main_v54, val_main_v53, val_main_v52, val_main_v51, val_main_v50, val_main_v49, val_main_v48, val_main_v47, val_main_v46, val_main_v45, val_main_v43, val_main_v42, val_main_v37, val_main_v36, val_main_v29, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst, val_main_cst_0, val_main_cst_1, val_main_cst_2, val_main_cst_3, val_main_cst_10, val_main_cst_11, val_main_cst_12]
  simp only [Fin.sum_univ_one]

open Cert.ReferenceNormBIdeal.Read in
theorem reference_shift (d : S2048x1024.Idx → EReal) (l : Fin 1024) :
    val_main_v60 (F := Ideal) d (ix2 0 l) = ∑ k : Fin 2048, d (ix2 k l) := by
  refine Eq.trans ?_ (Fin.sum_univ_one (fun _ : Fin 1 => ∑ k : Fin 2048, d (ix2 k l)))
  pointwise [val_main_v60, val_main_v32, val_main_v31, val_main_v30, val_main_cst_4, val_main_cst_5]

open Cert.ReferenceNormBIdeal.Read in
theorem reference_scale (d x : S2048x1024.Idx → EReal) (g : S1x1024.Idx → EReal) (l : Fin 1024) :
    val_main_v61 (F := Ideal) d x g (ix2 0 l)
      = ∑ k : Fin 2048, x (ix2 k l) * Ideal.rsqrt (msq fun j => x (ix2 k j)) * g (ix2 0 l) * d (ix2 k l) := by
  refine Eq.trans ?_ (Fin.sum_univ_one (fun _ : Fin 1 => ∑ k : Fin 2048, x (ix2 k l) * Ideal.rsqrt (msq fun j => x (ix2 k j)) * g (ix2 0 l) * d (ix2 k l)))
  unfold msq
  pointwise [val_main_v61, val_main_v38, val_main_v35, val_main_v34, val_main_v33, val_main_v29, val_main_v20, val_main_v19, val_main_v18, val_main_v17, val_main_v16, val_main_v12, val_main_v11, val_main_v10, val_main_v9, val_main_v8, val_main_v7, val_main_v6, val_main_v5, val_main_v4, val_main_cst, val_main_cst_0, val_main_cst_1, val_main_cst_6, val_main_cst_7]

open Cert.ReferenceNormBIdeal.Read in
theorem reference_gain (d x : S2048x1024.Idx → EReal) (w : S6x1024.Idx → EReal) (l : Fin 1024) :
    val_main_v62 (F := Ideal) d x w (ix2 0 l)
      = ∑ k : Fin 2048, x (ix2 k l) * Ideal.rsqrt (msq fun j => x (ix2 k j)) * (d (ix2 k l) * (1 + w (ix2 1 l))) := by
  refine Eq.trans ?_ (Fin.sum_univ_one (fun _ : Fin 1 => ∑ k : Fin 2048, x (ix2 k l) * Ideal.rsqrt (msq fun j => x (ix2 k j)) * (d (ix2 k l) * (1 + w (ix2 1 l)))))
  unfold msq
  pointwise [val_main_v62, val_main_v44, val_main_v41, val_main_v40, val_main_v39, val_main_v37, val_main_v36, val_main_v29, val_main_v23, val_main_v22, val_main_v21, val_main_v17, val_main_v16, val_main_v12, val_main_v11, val_main_v10, val_main_v9, val_main_v8, val_main_v7, val_main_v6, val_main_v5, val_main_v3, val_main_v2, val_main_cst, val_main_cst_0, val_main_cst_1, val_main_cst_3, val_main_cst_8, val_main_cst_9]

open Cert.ReferenceNormBIdeal.Read in
theorem reference_stack (d x : S2048x1024.Idx → EReal) (w : S6x1024.Idx → EReal) (g : S1x1024.Idx → EReal) (q : Fin 8) (l : Fin 1024) :
    val_main_v64 (F := Ideal) d x w g (ix2 q l) = if h : q.val < 1 then val_main_v60 (F := Ideal) d (ix2 ⟨q.val, h⟩ l)
      else if h : q.val - 1 < 1 then val_main_v61 (F := Ideal) d x g (ix2 ⟨q.val - 1, h⟩ l)
      else if h : q.val - 1 - 1 < 1 then val_main_v62 (F := Ideal) d x w (ix2 ⟨q.val - 1 - 1, h⟩ l) else 0 := by
  pointwise [val_main_v64, val_main_v63, val_main_cst_13]

open Cert.ReferenceNormBIdeal.Read in
theorem reference_sums (d x : S2048x1024.Idx → EReal) (w : S6x1024.Idx → EReal) (g : S1x1024.Idx → EReal) :
    val_main_v64 (F := Ideal) d x w g = sums d x w g := by
  funext i
  obtain ⟨q, l, rfl⟩ : ∃ (q : Fin 8) (l : Fin 1024), i = ix2 q l := ⟨_, _, eq_ix2 i⟩
  refine (reference_stack d x w g q l).trans ?_
  show _ = ∑ k : Fin 2048, share q (d (ix2 k l)) (fun j => x (ix2 k j)) (w (ix2 1 l)) (g (ix2 0 l)) l
  unfold share
  by_cases h0 : q.val = 0
  · obtain rfl : q = 0 := Fin.ext h0
    exact reference_shift d l
  by_cases h1 : q.val = 1
  · obtain rfl : q = 1 := Fin.ext h1
    exact (reference_scale d x g l).trans (Finset.sum_congr rfl fun k _ => mul_comm _ _)
  by_cases h2 : q.val = 2
  · obtain rfl : q = 2 := Fin.ext h2
    exact (reference_gain d x w l).trans (Finset.sum_congr rfl fun k _ => mul_comm _ _)
  · rw [dif_neg (by omega), dif_neg (by omega), dif_neg (by omega)]
    simp only [if_neg h0, if_neg h1, if_neg h2, Finset.sum_const_zero]

theorem frame_reference : Cert.quiescent_ReferenceNormBIdeal := fun m ρ _ =>
  (θ_run Cert.ReferenceNormBIdeal.defs _ _).mono (fun r h => ⟨fun c => (h c).2.2, sem_eq_zero_of_no_sems (by decide) r.2⟩)
    (Cert.ReferenceNormBIdeal.Value.run (F := Ideal) m ρ)

theorem algebraic : Cert.algebraic_KernelNormBIdeal_ReferenceNormBIdeal := by
  intro m g m' g' _ ha
  refine ⟨fun c => inGrad (m ((c : Thread nD τ).loc main_arg0)) (m ((c : Thread nD τ).loc main_arg1)) (m ((c : Thread nD τ).loc main_arg2))
      (m ((c : Thread nD τ).loc main_arg3)) (m ((c : Thread nD τ).loc main_arg4)),
    fun c => sums (m ((c : Thread nD τ).loc main_arg0)) (m ((c : Thread nD τ).loc main_arg1)) (m ((c : Thread nD τ).loc main_arg3))
      (m ((c : Thread nD τ).loc main_arg4)), ?_, ?_⟩
  · exact (θ_run defs _ _).mono (fun r h c => ⟨(h c).1.trans (final_entry m c), (h c).2.1.trans (final_sums m c), (h c).2.2⟩) (Value.run_blocks m g)
  · refine (θ_run Cert.ReferenceNormBIdeal.defs _ _).mono (fun r h c => ⟨(h c).1.trans ?_, (h c).2.1.trans ?_, (h c).2.2⟩)
      (Cert.ReferenceNormBIdeal.Value.run m' g')
    · obtain ⟨a0, a1, a2, a3, a4⟩ := ha c
      rw [Cert.ReferenceNormBIdeal.Read.val_main_v59_eq, a0, a1, a2, a3, a4]
      exact reference_entry _ _ _ _ _
    · obtain ⟨a0, a1, a2, a3, a4⟩ := ha c
      refine (Cert.ReferenceNormBIdeal.Read.val_main_v64_eq _ _ _ _).trans ?_
      rw [a0, a1, a3, a4]
      exact reference_sums _ _ _ _

end Cert.KernelNormBIdeal.Hand

end
-- ==== Proof.ResidForward.lean ====
/- The residual addition and the second norm with its modulation, forward: each block norms its own rows. -/
module

public import proofs.«01_k».proof.Defs
public import proofs.«01_k».proof.Proof.RowNorm
public import proofs.«01_k».proof.Proof.Gen.KernelResidIdeal.Value
public import proofs.«01_k».proof.Proof.Gen.ReferenceResidIdeal.Run
public import proofs.«01_k».proof.Proof.Gen.ReferenceResidIdeal.Read
public import Idealize.ShloMosaic.Lib.Pipeline.ValueKit.Point

@[expose] public section

set_option maxRecDepth 16384

noncomputable section

namespace Cert.KernelResidIdeal.Hand

open Cert.KernelResidIdeal Cert.KernelResidIdeal.Gen Cert.RowNorm Idealize.ShloMosaic Idealize.ShloMosaic.TcCoe Idealize.SL.Sem

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])

/-- A row's entry after the addition, from the blocks' entries. -/
def plus (a b z : EReal) : EReal := a + b * z

/-- The rows after the residual addition. -/
def added (x z : S2048x1024.Idx → EReal) (w : S6x1024.Idx → EReal) : S2048x1024.Idx → EReal := fun i =>
  plus (x (ix2 (i 0) (i 1))) (w (ix2 2 (i 1))) (z (ix2 (i 0) (i 1)))

/-- Those rows normed. -/
def normed (x z : S2048x1024.Idx → EReal) (w : S6x1024.Idx → EReal) (g : S1x1024.Idx → EReal) : S2048x1024.Idx → EReal := fun i =>
  nrm (fun k => added x z w (ix2 (i 0) k)) (g (ix2 0 (i 1))) (w (ix2 4 (i 1))) (w (ix2 3 (i 1))) (i 1)

section body

variable (x z : Vec Ideal S512x1024 .f32) (w : Vec Ideal S8x1024 .f32) (g : Vec Ideal S1x1024 .f32) (r : Fin 512) (l : Fin 1024)

theorem hz : (![0, 0] : Fin 2 → Nat) = fun _ => 0 := funext fun i => by fin_cases i <;> rfl

theorem body4 : out0_4 (F := Ideal) x z w g (ix2 r l) = plus (x (ix2 r l)) (w (ix2 2 l)) (z (ix2 r l)) := by
  unfold out0_4 plus
  rw [View.canon_unit_zero hz]
  pointwise [k0_pay1]

theorem body5 : out0_5 (F := Ideal) x z w g (ix2 r l)
    = nrm (fun k => plus (x (ix2 r k)) (w (ix2 2 k)) (z (ix2 r k))) (g (ix2 0 l)) (w (ix2 4 l)) (w (ix2 3 l)) l := by
  unfold out0_5 nrm plus
  rw [View.canon_unit_zero hz]
  pointwise [k0_pay2, k0_pay1]

end body

/-- The modulation's six rows, padded to eight before the call. -/
theorem rows (m : (ℓ : Loc nD τ sig) → Buf (Elt Ideal) ℓ) (c : Dev nD) (q : Fin 6) (l : Fin 1024) :
    (V m c main_v1 : S8x1024.Idx → EReal) (ix2 ⟨q.val, by omega⟩ l) = (m ((c : Thread nD τ).loc main_arg2) : S6x1024.Idx → EReal) (ix2 q l) := by
  entry_read
  pointwise []

section final

variable (m : (ℓ : Loc nD τ sig) → Buf (Elt Ideal) ℓ) (c : Dev nD) (t : Fin cfg0.N) (r : Fin 512) (k : Fin 1024)

theorem row : 512 * t.val + r.val < 2048 := by
  have ht : t.val < 4 := lt_of_lt_of_eq t.isLt (by decide)
  omega

theorem hx : (iblk m c 0 t : S512x1024.Idx → EReal) (ix2 r k) = V m c main_arg0 (ix2 ⟨512 * t.val + r.val, row t r⟩ k) := by
  blk_ext [iblk, idx0 t]

theorem hp : (iblk m c 1 t : S512x1024.Idx → EReal) (ix2 r k) = V m c main_arg1 (ix2 ⟨512 * t.val + r.val, row t r⟩ k) := by
  blk_ext [iblk, idx1 t]

theorem hw (q : Fin 6) : (iblk m c 2 t : S8x1024.Idx → EReal) (ix2 ⟨q.val, by omega⟩ k)
    = (m ((c : Thread nD τ).loc main_arg2) : S6x1024.Idx → EReal) (ix2 q k) := by
  rw [← rows m c q k]
  blk_ext [iblk, idx2 t]

theorem hg : (iblk m c 3 t : S1x1024.Idx → EReal) (ix2 0 k) = V m c main_arg3 (ix2 0 k) := by
  blk_ext [iblk, idx3 t]

theorem sum_row : plus ((iblk m c 0 t : S512x1024.Idx → EReal) (ix2 r k)) ((iblk m c 2 t : S8x1024.Idx → EReal) (ix2 2 k))
      ((iblk m c 1 t : S512x1024.Idx → EReal) (ix2 r k))
    = added (m ((c : Thread nD τ).loc main_arg0)) (m ((c : Thread nD τ).loc main_arg1)) (m ((c : Thread nD τ).loc main_arg2)) (ix2 ⟨512 * t.val + r.val, row t r⟩ k) := by
  have h2 : (iblk m c 2 t : S8x1024.Idx → EReal) (ix2 2 k) = _ := hw m c t k 2
  rw [hx, hp, h2, V_main_arg0, V_main_arg1]
  rfl

theorem final4 : (dats m 0 c).arrAt 4 cfg0.N = added (m ((c : Thread nD τ).loc main_arg0)) (m ((c : Thread nD τ).loc main_arg1)) (m ((c : Thread nD τ).loc main_arg2)) := by
  refine Pipeline.Dat.arrAt_eq_of_covers (dats m 0 c) 4 _ (by decide +kernel) fun t hf y => ?_
  obtain ⟨r, l, rfl⟩ : ∃ (r : Fin 512) (l : Fin 1024), y = ix2 r l := ⟨_, _, eq_ix2 y⟩
  refine (congrFun (after0_4 m c t) _).trans ((body4 _ _ _ _ r l).trans ((sum_row m c t r l).trans ?_))
  have := row t r
  symm
  blk_ext [idx4 t]

theorem final5 : (dats m 0 c).arrAt 5 cfg0.N = normed (m ((c : Thread nD τ).loc main_arg0)) (m ((c : Thread nD τ).loc main_arg1)) (m ((c : Thread nD τ).loc main_arg2)) (m ((c : Thread nD τ).loc main_arg3)) := by
  refine Pipeline.Dat.arrAt_eq_of_covers (dats m 0 c) 5 _ (by decide +kernel) fun t hf y => ?_
  obtain ⟨r, l, rfl⟩ : ∃ (r : Fin 512) (l : Fin 1024), y = ix2 r l := ⟨_, _, eq_ix2 y⟩
  refine (congrFun (after0_5 m c t) _).trans ((body5 _ _ _ _ r l).trans ?_)
  refine Eq.trans (b := normed (m ((c : Thread nD τ).loc main_arg0)) (m ((c : Thread nD τ).loc main_arg1)) (m ((c : Thread nD τ).loc main_arg2)) (m ((c : Thread nD τ).loc main_arg3)) (ix2 ⟨512 * t.val + r.val, row t r⟩ l)) ?_ ?_
  · have h4 : (iblk m c 2 t : S8x1024.Idx → EReal) (ix2 4 l) = _ := hw m c t l 4
    have h3 : (iblk m c 2 t : S8x1024.Idx → EReal) (ix2 3 l) = _ := hw m c t l 3
    rw [funext (sum_row m c t r), hg, h4, h3, V_main_arg3]
    rfl
  · have := row t r
    symm
    blk_ext [idx5 t]

end final

section reference

open Cert.ReferenceResidIdeal.Read

variable (x z : S2048x1024.Idx → EReal) (w : S6x1024.Idx → EReal) (g : S1x1024.Idx → EReal)

theorem ref_added : val_main_v5 (F := Ideal) x z w = added x z w := by
  funext i
  obtain ⟨r, l, rfl⟩ : ∃ (r : Fin 2048) (l : Fin 1024), i = ix2 r l := ⟨_, _, eq_ix2 i⟩
  unfold added plus
  pointwise [val_main_v5, val_main_v4, val_main_v3, val_main_v2, val_main_v1, val_main_v0]

theorem ref_normed : val_main_v32 (F := Ideal) x z w g = normed x z w g := by
  funext i
  obtain ⟨r, l, rfl⟩ : ∃ (r : Fin 2048) (l : Fin 1024), i = ix2 r l := ⟨_, _, eq_ix2 i⟩
  unfold normed nrm
  rw [← ref_added]
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst, val_main_cst_0, val_main_cst_1, val_main_cst_2]

end reference

theorem frame_reference : Cert.quiescent_ReferenceResidIdeal := fun m ρ _ =>
  (θ_run Cert.ReferenceResidIdeal.defs _ _).mono (fun r h => ⟨fun c => (h c).2.2, sem_eq_zero_of_no_sems (by decide) r.2⟩)
    (Cert.ReferenceResidIdeal.Value.run (F := Ideal) m ρ)

theorem algebraic : Cert.algebraic_KernelResidIdeal_ReferenceResidIdeal := by
  intro m g m' g' _ ha
  refine ⟨fun c => added (m ((c : Thread nD τ).loc main_arg0)) (m ((c : Thread nD τ).loc main_arg1)) (m ((c : Thread nD τ).loc main_arg2)), fun c => normed (m ((c : Thread nD τ).loc main_arg0)) (m ((c : Thread nD τ).loc main_arg1)) (m ((c : Thread nD τ).loc main_arg2)) (m ((c : Thread nD τ).loc main_arg3)), ?_, ?_⟩
  · exact (θ_run defs _ _).mono (fun r h c => ⟨(h c).1.trans (final4 m c), (h c).2.1.trans (final5 m c), (h c).2.2⟩) (Value.run_blocks m g)
  · refine (θ_run Cert.ReferenceResidIdeal.defs _ _).mono (fun r h c => ?_) (Cert.ReferenceResidIdeal.Value.run m' g')
    obtain ⟨h0, h1, hk⟩ := h c
    obtain ⟨a0, a1, a2, a3⟩ := ha c
    rw [Cert.ReferenceResidIdeal.Read.val_main_v5_eq, a0, a1, a2] at h0
    rw [Cert.ReferenceResidIdeal.Read.val_main_v32_eq, a0, a1, a2, a3] at h1
    exact ⟨h0.trans (ref_added _ _ _), h1.trans (ref_normed _ _ _ _), hk⟩

end Cert.KernelResidIdeal.Hand

end
-- ==== Proof.Adam.lean ====
/- The optimiser's step on one weight, as the exact functions of its gradient, the two moments and the weight:
   the constants are the 32-bit words the programs carry (decay rates 0.9 and 0.999, their complements, the bias
   corrections of step 10, the step size, the weight decay and the small number below the square root). -/
module

public import proofs.«01_k».proof.Defs
public import Idealize.ShloMosaic.Lib.Pipeline.ValueKit.Point

@[expose] public section

noncomputable section

namespace Cert.Adam

open Idealize.ShloMosaic

/-- The first moment after the step. -/
def mom (g m : EReal) : EReal := Ideal.ofBits FTy.f32 1063675494#32 * m + Ideal.ofBits FTy.f32 1036831949#32 * g

/-- The second moment after the step. -/
def vel (g v : EReal) : EReal := Ideal.ofBits FTy.f32 1065336439#32 * v + Ideal.ofBits FTy.f32 981668463#32 * (g * g)

/-- The change of the weight. -/
def del (w g m v : EReal) : EReal :=
  Ideal.ofBits FTy.f32 3129152111#32 *
    (Ideal.div (Ideal.div (mom g m) (Ideal.ofBits FTy.f32 1059503362#32))
        (Ideal.sqrt (Ideal.div (vel g v) (Ideal.ofBits FTy.f32 1008933580#32)) + Ideal.ofBits FTy.f32 841731191#32) +
      Ideal.ofBits FTy.f32 1008981770#32 * w)

end Cert.Adam

end
-- ==== Proof.StepDown.lean ====
/- The optimiser's step on w_down: each block sums the four parts of the gradient and steps its rows. -/
module

public import proofs.«01_k».proof.Defs
public import proofs.«01_k».proof.Proof.Adam
public import proofs.«01_k».proof.Proof.Gen.KernelDownIdeal.Value
public import proofs.«01_k».proof.Proof.Gen.ReferenceDownIdeal.Run
public import proofs.«01_k».proof.Proof.Gen.ReferenceDownIdeal.Read
public import Idealize.ShloMosaic.Lib.Pipeline.ValueKit.Point

@[expose] public section

set_option maxRecDepth 16384

noncomputable section

namespace Cert.KernelDownIdeal.Hand

open Cert.KernelDownIdeal Cert.KernelDownIdeal.Gen Cert.Adam Idealize.ShloMosaic Idealize.ShloMosaic.TcCoe Idealize.SL.Sem

/-- The array of parts, and an array of the weight's shape. -/
abbrev P := S4x352x1024.Idx → EReal
abbrev A := S352x1024.Idx → EReal

/-- The four results: the sum of the parts, the change of the weight, the two moments. -/
def sum (a : P) : A := fun i => ∑ q : Fin 4, a (ix3 q (i 0) (i 1))
def change (a : P) (w p v : A) : A := fun i => del (w i) (sum a i) (p i) (v i)
def first (a : P) (p : A) : A := fun i => mom (sum a i) (p i)
def second (a : P) (v : A) : A := fun i => vel (sum a i) (v i)

theorem idx0 : ∀ t : Fin cfg0.N, win0_0.index t = ![0, t.val, 0] := (by decide +kernel : ∀ t : Fin grid0.N, win0_0.index t = ![0, t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])

section body

variable (x : Vec Ideal S4x176x1024 .bf16) (w p v : Vec Ideal S176x1024 .f32) (r : Fin 176) (l : Fin 1024)

theorem hz : (![0, 0] : Fin 2 → Nat) = fun _ => 0 := funext fun i => by fin_cases i <;> rfl

theorem body4 : out0_4 (F := Ideal) x w p v (ix2 r l) = ∑ q : Fin 4, x (ix3 q r l) := by
  rw [Fin.sum_univ_four]
  unfold_out out0_4
  rw [View.canon_unit_zero hz]
  pointwise [k0_pay1, k0_pay2, k0_pay3, k0_pay4, k0_pay5]

theorem body5 : out0_5 (F := Ideal) x w p v (ix2 r l) = del (w (ix2 r l)) (∑ q : Fin 4, x (ix3 q r l)) (p (ix2 r l)) (v (ix2 r l)) := by
  rw [Fin.sum_univ_four]
  unfold del mom vel
  unfold_out out0_5
  rw [View.canon_unit_zero hz]
  pointwise [k0_pay1, k0_pay2, k0_pay3, k0_pay4, k0_pay5]

theorem body6 : out0_6 (F := Ideal) x w p v (ix2 r l) = mom (∑ q : Fin 4, x (ix3 q r l)) (p (ix2 r l)) := by
  rw [Fin.sum_univ_four]
  unfold mom
  unfold_out out0_6
  rw [View.canon_unit_zero hz]
  pointwise [k0_pay1, k0_pay2, k0_pay3, k0_pay4, k0_pay5]

theorem body7 : out0_7 (F := Ideal) x w p v (ix2 r l) = vel (∑ q : Fin 4, x (ix3 q r l)) (v (ix2 r l)) := by
  rw [Fin.sum_univ_four]
  unfold vel
  unfold_out out0_7
  rw [View.canon_unit_zero hz]
  pointwise [k0_pay1, k0_pay2, k0_pay3, k0_pay4, k0_pay5]

end body

section final

variable (m : (ℓ : Loc nD τ sig) → Buf (Elt Ideal) ℓ) (c : Dev nD) (t : Fin cfg0.N) (r : Fin 176) (l : Fin 1024)

theorem row : 176 * t.val + r.val < 352 := by
  have ht : t.val < 2 := lt_of_lt_of_eq t.isLt (by decide)
  omega

theorem parts : Finset.sum (M := EReal) Finset.univ (fun q : Fin 4 => (iblk m c 0 t : S4x176x1024.Idx → EReal) (ix3 q r l)) =
     sum (V m c main_arg0) (ix2 ⟨176 * t.val + r.val, row t r⟩ l) := by
  refine Finset.sum_congr (M := EReal) rfl fun q _ => ?_
  have h : (iblk m c 0 t : S4x176x1024.Idx → EReal) (ix3 q r l) = V m c main_arg0 (ix3 q ⟨176 * t.val + r.val, row t r⟩ l) := by
    blk_ext [iblk, idx0 t]
  exact h

theorem weight : (iblk m c 1 t : S176x1024.Idx → EReal) (ix2 r l) = V m c main_arg1 (ix2 ⟨176 * t.val + r.val, row t r⟩ l) := by
  blk_ext [iblk, idx1 t]

theorem moment1 : (iblk m c 2 t : S176x1024.Idx → EReal) (ix2 r l) = V m c main_arg2 (ix2 ⟨176 * t.val + r.val, row t r⟩ l) := by
  blk_ext [iblk, idx2 t]

theorem moment2 : (iblk m c 3 t : S176x1024.Idx → EReal) (ix2 r l) = V m c main_arg3 (ix2 ⟨176 * t.val + r.val, row t r⟩ l) := by
  blk_ext [iblk, idx3 t]

theorem final4 : (dats m 0 c).arrAt 4 cfg0.N = sum (V m c main_arg0) := by
  refine Pipeline.Dat.arrAt_eq_of_covers (dats m 0 c) 4 _ (by decide +kernel) fun t hf y => ?_
  obtain ⟨r, l, rfl⟩ : ∃ (r : Fin 176) (l : Fin 1024), y = ix2 r l := ⟨_, _, eq_ix2 y⟩
  refine (congrFun (after0_4 m c t) _).trans ((body4 _ _ _ _ r l).trans ((parts m c t r l).trans ?_))
  have := row t r
  symm
  blk_ext [idx4 t]

theorem final5 : (dats m 0 c).arrAt 5 cfg0.N = change (V m c main_arg0) (V m c main_arg1) (V m c main_arg2) (V m c main_arg3) := by
  refine Pipeline.Dat.arrAt_eq_of_covers (dats m 0 c) 5 _ (by decide +kernel) fun t hf y => ?_
  obtain ⟨r, l, rfl⟩ : ∃ (r : Fin 176) (l : Fin 1024), y = ix2 r l := ⟨_, _, eq_ix2 y⟩
  refine (congrFun (after0_5 m c t) _).trans ((body5 _ _ _ _ r l).trans ?_)
  refine Eq.trans (b := change (V m c main_arg0) (V m c main_arg1) (V m c main_arg2) (V m c main_arg3) (ix2 ⟨176 * t.val + r.val, row t r⟩ l)) ?_ ?_
  · rw [parts, weight, moment1, moment2]
    rfl
  · have := row t r
    symm
    blk_ext [idx5 t]

theorem final6 : (dats m 0 c).arrAt 6 cfg0.N = first (V m c main_arg0) (V m c main_arg2) := by
  refine Pipeline.Dat.arrAt_eq_of_covers (dats m 0 c) 6 _ (by decide +kernel) fun t hf y => ?_
  obtain ⟨r, l, rfl⟩ : ∃ (r : Fin 176) (l : Fin 1024), y = ix2 r l := ⟨_, _, eq_ix2 y⟩
  refine (congrFun (after0_6 m c t) _).trans ((body6 _ _ _ _ r l).trans ?_)
  refine Eq.trans (b := first (V m c main_arg0) (V m c main_arg2) (ix2 ⟨176 * t.val + r.val, row t r⟩ l)) ?_ ?_
  · rw [parts, moment1]
    rfl
  · have := row t r
    symm
    blk_ext [idx6 t]

theorem final7 : (dats m 0 c).arrAt 7 cfg0.N = second (V m c main_arg0) (V m c main_arg3) := by
  refine Pipeline.Dat.arrAt_eq_of_covers (dats m 0 c) 7 _ (by decide +kernel) fun t hf y => ?_
  obtain ⟨r, l, rfl⟩ : ∃ (r : Fin 176) (l : Fin 1024), y = ix2 r l := ⟨_, _, eq_ix2 y⟩
  refine (congrFun (after0_7 m c t) _).trans ((body7 _ _ _ _ r l).trans ?_)
  refine Eq.trans (b := second (V m c main_arg0) (V m c main_arg3) (ix2 ⟨176 * t.val + r.val, row t r⟩ l)) ?_ ?_
  · rw [parts, moment2]
    rfl
  · have := row t r
    symm
    blk_ext [idx7 t]

end final

section reference

open Cert.ReferenceDownIdeal.Read

variable (a : P) (w p v : A)

theorem ref_read (r : Fin 352) (l : Fin 1024) : val_main_v1 (F := Ideal) a (ix2 r l) = ∑ q : Fin 4, a (ix3 q r l) := by
  pointwise [val_main_v1, val_main_v0, val_main_cst]

theorem ref_mom (r : Fin 352) (l : Fin 1024) : val_main_v6 (F := Ideal) a p (ix2 r l) = mom (∑ q : Fin 4, a (ix3 q r l)) (p (ix2 r l)) := by
  rw [← ref_read]
  unfold mom
  pointwise [val_main_v6, val_main_v5, val_main_v4, val_main_v3, val_main_v2, val_main_cst_0, val_main_cst_1]

theorem ref_vel (r : Fin 352) (l : Fin 1024) : val_main_v12 (F := Ideal) a v (ix2 r l) = vel (∑ q : Fin 4, a (ix3 q r l)) (v (ix2 r l)) := by
  rw [← ref_read]
  unfold vel
  pointwise [val_main_v12, val_main_v11, val_main_v10, val_main_v9, val_main_v8, val_main_v7, val_main_cst_2, val_main_cst_3]

theorem ref_del (r : Fin 352) (l : Fin 1024) :
    val_main_v25 (F := Ideal) a w p v (ix2 r l) = del (w (ix2 r l)) (∑ q : Fin 4, a (ix3 q r l)) (p (ix2 r l)) (v (ix2 r l)) := by
  unfold del
  rw [← ref_mom, ← ref_vel]
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8]

theorem ref_sum : val_main_v1 (F := Ideal) a = sum a := by
  funext i
  obtain ⟨r, l, rfl⟩ : ∃ (r : Fin 352) (l : Fin 1024), i = ix2 r l := ⟨_, _, eq_ix2 i⟩
  exact ref_read a r l

theorem ref_change : val_main_v25 (F := Ideal) a w p v = change a w p v := by
  funext i
  obtain ⟨r, l, rfl⟩ : ∃ (r : Fin 352) (l : Fin 1024), i = ix2 r l := ⟨_, _, eq_ix2 i⟩
  exact ref_del a w p v r l

theorem ref_first : val_main_v6 (F := Ideal) a p = first a p := by
  funext i
  obtain ⟨r, l, rfl⟩ : ∃ (r : Fin 352) (l : Fin 1024), i = ix2 r l := ⟨_, _, eq_ix2 i⟩
  exact ref_mom a p r l

theorem ref_second : val_main_v12 (F := Ideal) a v = second a v := by
  funext i
  obtain ⟨r, l, rfl⟩ : ∃ (r : Fin 352) (l : Fin 1024), i = ix2 r l := ⟨_, _, eq_ix2 i⟩
  exact ref_vel a v r l

end reference

theorem frame_reference : Cert.quiescent_ReferenceDownIdeal := fun m ρ _ =>
  (θ_run Cert.ReferenceDownIdeal.defs _ _).mono (fun r h => ⟨fun c => (h c).2.2.2.2, sem_eq_zero_of_no_sems (by decide) r.2⟩)
    (Cert.ReferenceDownIdeal.Value.run (F := Ideal) m ρ)

theorem algebraic : Cert.algebraic_KernelDownIdeal_ReferenceDownIdeal := by
  intro m g m' g' _ ha
  let M (c : Dev nD) (b : Ref sig .tc) : Buf (Elt Ideal) ((c : Thread nD τ).loc b) := m ((c : Thread nD τ).loc b)
  refine ⟨fun c => sum (M c main_arg0), fun c => change (M c main_arg0) (M c main_arg1) (M c main_arg2) (M c main_arg3),
    fun c => first (M c main_arg0) (M c main_arg2), fun c => second (M c main_arg0) (M c main_arg3), ?_, ?_⟩
  · refine (θ_run defs _ _).mono (fun r h c => ?_) (Value.run_blocks m g)
    obtain ⟨h0, h1, h2, h3, hk⟩ := h c
    rw [final4, V_main_arg0] at h0
    rw [final5, V_main_arg0, V_main_arg1, V_main_arg2, V_main_arg3] at h1
    rw [final6, V_main_arg0, V_main_arg2] at h2
    rw [final7, V_main_arg0, V_main_arg3] at h3
    exact ⟨h0, h1, h2, h3, hk⟩
  · refine (θ_run Cert.ReferenceDownIdeal.defs _ _).mono (fun r h c => ?_) (Cert.ReferenceDownIdeal.Value.run m' g')
    obtain ⟨h0, h1, h2, h3, hk⟩ := h c
    obtain ⟨a0, a1, a2, a3⟩ := ha c
    rw [Cert.ReferenceDownIdeal.Read.val_main_v1_eq, a0] at h0
    rw [Cert.ReferenceDownIdeal.Read.val_main_v25_eq, a0, a1, a2, a3] at h1
    rw [Cert.ReferenceDownIdeal.Read.val_main_v6_eq, a0, a2] at h2
    rw [Cert.ReferenceDownIdeal.Read.val_main_v12_eq, a0, a3] at h3
    exact ⟨h0.trans (ref_sum _), h1.trans (ref_change _ _ _ _), h2.trans (ref_first _ _), h3.trans (ref_second _ _), hk⟩

end Cert.KernelDownIdeal.Hand

end
-- ==== Proof.StepUp.lean ====
/- The optimiser's step on w_up, kept turned: each block sums the four parts of the gradient and steps its rows. -/
module

public import proofs.«01_k».proof.Defs
public import proofs.«01_k».proof.Proof.Adam
public import proofs.«01_k».proof.Proof.Gen.KernelUpIdeal.Value
public import proofs.«01_k».proof.Proof.Gen.ReferenceUpIdeal.Run
public import proofs.«01_k».proof.Proof.Gen.ReferenceUpIdeal.Read
public import Idealize.ShloMosaic.Lib.Pipeline.ValueKit.Point

@[expose] public section

set_option maxRecDepth 16384

noncomputable section

namespace Cert.KernelUpIdeal.Hand

open Cert.KernelUpIdeal Cert.KernelUpIdeal.Gen Cert.Adam Idealize.ShloMosaic Idealize.ShloMosaic.TcCoe Idealize.SL.Sem

/-- The array of parts, and an array of the weight's shape. -/
abbrev P := S4x704x1024.Idx → EReal
abbrev A := S704x1024.Idx → EReal

/-- The four results: the sum of the parts, the change of the weight, the two moments. -/
def sum (a : P) : A := fun i => ∑ q : Fin 4, a (ix3 q (i 0) (i 1))
def change (a : P) (w p v : A) : A := fun i => del (w i) (sum a i) (p i) (v i)
def first (a : P) (p : A) : A := fun i => mom (sum a i) (p i)
def second (a : P) (v : A) : A := fun i => vel (sum a i) (v i)

theorem idx0 : ∀ t : Fin cfg0.N, win0_0.index t = ![0, t.val, 0] := (by decide +kernel : ∀ t : Fin grid0.N, win0_0.index t = ![0, t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])

section body

variable (x : Vec Ideal S4x176x1024 .bf16) (w p v : Vec Ideal S176x1024 .f32) (r : Fin 176) (l : Fin 1024)

theorem hz : (![0, 0] : Fin 2 → Nat) = fun _ => 0 := funext fun i => by fin_cases i <;> rfl

theorem body4 : out0_4 (F := Ideal) x w p v (ix2 r l) = ∑ q : Fin 4, x (ix3 q r l) := by
  rw [Fin.sum_univ_four]
  unfold_out out0_4
  rw [View.canon_unit_zero hz]
  pointwise [k0_pay1, k0_pay2, k0_pay3, k0_pay4, k0_pay5]

theorem body5 : out0_5 (F := Ideal) x w p v (ix2 r l) = del (w (ix2 r l)) (∑ q : Fin 4, x (ix3 q r l)) (p (ix2 r l)) (v (ix2 r l)) := by
  rw [Fin.sum_univ_four]
  unfold del mom vel
  unfold_out out0_5
  rw [View.canon_unit_zero hz]
  pointwise [k0_pay1, k0_pay2, k0_pay3, k0_pay4, k0_pay5]

theorem body6 : out0_6 (F := Ideal) x w p v (ix2 r l) = mom (∑ q : Fin 4, x (ix3 q r l)) (p (ix2 r l)) := by
  rw [Fin.sum_univ_four]
  unfold mom
  unfold_out out0_6
  rw [View.canon_unit_zero hz]
  pointwise [k0_pay1, k0_pay2, k0_pay3, k0_pay4, k0_pay5]

theorem body7 : out0_7 (F := Ideal) x w p v (ix2 r l) = vel (∑ q : Fin 4, x (ix3 q r l)) (v (ix2 r l)) := by
  rw [Fin.sum_univ_four]
  unfold vel
  unfold_out out0_7
  rw [View.canon_unit_zero hz]
  pointwise [k0_pay1, k0_pay2, k0_pay3, k0_pay4, k0_pay5]

end body

section final

variable (m : (ℓ : Loc nD τ sig) → Buf (Elt Ideal) ℓ) (c : Dev nD) (t : Fin cfg0.N) (r : Fin 176) (l : Fin 1024)

theorem row : 176 * t.val + r.val < 704 := by
  have ht : t.val < 4 := lt_of_lt_of_eq t.isLt (by decide)
  omega

theorem parts : Finset.sum (M := EReal) Finset.univ (fun q : Fin 4 => (iblk m c 0 t : S4x176x1024.Idx → EReal) (ix3 q r l)) =
     sum (V m c main_arg0) (ix2 ⟨176 * t.val + r.val, row t r⟩ l) := by
  refine Finset.sum_congr (M := EReal) rfl fun q _ => ?_
  have h : (iblk m c 0 t : S4x176x1024.Idx → EReal) (ix3 q r l) = V m c main_arg0 (ix3 q ⟨176 * t.val + r.val, row t r⟩ l) := by
    blk_ext [iblk, idx0 t]
  exact h

theorem weight : (iblk m c 1 t : S176x1024.Idx → EReal) (ix2 r l) = V m c main_v0 (ix2 ⟨176 * t.val + r.val, row t r⟩ l) := by
  blk_ext [iblk, idx1 t]

theorem moment1 : (iblk m c 2 t : S176x1024.Idx → EReal) (ix2 r l) = V m c main_v1 (ix2 ⟨176 * t.val + r.val, row t r⟩ l) := by
  blk_ext [iblk, idx2 t]

theorem moment2 : (iblk m c 3 t : S176x1024.Idx → EReal) (ix2 r l) = V m c main_v2 (ix2 ⟨176 * t.val + r.val, row t r⟩ l) := by
  blk_ext [iblk, idx3 t]

theorem final4 : (dats m 0 c).arrAt 4 cfg0.N = sum (V m c main_arg0) := by
  refine Pipeline.Dat.arrAt_eq_of_covers (dats m 0 c) 4 _ (by decide +kernel) fun t hf y => ?_
  obtain ⟨r, l, rfl⟩ : ∃ (r : Fin 176) (l : Fin 1024), y = ix2 r l := ⟨_, _, eq_ix2 y⟩
  refine (congrFun (after0_4 m c t) _).trans ((body4 _ _ _ _ r l).trans ((parts m c t r l).trans ?_))
  have := row t r
  symm
  blk_ext [idx4 t]

theorem final5 : (dats m 0 c).arrAt 5 cfg0.N = change (V m c main_arg0) (V m c main_v0) (V m c main_v1) (V m c main_v2) := by
  refine Pipeline.Dat.arrAt_eq_of_covers (dats m 0 c) 5 _ (by decide +kernel) fun t hf y => ?_
  obtain ⟨r, l, rfl⟩ : ∃ (r : Fin 176) (l : Fin 1024), y = ix2 r l := ⟨_, _, eq_ix2 y⟩
  refine (congrFun (after0_5 m c t) _).trans ((body5 _ _ _ _ r l).trans ?_)
  refine Eq.trans (b := change (V m c main_arg0) (V m c main_v0) (V m c main_v1) (V m c main_v2) (ix2 ⟨176 * t.val + r.val, row t r⟩ l)) ?_ ?_
  · rw [parts, weight, moment1, moment2]
    rfl
  · have := row t r
    symm
    blk_ext [idx5 t]

theorem final6 : (dats m 0 c).arrAt 6 cfg0.N = first (V m c main_arg0) (V m c main_v1) := by
  refine Pipeline.Dat.arrAt_eq_of_covers (dats m 0 c) 6 _ (by decide +kernel) fun t hf y => ?_
  obtain ⟨r, l, rfl⟩ : ∃ (r : Fin 176) (l : Fin 1024), y = ix2 r l := ⟨_, _, eq_ix2 y⟩
  refine (congrFun (after0_6 m c t) _).trans ((body6 _ _ _ _ r l).trans ?_)
  refine Eq.trans (b := first (V m c main_arg0) (V m c main_v1) (ix2 ⟨176 * t.val + r.val, row t r⟩ l)) ?_ ?_
  · rw [parts, moment1]
    rfl
  · have := row t r
    symm
    blk_ext [idx6 t]

theorem final7 : (dats m 0 c).arrAt 7 cfg0.N = second (V m c main_arg0) (V m c main_v2) := by
  refine Pipeline.Dat.arrAt_eq_of_covers (dats m 0 c) 7 _ (by decide +kernel) fun t hf y => ?_
  obtain ⟨r, l, rfl⟩ : ∃ (r : Fin 176) (l : Fin 1024), y = ix2 r l := ⟨_, _, eq_ix2 y⟩
  refine (congrFun (after0_7 m c t) _).trans ((body7 _ _ _ _ r l).trans ?_)
  refine Eq.trans (b := second (V m c main_arg0) (V m c main_v2) (ix2 ⟨176 * t.val + r.val, row t r⟩ l)) ?_ ?_
  · rw [parts, moment2]
    rfl
  · have := row t r
    symm
    blk_ext [idx7 t]

end final

/-- An array of the weight's own layout, with its two axes exchanged. -/
def turn (a : S1024x704.Idx → EReal) : A := fun i => a (ix2 (i 1) (i 0))

section host

variable (m : (ℓ : Loc nD τ sig) → Buf (Elt Ideal) ℓ) (c : Dev nD)

theorem turned1 : (V m c main_v0 : A) = turn (m ((c : Thread nD τ).loc main_arg1)) := by
  funext i
  obtain ⟨r, l, rfl⟩ : ∃ (r : Fin 704) (l : Fin 1024), i = ix2 r l := ⟨_, _, eq_ix2 i⟩
  unfold turn
  entry_read
  pointwise []

theorem turned2 : (V m c main_v1 : A) = turn (m ((c : Thread nD τ).loc main_arg2)) := by
  funext i
  obtain ⟨r, l, rfl⟩ : ∃ (r : Fin 704) (l : Fin 1024), i = ix2 r l := ⟨_, _, eq_ix2 i⟩
  unfold turn
  entry_read
  pointwise []

theorem turned3 : (V m c main_v2 : A) = turn (m ((c : Thread nD τ).loc main_arg3)) := by
  funext i
  obtain ⟨r, l, rfl⟩ : ∃ (r : Fin 704) (l : Fin 1024), i = ix2 r l := ⟨_, _, eq_ix2 i⟩
  unfold turn
  entry_read
  pointwise []

end host

section reference

open Cert.ReferenceUpIdeal.Read

variable (a : P) (w p v : S1024x704.Idx → EReal)

theorem ref_read (r : Fin 704) (l : Fin 1024) : val_main_v2 (F := Ideal) a (ix2 l r) = ∑ q : Fin 4, a (ix3 q r l) := by
  pointwise [val_main_v2, val_main_v1, val_main_v0, val_main_cst]

theorem ref_mom (r : Fin 704) (l : Fin 1024) : val_main_v7 (F := Ideal) a p (ix2 l r) = mom (∑ q : Fin 4, a (ix3 q r l)) (p (ix2 l r)) := by
  rw [← ref_read]
  unfold mom
  pointwise [val_main_v7, val_main_v6, val_main_v5, val_main_v4, val_main_v3, val_main_cst_0, val_main_cst_1]

theorem ref_vel (r : Fin 704) (l : Fin 1024) : val_main_v13 (F := Ideal) a v (ix2 l r) = vel (∑ q : Fin 4, a (ix3 q r l)) (v (ix2 l r)) := by
  rw [← ref_read]
  unfold vel
  pointwise [val_main_v13, val_main_v12, val_main_v11, val_main_v10, val_main_v9, val_main_v8, val_main_cst_2, val_main_cst_3]

theorem ref_del (r : Fin 704) (l : Fin 1024) :
    val_main_v26 (F := Ideal) a w p v (ix2 l r) = del (w (ix2 l r)) (∑ q : Fin 4, a (ix3 q r l)) (p (ix2 l r)) (v (ix2 l r)) := by
  unfold del
  rw [← ref_mom, ← ref_vel]
  pointwise [val_main_v26, val_main_v25, val_main_v24, val_main_v23, val_main_v22, val_main_v21, val_main_v20, val_main_v19, val_main_v18, val_main_v17, val_main_v16, val_main_v15, val_main_v14, val_main_cst_4, val_main_cst_5, val_main_cst_6, val_main_cst_7, val_main_cst_8]

theorem ref_sum : val_main_v27 (F := Ideal) a = sum a := by
  funext i
  obtain ⟨r, l, rfl⟩ : ∃ (r : Fin 704) (l : Fin 1024), i = ix2 r l := ⟨_, _, eq_ix2 i⟩
  refine Eq.trans ?_ (ref_read a r l)
  pointwise [val_main_v27]

theorem ref_change : val_main_v28 (F := Ideal) a w p v = change a (turn w) (turn p) (turn v) := by
  funext i
  obtain ⟨r, l, rfl⟩ : ∃ (r : Fin 704) (l : Fin 1024), i = ix2 r l := ⟨_, _, eq_ix2 i⟩
  refine Eq.trans ?_ (ref_del a w p v r l)
  pointwise [val_main_v28]

theorem ref_first : val_main_v29 (F := Ideal) a p = first a (turn p) := by
  funext i
  obtain ⟨r, l, rfl⟩ : ∃ (r : Fin 704) (l : Fin 1024), i = ix2 r l := ⟨_, _, eq_ix2 i⟩
  refine Eq.trans ?_ (ref_mom a p r l)
  pointwise [val_main_v29]

theorem ref_second : val_main_v30 (F := Ideal) a v = second a (turn v) := by
  funext i
  obtain ⟨r, l, rfl⟩ : ∃ (r : Fin 704) (l : Fin 1024), i = ix2 r l := ⟨_, _, eq_ix2 i⟩
  refine Eq.trans ?_ (ref_vel a v r l)
  pointwise [val_main_v30]

end reference

theorem frame_reference : Cert.quiescent_ReferenceUpIdeal := fun m ρ _ =>
  (θ_run Cert.ReferenceUpIdeal.defs _ _).mono (fun r h => ⟨fun c => (h c).2.2.2.2, sem_eq_zero_of_no_sems (by decide) r.2⟩)
    (Cert.ReferenceUpIdeal.Value.run (F := Ideal) m ρ)

theorem algebraic : Cert.algebraic_KernelUpIdeal_ReferenceUpIdeal := by
  intro m g m' g' _ ha
  let M (c : Dev nD) (b : Ref sig .tc) : Buf (Elt Ideal) ((c : Thread nD τ).loc b) := m ((c : Thread nD τ).loc b)
  refine ⟨fun c => sum (M c main_arg0), fun c => change (M c main_arg0) (turn (M c main_arg1)) (turn (M c main_arg2)) (turn (M c main_arg3)),
    fun c => first (M c main_arg0) (turn (M c main_arg2)), fun c => second (M c main_arg0) (turn (M c main_arg3)), ?_, ?_⟩
  · refine (θ_run defs _ _).mono (fun r h c => ?_) (Value.run_blocks m g)
    obtain ⟨h0, h1, h2, h3, hk⟩ := h c
    rw [final4, V_main_arg0] at h0
    rw [final5, V_main_arg0, turned1, turned2, turned3] at h1
    rw [final6, V_main_arg0, turned2] at h2
    rw [final7, V_main_arg0, turned3] at h3
    exact ⟨h0, h1, h2, h3, hk⟩
  · refine (θ_run Cert.ReferenceUpIdeal.defs _ _).mono (fun r h c => ?_) (Cert.ReferenceUpIdeal.Value.run m' g')
    obtain ⟨h0, h1, h2, h3, hk⟩ := h c
    obtain ⟨a0, a1, a2, a3⟩ := ha c
    rw [Cert.ReferenceUpIdeal.Read.val_main_v27_eq, a0] at h0
    rw [Cert.ReferenceUpIdeal.Read.val_main_v28_eq, a0, a1, a2, a3] at h1
    rw [Cert.ReferenceUpIdeal.Read.val_main_v29_eq, a0, a2] at h2
    rw [Cert.ReferenceUpIdeal.Read.val_main_v30_eq, a0, a3] at h3
    exact ⟨h0.trans (ref_sum _), h1.trans (ref_change _ _ _ _), h2.trans (ref_first _ _), h3.trans (ref_second _ _), hk⟩

end Cert.KernelUpIdeal.Hand

end
-- ==== Proof.StepIn.lean ====
/- The optimiser's step on w_in, kept turned: the eight parts of the gradient are summed and the rows stepped, in one block. -/
module

public import proofs.«01_k».proof.Defs
public import proofs.«01_k».proof.Proof.Adam
public import proofs.«01_k».proof.Proof.Gen.KernelInIdeal.Value
public import proofs.«01_k».proof.Proof.Gen.ReferenceInIdeal.Run
public import proofs.«01_k».proof.Proof.Gen.ReferenceInIdeal.Read
public import Idealize.ShloMosaic.Lib.Pipeline.ValueKit.Point

@[expose] public section

set_option maxRecDepth 16384

noncomputable section

namespace Cert.KernelInIdeal.Hand

open Cert.KernelInIdeal Cert.KernelInIdeal.Gen Cert.Adam Idealize.ShloMosaic Idealize.ShloMosaic.TcCoe Idealize.SL.Sem

/-- The array of parts, and an array of the weight's shape. -/
abbrev P := S8x385x1024.Idx → EReal
abbrev A := S385x1024.Idx → EReal

/-- The four results: the sum of the parts, the change of the weight, the two moments. -/
def sum (a : P) : A := fun i => ∑ q : Fin 8, a (ix3 q (i 0) (i 1))
def change (a : P) (w p v : A) : A := fun i => del (w i) (sum a i) (p i) (v i)
def first (a : P) (p : A) : A := fun i => mom (sum a i) (p i)
def second (a : P) (v : A) : A := fun i => vel (sum a i) (v i)

theorem idx0 : ∀ t : Fin cfg0.N, win0_0.index t = ![0, t.val, 0] := (by decide +kernel : ∀ t : Fin grid0.N, win0_0.index t = ![0, t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])

section body

variable (x : Vec Ideal S8x385x1024 .bf16) (w p v : Vec Ideal S385x1024 .f32) (r : Fin 385) (l : Fin 1024)

theorem hz : (![0, 0] : Fin 2 → Nat) = fun _ => 0 := funext fun i => by fin_cases i <;> rfl

theorem body4 : out0_4 (F := Ideal) x w p v (ix2 r l) = ∑ q : Fin 8, x (ix3 q r l) := by
  rw [Fin.sum_univ_eight]
  unfold_out out0_4
  rw [View.canon_unit_zero hz]
  pointwise [k0_pay1, k0_pay2, k0_pay3, k0_pay4]

theorem body5 : out0_5 (F := Ideal) x w p v (ix2 r l) = del (w (ix2 r l)) (∑ q : Fin 8, x (ix3 q r l)) (p (ix2 r l)) (v (ix2 r l)) := by
  rw [Fin.sum_univ_eight]
  unfold del mom vel
  unfold_out out0_5
  rw [View.canon_unit_zero hz]
  pointwise [k0_pay1, k0_pay2, k0_pay3, k0_pay4]

theorem body6 : out0_6 (F := Ideal) x w p v (ix2 r l) = mom (∑ q : Fin 8, x (ix3 q r l)) (p (ix2 r l)) := by
  rw [Fin.sum_univ_eight]
  unfold mom
  unfold_out out0_6
  rw [View.canon_unit_zero hz]
  pointwise [k0_pay1, k0_pay2, k0_pay3, k0_pay4]

theorem body7 : out0_7 (F := Ideal) x w p v (ix2 r l) = vel (∑ q : Fin 8, x (ix3 q r l)) (v (ix2 r l)) := by
  rw [Fin.sum_univ_eight]
  unfold vel
  unfold_out out0_7
  rw [View.canon_unit_zero hz]
  pointwise [k0_pay1, k0_pay2, k0_pay3, k0_pay4]

end body

section final

variable (m : (ℓ : Loc nD τ sig) → Buf (Elt Ideal) ℓ) (c : Dev nD) (t : Fin cfg0.N) (r : Fin 385) (l : Fin 1024)

theorem row : 385 * t.val + r.val < 385 := by
  have ht : t.val < 1 := lt_of_lt_of_eq t.isLt (by decide)
  omega

theorem parts : Finset.sum (M := EReal) Finset.univ (fun q : Fin 8 => (iblk m c 0 t : S8x385x1024.Idx → EReal) (ix3 q r l)) =
     sum (V m c main_arg0) (ix2 ⟨385 * t.val + r.val, row t r⟩ l) := by
  refine Finset.sum_congr (M := EReal) rfl fun q _ => ?_
  have h : (iblk m c 0 t : S8x385x1024.Idx → EReal) (ix3 q r l) = V m c main_arg0 (ix3 q ⟨385 * t.val + r.val, row t r⟩ l) := by
    blk_ext [iblk, idx0 t]
  exact h

theorem weight : (iblk m c 1 t : S385x1024.Idx → EReal) (ix2 r l) = V m c main_v0 (ix2 ⟨385 * t.val + r.val, row t r⟩ l) := by
  blk_ext [iblk, idx1 t]

theorem moment1 : (iblk m c 2 t : S385x1024.Idx → EReal) (ix2 r l) = V m c main_v1 (ix2 ⟨385 * t.val + r.val, row t r⟩ l) := by
  blk_ext [iblk, idx2 t]

theorem moment2 : (iblk m c 3 t : S385x1024.Idx → EReal) (ix2 r l) = V m c main_v2 (ix2 ⟨385 * t.val + r.val, row t r⟩ l) := by
  blk_ext [iblk, idx3 t]

theorem final4 : (dats m 0 c).arrAt 4 cfg0.N = sum (V m c main_arg0) := by
  refine Pipeline.Dat.arrAt_eq_of_covers (dats m 0 c) 4 _ (by decide +kernel) fun t hf y => ?_
  obtain ⟨r, l, rfl⟩ : ∃ (r : Fin 385) (l : Fin 1024), y = ix2 r l := ⟨_, _, eq_ix2 y⟩
  refine (congrFun (after0_4 m c t) _).trans ((body4 _ _ _ _ r l).trans ((parts m c t r l).trans ?_))
  have := row t r
  symm
  blk_ext [idx4 t]

theorem final5 : (dats m 0 c).arrAt 5 cfg0.N = change (V m c main_arg0) (V m c main_v0) (V m c main_v1) (V m c main_v2) := by
  refine Pipeline.Dat.arrAt_eq_of_covers (dats m 0 c) 5 _ (by decide +kernel) fun t hf y => ?_
  obtain ⟨r, l, rfl⟩ : ∃ (r : Fin 385) (l : Fin 1024), y = ix2 r l := ⟨_, _, eq_ix2 y⟩
  refine (congrFun (after0_5 m c t) _).trans ((body5 _ _ _ _ r l).trans ?_)
  refine Eq.trans (b := change (V m c main_arg0) (V m c main_v0) (V m c main_v1) (V m c main_v2) (ix2 ⟨385 * t.val + r.val, row t r⟩ l)) ?_ ?_
  · rw [parts, weight, moment1, moment2]
    rfl
  · have := row t r
    symm
    blk_ext [idx5 t]

theorem final6 : (dats m 0 c).arrAt 6 cfg0.N = first (V m c main_arg0) (V m c main_v1) := by
  refine Pipeline.Dat.arrAt_eq_of_covers (dats m 0 c) 6 _ (by decide +kernel) fun t hf y => ?_
  obtain ⟨r, l, rfl⟩ : ∃ (r : Fin 385) (l : Fin 1024), y = ix2 r l := ⟨_, _, eq_ix2 y⟩
  refine (congrFun (after0_6 m c t) _).trans ((body6 _ _ _ _ r l).trans ?_)
  refine Eq.trans (b := first (V m c main_arg0) (V m c main_v1) (ix2 ⟨385 * t.val + r.val, row t r⟩ l)) ?_ ?_
  · rw [parts, moment1]
    rfl
  · have := row t r
    symm
    blk_ext [idx6 t]

theorem final7 : (dats m 0 c).arrAt 7 cfg0.N = second (V m c main_arg0) (V m c main_v2) := by
  refine Pipeline.Dat.arrAt_eq_of_covers (dats m 0 c) 7 _ (by decide +kernel) fun t hf y => ?_
  obtain ⟨r, l, rfl⟩ : ∃ (r : Fin 385) (l : Fin 1024), y = ix2 r l := ⟨_, _, eq_ix2 y⟩
  refine (congrFun (after0_7 m c t) _).trans ((body7 _ _ _ _ r l).trans ?_)
  refine Eq.trans (b := second (V m c main_arg0) (V m c main_v2) (ix2 ⟨385 * t.val + r.val, row t r⟩ l)) ?_ ?_
  · rw [parts, moment2]
    rfl
  · have := row t r
    symm
    blk_ext [idx7 t]

end final

/-- An array of the weight's own layout, with its two axes exchanged. -/
def turn (a : S1024x385.Idx → EReal) : A := fun i => a (ix2 (i 1) (i 0))

section host

variable (m : (ℓ : Loc nD τ sig) → Buf (Elt Ideal) ℓ) (c : Dev nD)

theorem turned1 : (V m c main_v0 : A) = turn (m ((c : Thread nD τ).loc main_arg1)) := by
  funext i
  obtain ⟨r, l, rfl⟩ : ∃ (r : Fin 385) (l : Fin 1024), i = ix2 r l := ⟨_, _, eq_ix2 i⟩
  unfold turn
  entry_read
  pointwise []

theorem turned2 : (V m c main_v1 : A) = turn (m ((c : Thread nD τ).loc main_arg2)) := by
  funext i
  obtain ⟨r, l, rfl⟩ : ∃ (r : Fin 385) (l : Fin 1024), i = ix2 r l := ⟨_, _, eq_ix2 i⟩
  unfold turn
  entry_read
  pointwise []

theorem turned3 : (V m c main_v2 : A) = turn (m ((c : Thread nD τ).loc main_arg3)) := by
  funext i
  obtain ⟨r, l, rfl⟩ : ∃ (r : Fin 385) (l : Fin 1024), i = ix2 r l := ⟨_, _, eq_ix2 i⟩
  unfold turn
  entry_read
  pointwise []

end host

section reference

open Cert.ReferenceInIdeal.Read

variable (a : P) (w p v : S1024x385.Idx → EReal)

theorem ref_read (r : Fin 385) (l : Fin 1024) : val_main_v2 (F := Ideal) a (ix2 l r) = ∑ q : Fin 8, a (ix3 q r l) := by
  pointwise [val_main_v2, val_main_v1, val_main_v0, val_main_cst]

theorem ref_mom (r : Fin 385) (l : Fin 1024) : val_main_v7 (F := Ideal) a p (ix2 l r) = mom (∑ q : Fin 8, a (ix3 q r l)) (p (ix2 l r)) := by
  rw [← ref_read]
  unfold mom
  pointwise [val_main_v7, val_main_v6, val_main_v5, val_main_v4, val_main_v3, val_main_cst_0, val_main_cst_1]

theorem ref_vel (r : Fin 385) (l : Fin 1024) : val_main_v13 (F := Ideal) a v (ix2 l r) = vel (∑ q : Fin 8, a (ix3 q r l)) (v (ix2 l r)) := by
  rw [← ref_read]
  unfold vel
  pointwise [val_main_v13, val_main_v12, val_main_v11, val_main_v10, val_main_v9, val_main_v8, val_main_cst_2, val_main_cst_3]

theorem ref_del (r : Fin 385) (l : Fin 1024) :
    val_main_v26 (F := Ideal) a w p v (ix2 l r) = del (w (ix2 l r)) (∑ q : Fin 8, a (ix3 q r l)) (p (ix2 l r)) (v (ix2 l r)) := by
  unfold del
  rw [← ref_mom, ← ref_vel]
  pointwise [val_main_v26, val_main_v25, val_main_v24, val_main_v23, val_main_v22, val_main_v21, val_main_v20, val_main_v19, val_main_v18, val_main_v17, val_main_v16, val_main_v15, val_main_v14, val_main_cst_4, val_main_cst_5, val_main_cst_6, val_main_cst_7, val_main_cst_8]

theorem ref_sum : val_main_v27 (F := Ideal) a = sum a := by
  funext i
  obtain ⟨r, l, rfl⟩ : ∃ (r : Fin 385) (l : Fin 1024), i = ix2 r l := ⟨_, _, eq_ix2 i⟩
  refine Eq.trans ?_ (ref_read a r l)
  pointwise [val_main_v27]

theorem ref_change : val_main_v28 (F := Ideal) a w p v = change a (turn w) (turn p) (turn v) := by
  funext i
  obtain ⟨r, l, rfl⟩ : ∃ (r : Fin 385) (l : Fin 1024), i = ix2 r l := ⟨_, _, eq_ix2 i⟩
  refine Eq.trans ?_ (ref_del a w p v r l)
  pointwise [val_main_v28]

theorem ref_first : val_main_v29 (F := Ideal) a p = first a (turn p) := by
  funext i
  obtain ⟨r, l, rfl⟩ : ∃ (r : Fin 385) (l : Fin 1024), i = ix2 r l := ⟨_, _, eq_ix2 i⟩
  refine Eq.trans ?_ (ref_mom a p r l)
  pointwise [val_main_v29]

theorem ref_second : val_main_v30 (F := Ideal) a v = second a (turn v) := by
  funext i
  obtain ⟨r, l, rfl⟩ : ∃ (r : Fin 385) (l : Fin 1024), i = ix2 r l := ⟨_, _, eq_ix2 i⟩
  refine Eq.trans ?_ (ref_vel a v r l)
  pointwise [val_main_v30]

end reference

theorem frame_reference : Cert.quiescent_ReferenceInIdeal := fun m ρ _ =>
  (θ_run Cert.ReferenceInIdeal.defs _ _).mono (fun r h => ⟨fun c => (h c).2.2.2.2, sem_eq_zero_of_no_sems (by decide) r.2⟩)
    (Cert.ReferenceInIdeal.Value.run (F := Ideal) m ρ)

theorem algebraic : Cert.algebraic_KernelInIdeal_ReferenceInIdeal := by
  intro m g m' g' _ ha
  let M (c : Dev nD) (b : Ref sig .tc) : Buf (Elt Ideal) ((c : Thread nD τ).loc b) := m ((c : Thread nD τ).loc b)
  refine ⟨fun c => sum (M c main_arg0), fun c => change (M c main_arg0) (turn (M c main_arg1)) (turn (M c main_arg2)) (turn (M c main_arg3)),
    fun c => first (M c main_arg0) (turn (M c main_arg2)), fun c => second (M c main_arg0) (turn (M c main_arg3)), ?_, ?_⟩
  · refine (θ_run defs _ _).mono (fun r h c => ?_) (Value.run_blocks m g)
    obtain ⟨h0, h1, h2, h3, hk⟩ := h c
    rw [final4, V_main_arg0] at h0
    rw [final5, V_main_arg0, turned1, turned2, turned3] at h1
    rw [final6, V_main_arg0, turned2] at h2
    rw [final7, V_main_arg0, turned3] at h3
    exact ⟨h0, h1, h2, h3, hk⟩
  · refine (θ_run Cert.ReferenceInIdeal.defs _ _).mono (fun r h c => ?_) (Cert.ReferenceInIdeal.Value.run m' g')
    obtain ⟨h0, h1, h2, h3, hk⟩ := h c
    obtain ⟨a0, a1, a2, a3⟩ := ha c
    rw [Cert.ReferenceInIdeal.Read.val_main_v27_eq, a0] at h0
    rw [Cert.ReferenceInIdeal.Read.val_main_v28_eq, a0, a1, a2, a3] at h1
    rw [Cert.ReferenceInIdeal.Read.val_main_v29_eq, a0, a2] at h2
    rw [Cert.ReferenceInIdeal.Read.val_main_v30_eq, a0, a3] at h3
    exact ⟨h0.trans (ref_sum _), h1.trans (ref_change _ _ _ _), h2.trans (ref_first _ _), h3.trans (ref_second _ _), hk⟩

end Cert.KernelInIdeal.Hand

end
-- ==== Proof.StepAda.lean ====
/- The gradient of w_ada and the optimiser's step on it: each block multiplies its columns of the condition with the modulation's gradient and steps its rows. -/
module

public import proofs.«01_k».proof.Defs
public import proofs.«01_k».proof.Proof.Adam
public import proofs.«01_k».proof.Proof.FwdRefVal
public import proofs.«01_k».proof.Proof.Gen.KernelAdaIdeal.Value
public import proofs.«01_k».proof.Proof.Gen.ReferenceAdaIdeal.Run
public import proofs.«01_k».proof.Proof.Gen.ReferenceAdaIdeal.Read
public import Idealize.ShloMosaic.Lib.Pipeline.ValueKit.Point

@[expose] public section

set_option maxRecDepth 16384

noncomputable section

namespace Cert.KernelAdaIdeal.Hand

open Cert.KernelAdaIdeal Cert.KernelAdaIdeal.Gen Cert.Adam Idealize.ShloMosaic Idealize.ShloMosaic.TcCoe Idealize.SL.Sem

theorem idx0 : ∀ t : Fin cfg0.N, win0_0.index t = ![0, t.val] := (by decide +kernel : ∀ t : Fin grid0.N, win0_0.index t = ![0, t.val])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])

abbrev A := S1024x768.Idx → EReal

/-- The product of the condition's gated entries with the modulation's gradient, and the step. -/
def grad (x : S8x1024.Idx → EReal) (d : S8x768.Idx → EReal) : A := fun i =>
  ∑ k : Fin 8, x (ix2 k (i 0)) * Cert.Ffn.sg (x (ix2 k (i 0))) * d (ix2 k (i 1))
def change (x : S8x1024.Idx → EReal) (d : S8x768.Idx → EReal) (w p v : A) : A := fun i => del (w i) (grad x d i) (p i) (v i)
def first (x : S8x1024.Idx → EReal) (d : S8x768.Idx → EReal) (p : A) : A := fun i => mom (grad x d i) (p i)
def second (x : S8x1024.Idx → EReal) (d : S8x768.Idx → EReal) (v : A) : A := fun i => vel (grad x d i) (v i)

section body

variable (x : Vec Ideal S8x256 .f32) (d : Vec Ideal S8x768 .f32) (w p v : Vec Ideal S256x768 .f32) (r : Fin 256) (l : Fin 768)

theorem hz : (![0, 0] : Fin 2 → Nat) = fun _ => 0 := funext fun i => by fin_cases i <;> rfl

/-- What the block's product holds at a place. -/
def prod : EReal := ∑ k : Fin 8, x (ix2 k r) * Cert.Ffn.sg (x (ix2 k r)) * d (ix2 k l)

theorem body5 : out0_5 (F := Ideal) x d w p v (ix2 r l) = prod x d r l := by
  unfold prod Cert.Ffn.sg out0_5
  rw [View.canon_unit_zero hz]
  pointwise [k0_pay1, k0_pay2, k0_pay3, k0_pay4, k0_pay5]

theorem body6 : out0_6 (F := Ideal) x d w p v (ix2 r l) = del (w (ix2 r l)) (prod x d r l) (p (ix2 r l)) (v (ix2 r l)) := by
  unfold prod Cert.Ffn.sg out0_6 del mom vel
  rw [View.canon_unit_zero hz]
  pointwise [k0_pay1, k0_pay2, k0_pay3, k0_pay4, k0_pay5]

theorem body7 : out0_7 (F := Ideal) x d w p v (ix2 r l) = mom (prod x d r l) (p (ix2 r l)) := by
  unfold prod Cert.Ffn.sg out0_7 mom
  rw [View.canon_unit_zero hz]
  pointwise [k0_pay1, k0_pay2, k0_pay3, k0_pay4, k0_pay5]

theorem body8 : out0_8 (F := Ideal) x d w p v (ix2 r l) = vel (prod x d r l) (v (ix2 r l)) := by
  unfold prod Cert.Ffn.sg out0_8 vel
  rw [View.canon_unit_zero hz]
  pointwise [k0_pay1, k0_pay2, k0_pay3, k0_pay4, k0_pay5]

end body

section final

variable (m : (ℓ : Loc nD τ sig) → Buf (Elt Ideal) ℓ) (c : Dev nD) (t : Fin cfg0.N) (r : Fin 256) (l : Fin 768)

theorem row : 256 * t.val + r.val < 1024 := by
  have ht : t.val < 4 := lt_of_lt_of_eq t.isLt (by decide)
  omega

theorem hc (k : Fin 8) : (iblk m c 0 t : S8x256.Idx → EReal) (ix2 k r) = V m c main_arg0 (ix2 k ⟨256 * t.val + r.val, row t r⟩) := by
  blk_ext [iblk, idx0 t]

theorem hd (k : Fin 8) : (iblk m c 1 t : S8x768.Idx → EReal) (ix2 k l) = V m c main_arg1 (ix2 k l) := by
  blk_ext [iblk, idx1 t]

theorem grad_row : prod (iblk m c 0 t) (iblk m c 1 t) r l = grad (V m c main_arg0) (V m c main_arg1) (ix2 ⟨256 * t.val + r.val, row t r⟩ l) := by
  unfold prod
  refine Finset.sum_congr (M := EReal) rfl fun k _ => ?_
  rw [hc, hd]
  rfl

theorem weight : (iblk m c 2 t : S256x768.Idx → EReal) (ix2 r l) = V m c main_arg2 (ix2 ⟨256 * t.val + r.val, row t r⟩ l) := by
  blk_ext [iblk, idx2 t]

theorem moment1 : (iblk m c 3 t : S256x768.Idx → EReal) (ix2 r l) = V m c main_arg3 (ix2 ⟨256 * t.val + r.val, row t r⟩ l) := by
  blk_ext [iblk, idx3 t]

theorem moment2 : (iblk m c 4 t : S256x768.Idx → EReal) (ix2 r l) = V m c main_arg4 (ix2 ⟨256 * t.val + r.val, row t r⟩ l) := by
  blk_ext [iblk, idx4 t]

theorem final5 : (dats m 0 c).arrAt 5 cfg0.N = grad (V m c main_arg0) (V m c main_arg1) := by
  refine Pipeline.Dat.arrAt_eq_of_covers (dats m 0 c) 5 _ (by decide +kernel) fun t hf y => ?_
  obtain ⟨r, l, rfl⟩ : ∃ (r : Fin 256) (l : Fin 768), y = ix2 r l := ⟨_, _, eq_ix2 y⟩
  refine (congrFun (after0_5 m c t) _).trans ((body5 _ _ _ _ _ r l).trans ?_)
  refine Eq.trans (b := grad (V m c main_arg0) (V m c main_arg1) (ix2 ⟨256 * t.val + r.val, row t r⟩ l)) ?_ ?_
  · rw [grad_row]
  · have := row t r
    symm
    blk_ext [idx5 t]

theorem final6 : (dats m 0 c).arrAt 6 cfg0.N = change (V m c main_arg0) (V m c main_arg1) (V m c main_arg2) (V m c main_arg3) (V m c main_arg4) := by
  refine Pipeline.Dat.arrAt_eq_of_covers (dats m 0 c) 6 _ (by decide +kernel) fun t hf y => ?_
  obtain ⟨r, l, rfl⟩ : ∃ (r : Fin 256) (l : Fin 768), y = ix2 r l := ⟨_, _, eq_ix2 y⟩
  refine (congrFun (after0_6 m c t) _).trans ((body6 _ _ _ _ _ r l).trans ?_)
  refine Eq.trans (b := change (V m c main_arg0) (V m c main_arg1) (V m c main_arg2) (V m c main_arg3) (V m c main_arg4) (ix2 ⟨256 * t.val + r.val, row t r⟩ l)) ?_ ?_
  · rw [grad_row, weight, moment1, moment2]
    rfl
  · have := row t r
    symm
    blk_ext [idx6 t]

theorem final7 : (dats m 0 c).arrAt 7 cfg0.N = first (V m c main_arg0) (V m c main_arg1) (V m c main_arg3) := by
  refine Pipeline.Dat.arrAt_eq_of_covers (dats m 0 c) 7 _ (by decide +kernel) fun t hf y => ?_
  obtain ⟨r, l, rfl⟩ : ∃ (r : Fin 256) (l : Fin 768), y = ix2 r l := ⟨_, _, eq_ix2 y⟩
  refine (congrFun (after0_7 m c t) _).trans ((body7 _ _ _ _ _ r l).trans ?_)
  refine Eq.trans (b := first (V m c main_arg0) (V m c main_arg1) (V m c main_arg3) (ix2 ⟨256 * t.val + r.val, row t r⟩ l)) ?_ ?_
  · rw [grad_row, moment1]
    rfl
  · have := row t r
    symm
    blk_ext [idx7 t]

theorem final8 : (dats m 0 c).arrAt 8 cfg0.N = second (V m c main_arg0) (V m c main_arg1) (V m c main_arg4) := by
  refine Pipeline.Dat.arrAt_eq_of_covers (dats m 0 c) 8 _ (by decide +kernel) fun t hf y => ?_
  obtain ⟨r, l, rfl⟩ : ∃ (r : Fin 256) (l : Fin 768), y = ix2 r l := ⟨_, _, eq_ix2 y⟩
  refine (congrFun (after0_8 m c t) _).trans ((body8 _ _ _ _ _ r l).trans ?_)
  refine Eq.trans (b := second (V m c main_arg0) (V m c main_arg1) (V m c main_arg4) (ix2 ⟨256 * t.val + r.val, row t r⟩ l)) ?_ ?_
  · rw [grad_row, moment2]
    rfl
  · have := row t r
    symm
    blk_ext [idx8 t]

end final

section reference

open Cert.ReferenceAdaIdeal.Read

variable (x : S8x1024.Idx → EReal) (d : S8x768.Idx → EReal) (w p v : A)

theorem ref_grad : val_main_v3 (F := Ideal) x d = grad x d := by
  funext i
  obtain ⟨r, l, rfl⟩ : ∃ (r : Fin 1024) (l : Fin 768), i = ix2 r l := ⟨_, _, eq_ix2 i⟩
  unfold grad
  pointwise [val_main_v3, val_main_v2, val_main_v1, val_main_v0, val_main_call0_v5, val_main_call0_v4, val_main_call0_cst_0, val_main_call0_v3,
    val_main_call0_v2, val_main_call0_cst, val_main_call0_v1, val_main_call0_v0]
  refine Finset.sum_congr (M := EReal) rfl fun k _ => ?_
  rw [Cert.ReferenceFwdIdeal.Hand.quot_all, mul_comm]

theorem ref_first : val_main_v8 (F := Ideal) x d p = first x d p := by
  funext i
  obtain ⟨r, l, rfl⟩ : ∃ (r : Fin 1024) (l : Fin 768), i = ix2 r l := ⟨_, _, eq_ix2 i⟩
  unfold first mom
  rw [← ref_grad]
  pointwise [val_main_v8, val_main_v7, val_main_v6, val_main_v5, val_main_v4, val_main_cst, val_main_cst_0]

theorem ref_second : val_main_v14 (F := Ideal) x d v = second x d v := by
  funext i
  obtain ⟨r, l, rfl⟩ : ∃ (r : Fin 1024) (l : Fin 768), i = ix2 r l := ⟨_, _, eq_ix2 i⟩
  unfold second vel
  rw [← ref_grad]
  pointwise [val_main_v14, val_main_v13, val_main_v12, val_main_v11, val_main_v10, val_main_v9, val_main_cst_1, val_main_cst_2]

theorem ref_change : val_main_v27 (F := Ideal) x d w p v = change x d w p v := by
  funext i
  obtain ⟨r, l, rfl⟩ : ∃ (r : Fin 1024) (l : Fin 768), i = ix2 r l := ⟨_, _, eq_ix2 i⟩
  have h1 := congrFun (ref_first x d p) (ix2 r l)
  have h2 := congrFun (ref_second x d v) (ix2 r l)
  unfold first at h1
  unfold second at h2
  unfold change del
  rw [← h1, ← h2]
  pointwise [val_main_v27, val_main_v26, val_main_v25, val_main_v24, val_main_v23, val_main_v22, val_main_v21, val_main_v20, val_main_v19, val_main_v18, val_main_v17, val_main_v16, val_main_v15, val_main_cst_3, val_main_cst_4, val_main_cst_5, val_main_cst_6, val_main_cst_7]

end reference

theorem frame_reference : Cert.quiescent_ReferenceAdaIdeal := fun m ρ _ =>
  (θ_run Cert.ReferenceAdaIdeal.defs _ _).mono (fun r h => ⟨fun c => (h c).2.2.2.2, sem_eq_zero_of_no_sems (by decide) r.2⟩)
    (Cert.ReferenceAdaIdeal.Value.run (F := Ideal) m ρ)

theorem algebraic : Cert.algebraic_KernelAdaIdeal_ReferenceAdaIdeal := by
  intro m g m' g' _ ha
  refine ⟨fun c => grad (m ((c : Thread nD τ).loc main_arg0)) (m ((c : Thread nD τ).loc main_arg1)),
    fun c => change (m ((c : Thread nD τ).loc main_arg0)) (m ((c : Thread nD τ).loc main_arg1)) (m ((c : Thread nD τ).loc main_arg2)) (m ((c : Thread nD τ).loc main_arg3)) (m ((c : Thread nD τ).loc main_arg4)),
    fun c => first (m ((c : Thread nD τ).loc main_arg0)) (m ((c : Thread nD τ).loc main_arg1)) (m ((c : Thread nD τ).loc main_arg3)),
    fun c => second (m ((c : Thread nD τ).loc main_arg0)) (m ((c : Thread nD τ).loc main_arg1)) (m ((c : Thread nD τ).loc main_arg4)), ?_, ?_⟩
  · exact (θ_run defs _ _).mono (fun r h c => ⟨(h c).1.trans (final5 m c), (h c).2.1.trans (final6 m c), (h c).2.2.1.trans (final7 m c),
      (h c).2.2.2.1.trans (final8 m c), (h c).2.2.2.2⟩) (Value.run_blocks m g)
  · refine (θ_run Cert.ReferenceAdaIdeal.defs _ _).mono (fun r h c => ?_) (Cert.ReferenceAdaIdeal.Value.run m' g')
    obtain ⟨h0, h1, h2, h3, hk⟩ := h c
    obtain ⟨a0, a1, a2, a3, a4⟩ := ha c
    rw [Cert.ReferenceAdaIdeal.Read.val_main_v3_eq, a0, a1] at h0
    rw [Cert.ReferenceAdaIdeal.Read.val_main_v27_eq, a0, a1, a2, a3, a4] at h1
    rw [Cert.ReferenceAdaIdeal.Read.val_main_v8_eq, a0, a1, a3] at h2
    rw [Cert.ReferenceAdaIdeal.Read.val_main_v14_eq, a0, a1, a4] at h3
    exact ⟨h0.trans (ref_grad _ _), h1.trans (ref_change _ _ _ _ _), h2.trans (ref_first _ _ _), h3.trans (ref_second _ _ _), hk⟩

end Cert.KernelAdaIdeal.Hand

end
-- ==== Proof.lean ====
/- The proof of the claim: the frames of the kernels, of their idealizations and of the references, that idealizing changed nothing, and
   that each idealized kernel and its reference give equal results, the gradient of the feed-forward block on finite arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Gen.KernelFwd
public import proofs.«01_k».proof.Proof.Gen.KernelFwd.Skeleton
public import proofs.«01_k».proof.Proof.Gen.KernelFwd.Launch
public import proofs.«01_k».proof.Proof.Gen.KernelFwd.Points
public import proofs.«01_k».proof.Proof.Gen.KernelFwd.Frame
public import proofs.«01_k».proof.Proof.Gen.KernelFwdIdeal
public import proofs.«01_k».proof.Proof.Gen.KernelFwdIdeal.Skeleton
public import proofs.«01_k».proof.Proof.Gen.KernelFwdIdeal.Launch
public import proofs.«01_k».proof.Proof.Gen.KernelFwdIdeal.Points
public import proofs.«01_k».proof.Proof.Gen.KernelFwdIdeal.Frame
public import proofs.«01_k».proof.Proof.Gen.ReferenceFwdIdeal
public import proofs.«01_k».proof.Proof.Gen.ReferenceFwdIdeal.Run
public import proofs.«01_k».proof.Proof.Gen.ReferenceFwdIdeal.Read
public import proofs.«01_k».proof.Proof.Algebraic
public import proofs.«01_k».proof.Proof.FwdAlgebraic
public import proofs.«01_k».proof.Proof.ProjForward
public import proofs.«01_k».proof.Proof.ProjWeight
public import proofs.«01_k».proof.Proof.ProjInput
public import proofs.«01_k».proof.Proof.OutForward
public import proofs.«01_k».proof.Proof.OutWeight
public import proofs.«01_k».proof.Proof.Gen.KernelProj
public import proofs.«01_k».proof.Proof.Gen.KernelProj.Skeleton
public import proofs.«01_k».proof.Proof.Gen.KernelProj.Launch
public import proofs.«01_k».proof.Proof.Gen.KernelProj.Points
public import proofs.«01_k».proof.Proof.Gen.KernelProj.Frame
public import proofs.«01_k».proof.Proof.Gen.KernelProjIdeal
public import proofs.«01_k».proof.Proof.Gen.KernelProjIdeal.Skeleton
public import proofs.«01_k».proof.Proof.Gen.KernelProjIdeal.Launch
public import proofs.«01_k».proof.Proof.Gen.KernelProjIdeal.Points
public import proofs.«01_k».proof.Proof.Gen.KernelProjIdeal.Frame
public import proofs.«01_k».proof.Proof.Gen.KernelProjIdeal.Value
public import proofs.«01_k».proof.Proof.Gen.ReferenceProjIdeal
public import proofs.«01_k».proof.Proof.Gen.ReferenceProjIdeal.Run
public import proofs.«01_k».proof.Proof.Gen.ReferenceProjIdeal.Read
public import proofs.«01_k».proof.Proof.Gen.KernelProjW
public import proofs.«01_k».proof.Proof.Gen.KernelProjW.Skeleton
public import proofs.«01_k».proof.Proof.Gen.KernelProjW.Launch
public import proofs.«01_k».proof.Proof.Gen.KernelProjW.Points
public import proofs.«01_k».proof.Proof.Gen.KernelProjW.Frame
public import proofs.«01_k».proof.Proof.Gen.KernelProjWIdeal
public import proofs.«01_k».proof.Proof.Gen.KernelProjWIdeal.Skeleton
public import proofs.«01_k».proof.Proof.Gen.KernelProjWIdeal.Launch
public import proofs.«01_k».proof.Proof.Gen.KernelProjWIdeal.Points
public import proofs.«01_k».proof.Proof.Gen.KernelProjWIdeal.Frame
public import proofs.«01_k».proof.Proof.Gen.KernelProjWIdeal.Value
public import proofs.«01_k».proof.Proof.Gen.ReferenceProjWIdeal
public import proofs.«01_k».proof.Proof.Gen.ReferenceProjWIdeal.Run
public import proofs.«01_k».proof.Proof.Gen.ReferenceProjWIdeal.Read
public import proofs.«01_k».proof.Proof.Gen.KernelProjX
public import proofs.«01_k».proof.Proof.Gen.KernelProjX.Skeleton
public import proofs.«01_k».proof.Proof.Gen.KernelProjX.Launch
public import proofs.«01_k».proof.Proof.Gen.KernelProjX.Points
public import proofs.«01_k».proof.Proof.Gen.KernelProjX.Frame
public import proofs.«01_k».proof.Proof.Gen.KernelProjXIdeal
public import proofs.«01_k».proof.Proof.Gen.KernelProjXIdeal.Skeleton
public import proofs.«01_k».proof.Proof.Gen.KernelProjXIdeal.Launch
public import proofs.«01_k».proof.Proof.Gen.KernelProjXIdeal.Points
public import proofs.«01_k».proof.Proof.Gen.KernelProjXIdeal.Frame
public import proofs.«01_k».proof.Proof.Gen.KernelProjXIdeal.Value
public import proofs.«01_k».proof.Proof.Gen.ReferenceProjXIdeal
public import proofs.«01_k».proof.Proof.Gen.ReferenceProjXIdeal.Run
public import proofs.«01_k».proof.Proof.Gen.ReferenceProjXIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelOutW
public import proofs.«01_k».proof.Proof.Gen.KernelOutW.Skeleton
public import proofs.«01_k».proof.Proof.Gen.KernelOutW.Launch
public import proofs.«01_k».proof.Proof.Gen.KernelOutW.Points
public import proofs.«01_k».proof.Proof.Gen.KernelOutW.Frame
public import proofs.«01_k».proof.Proof.Gen.KernelOutWIdeal
public import proofs.«01_k».proof.Proof.Gen.KernelOutWIdeal.Skeleton
public import proofs.«01_k».proof.Proof.Gen.KernelOutWIdeal.Launch
public import proofs.«01_k».proof.Proof.Gen.KernelOutWIdeal.Points
public import proofs.«01_k».proof.Proof.Gen.KernelOutWIdeal.Frame
public import proofs.«01_k».proof.Proof.Gen.KernelOutWIdeal.Value
public import proofs.«01_k».proof.Proof.Gen.ReferenceOutWIdeal
public import proofs.«01_k».proof.Proof.Gen.ReferenceOutWIdeal.Run
public import proofs.«01_k».proof.Proof.Gen.ReferenceOutWIdeal.Read
public import proofs.«01_k».proof.Proof.Gen.KernelNorm
public import proofs.«01_k».proof.Proof.Gen.KernelNormB
public import proofs.«01_k».proof.Proof.Gen.KernelNormBIdeal
public import proofs.«01_k».proof.Proof.Gen.ReferenceNormBIdeal
public import proofs.«01_k».proof.Proof.Gen.KernelNormB.Skeleton
public import proofs.«01_k».proof.Proof.Gen.KernelNormB.Launch
public import proofs.«01_k».proof.Proof.Gen.KernelNormB.Points
public import proofs.«01_k».proof.Proof.Gen.KernelNormB.Frame
public import proofs.«01_k».proof.Proof.Gen.KernelNormBIdeal.Skeleton
public import proofs.«01_k».proof.Proof.Gen.KernelNormBIdeal.Launch
public import proofs.«01_k».proof.Proof.Gen.KernelNormBIdeal.Points
public import proofs.«01_k».proof.Proof.Gen.KernelNormBIdeal.Frame
public import proofs.«01_k».proof.Proof.Gen.KernelNormBIdeal.Value
public import proofs.«01_k».proof.Proof.Gen.ReferenceNormBIdeal.Run
public import proofs.«01_k».proof.Proof.Gen.ReferenceNormBIdeal.Read
public import proofs.«01_k».proof.Proof.Gen.KernelNorm.Skeleton
public import proofs.«01_k».proof.Proof.Gen.KernelNorm.Launch
public import proofs.«01_k».proof.Proof.Gen.KernelNorm.Points
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.KernelNormIdeal.Value
public import proofs.«01_k».proof.Proof.Gen.ReferenceNormIdeal
public import proofs.«01_k».proof.Proof.Gen.ReferenceNormIdeal.Run
public import proofs.«01_k».proof.Proof.Gen.ReferenceNormIdeal.Read
public import proofs.«01_k».proof.Proof.Gen.KernelResid
public import proofs.«01_k».proof.Proof.Gen.KernelResid.Skeleton
public import proofs.«01_k».proof.Proof.Gen.KernelResid.Launch
public import proofs.«01_k».proof.Proof.Gen.KernelResid.Points
public import proofs.«01_k».proof.Proof.Gen.KernelResid.Frame
public import proofs.«01_k».proof.Proof.Gen.KernelResidIdeal
public import proofs.«01_k».proof.Proof.Gen.KernelResidIdeal.Skeleton
public import proofs.«01_k».proof.Proof.Gen.KernelResidIdeal.Launch
public import proofs.«01_k».proof.Proof.Gen.KernelResidIdeal.Points
public import proofs.«01_k».proof.Proof.Gen.KernelResidIdeal.Frame
public import proofs.«01_k».proof.Proof.Gen.KernelResidIdeal.Value
public import proofs.«01_k».proof.Proof.Gen.ReferenceResidIdeal
public import proofs.«01_k».proof.Proof.Gen.ReferenceResidIdeal.Run
public import proofs.«01_k».proof.Proof.Gen.ReferenceResidIdeal.Read
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.ReferenceUpIdeal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelAda
public import proofs.«01_k».proof.Proof.Gen.KernelAda.Skeleton
public import proofs.«01_k».proof.Proof.Gen.KernelAda.Launch
public import proofs.«01_k».proof.Proof.Gen.KernelAda.Points
public import proofs.«01_k».proof.Proof.Gen.KernelAda.Frame
public import proofs.«01_k».proof.Proof.Gen.KernelAdaIdeal
public import proofs.«01_k».proof.Proof.Gen.KernelAdaIdeal.Skeleton
public import proofs.«01_k».proof.Proof.Gen.KernelAdaIdeal.Launch
public import proofs.«01_k».proof.Proof.Gen.KernelAdaIdeal.Points
public import proofs.«01_k».proof.Proof.Gen.KernelAdaIdeal.Frame
public import proofs.«01_k».proof.Proof.Gen.KernelAdaIdeal.Value
public import proofs.«01_k».proof.Proof.Gen.ReferenceAdaIdeal
public import proofs.«01_k».proof.Proof.Gen.ReferenceAdaIdeal.Run
public import proofs.«01_k».proof.Proof.Gen.ReferenceAdaIdeal.Read
public import proofs.«01_k».proof.Proof.NormForward
public import proofs.«01_k».proof.Proof.NormGrad
public import proofs.«01_k».proof.Proof.NormBackward
public import proofs.«01_k».proof.Proof.ResidForward
public import proofs.«01_k».proof.Proof.StepDown
public import proofs.«01_k».proof.Proof.StepUp
public import proofs.«01_k».proof.Proof.StepIn
public import proofs.«01_k».proof.Proof.StepAda
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelFwd.Gen.facts, Cert.KernelFwdIdeal.Gen.facts, Cert.ReferenceFwdIdeal.Gen.facts,
  Cert.KernelProj.Gen.facts, Cert.KernelProjIdeal.Gen.facts, Cert.ReferenceProjIdeal.Gen.facts,
  Cert.KernelProjW.Gen.facts, Cert.KernelProjWIdeal.Gen.facts, Cert.ReferenceProjWIdeal.Gen.facts,
  Cert.KernelProjX.Gen.facts, Cert.KernelProjXIdeal.Gen.facts, Cert.ReferenceProjXIdeal.Gen.facts,
  Cert.KernelOut.Gen.facts, Cert.KernelOutIdeal.Gen.facts, Cert.ReferenceOutIdeal.Gen.facts,
  Cert.KernelOutW.Gen.facts, Cert.KernelOutWIdeal.Gen.facts, Cert.ReferenceOutWIdeal.Gen.facts,
  Cert.KernelNorm.Gen.facts, Cert.KernelNormIdeal.Gen.facts, Cert.ReferenceNormIdeal.Gen.facts,
  Cert.KernelNormB.Gen.facts, Cert.KernelNormBIdeal.Gen.facts, Cert.ReferenceNormBIdeal.Gen.facts,
  Cert.KernelResid.Gen.facts, Cert.KernelResidIdeal.Gen.facts, Cert.ReferenceResidIdeal.Gen.facts,
  Cert.KernelDown.Gen.facts, Cert.KernelDownIdeal.Gen.facts, Cert.ReferenceDownIdeal.Gen.facts,
  Cert.KernelUp.Gen.facts, Cert.KernelUpIdeal.Gen.facts, Cert.ReferenceUpIdeal.Gen.facts,
  Cert.KernelIn.Gen.facts, Cert.KernelInIdeal.Gen.facts, Cert.ReferenceInIdeal.Gen.facts,
  Cert.KernelAda.Gen.facts, Cert.KernelAdaIdeal.Gen.facts, Cert.ReferenceAdaIdeal.Gen.facts,
  Cert.Hand.facts_finite,
  Cert.KernelIdeal.Hand.frame_kernel, Cert.KernelIdeal.Hand.frame_ideal, fun m ρ _ => Cert.KernelIdeal.Hand.frame_ideal m ρ trivial,
  Cert.KernelIdeal.Hand.frame_reference, fun m ρ _ => Cert.KernelIdeal.Hand.frame_reference m ρ trivial,
  Cert.KernelFwdIdeal.Hand.frame_kernel, Cert.KernelFwdIdeal.Hand.frame_ideal, Cert.KernelFwdIdeal.Hand.frame_reference,
  fun m ρ _ => Cert.KernelProj.Gen.frame m ρ, fun m ρ _ => Cert.KernelProjIdeal.Gen.frame m ρ, Cert.KernelProjIdeal.Hand.frame_reference,
  fun m ρ _ => Cert.KernelProjW.Gen.frame m ρ, fun m ρ _ => Cert.KernelProjWIdeal.Gen.frame m ρ, Cert.KernelProjWIdeal.Hand.frame_reference,
  fun m ρ _ => Cert.KernelProjX.Gen.frame m ρ, fun m ρ _ => Cert.KernelProjXIdeal.Gen.frame m ρ, Cert.KernelProjXIdeal.Hand.frame_reference,
  fun m ρ _ => Cert.KernelOut.Gen.frame m ρ, fun m ρ _ => Cert.KernelOutIdeal.Gen.frame m ρ, Cert.KernelOutIdeal.Hand.frame_reference,
  fun m ρ _ => Cert.KernelOutW.Gen.frame m ρ, fun m ρ _ => Cert.KernelOutWIdeal.Gen.frame m ρ, Cert.KernelOutWIdeal.Hand.frame_reference,
  fun m ρ _ => Cert.KernelNorm.Gen.frame m ρ, fun m ρ _ => Cert.KernelNormIdeal.Gen.frame m ρ, Cert.KernelNormIdeal.Hand.frame_reference,
  fun m ρ _ => Cert.KernelNormB.Gen.frame m ρ, fun m ρ _ => Cert.KernelNormBIdeal.Gen.frame m ρ, Cert.KernelNormBIdeal.Hand.frame_reference,
  fun m ρ _ => Cert.KernelResid.Gen.frame m ρ, fun m ρ _ => Cert.KernelResidIdeal.Gen.frame m ρ, Cert.KernelResidIdeal.Hand.frame_reference,
  fun m ρ _ => Cert.KernelDown.Gen.frame m ρ, fun m ρ _ => Cert.KernelDownIdeal.Gen.frame m ρ, Cert.KernelDownIdeal.Hand.frame_reference,
  fun m ρ _ => Cert.KernelUp.Gen.frame m ρ, fun m ρ _ => Cert.KernelUpIdeal.Gen.frame m ρ, Cert.KernelUpIdeal.Hand.frame_reference,
  fun m ρ _ => Cert.KernelIn.Gen.frame m ρ, fun m ρ _ => Cert.KernelInIdeal.Gen.frame m ρ, Cert.KernelInIdeal.Hand.frame_reference,
  fun m ρ _ => Cert.KernelAda.Gen.frame m ρ, fun m ρ _ => Cert.KernelAdaIdeal.Gen.frame m ρ, Cert.KernelAdaIdeal.Hand.frame_reference,
  trivial, (letI := Cert.Hand.facts_finite; Cert.Hand.algebraic),
  trivial, Cert.KernelFwdIdeal.Hand.algebraic,
  trivial, Cert.KernelProjIdeal.Hand.algebraic,
  trivial, Cert.KernelProjWIdeal.Hand.algebraic,
  trivial, Cert.KernelProjXIdeal.Hand.algebraic,
  trivial, Cert.KernelOutIdeal.Hand.algebraic,
  trivial, Cert.KernelOutWIdeal.Hand.algebraic,
  trivial, Cert.KernelNormIdeal.Hand.algebraic,
  trivial, Cert.KernelNormBIdeal.Hand.algebraic,
  trivial, Cert.KernelResidIdeal.Hand.algebraic,
  trivial, Cert.KernelDownIdeal.Hand.algebraic,
  trivial, Cert.KernelUpIdeal.Hand.algebraic,
  trivial, Cert.KernelInIdeal.Hand.algebraic,
  trivial, Cert.KernelAdaIdeal.Hand.algebraic⟩

end Cert.Proof

end
